-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InQk (m : (ℓ : Loc Cert.InQk.nD Cert.InQk.τ Cert.InQk.sig) → Buf (Elt Bits) ℓ) : Prop :=
  True

def Pre_InQkIdeal (m : (ℓ : Loc Cert.InQkIdeal.nD Cert.InQkIdeal.τ Cert.InQkIdeal.sig) → Buf (Elt Ideal) ℓ) : Prop :=
  True

def Pre_RefInQkIdeal (m : (ℓ : Loc Cert.RefInQkIdeal.nD Cert.RefInQkIdeal.τ Cert.RefInQkIdeal.sig) → Buf (Elt Ideal) ℓ) : Prop :=
  True

def Pre_InRest (m : (ℓ : Loc Cert.InRest.nD Cert.InRest.τ Cert.InRest.sig) → Buf (Elt Bits) ℓ) : Prop :=
  True

def Pre_InRestIdeal (m : (ℓ : Loc Cert.InRestIdeal.nD Cert.InRestIdeal.τ Cert.InRestIdeal.sig) → Buf (Elt Ideal) ℓ) : Prop :=
  True

def Pre_RefInRestIdeal (m : (ℓ : Loc Cert.RefInRestIdeal.nD Cert.RefInRestIdeal.τ Cert.RefInRestIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_RefInDwIdeal (m : (ℓ : Loc Cert.RefInDwIdeal.nD Cert.RefInDwIdeal.τ Cert.RefInDwIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_RefInDxIdeal (m : (ℓ : Loc Cert.RefInDxIdeal.nD Cert.RefInDxIdeal.τ Cert.RefInDxIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_RefUpIdeal (m : (ℓ : Loc Cert.RefUpIdeal.nD Cert.RefUpIdeal.τ Cert.RefUpIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_RefUpDwIdeal (m : (ℓ : Loc Cert.RefUpDwIdeal.nD Cert.RefUpDwIdeal.τ Cert.RefUpDwIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_RefUpDxIdeal (m : (ℓ : Loc Cert.RefUpDxIdeal.nD Cert.RefUpDxIdeal.τ Cert.RefUpDxIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_RefDownDwIdeal (m : (ℓ : Loc Cert.RefDownDwIdeal.nD Cert.RefDownDwIdeal.τ Cert.RefDownDwIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_RefDownDxIdeal (m : (ℓ : Loc Cert.RefDownDxIdeal.nD Cert.RefDownDxIdeal.τ Cert.RefDownDxIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RefRetOutIdeal (m : (ℓ : Loc Cert.RefRetOutIdeal.nD Cert.RefRetOutIdeal.τ Cert.RefRetOutIdeal.sig) → Buf (Elt Ideal) ℓ) : Prop :=
  True

def Pre_RetOutDw (m : (ℓ : Loc Cert.RetOutDw.nD Cert.RetOutDw.τ Cert.RetOutDw.sig) → Buf (Elt Bits) ℓ) : Prop :=
  True

def Pre_RetOutDwIdeal (m : (ℓ : Loc Cert.RetOutDwIdeal.nD Cert.RetOutDwIdeal.τ Cert.RetOutDwIdeal.sig) → Buf (Elt Ideal) ℓ) : Prop :=
  True

def Pre_RefRetOutDwIdeal (m : (ℓ : Loc Cert.RefRetOutDwIdeal.nD Cert.RefRetOutDwIdeal.τ Cert.RefRetOutDwIdeal.sig) → Buf (Elt Ideal) ℓ) : Prop :=
  True

def Pre_RetOutDx (m : (ℓ : Loc Cert.RetOutDx.nD Cert.RetOutDx.τ Cert.RetOutDx.sig) → Buf (Elt Bits) ℓ) : Prop :=
  True

def Pre_RetOutDxIdeal (m : (ℓ : Loc Cert.RetOutDxIdeal.nD Cert.RetOutDxIdeal.τ Cert.RetOutDxIdeal.sig) → Buf (Elt Ideal) ℓ) : Prop :=
  True

def Pre_RefRetOutDxIdeal (m : (ℓ : Loc Cert.RefRetOutDxIdeal.nD Cert.RefRetOutDxIdeal.τ Cert.RefRetOutDxIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_RefOutDwIdeal (m : (ℓ : Loc Cert.RefOutDwIdeal.nD Cert.RefOutDwIdeal.τ Cert.RefOutDwIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_RefOutDxIdeal (m : (ℓ : Loc Cert.RefOutDxIdeal.nD Cert.RefOutDxIdeal.τ Cert.RefOutDxIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_RefConvOutIdeal (m : (ℓ : Loc Cert.RefConvOutIdeal.nD Cert.RefConvOutIdeal.τ Cert.RefConvOutIdeal.sig) → Buf (Elt Ideal) ℓ) : Prop :=
  True

def Pre_ConvOutDw (m : (ℓ : Loc Cert.ConvOutDw.nD Cert.ConvOutDw.τ Cert.ConvOutDw.sig) → Buf (Elt Bits) ℓ) : Prop :=
  True

def Pre_ConvOutDwIdeal (m : (ℓ : Loc Cert.ConvOutDwIdeal.nD Cert.ConvOutDwIdeal.τ Cert.ConvOutDwIdeal.sig) → Buf (Elt Ideal) ℓ) : Prop :=
  True

def Pre_RefConvOutDwIdeal (m : (ℓ : Loc Cert.RefConvOutDwIdeal.nD Cert.RefConvOutDwIdeal.τ Cert.RefConvOutDwIdeal.sig) → Buf (Elt Ideal) ℓ) : Prop :=
  True

def Pre_ConvOutDx (m : (ℓ : Loc Cert.ConvOutDx.nD Cert.ConvOutDx.τ Cert.ConvOutDx.sig) → Buf (Elt Bits) ℓ) : Prop :=
  True

def Pre_ConvOutDxIdeal (m : (ℓ : Loc Cert.ConvOutDxIdeal.nD Cert.ConvOutDxIdeal.τ Cert.ConvOutDxIdeal.sig) → Buf (Elt Ideal) ℓ) : Prop :=
  True

def Pre_RefConvOutDxIdeal (m : (ℓ : Loc Cert.RefConvOutDxIdeal.nD Cert.RefConvOutDxIdeal.τ Cert.RefConvOutDxIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InQk [hInQk : Cert.InQk.Facts] : Prop :=
  ∀ (m : (ℓ : Loc Cert.InQk.nD Cert.InQk.τ Cert.InQk.sig) → Buf (Elt Bits) ℓ) (g : Dev Cert.InQk.nD → PrngReg), Pre_InQk m →
    θ_run (Cert.InQk.defs (F := Bits)) (onTc (τ := Cert.InQk.τ) (Cert.InQk.main (F := Bits))) ⟨m, fun _ => 0, g⟩ (fun r => (∀ c : Dev Cert.InQk.nD,
      r.2.mem ((c.tc : Thread Cert.InQk.nD Cert.InQk.τ).loc Cert.InQk.main_arg0) = m ((c.tc : Thread Cert.InQk.nD Cert.InQk.τ).loc Cert.InQk.main_arg0)
      ∧ r.2.mem ((c.tc : Thread Cert.InQk.nD Cert.InQk.τ).loc Cert.InQk.main_arg1) = m ((c.tc : Thread Cert.InQk.nD Cert.InQk.τ).loc Cert.InQk.main_arg1)
      ∧ r.2.mem ((c.tc : Thread Cert.InQk.nD Cert.InQk.τ).loc Cert.InQk.main_arg2) = m ((c.tc : Thread Cert.InQk.nD Cert.InQk.τ).loc Cert.InQk.main_arg2))
      ∧ r.2.sem = fun _ => 0)

def quiescent_InQkIdeal [hInQkIdeal : Cert.InQkIdeal.Facts] : Prop :=
  ∀ (m : (ℓ : Loc Cert.InQkIdeal.nD Cert.InQkIdeal.τ Cert.InQkIdeal.sig) → Buf (Elt Ideal) ℓ) (g : Dev Cert.InQkIdeal.nD → PrngReg), Pre_InQkIdeal m →
    θ_run (Cert.InQkIdeal.defs (F := Ideal)) (onTc (τ := Cert.InQkIdeal.τ) (Cert.InQkIdeal.main (F := Ideal))) ⟨m, fun _ => 0, g⟩ (fun r => (∀ c : Dev Cert.InQkIdeal.nD,
      r.2.mem ((c.tc : Thread Cert.InQkIdeal.nD Cert.InQkIdeal.τ).loc Cert.InQkIdeal.main_arg0) = m ((c.tc : Thread Cert.InQkIdeal.nD Cert.InQkIdeal.τ).loc Cert.InQkIdeal.main_arg0)
      ∧ r.2.mem ((c.tc : Thread Cert.InQkIdeal.nD Cert.InQkIdeal.τ).loc Cert.InQkIdeal.main_arg1) = m ((c.tc : Thread Cert.InQkIdeal.nD Cert.InQkIdeal.τ).loc Cert.InQkIdeal.main_arg1)
      ∧ r.2.mem ((c.tc : Thread Cert.InQkIdeal.nD Cert.InQkIdeal.τ).loc Cert.InQkIdeal.main_arg2) = m ((c.tc : Thread Cert.InQkIdeal.nD Cert.InQkIdeal.τ).loc Cert.InQkIdeal.main_arg2))
      ∧ r.2.sem = fun _ => 0)

def quiescent_RefInQkIdeal [hRefInQkIdeal : Cert.RefInQkIdeal.Facts] : Prop :=
  ∀ (m : (ℓ : Loc Cert.RefInQkIdeal.nD Cert.RefInQkIdeal.τ Cert.RefInQkIdeal.sig) → Buf (Elt Ideal) ℓ) (g : Dev Cert.RefInQkIdeal.nD → PrngReg), Pre_RefInQkIdeal m →
    θ_run (Cert.RefInQkIdeal.defs (F := Ideal)) (onTc (τ := Cert.RefInQkIdeal.τ) (Cert.RefInQkIdeal.main (F := Ideal))) ⟨m, fun _ => 0, g⟩ (fun r => (∀ c : Dev Cert.RefInQkIdeal.nD,
      r.2.mem ((c.tc : Thread Cert.RefInQkIdeal.nD Cert.RefInQkIdeal.τ).loc Cert.RefInQkIdeal.main_arg0) = m ((c.tc : Thread Cert.RefInQkIdeal.nD Cert.RefInQkIdeal.τ).loc Cert.RefInQkIdeal.main_arg0)
      ∧ r.2.mem ((c.tc : Thread Cert.RefInQkIdeal.nD Cert.RefInQkIdeal.τ).loc Cert.RefInQkIdeal.main_arg1) = m ((c.tc : Thread Cert.RefInQkIdeal.nD Cert.RefInQkIdeal.τ).loc Cert.RefInQkIdeal.main_arg1)
      ∧ r.2.mem ((c.tc : Thread Cert.RefInQkIdeal.nD Cert.RefInQkIdeal.τ).loc Cert.RefInQkIdeal.main_arg2) = m ((c.tc : Thread Cert.RefInQkIdeal.nD Cert.RefInQkIdeal.τ).loc Cert.RefInQkIdeal.main_arg2))
      ∧ r.2.sem = fun _ => 0)

def quiescent_InRest [hInRest : Cert.InRest.Facts] : Prop :=
  ∀ (m : (ℓ : Loc Cert.InRest.nD Cert.InRest.τ Cert.InRest.sig) → Buf (Elt Bits) ℓ) (g : Dev Cert.InRest.nD → PrngReg), Pre_InRest m →
    θ_run (Cert.InRest.defs (F := Bits)) (onTc (τ := Cert.InRest.τ) (Cert.InRest.main (F := Bits))) ⟨m, fun _ => 0, g⟩ (fun r => (∀ c : Dev Cert.InRest.nD,
      r.2.mem ((c.tc : Thread Cert.InRest.nD Cert.InRest.τ).loc Cert.InRest.main_arg0) = m ((c.tc : Thread Cert.InRest.nD Cert.InRest.τ).loc Cert.InRest.main_arg0)
      ∧ r.2.mem ((c.tc : Thread Cert.InRest.nD Cert.InRest.τ).loc Cert.InRest.main_arg1) = m ((c.tc : Thread Cert.InRest.nD Cert.InRest.τ).loc Cert.InRest.main_arg1)
      ∧ r.2.mem ((c.tc : Thread Cert.InRest.nD Cert.InRest.τ).loc Cert.InRest.main_arg2) = m ((c.tc : Thread Cert.InRest.nD Cert.InRest.τ).loc Cert.InRest.main_arg2))
      ∧ r.2.sem = fun _ => 0)

def quiescent_InRestIdeal [hInRestIdeal : Cert.InRestIdeal.Facts] : Prop :=
  ∀ (m : (ℓ : Loc Cert.InRestIdeal.nD Cert.InRestIdeal.τ Cert.InRestIdeal.sig) → Buf (Elt Ideal) ℓ) (g : Dev Cert.InRestIdeal.nD → PrngReg), Pre_InRestIdeal m →
    θ_run (Cert.InRestIdeal.defs (F := Ideal)) (onTc (τ := Cert.InRestIdeal.τ) (Cert.InRestIdeal.main (F := Ideal))) ⟨m, fun _ => 0, g⟩ (fun r => (∀ c : Dev Cert.InRestIdeal.nD,
      r.2.mem ((c.tc : Thread Cert.InRestIdeal.nD Cert.InRestIdeal.τ).loc Cert.InRestIdeal.main_arg0) = m ((c.tc : Thread Cert.InRestIdeal.nD Cert.InRestIdeal.τ).loc Cert.InRestIdeal.main_arg0)
      ∧ r.2.mem ((c.tc : Thread Cert.InRestIdeal.nD Cert.InRestIdeal.τ).loc Cert.InRestIdeal.main_arg1) = m ((c.tc : Thread Cert.InRestIdeal.nD Cert.InRestIdeal.τ).loc Cert.InRestIdeal.main_arg1)
      ∧ r.2.mem ((c.tc : Thread Cert.InRestIdeal.nD Cert.InRestIdeal.τ).loc Cert.InRestIdeal.main_arg2) = m ((c.tc : Thread Cert.InRestIdeal.nD Cert.InRestIdeal.τ).loc Cert.InRestIdeal.main_arg2))
      ∧ r.2.sem = fun _ => 0)

def quiescent_RefInRestIdeal [hRefInRestIdeal : Cert.RefInRestIdeal.Facts] : Prop :=
  ∀ (m : (ℓ : Loc Cert.RefInRestIdeal.nD Cert.RefInRestIdeal.τ Cert.RefInRestIdeal.sig) → Buf (Elt Ideal) ℓ) (g : Dev Cert.RefInRestIdeal.nD → PrngReg), Pre_RefInRestIdeal m →
    θ_run (Cert.RefInRestIdeal.defs (F := Ideal)) (onTc (τ := Cert.RefInRestIdeal.τ) (Cert.RefInRestIdeal.main (F := Ideal))) ⟨m, fun _ => 0, g⟩ (fun r => (∀ c : Dev Cert.RefInRestIdeal.nD,
      r.2.mem ((c.tc : Thread Cert.RefInRestIdeal.nD Cert.RefInRestIdeal.τ).loc Cert.RefInRestIdeal.main_arg0) = m ((c.tc : Thread Cert.RefInRestIdeal.nD Cert.RefInRestIdeal.τ).loc Cert.RefInRestIdeal.main_arg0)
      ∧ r.2.mem ((c.tc : Thread Cert.RefInRestIdeal.nD Cert.RefInRestIdeal.τ).loc Cert.RefInRestIdeal.main_arg1) = m ((c.tc : Thread Cert.RefInRestIdeal.nD Cert.RefInRestIdeal.τ).loc Cert.RefInRestIdeal.main_arg1)
      ∧ r.2.mem ((c.tc : Thread Cert.RefInRestIdeal.nD Cert.RefInRestIdeal.τ).loc Cert.RefInRestIdeal.main_arg2) = m ((c.tc : Thread Cert.RefInRestIdeal.nD Cert.RefInRestIdeal.τ).loc Cert.RefInRestIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_RefInDwIdeal [hRefInDwIdeal : Cert.RefInDwIdeal.Facts] : Prop :=
  ∀ (m : (ℓ : Loc Cert.RefInDwIdeal.nD Cert.RefInDwIdeal.τ Cert.RefInDwIdeal.sig) → Buf (Elt Ideal) ℓ) (g : Dev Cert.RefInDwIdeal.nD → PrngReg), Pre_RefInDwIdeal m →
    θ_run (Cert.RefInDwIdeal.defs (F := Ideal)) (onTc (τ := Cert.RefInDwIdeal.τ) (Cert.RefInDwIdeal.main (F := Ideal))) ⟨m, fun _ => 0, g⟩ (fun r => (∀ c : Dev Cert.RefInDwIdeal.nD,
      r.2.mem ((c.tc : Thread Cert.RefInDwIdeal.nD Cert.RefInDwIdeal.τ).loc Cert.RefInDwIdeal.main_arg0) = m ((c.tc : Thread Cert.RefInDwIdeal.nD Cert.RefInDwIdeal.τ).loc Cert.RefInDwIdeal.main_arg0)
      ∧ r.2.mem ((c.tc : Thread Cert.RefInDwIdeal.nD Cert.RefInDwIdeal.τ).loc Cert.RefInDwIdeal.main_arg1) = m ((c.tc : Thread Cert.RefInDwIdeal.nD Cert.RefInDwIdeal.τ).loc Cert.RefInDwIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_RefInDxIdeal [hRefInDxIdeal : Cert.RefInDxIdeal.Facts] : Prop :=
  ∀ (m : (ℓ : Loc Cert.RefInDxIdeal.nD Cert.RefInDxIdeal.τ Cert.RefInDxIdeal.sig) → Buf (Elt Ideal) ℓ) (g : Dev Cert.RefInDxIdeal.nD → PrngReg), Pre_RefInDxIdeal m →
    θ_run (Cert.RefInDxIdeal.defs (F := Ideal)) (onTc (τ := Cert.RefInDxIdeal.τ) (Cert.RefInDxIdeal.main (F := Ideal))) ⟨m, fun _ => 0, g⟩ (fun r => (∀ c : Dev Cert.RefInDxIdeal.nD,
      r.2.mem ((c.tc : Thread Cert.RefInDxIdeal.nD Cert.RefInDxIdeal.τ).loc Cert.RefInDxIdeal.main_arg0) = m ((c.tc : Thread Cert.RefInDxIdeal.nD Cert.RefInDxIdeal.τ).loc Cert.RefInDxIdeal.main_arg0)
      ∧ r.2.mem ((c.tc : Thread Cert.RefInDxIdeal.nD Cert.RefInDxIdeal.τ).loc Cert.RefInDxIdeal.main_arg1) = m ((c.tc : Thread Cert.RefInDxIdeal.nD Cert.RefInDxIdeal.τ).loc Cert.RefInDxIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_RefUpDwIdeal [hRefUpDwIdeal : Cert.RefUpDwIdeal.Facts] : Prop :=
  ∀ (m : (ℓ : Loc Cert.RefUpDwIdeal.nD Cert.RefUpDwIdeal.τ Cert.RefUpDwIdeal.sig) → Buf (Elt Ideal) ℓ) (g : Dev Cert.RefUpDwIdeal.nD → PrngReg), Pre_RefUpDwIdeal m →
    θ_run (Cert.RefUpDwIdeal.defs (F := Ideal)) (onTc (τ := Cert.RefUpDwIdeal.τ) (Cert.RefUpDwIdeal.main (F := Ideal))) ⟨m, fun _ => 0, g⟩ (fun r => (∀ c : Dev Cert.RefUpDwIdeal.nD,
      r.2.mem ((c.tc : Thread Cert.RefUpDwIdeal.nD Cert.RefUpDwIdeal.τ).loc Cert.RefUpDwIdeal.main_arg0) = m ((c.tc : Thread Cert.RefUpDwIdeal.nD Cert.RefUpDwIdeal.τ).loc Cert.RefUpDwIdeal.main_arg0)
      ∧ r.2.mem ((c.tc : Thread Cert.RefUpDwIdeal.nD Cert.RefUpDwIdeal.τ).loc Cert.RefUpDwIdeal.main_arg1) = m ((c.tc : Thread Cert.RefUpDwIdeal.nD Cert.RefUpDwIdeal.τ).loc Cert.RefUpDwIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_RefUpDxIdeal [hRefUpDxIdeal : Cert.RefUpDxIdeal.Facts] : Prop :=
  ∀ (m : (ℓ : Loc Cert.RefUpDxIdeal.nD Cert.RefUpDxIdeal.τ Cert.RefUpDxIdeal.sig) → Buf (Elt Ideal) ℓ) (g : Dev Cert.RefUpDxIdeal.nD → PrngReg), Pre_RefUpDxIdeal m →
    θ_run (Cert.RefUpDxIdeal.defs (F := Ideal)) (onTc (τ := Cert.RefUpDxIdeal.τ) (Cert.RefUpDxIdeal.main (F := Ideal))) ⟨m, fun _ => 0, g⟩ (fun r => (∀ c : Dev Cert.RefUpDxIdeal.nD,
      r.2.mem ((c.tc : Thread Cert.RefUpDxIdeal.nD Cert.RefUpDxIdeal.τ).loc Cert.RefUpDxIdeal.main_arg0) = m ((c.tc : Thread Cert.RefUpDxIdeal.nD Cert.RefUpDxIdeal.τ).loc Cert.RefUpDxIdeal.main_arg0)
      ∧ r.2.mem ((c.tc : Thread Cert.RefUpDxIdeal.nD Cert.RefUpDxIdeal.τ).loc Cert.RefUpDxIdeal.main_arg1) = m ((c.tc : Thread Cert.RefUpDxIdeal.nD Cert.RefUpDxIdeal.τ).loc Cert.RefUpDxIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_RefDownDwIdeal [hRefDownDwIdeal : Cert.RefDownDwIdeal.Facts] : Prop :=
  ∀ (m : (ℓ : Loc Cert.RefDownDwIdeal.nD Cert.RefDownDwIdeal.τ Cert.RefDownDwIdeal.sig) → Buf (Elt Ideal) ℓ) (g : Dev Cert.RefDownDwIdeal.nD → PrngReg), Pre_RefDownDwIdeal m →
    θ_run (Cert.RefDownDwIdeal.defs (F := Ideal)) (onTc (τ := Cert.RefDownDwIdeal.τ) (Cert.RefDownDwIdeal.main (F := Ideal))) ⟨m, fun _ => 0, g⟩ (fun r => (∀ c : Dev Cert.RefDownDwIdeal.nD,
      r.2.mem ((c.tc : Thread Cert.RefDownDwIdeal.nD Cert.RefDownDwIdeal.τ).loc Cert.RefDownDwIdeal.main_arg0) = m ((c.tc : Thread Cert.RefDownDwIdeal.nD Cert.RefDownDwIdeal.τ).loc Cert.RefDownDwIdeal.main_arg0)
      ∧ r.2.mem ((c.tc : Thread Cert.RefDownDwIdeal.nD Cert.RefDownDwIdeal.τ).loc Cert.RefDownDwIdeal.main_arg1) = m ((c.tc : Thread Cert.RefDownDwIdeal.nD Cert.RefDownDwIdeal.τ).loc Cert.RefDownDwIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_RefDownDxIdeal [hRefDownDxIdeal : Cert.RefDownDxIdeal.Facts] : Prop :=
  ∀ (m : (ℓ : Loc Cert.RefDownDxIdeal.nD Cert.RefDownDxIdeal.τ Cert.RefDownDxIdeal.sig) → Buf (Elt Ideal) ℓ) (g : Dev Cert.RefDownDxIdeal.nD → PrngReg), Pre_RefDownDxIdeal m →
    θ_run (Cert.RefDownDxIdeal.defs (F := Ideal)) (onTc (τ := Cert.RefDownDxIdeal.τ) (Cert.RefDownDxIdeal.main (F := Ideal))) ⟨m, fun _ => 0, g⟩ (fun r => (∀ c : Dev Cert.RefDownDxIdeal.nD,
      r.2.mem ((c.tc : Thread Cert.RefDownDxIdeal.nD Cert.RefDownDxIdeal.τ).loc Cert.RefDownDxIdeal.main_arg0) = m ((c.tc : Thread Cert.RefDownDxIdeal.nD Cert.RefDownDxIdeal.τ).loc Cert.RefDownDxIdeal.main_arg0)
      ∧ r.2.mem ((c.tc : Thread Cert.RefDownDxIdeal.nD Cert.RefDownDxIdeal.τ).loc Cert.RefDownDxIdeal.main_arg1) = m ((c.tc : Thread Cert.RefDownDxIdeal.nD Cert.RefDownDxIdeal.τ).loc Cert.RefDownDxIdeal.main_arg1))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1))
      ∧ r.2.sem = fun _ => 0)

def quiescent_RefRetOutIdeal [hRefRetOutIdeal : Cert.RefRetOutIdeal.Facts] : Prop :=
  ∀ (m : (ℓ : Loc Cert.RefRetOutIdeal.nD Cert.RefRetOutIdeal.τ Cert.RefRetOutIdeal.sig) → Buf (Elt Ideal) ℓ) (g : Dev Cert.RefRetOutIdeal.nD → PrngReg), Pre_RefRetOutIdeal m →
    θ_run (Cert.RefRetOutIdeal.defs (F := Ideal)) (onTc (τ := Cert.RefRetOutIdeal.τ) (Cert.RefRetOutIdeal.main (F := Ideal))) ⟨m, fun _ => 0, g⟩ (fun r => (∀ c : Dev Cert.RefRetOutIdeal.nD,
      r.2.mem ((c.tc : Thread Cert.RefRetOutIdeal.nD Cert.RefRetOutIdeal.τ).loc Cert.RefRetOutIdeal.main_arg0) = m ((c.tc : Thread Cert.RefRetOutIdeal.nD Cert.RefRetOutIdeal.τ).loc Cert.RefRetOutIdeal.main_arg0)
      ∧ r.2.mem ((c.tc : Thread Cert.RefRetOutIdeal.nD Cert.RefRetOutIdeal.τ).loc Cert.RefRetOutIdeal.main_arg1) = m ((c.tc : Thread Cert.RefRetOutIdeal.nD Cert.RefRetOutIdeal.τ).loc Cert.RefRetOutIdeal.main_arg1))
      ∧ r.2.sem = fun _ => 0)

def quiescent_RetOutDw [hRetOutDw : Cert.RetOutDw.Facts] : Prop :=
  ∀ (m : (ℓ : Loc Cert.RetOutDw.nD Cert.RetOutDw.τ Cert.RetOutDw.sig) → Buf (Elt Bits) ℓ) (g : Dev Cert.RetOutDw.nD → PrngReg), Pre_RetOutDw m →
    θ_run (Cert.RetOutDw.defs (F := Bits)) (onTc (τ := Cert.RetOutDw.τ) (Cert.RetOutDw.main (F := Bits))) ⟨m, fun _ => 0, g⟩ (fun r => (∀ c : Dev Cert.RetOutDw.nD,
      r.2.mem ((c.tc : Thread Cert.RetOutDw.nD Cert.RetOutDw.τ).loc Cert.RetOutDw.main_arg0) = m ((c.tc : Thread Cert.RetOutDw.nD Cert.RetOutDw.τ).loc Cert.RetOutDw.main_arg0)
      ∧ r.2.mem ((c.tc : Thread Cert.RetOutDw.nD Cert.RetOutDw.τ).loc Cert.RetOutDw.main_arg1) = m ((c.tc : Thread Cert.RetOutDw.nD Cert.RetOutDw.τ).loc Cert.RetOutDw.main_arg1))
      ∧ r.2.sem = fun _ => 0)

def quiescent_RetOutDwIdeal [hRetOutDwIdeal : Cert.RetOutDwIdeal.Facts] : Prop :=
  ∀ (m : (ℓ : Loc Cert.RetOutDwIdeal.nD Cert.RetOutDwIdeal.τ Cert.RetOutDwIdeal.sig) → Buf (Elt Ideal) ℓ) (g : Dev Cert.RetOutDwIdeal.nD → PrngReg), Pre_RetOutDwIdeal m →
    θ_run (Cert.RetOutDwIdeal.defs (F := Ideal)) (onTc (τ := Cert.RetOutDwIdeal.τ) (Cert.RetOutDwIdeal.main (F := Ideal))) ⟨m, fun _ => 0, g⟩ (fun r => (∀ c : Dev Cert.RetOutDwIdeal.nD,
      r.2.mem ((c.tc : Thread Cert.RetOutDwIdeal.nD Cert.RetOutDwIdeal.τ).loc Cert.RetOutDwIdeal.main_arg0) = m ((c.tc : Thread Cert.RetOutDwIdeal.nD Cert.RetOutDwIdeal.τ).loc Cert.RetOutDwIdeal.main_arg0)
      ∧ r.2.mem ((c.tc : Thread Cert.RetOutDwIdeal.nD Cert.RetOutDwIdeal.τ).loc Cert.RetOutDwIdeal.main_arg1) = m ((c.tc : Thread Cert.RetOutDwIdeal.nD Cert.RetOutDwIdeal.τ).loc Cert.RetOutDwIdeal.main_arg1))
      ∧ r.2.sem = fun _ => 0)

def quiescent_RefRetOutDwIdeal [hRefRetOutDwIdeal : Cert.RefRetOutDwIdeal.Facts] : Prop :=
  ∀ (m : (ℓ : Loc Cert.RefRetOutDwIdeal.nD Cert.RefRetOutDwIdeal.τ Cert.RefRetOutDwIdeal.sig) → Buf (Elt Ideal) ℓ) (g : Dev Cert.RefRetOutDwIdeal.nD → PrngReg), Pre_RefRetOutDwIdeal m →
    θ_run (Cert.RefRetOutDwIdeal.defs (F := Ideal)) (onTc (τ := Cert.RefRetOutDwIdeal.τ) (Cert.RefRetOutDwIdeal.main (F := Ideal))) ⟨m, fun _ => 0, g⟩ (fun r => (∀ c : Dev Cert.RefRetOutDwIdeal.nD,
      r.2.mem ((c.tc : Thread Cert.RefRetOutDwIdeal.nD Cert.RefRetOutDwIdeal.τ).loc Cert.RefRetOutDwIdeal.main_arg0) = m ((c.tc : Thread Cert.RefRetOutDwIdeal.nD Cert.RefRetOutDwIdeal.τ).loc Cert.RefRetOutDwIdeal.main_arg0)
      ∧ r.2.mem ((c.tc : Thread Cert.RefRetOutDwIdeal.nD Cert.RefRetOutDwIdeal.τ).loc Cert.RefRetOutDwIdeal.main_arg1) = m ((c.tc : Thread Cert.RefRetOutDwIdeal.nD Cert.RefRetOutDwIdeal.τ).loc Cert.RefRetOutDwIdeal.main_arg1))
      ∧ r.2.sem = fun _ => 0)

def quiescent_RetOutDx [hRetOutDx : Cert.RetOutDx.Facts] : Prop :=
  ∀ (m : (ℓ : Loc Cert.RetOutDx.nD Cert.RetOutDx.τ Cert.RetOutDx.sig) → Buf (Elt Bits) ℓ) (g : Dev Cert.RetOutDx.nD → PrngReg), Pre_RetOutDx m →
    θ_run (Cert.RetOutDx.defs (F := Bits)) (onTc (τ := Cert.RetOutDx.τ) (Cert.RetOutDx.main (F := Bits))) ⟨m, fun _ => 0, g⟩ (fun r => (∀ c : Dev Cert.RetOutDx.nD,
      r.2.mem ((c.tc : Thread Cert.RetOutDx.nD Cert.RetOutDx.τ).loc Cert.RetOutDx.main_arg0) = m ((c.tc : Thread Cert.RetOutDx.nD Cert.RetOutDx.τ).loc Cert.RetOutDx.main_arg0)
      ∧ r.2.mem ((c.tc : Thread Cert.RetOutDx.nD Cert.RetOutDx.τ).loc Cert.RetOutDx.main_arg1) = m ((c.tc : Thread Cert.RetOutDx.nD Cert.RetOutDx.τ).loc Cert.RetOutDx.main_arg1))
      ∧ r.2.sem = fun _ => 0)

def quiescent_RetOutDxIdeal [hRetOutDxIdeal : Cert.RetOutDxIdeal.Facts] : Prop :=
  ∀ (m : (ℓ : Loc Cert.RetOutDxIdeal.nD Cert.RetOutDxIdeal.τ Cert.RetOutDxIdeal.sig) → Buf (Elt Ideal) ℓ) (g : Dev Cert.RetOutDxIdeal.nD → PrngReg), Pre_RetOutDxIdeal m →
    θ_run (Cert.RetOutDxIdeal.defs (F := Ideal)) (onTc (τ := Cert.RetOutDxIdeal.τ) (Cert.RetOutDxIdeal.main (F := Ideal))) ⟨m, fun _ => 0, g⟩ (fun r => (∀ c : Dev Cert.RetOutDxIdeal.nD,
      r.2.mem ((c.tc : Thread Cert.RetOutDxIdeal.nD Cert.RetOutDxIdeal.τ).loc Cert.RetOutDxIdeal.main_arg0) = m ((c.tc : Thread Cert.RetOutDxIdeal.nD Cert.RetOutDxIdeal.τ).loc Cert.RetOutDxIdeal.main_arg0)
      ∧ r.2.mem ((c.tc : Thread Cert.RetOutDxIdeal.nD Cert.RetOutDxIdeal.τ).loc Cert.RetOutDxIdeal.main_arg1) = m ((c.tc : Thread Cert.RetOutDxIdeal.nD Cert.RetOutDxIdeal.τ).loc Cert.RetOutDxIdeal.main_arg1))
      ∧ r.2.sem = fun _ => 0)

def quiescent_RefRetOutDxIdeal [hRefRetOutDxIdeal : Cert.RefRetOutDxIdeal.Facts] : Prop :=
  ∀ (m : (ℓ : Loc Cert.RefRetOutDxIdeal.nD Cert.RefRetOutDxIdeal.τ Cert.RefRetOutDxIdeal.sig) → Buf (Elt Ideal) ℓ) (g : Dev Cert.RefRetOutDxIdeal.nD → PrngReg), Pre_RefRetOutDxIdeal m →
    θ_run (Cert.RefRetOutDxIdeal.defs (F := Ideal)) (onTc (τ := Cert.RefRetOutDxIdeal.τ) (Cert.RefRetOutDxIdeal.main (F := Ideal))) ⟨m, fun _ => 0, g⟩ (fun r => (∀ c : Dev Cert.RefRetOutDxIdeal.nD,
      r.2.mem ((c.tc : Thread Cert.RefRetOutDxIdeal.nD Cert.RefRetOutDxIdeal.τ).loc Cert.RefRetOutDxIdeal.main_arg0) = m ((c.tc : Thread Cert.RefRetOutDxIdeal.nD Cert.RefRetOutDxIdeal.τ).loc Cert.RefRetOutDxIdeal.main_arg0)
      ∧ r.2.mem ((c.tc : Thread Cert.RefRetOutDxIdeal.nD Cert.RefRetOutDxIdeal.τ).loc Cert.RefRetOutDxIdeal.main_arg1) = m ((c.tc : Thread Cert.RefRetOutDxIdeal.nD Cert.RefRetOutDxIdeal.τ).loc Cert.RefRetOutDxIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_RefOutDwIdeal [hRefOutDwIdeal : Cert.RefOutDwIdeal.Facts] : Prop :=
  ∀ (m : (ℓ : Loc Cert.RefOutDwIdeal.nD Cert.RefOutDwIdeal.τ Cert.RefOutDwIdeal.sig) → Buf (Elt Ideal) ℓ) (g : Dev Cert.RefOutDwIdeal.nD → PrngReg), Pre_RefOutDwIdeal m →
    θ_run (Cert.RefOutDwIdeal.defs (F := Ideal)) (onTc (τ := Cert.RefOutDwIdeal.τ) (Cert.RefOutDwIdeal.main (F := Ideal))) ⟨m, fun _ => 0, g⟩ (fun r => (∀ c : Dev Cert.RefOutDwIdeal.nD,
      r.2.mem ((c.tc : Thread Cert.RefOutDwIdeal.nD Cert.RefOutDwIdeal.τ).loc Cert.RefOutDwIdeal.main_arg0) = m ((c.tc : Thread Cert.RefOutDwIdeal.nD Cert.RefOutDwIdeal.τ).loc Cert.RefOutDwIdeal.main_arg0)
      ∧ r.2.mem ((c.tc : Thread Cert.RefOutDwIdeal.nD Cert.RefOutDwIdeal.τ).loc Cert.RefOutDwIdeal.main_arg1) = m ((c.tc : Thread Cert.RefOutDwIdeal.nD Cert.RefOutDwIdeal.τ).loc Cert.RefOutDwIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_RefOutDxIdeal [hRefOutDxIdeal : Cert.RefOutDxIdeal.Facts] : Prop :=
  ∀ (m : (ℓ : Loc Cert.RefOutDxIdeal.nD Cert.RefOutDxIdeal.τ Cert.RefOutDxIdeal.sig) → Buf (Elt Ideal) ℓ) (g : Dev Cert.RefOutDxIdeal.nD → PrngReg), Pre_RefOutDxIdeal m →
    θ_run (Cert.RefOutDxIdeal.defs (F := Ideal)) (onTc (τ := Cert.RefOutDxIdeal.τ) (Cert.RefOutDxIdeal.main (F := Ideal))) ⟨m, fun _ => 0, g⟩ (fun r => (∀ c : Dev Cert.RefOutDxIdeal.nD,
      r.2.mem ((c.tc : Thread Cert.RefOutDxIdeal.nD Cert.RefOutDxIdeal.τ).loc Cert.RefOutDxIdeal.main_arg0) = m ((c.tc : Thread Cert.RefOutDxIdeal.nD Cert.RefOutDxIdeal.τ).loc Cert.RefOutDxIdeal.main_arg0)
      ∧ r.2.mem ((c.tc : Thread Cert.RefOutDxIdeal.nD Cert.RefOutDxIdeal.τ).loc Cert.RefOutDxIdeal.main_arg1) = m ((c.tc : Thread Cert.RefOutDxIdeal.nD Cert.RefOutDxIdeal.τ).loc Cert.RefOutDxIdeal.main_arg1))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1))
      ∧ r.2.sem = fun _ => 0)

def quiescent_RefConvOutIdeal [hRefConvOutIdeal : Cert.RefConvOutIdeal.Facts] : Prop :=
  ∀ (m : (ℓ : Loc Cert.RefConvOutIdeal.nD Cert.RefConvOutIdeal.τ Cert.RefConvOutIdeal.sig) → Buf (Elt Ideal) ℓ) (g : Dev Cert.RefConvOutIdeal.nD → PrngReg), Pre_RefConvOutIdeal m →
    θ_run (Cert.RefConvOutIdeal.defs (F := Ideal)) (onTc (τ := Cert.RefConvOutIdeal.τ) (Cert.RefConvOutIdeal.main (F := Ideal))) ⟨m, fun _ => 0, g⟩ (fun r => (∀ c : Dev Cert.RefConvOutIdeal.nD,
      r.2.mem ((c.tc : Thread Cert.RefConvOutIdeal.nD Cert.RefConvOutIdeal.τ).loc Cert.RefConvOutIdeal.main_arg0) = m ((c.tc : Thread Cert.RefConvOutIdeal.nD Cert.RefConvOutIdeal.τ).loc Cert.RefConvOutIdeal.main_arg0)
      ∧ r.2.mem ((c.tc : Thread Cert.RefConvOutIdeal.nD Cert.RefConvOutIdeal.τ).loc Cert.RefConvOutIdeal.main_arg1) = m ((c.tc : Thread Cert.RefConvOutIdeal.nD Cert.RefConvOutIdeal.τ).loc Cert.RefConvOutIdeal.main_arg1))
      ∧ r.2.sem = fun _ => 0)

def quiescent_ConvOutDw [hConvOutDw : Cert.ConvOutDw.Facts] : Prop :=
  ∀ (m : (ℓ : Loc Cert.ConvOutDw.nD Cert.ConvOutDw.τ Cert.ConvOutDw.sig) → Buf (Elt Bits) ℓ) (g : Dev Cert.ConvOutDw.nD → PrngReg), Pre_ConvOutDw m →
    θ_run (Cert.ConvOutDw.defs (F := Bits)) (onTc (τ := Cert.ConvOutDw.τ) (Cert.ConvOutDw.main (F := Bits))) ⟨m, fun _ => 0, g⟩ (fun r => (∀ c : Dev Cert.ConvOutDw.nD,
      r.2.mem ((c.tc : Thread Cert.ConvOutDw.nD Cert.ConvOutDw.τ).loc Cert.ConvOutDw.main_arg0) = m ((c.tc : Thread Cert.ConvOutDw.nD Cert.ConvOutDw.τ).loc Cert.ConvOutDw.main_arg0)
      ∧ r.2.mem ((c.tc : Thread Cert.ConvOutDw.nD Cert.ConvOutDw.τ).loc Cert.ConvOutDw.main_arg1) = m ((c.tc : Thread Cert.ConvOutDw.nD Cert.ConvOutDw.τ).loc Cert.ConvOutDw.main_arg1))
      ∧ r.2.sem = fun _ => 0)

def quiescent_ConvOutDwIdeal [hConvOutDwIdeal : Cert.ConvOutDwIdeal.Facts] : Prop :=
  ∀ (m : (ℓ : Loc Cert.ConvOutDwIdeal.nD Cert.ConvOutDwIdeal.τ Cert.ConvOutDwIdeal.sig) → Buf (Elt Ideal) ℓ) (g : Dev Cert.ConvOutDwIdeal.nD → PrngReg), Pre_ConvOutDwIdeal m →
    θ_run (Cert.ConvOutDwIdeal.defs (F := Ideal)) (onTc (τ := Cert.ConvOutDwIdeal.τ) (Cert.ConvOutDwIdeal.main (F := Ideal))) ⟨m, fun _ => 0, g⟩ (fun r => (∀ c : Dev Cert.ConvOutDwIdeal.nD,
      r.2.mem ((c.tc : Thread Cert.ConvOutDwIdeal.nD Cert.ConvOutDwIdeal.τ).loc Cert.ConvOutDwIdeal.main_arg0) = m ((c.tc : Thread Cert.ConvOutDwIdeal.nD Cert.ConvOutDwIdeal.τ).loc Cert.ConvOutDwIdeal.main_arg0)
      ∧ r.2.mem ((c.tc : Thread Cert.ConvOutDwIdeal.nD Cert.ConvOutDwIdeal.τ).loc Cert.ConvOutDwIdeal.main_arg1) = m ((c.tc : Thread Cert.ConvOutDwIdeal.nD Cert.ConvOutDwIdeal.τ).loc Cert.ConvOutDwIdeal.main_arg1))
      ∧ r.2.sem = fun _ => 0)

def quiescent_RefConvOutDwIdeal [hRefConvOutDwIdeal : Cert.RefConvOutDwIdeal.Facts] : Prop :=
  ∀ (m : (ℓ : Loc Cert.RefConvOutDwIdeal.nD Cert.RefConvOutDwIdeal.τ Cert.RefConvOutDwIdeal.sig) → Buf (Elt Ideal) ℓ) (g : Dev Cert.RefConvOutDwIdeal.nD → PrngReg), Pre_RefConvOutDwIdeal m →
    θ_run (Cert.RefConvOutDwIdeal.defs (F := Ideal)) (onTc (τ := Cert.RefConvOutDwIdeal.τ) (Cert.RefConvOutDwIdeal.main (F := Ideal))) ⟨m, fun _ => 0, g⟩ (fun r => (∀ c : Dev Cert.RefConvOutDwIdeal.nD,
      r.2.mem ((c.tc : Thread Cert.RefConvOutDwIdeal.nD Cert.RefConvOutDwIdeal.τ).loc Cert.RefConvOutDwIdeal.main_arg0) = m ((c.tc : Thread Cert.RefConvOutDwIdeal.nD Cert.RefConvOutDwIdeal.τ).loc Cert.RefConvOutDwIdeal.main_arg0)
      ∧ r.2.mem ((c.tc : Thread Cert.RefConvOutDwIdeal.nD Cert.RefConvOutDwIdeal.τ).loc Cert.RefConvOutDwIdeal.main_arg1) = m ((c.tc : Thread Cert.RefConvOutDwIdeal.nD Cert.RefConvOutDwIdeal.τ).loc Cert.RefConvOutDwIdeal.main_arg1))
      ∧ r.2.sem = fun _ => 0)

def quiescent_ConvOutDx [hConvOutDx : Cert.ConvOutDx.Facts] : Prop :=
  ∀ (m : (ℓ : Loc Cert.ConvOutDx.nD Cert.ConvOutDx.τ Cert.ConvOutDx.sig) → Buf (Elt Bits) ℓ) (g : Dev Cert.ConvOutDx.nD → PrngReg), Pre_ConvOutDx m →
    θ_run (Cert.ConvOutDx.defs (F := Bits)) (onTc (τ := Cert.ConvOutDx.τ) (Cert.ConvOutDx.main (F := Bits))) ⟨m, fun _ => 0, g⟩ (fun r => (∀ c : Dev Cert.ConvOutDx.nD,
      r.2.mem ((c.tc : Thread Cert.ConvOutDx.nD Cert.ConvOutDx.τ).loc Cert.ConvOutDx.main_arg0) = m ((c.tc : Thread Cert.ConvOutDx.nD Cert.ConvOutDx.τ).loc Cert.ConvOutDx.main_arg0)
      ∧ r.2.mem ((c.tc : Thread Cert.ConvOutDx.nD Cert.ConvOutDx.τ).loc Cert.ConvOutDx.main_arg1) = m ((c.tc : Thread Cert.ConvOutDx.nD Cert.ConvOutDx.τ).loc Cert.ConvOutDx.main_arg1))
      ∧ r.2.sem = fun _ => 0)

def quiescent_ConvOutDxIdeal [hConvOutDxIdeal : Cert.ConvOutDxIdeal.Facts] : Prop :=
  ∀ (m : (ℓ : Loc Cert.ConvOutDxIdeal.nD Cert.ConvOutDxIdeal.τ Cert.ConvOutDxIdeal.sig) → Buf (Elt Ideal) ℓ) (g : Dev Cert.ConvOutDxIdeal.nD → PrngReg), Pre_ConvOutDxIdeal m →
    θ_run (Cert.ConvOutDxIdeal.defs (F := Ideal)) (onTc (τ := Cert.ConvOutDxIdeal.τ) (Cert.ConvOutDxIdeal.main (F := Ideal))) ⟨m, fun _ => 0, g⟩ (fun r => (∀ c : Dev Cert.ConvOutDxIdeal.nD,
      r.2.mem ((c.tc : Thread Cert.ConvOutDxIdeal.nD Cert.ConvOutDxIdeal.τ).loc Cert.ConvOutDxIdeal.main_arg0) = m ((c.tc : Thread Cert.ConvOutDxIdeal.nD Cert.ConvOutDxIdeal.τ).loc Cert.ConvOutDxIdeal.main_arg0)
      ∧ r.2.mem ((c.tc : Thread Cert.ConvOutDxIdeal.nD Cert.ConvOutDxIdeal.τ).loc Cert.ConvOutDxIdeal.main_arg1) = m ((c.tc : Thread Cert.ConvOutDxIdeal.nD Cert.ConvOutDxIdeal.τ).loc Cert.ConvOutDxIdeal.main_arg1))
      ∧ r.2.sem = fun _ => 0)

def quiescent_RefConvOutDxIdeal [hRefConvOutDxIdeal : Cert.RefConvOutDxIdeal.Facts] : Prop :=
  ∀ (m : (ℓ : Loc Cert.RefConvOutDxIdeal.nD Cert.RefConvOutDxIdeal.τ Cert.RefConvOutDxIdeal.sig) → Buf (Elt Ideal) ℓ) (g : Dev Cert.RefConvOutDxIdeal.nD → PrngReg), Pre_RefConvOutDxIdeal m →
    θ_run (Cert.RefConvOutDxIdeal.defs (F := Ideal)) (onTc (τ := Cert.RefConvOutDxIdeal.τ) (Cert.RefConvOutDxIdeal.main (F := Ideal))) ⟨m, fun _ => 0, g⟩ (fun r => (∀ c : Dev Cert.RefConvOutDxIdeal.nD,
      r.2.mem ((c.tc : Thread Cert.RefConvOutDxIdeal.nD Cert.RefConvOutDxIdeal.τ).loc Cert.RefConvOutDxIdeal.main_arg0) = m ((c.tc : Thread Cert.RefConvOutDxIdeal.nD Cert.RefConvOutDxIdeal.τ).loc Cert.RefConvOutDxIdeal.main_arg0)
      ∧ r.2.mem ((c.tc : Thread Cert.RefConvOutDxIdeal.nD Cert.RefConvOutDxIdeal.τ).loc Cert.RefConvOutDxIdeal.main_arg1) = m ((c.tc : Thread Cert.RefConvOutDxIdeal.nD Cert.RefConvOutDxIdeal.τ).loc Cert.RefConvOutDxIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v69_0)) (v1 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69_0) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_v228) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InQk_InQkIdeal : Prop :=
  True

def algebraic_InQkIdeal_RefInQkIdeal [hInQkIdeal : Cert.InQkIdeal.Facts] [hRefInQkIdeal : Cert.RefInQkIdeal.Facts] : Prop :=
  ∀ (m : (ℓ : Loc Cert.InQkIdeal.nD Cert.InQkIdeal.τ Cert.InQkIdeal.sig) → Buf (Elt Ideal) ℓ) (g : Dev Cert.InQkIdeal.nD → PrngReg)
    (m' : (ℓ : Loc Cert.RefInQkIdeal.nD Cert.RefInQkIdeal.τ Cert.RefInQkIdeal.sig) → Buf (Elt Ideal) ℓ) (g' : Dev Cert.RefInQkIdeal.nD → PrngReg), Pre_InQkIdeal m →
    (∀ c : Dev Cert.InQkIdeal.nD,
      m' ((c.tc : Thread Cert.RefInQkIdeal.nD Cert.RefInQkIdeal.τ).loc Cert.RefInQkIdeal.main_arg0) = m ((c.tc : Thread Cert.InQkIdeal.nD Cert.InQkIdeal.τ).loc Cert.InQkIdeal.main_arg0)
      ∧ m' ((c.tc : Thread Cert.RefInQkIdeal.nD Cert.RefInQkIdeal.τ).loc Cert.RefInQkIdeal.main_arg1) = m ((c.tc : Thread Cert.InQkIdeal.nD Cert.InQkIdeal.τ).loc Cert.InQkIdeal.main_arg1)
      ∧ m' ((c.tc : Thread Cert.RefInQkIdeal.nD Cert.RefInQkIdeal.τ).loc Cert.RefInQkIdeal.main_arg2) = m ((c.tc : Thread Cert.InQkIdeal.nD Cert.InQkIdeal.τ).loc Cert.InQkIdeal.main_arg2)) →
    ∃ (v0 : (c : Dev Cert.InQkIdeal.nD) → Buf (Elt Ideal) ((c.tc : Thread Cert.InQkIdeal.nD Cert.InQkIdeal.τ).loc Cert.InQkIdeal.main_v3)),
      θ_run (Cert.InQkIdeal.defs (F := Ideal)) (onTc (τ := Cert.InQkIdeal.τ) (Cert.InQkIdeal.main (F := Ideal))) ⟨m, fun _ => 0, g⟩ (fun r => ∀ c : Dev Cert.InQkIdeal.nD,
          r.2.mem ((c.tc : Thread Cert.InQkIdeal.nD Cert.InQkIdeal.τ).loc Cert.InQkIdeal.main_v3) = v0 c
          ∧ r.2.mem ((c.tc : Thread Cert.InQkIdeal.nD Cert.InQkIdeal.τ).loc Cert.InQkIdeal.main_arg0) = m ((c.tc : Thread Cert.InQkIdeal.nD Cert.InQkIdeal.τ).loc Cert.InQkIdeal.main_arg0)
          ∧ r.2.mem ((c.tc : Thread Cert.InQkIdeal.nD Cert.InQkIdeal.τ).loc Cert.InQkIdeal.main_arg1) = m ((c.tc : Thread Cert.InQkIdeal.nD Cert.InQkIdeal.τ).loc Cert.InQkIdeal.main_arg1)
          ∧ r.2.mem ((c.tc : Thread Cert.InQkIdeal.nD Cert.InQkIdeal.τ).loc Cert.InQkIdeal.main_arg2) = m ((c.tc : Thread Cert.InQkIdeal.nD Cert.InQkIdeal.τ).loc Cert.InQkIdeal.main_arg2))
      ∧ θ_run (Cert.RefInQkIdeal.defs (F := Ideal)) (onTc (τ := Cert.RefInQkIdeal.τ) (Cert.RefInQkIdeal.main (F := Ideal))) ⟨m', fun _ => 0, g'⟩ (fun r => ∀ c : Dev Cert.RefInQkIdeal.nD,
          r.2.mem ((c.tc : Thread Cert.RefInQkIdeal.nD Cert.RefInQkIdeal.τ).loc Cert.RefInQkIdeal.main_v4) = v0 c
          ∧ r.2.mem ((c.tc : Thread Cert.RefInQkIdeal.nD Cert.RefInQkIdeal.τ).loc Cert.RefInQkIdeal.main_arg0) = m' ((c.tc : Thread Cert.RefInQkIdeal.nD Cert.RefInQkIdeal.τ).loc Cert.RefInQkIdeal.main_arg0)
          ∧ r.2.mem ((c.tc : Thread Cert.RefInQkIdeal.nD Cert.RefInQkIdeal.τ).loc Cert.RefInQkIdeal.main_arg1) = m' ((c.tc : Thread Cert.RefInQkIdeal.nD Cert.RefInQkIdeal.τ).loc Cert.RefInQkIdeal.main_arg1)
          ∧ r.2.mem ((c.tc : Thread Cert.RefInQkIdeal.nD Cert.RefInQkIdeal.τ).loc Cert.RefInQkIdeal.main_arg2) = m' ((c.tc : Thread Cert.RefInQkIdeal.nD Cert.RefInQkIdeal.τ).loc Cert.RefInQkIdeal.main_arg2))

def preserves_InRest_InRestIdeal : Prop :=
  True

def algebraic_InRestIdeal_RefInRestIdeal [hInRestIdeal : Cert.InRestIdeal.Facts] [hRefInRestIdeal : Cert.RefInRestIdeal.Facts] : Prop :=
  ∀ (m : (ℓ : Loc Cert.InRestIdeal.nD Cert.InRestIdeal.τ Cert.InRestIdeal.sig) → Buf (Elt Ideal) ℓ) (g : Dev Cert.InRestIdeal.nD → PrngReg)
    (m' : (ℓ : Loc Cert.RefInRestIdeal.nD Cert.RefInRestIdeal.τ Cert.RefInRestIdeal.sig) → Buf (Elt Ideal) ℓ) (g' : Dev Cert.RefInRestIdeal.nD → PrngReg), Pre_InRestIdeal m →
    (∀ c : Dev Cert.InRestIdeal.nD,
      m' ((c.tc : Thread Cert.RefInRestIdeal.nD Cert.RefInRestIdeal.τ).loc Cert.RefInRestIdeal.main_arg0) = m ((c.tc : Thread Cert.InRestIdeal.nD Cert.InRestIdeal.τ).loc Cert.InRestIdeal.main_arg0)
      ∧ m' ((c.tc : Thread Cert.RefInRestIdeal.nD Cert.RefInRestIdeal.τ).loc Cert.RefInRestIdeal.main_arg1) = m ((c.tc : Thread Cert.InRestIdeal.nD Cert.InRestIdeal.τ).loc Cert.InRestIdeal.main_arg1)
      ∧ m' ((c.tc : Thread Cert.RefInRestIdeal.nD Cert.RefInRestIdeal.τ).loc Cert.RefInRestIdeal.main_arg2) = m ((c.tc : Thread Cert.InRestIdeal.nD Cert.InRestIdeal.τ).loc Cert.InRestIdeal.main_arg2)) →
    ∃ (v0 : (c : Dev Cert.InRestIdeal.nD) → Buf (Elt Ideal) ((c.tc : Thread Cert.InRestIdeal.nD Cert.InRestIdeal.τ).loc Cert.InRestIdeal.main_v3)),
      θ_run (Cert.InRestIdeal.defs (F := Ideal)) (onTc (τ := Cert.InRestIdeal.τ) (Cert.InRestIdeal.main (F := Ideal))) ⟨m, fun _ => 0, g⟩ (fun r => ∀ c : Dev Cert.InRestIdeal.nD,
          r.2.mem ((c.tc : Thread Cert.InRestIdeal.nD Cert.InRestIdeal.τ).loc Cert.InRestIdeal.main_v3) = v0 c
          ∧ r.2.mem ((c.tc : Thread Cert.InRestIdeal.nD Cert.InRestIdeal.τ).loc Cert.InRestIdeal.main_arg0) = m ((c.tc : Thread Cert.InRestIdeal.nD Cert.InRestIdeal.τ).loc Cert.InRestIdeal.main_arg0)
          ∧ r.2.mem ((c.tc : Thread Cert.InRestIdeal.nD Cert.InRestIdeal.τ).loc Cert.InRestIdeal.main_arg1) = m ((c.tc : Thread Cert.InRestIdeal.nD Cert.InRestIdeal.τ).loc Cert.InRestIdeal.main_arg1)
          ∧ r.2.mem ((c.tc : Thread Cert.InRestIdeal.nD Cert.InRestIdeal.τ).loc Cert.InRestIdeal.main_arg2) = m ((c.tc : Thread Cert.InRestIdeal.nD Cert.InRestIdeal.τ).loc Cert.InRestIdeal.main_arg2))
      ∧ θ_run (Cert.RefInRestIdeal.defs (F := Ideal)) (onTc (τ := Cert.RefInRestIdeal.τ) (Cert.RefInRestIdeal.main (F := Ideal))) ⟨m', fun _ => 0, g'⟩ (fun r => ∀ c : Dev Cert.RefInRestIdeal.nD,
          r.2.mem ((c.tc : Thread Cert.RefInRestIdeal.nD Cert.RefInRestIdeal.τ).loc Cert.RefInRestIdeal.main_v5) = v0 c
          ∧ r.2.mem ((c.tc : Thread Cert.RefInRestIdeal.nD Cert.RefInRestIdeal.τ).loc Cert.RefInRestIdeal.main_arg0) = m' ((c.tc : Thread Cert.RefInRestIdeal.nD Cert.RefInRestIdeal.τ).loc Cert.RefInRestIdeal.main_arg0)
          ∧ r.2.mem ((c.tc : Thread Cert.RefInRestIdeal.nD Cert.RefInRestIdeal.τ).loc Cert.RefInRestIdeal.main_arg1) = m' ((c.tc : Thread Cert.RefInRestIdeal.nD Cert.RefInRestIdeal.τ).loc Cert.RefInRestIdeal.main_arg1)
          ∧ r.2.mem ((c.tc : Thread Cert.RefInRestIdeal.nD Cert.RefInRestIdeal.τ).loc Cert.RefInRestIdeal.main_arg2) = m' ((c.tc : Thread Cert.RefInRestIdeal.nD Cert.RefInRestIdeal.τ).loc Cert.RefInRestIdeal.main_arg2))

def preserves_InDw_InDwIdeal : Prop :=
  True

def algebraic_InDwIdeal_RefInDwIdeal [hInDwIdeal : Cert.InDwIdeal.Facts] [hRefInDwIdeal : Cert.RefInDwIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.RefInDwIdeal.nD Cert.RefInDwIdeal.τ Cert.RefInDwIdeal.sig) → Buf (Elt Ideal) ℓ) (g' : Dev Cert.RefInDwIdeal.nD → PrngReg), Pre_InDwIdeal m →
    (∀ c : Dev Cert.InDwIdeal.nD,
      m' ((c.tc : Thread Cert.RefInDwIdeal.nD Cert.RefInDwIdeal.τ).loc Cert.RefInDwIdeal.main_arg0) = m ((c.tc : Thread Cert.InDwIdeal.nD Cert.InDwIdeal.τ).loc Cert.InDwIdeal.main_arg0)
      ∧ m' ((c.tc : Thread Cert.RefInDwIdeal.nD Cert.RefInDwIdeal.τ).loc Cert.RefInDwIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0_0)) (v1 : (c : Dev Cert.InDwIdeal.nD) → Buf (Elt Ideal) ((c.tc : Thread Cert.InDwIdeal.nD Cert.InDwIdeal.τ).loc Cert.InDwIdeal.main_v0_1)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0_0) = v0 c
          ∧ r.2.mem ((c.tc : Thread Cert.InDwIdeal.nD Cert.InDwIdeal.τ).loc Cert.InDwIdeal.main_v0_1) = v1 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.RefInDwIdeal.defs (F := Ideal)) (onTc (τ := Cert.RefInDwIdeal.τ) (Cert.RefInDwIdeal.main (F := Ideal))) ⟨m', fun _ => 0, g'⟩ (fun r => ∀ c : Dev Cert.RefInDwIdeal.nD,
          r.2.mem ((c.tc : Thread Cert.RefInDwIdeal.nD Cert.RefInDwIdeal.τ).loc Cert.RefInDwIdeal.main_v19) = v0 c
          ∧ r.2.mem ((c.tc : Thread Cert.RefInDwIdeal.nD Cert.RefInDwIdeal.τ).loc Cert.RefInDwIdeal.main_v8) = v1 c
          ∧ r.2.mem ((c.tc : Thread Cert.RefInDwIdeal.nD Cert.RefInDwIdeal.τ).loc Cert.RefInDwIdeal.main_arg0) = m' ((c.tc : Thread Cert.RefInDwIdeal.nD Cert.RefInDwIdeal.τ).loc Cert.RefInDwIdeal.main_arg0)
          ∧ r.2.mem ((c.tc : Thread Cert.RefInDwIdeal.nD Cert.RefInDwIdeal.τ).loc Cert.RefInDwIdeal.main_arg1) = m' ((c.tc : Thread Cert.RefInDwIdeal.nD Cert.RefInDwIdeal.τ).loc Cert.RefInDwIdeal.main_arg1))

def preserves_InDx_InDxIdeal : Prop :=
  True

def algebraic_InDxIdeal_RefInDxIdeal [hInDxIdeal : Cert.InDxIdeal.Facts] [hRefInDxIdeal : Cert.RefInDxIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.RefInDxIdeal.nD Cert.RefInDxIdeal.τ Cert.RefInDxIdeal.sig) → Buf (Elt Ideal) ℓ) (g' : Dev Cert.RefInDxIdeal.nD → PrngReg), Pre_InDxIdeal m →
    (∀ c : Dev Cert.InDxIdeal.nD,
      m' ((c.tc : Thread Cert.RefInDxIdeal.nD Cert.RefInDxIdeal.τ).loc Cert.RefInDxIdeal.main_arg0) = m ((c.tc : Thread Cert.InDxIdeal.nD Cert.InDxIdeal.τ).loc Cert.InDxIdeal.main_arg0)
      ∧ m' ((c.tc : Thread Cert.RefInDxIdeal.nD Cert.RefInDxIdeal.τ).loc Cert.RefInDxIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v3)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v3) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.RefInDxIdeal.defs (F := Ideal)) (onTc (τ := Cert.RefInDxIdeal.τ) (Cert.RefInDxIdeal.main (F := Ideal))) ⟨m', fun _ => 0, g'⟩ (fun r => ∀ c : Dev Cert.RefInDxIdeal.nD,
          r.2.mem ((c.tc : Thread Cert.RefInDxIdeal.nD Cert.RefInDxIdeal.τ).loc Cert.RefInDxIdeal.main_v7) = v0 c
          ∧ r.2.mem ((c.tc : Thread Cert.RefInDxIdeal.nD Cert.RefInDxIdeal.τ).loc Cert.RefInDxIdeal.main_arg0) = m' ((c.tc : Thread Cert.RefInDxIdeal.nD Cert.RefInDxIdeal.τ).loc Cert.RefInDxIdeal.main_arg0)
          ∧ r.2.mem ((c.tc : Thread Cert.RefInDxIdeal.nD Cert.RefInDxIdeal.τ).loc Cert.RefInDxIdeal.main_arg1) = m' ((c.tc : Thread Cert.RefInDxIdeal.nD Cert.RefInDxIdeal.τ).loc Cert.RefInDxIdeal.main_arg1))

def preserves_Up_UpIdeal : Prop :=
  True

def algebraic_UpIdeal_RefUpIdeal [hUpIdeal : Cert.UpIdeal.Facts] [hRefUpIdeal : Cert.RefUpIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_UpIdeal m →
    (∀ c : Dev Cert.UpIdeal.nD,
      m' ((c.tc : Thread Cert.RefUpIdeal.nD Cert.RefUpIdeal.τ).loc Cert.RefUpIdeal.main_arg0) = m ((c.tc : Thread Cert.UpIdeal.nD Cert.UpIdeal.τ).loc Cert.UpIdeal.main_arg0)
      ∧ m' ((c.tc : Thread Cert.RefUpIdeal.nD Cert.RefUpIdeal.τ).loc Cert.RefUpIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v8)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v8) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v2) = v0 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1))

def preserves_UpDw_UpDwIdeal : Prop :=
  True

def algebraic_UpDwIdeal_RefUpDwIdeal [hUpDwIdeal : Cert.UpDwIdeal.Facts] [hRefUpDwIdeal : Cert.RefUpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.RefUpDwIdeal.nD Cert.RefUpDwIdeal.τ Cert.RefUpDwIdeal.sig) → Buf (Elt Ideal) ℓ) (g' : Dev Cert.RefUpDwIdeal.nD → PrngReg), Pre_UpDwIdeal m →
    (∀ c : Dev Cert.UpDwIdeal.nD,
      m' ((c.tc : Thread Cert.RefUpDwIdeal.nD Cert.RefUpDwIdeal.τ).loc Cert.RefUpDwIdeal.main_arg0) = m ((c.tc : Thread Cert.UpDwIdeal.nD Cert.UpDwIdeal.τ).loc Cert.UpDwIdeal.main_arg0)
      ∧ m' ((c.tc : Thread Cert.RefUpDwIdeal.nD Cert.RefUpDwIdeal.τ).loc Cert.RefUpDwIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v5)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v5) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.RefUpDwIdeal.defs (F := Ideal)) (onTc (τ := Cert.RefUpDwIdeal.τ) (Cert.RefUpDwIdeal.main (F := Ideal))) ⟨m', fun _ => 0, g'⟩ (fun r => ∀ c : Dev Cert.RefUpDwIdeal.nD,
          r.2.mem ((c.tc : Thread Cert.RefUpDwIdeal.nD Cert.RefUpDwIdeal.τ).loc Cert.RefUpDwIdeal.main_v14) = v0 c
          ∧ r.2.mem ((c.tc : Thread Cert.RefUpDwIdeal.nD Cert.RefUpDwIdeal.τ).loc Cert.RefUpDwIdeal.main_arg0) = m' ((c.tc : Thread Cert.RefUpDwIdeal.nD Cert.RefUpDwIdeal.τ).loc Cert.RefUpDwIdeal.main_arg0)
          ∧ r.2.mem ((c.tc : Thread Cert.RefUpDwIdeal.nD Cert.RefUpDwIdeal.τ).loc Cert.RefUpDwIdeal.main_arg1) = m' ((c.tc : Thread Cert.RefUpDwIdeal.nD Cert.RefUpDwIdeal.τ).loc Cert.RefUpDwIdeal.main_arg1))

def preserves_UpDx_UpDxIdeal : Prop :=
  True

def algebraic_UpDxIdeal_RefUpDxIdeal [hUpDxIdeal : Cert.UpDxIdeal.Facts] [hRefUpDxIdeal : Cert.RefUpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.RefUpDxIdeal.nD Cert.RefUpDxIdeal.τ Cert.RefUpDxIdeal.sig) → Buf (Elt Ideal) ℓ) (g' : Dev Cert.RefUpDxIdeal.nD → PrngReg), Pre_UpDxIdeal m →
    (∀ c : Dev Cert.UpDxIdeal.nD,
      m' ((c.tc : Thread Cert.RefUpDxIdeal.nD Cert.RefUpDxIdeal.τ).loc Cert.RefUpDxIdeal.main_arg0) = m ((c.tc : Thread Cert.UpDxIdeal.nD Cert.UpDxIdeal.τ).loc Cert.UpDxIdeal.main_arg0)
      ∧ m' ((c.tc : Thread Cert.RefUpDxIdeal.nD Cert.RefUpDxIdeal.τ).loc Cert.RefUpDxIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v8)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v8) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.RefUpDxIdeal.defs (F := Ideal)) (onTc (τ := Cert.RefUpDxIdeal.τ) (Cert.RefUpDxIdeal.main (F := Ideal))) ⟨m', fun _ => 0, g'⟩ (fun r => ∀ c : Dev Cert.RefUpDxIdeal.nD,
          r.2.mem ((c.tc : Thread Cert.RefUpDxIdeal.nD Cert.RefUpDxIdeal.τ).loc Cert.RefUpDxIdeal.main_v4) = v0 c
          ∧ r.2.mem ((c.tc : Thread Cert.RefUpDxIdeal.nD Cert.RefUpDxIdeal.τ).loc Cert.RefUpDxIdeal.main_arg0) = m' ((c.tc : Thread Cert.RefUpDxIdeal.nD Cert.RefUpDxIdeal.τ).loc Cert.RefUpDxIdeal.main_arg0)
          ∧ r.2.mem ((c.tc : Thread Cert.RefUpDxIdeal.nD Cert.RefUpDxIdeal.τ).loc Cert.RefUpDxIdeal.main_arg1) = m' ((c.tc : Thread Cert.RefUpDxIdeal.nD Cert.RefUpDxIdeal.τ).loc Cert.RefUpDxIdeal.main_arg1))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v1) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1))

def preserves_DownDw_DownDwIdeal : Prop :=
  True

def algebraic_DownDwIdeal_RefDownDwIdeal [hDownDwIdeal : Cert.DownDwIdeal.Facts] [hRefDownDwIdeal : Cert.RefDownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.RefDownDwIdeal.nD Cert.RefDownDwIdeal.τ Cert.RefDownDwIdeal.sig) → Buf (Elt Ideal) ℓ) (g' : Dev Cert.RefDownDwIdeal.nD → PrngReg), Pre_DownDwIdeal m →
    (∀ c : Dev Cert.DownDwIdeal.nD,
      m' ((c.tc : Thread Cert.RefDownDwIdeal.nD Cert.RefDownDwIdeal.τ).loc Cert.RefDownDwIdeal.main_arg0) = m ((c.tc : Thread Cert.DownDwIdeal.nD Cert.DownDwIdeal.τ).loc Cert.DownDwIdeal.main_arg0)
      ∧ m' ((c.tc : Thread Cert.RefDownDwIdeal.nD Cert.RefDownDwIdeal.τ).loc Cert.RefDownDwIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.RefDownDwIdeal.defs (F := Ideal)) (onTc (τ := Cert.RefDownDwIdeal.τ) (Cert.RefDownDwIdeal.main (F := Ideal))) ⟨m', fun _ => 0, g'⟩ (fun r => ∀ c : Dev Cert.RefDownDwIdeal.nD,
          r.2.mem ((c.tc : Thread Cert.RefDownDwIdeal.nD Cert.RefDownDwIdeal.τ).loc Cert.RefDownDwIdeal.main_v6) = v0 c
          ∧ r.2.mem ((c.tc : Thread Cert.RefDownDwIdeal.nD Cert.RefDownDwIdeal.τ).loc Cert.RefDownDwIdeal.main_arg0) = m' ((c.tc : Thread Cert.RefDownDwIdeal.nD Cert.RefDownDwIdeal.τ).loc Cert.RefDownDwIdeal.main_arg0)
          ∧ r.2.mem ((c.tc : Thread Cert.RefDownDwIdeal.nD Cert.RefDownDwIdeal.τ).loc Cert.RefDownDwIdeal.main_arg1) = m' ((c.tc : Thread Cert.RefDownDwIdeal.nD Cert.RefDownDwIdeal.τ).loc Cert.RefDownDwIdeal.main_arg1))

def preserves_DownDx_DownDxIdeal : Prop :=
  True

def algebraic_DownDxIdeal_RefDownDxIdeal [hDownDxIdeal : Cert.DownDxIdeal.Facts] [hRefDownDxIdeal : Cert.RefDownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.RefDownDxIdeal.nD Cert.RefDownDxIdeal.τ Cert.RefDownDxIdeal.sig) → Buf (Elt Ideal) ℓ) (g' : Dev Cert.RefDownDxIdeal.nD → PrngReg), Pre_DownDxIdeal m →
    (∀ c : Dev Cert.DownDxIdeal.nD,
      m' ((c.tc : Thread Cert.RefDownDxIdeal.nD Cert.RefDownDxIdeal.τ).loc Cert.RefDownDxIdeal.main_arg0) = m ((c.tc : Thread Cert.DownDxIdeal.nD Cert.DownDxIdeal.τ).loc Cert.DownDxIdeal.main_arg0)
      ∧ m' ((c.tc : Thread Cert.RefDownDxIdeal.nD Cert.RefDownDxIdeal.τ).loc Cert.RefDownDxIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v2)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v2) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.RefDownDxIdeal.defs (F := Ideal)) (onTc (τ := Cert.RefDownDxIdeal.τ) (Cert.RefDownDxIdeal.main (F := Ideal))) ⟨m', fun _ => 0, g'⟩ (fun r => ∀ c : Dev Cert.RefDownDxIdeal.nD,
          r.2.mem ((c.tc : Thread Cert.RefDownDxIdeal.nD Cert.RefDownDxIdeal.τ).loc Cert.RefDownDxIdeal.main_v4) = v0 c
          ∧ r.2.mem ((c.tc : Thread Cert.RefDownDxIdeal.nD Cert.RefDownDxIdeal.τ).loc Cert.RefDownDxIdeal.main_arg0) = m' ((c.tc : Thread Cert.RefDownDxIdeal.nD Cert.RefDownDxIdeal.τ).loc Cert.RefDownDxIdeal.main_arg0)
          ∧ r.2.mem ((c.tc : Thread Cert.RefDownDxIdeal.nD Cert.RefDownDxIdeal.τ).loc Cert.RefDownDxIdeal.main_arg1) = m' ((c.tc : Thread Cert.RefDownDxIdeal.nD Cert.RefDownDxIdeal.τ).loc Cert.RefDownDxIdeal.main_arg1))

def preserves_RetOut_RetOutIdeal : Prop :=
  True

def algebraic_RetOutIdeal_RefRetOutIdeal [hRetOutIdeal : Cert.RetOutIdeal.Facts] [hRefRetOutIdeal : Cert.RefRetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RefRetOutIdeal.nD Cert.RefRetOutIdeal.τ Cert.RefRetOutIdeal.sig) → Buf (Elt Ideal) ℓ) (g' : Dev Cert.RefRetOutIdeal.nD → PrngReg), Pre_RetOutIdeal m →
    (∀ c : Dev Cert.RetOutIdeal.nD,
      m' ((c.tc : Thread Cert.RefRetOutIdeal.nD Cert.RefRetOutIdeal.τ).loc Cert.RefRetOutIdeal.main_arg0) = m ((c.tc : Thread Cert.RetOutIdeal.nD Cert.RetOutIdeal.τ).loc Cert.RetOutIdeal.main_arg0)
      ∧ m' ((c.tc : Thread Cert.RefRetOutIdeal.nD Cert.RefRetOutIdeal.τ).loc Cert.RefRetOutIdeal.main_arg1) = m ((c.tc : Thread Cert.RetOutIdeal.nD Cert.RetOutIdeal.τ).loc Cert.RetOutIdeal.main_arg1)) →
    ∃ (v0 : (c : Dev Cert.RetOutIdeal.nD) → Buf (Elt Ideal) ((c.tc : Thread Cert.RetOutIdeal.nD Cert.RetOutIdeal.τ).loc Cert.RetOutIdeal.main_v2)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v2) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1))
      ∧ θ_run (Cert.RefRetOutIdeal.defs (F := Ideal)) (onTc (τ := Cert.RefRetOutIdeal.τ) (Cert.RefRetOutIdeal.main (F := Ideal))) ⟨m', fun _ => 0, g'⟩ (fun r => ∀ c : Dev Cert.RefRetOutIdeal.nD,
          r.2.mem ((c.tc : Thread Cert.RefRetOutIdeal.nD Cert.RefRetOutIdeal.τ).loc Cert.RefRetOutIdeal.main_v1) = v0 c
          ∧ r.2.mem ((c.tc : Thread Cert.RefRetOutIdeal.nD Cert.RefRetOutIdeal.τ).loc Cert.RefRetOutIdeal.main_arg0) = m' ((c.tc : Thread Cert.RefRetOutIdeal.nD Cert.RefRetOutIdeal.τ).loc Cert.RefRetOutIdeal.main_arg0)
          ∧ r.2.mem ((c.tc : Thread Cert.RefRetOutIdeal.nD Cert.RefRetOutIdeal.τ).loc Cert.RefRetOutIdeal.main_arg1) = m' ((c.tc : Thread Cert.RefRetOutIdeal.nD Cert.RefRetOutIdeal.τ).loc Cert.RefRetOutIdeal.main_arg1))

def preserves_RetOutDw_RetOutDwIdeal : Prop :=
  True

def algebraic_RetOutDwIdeal_RefRetOutDwIdeal [hRetOutDwIdeal : Cert.RetOutDwIdeal.Facts] [hRefRetOutDwIdeal : Cert.RefRetOutDwIdeal.Facts] : Prop :=
  ∀ (m : (ℓ : Loc Cert.RetOutDwIdeal.nD Cert.RetOutDwIdeal.τ Cert.RetOutDwIdeal.sig) → Buf (Elt Ideal) ℓ) (g : Dev Cert.RetOutDwIdeal.nD → PrngReg)
    (m' : (ℓ : Loc Cert.RefRetOutDwIdeal.nD Cert.RefRetOutDwIdeal.τ Cert.RefRetOutDwIdeal.sig) → Buf (Elt Ideal) ℓ) (g' : Dev Cert.RefRetOutDwIdeal.nD → PrngReg), Pre_RetOutDwIdeal m →
    (∀ c : Dev Cert.RetOutDwIdeal.nD,
      m' ((c.tc : Thread Cert.RefRetOutDwIdeal.nD Cert.RefRetOutDwIdeal.τ).loc Cert.RefRetOutDwIdeal.main_arg0) = m ((c.tc : Thread Cert.RetOutDwIdeal.nD Cert.RetOutDwIdeal.τ).loc Cert.RetOutDwIdeal.main_arg0)
      ∧ m' ((c.tc : Thread Cert.RefRetOutDwIdeal.nD Cert.RefRetOutDwIdeal.τ).loc Cert.RefRetOutDwIdeal.main_arg1) = m ((c.tc : Thread Cert.RetOutDwIdeal.nD Cert.RetOutDwIdeal.τ).loc Cert.RetOutDwIdeal.main_arg1)) →
    ∃ (v0 : (c : Dev Cert.RetOutDwIdeal.nD) → Buf (Elt Ideal) ((c.tc : Thread Cert.RetOutDwIdeal.nD Cert.RetOutDwIdeal.τ).loc Cert.RetOutDwIdeal.main_v0)),
      θ_run (Cert.RetOutDwIdeal.defs (F := Ideal)) (onTc (τ := Cert.RetOutDwIdeal.τ) (Cert.RetOutDwIdeal.main (F := Ideal))) ⟨m, fun _ => 0, g⟩ (fun r => ∀ c : Dev Cert.RetOutDwIdeal.nD,
          r.2.mem ((c.tc : Thread Cert.RetOutDwIdeal.nD Cert.RetOutDwIdeal.τ).loc Cert.RetOutDwIdeal.main_v0) = v0 c
          ∧ r.2.mem ((c.tc : Thread Cert.RetOutDwIdeal.nD Cert.RetOutDwIdeal.τ).loc Cert.RetOutDwIdeal.main_arg0) = m ((c.tc : Thread Cert.RetOutDwIdeal.nD Cert.RetOutDwIdeal.τ).loc Cert.RetOutDwIdeal.main_arg0)
          ∧ r.2.mem ((c.tc : Thread Cert.RetOutDwIdeal.nD Cert.RetOutDwIdeal.τ).loc Cert.RetOutDwIdeal.main_arg1) = m ((c.tc : Thread Cert.RetOutDwIdeal.nD Cert.RetOutDwIdeal.τ).loc Cert.RetOutDwIdeal.main_arg1))
      ∧ θ_run (Cert.RefRetOutDwIdeal.defs (F := Ideal)) (onTc (τ := Cert.RefRetOutDwIdeal.τ) (Cert.RefRetOutDwIdeal.main (F := Ideal))) ⟨m', fun _ => 0, g'⟩ (fun r => ∀ c : Dev Cert.RefRetOutDwIdeal.nD,
          r.2.mem ((c.tc : Thread Cert.RefRetOutDwIdeal.nD Cert.RefRetOutDwIdeal.τ).loc Cert.RefRetOutDwIdeal.main_v6) = v0 c
          ∧ r.2.mem ((c.tc : Thread Cert.RefRetOutDwIdeal.nD Cert.RefRetOutDwIdeal.τ).loc Cert.RefRetOutDwIdeal.main_arg0) = m' ((c.tc : Thread Cert.RefRetOutDwIdeal.nD Cert.RefRetOutDwIdeal.τ).loc Cert.RefRetOutDwIdeal.main_arg0)
          ∧ r.2.mem ((c.tc : Thread Cert.RefRetOutDwIdeal.nD Cert.RefRetOutDwIdeal.τ).loc Cert.RefRetOutDwIdeal.main_arg1) = m' ((c.tc : Thread Cert.RefRetOutDwIdeal.nD Cert.RefRetOutDwIdeal.τ).loc Cert.RefRetOutDwIdeal.main_arg1))

def preserves_RetOutDx_RetOutDxIdeal : Prop :=
  True

def algebraic_RetOutDxIdeal_RefRetOutDxIdeal [hRetOutDxIdeal : Cert.RetOutDxIdeal.Facts] [hRefRetOutDxIdeal : Cert.RefRetOutDxIdeal.Facts] : Prop :=
  ∀ (m : (ℓ : Loc Cert.RetOutDxIdeal.nD Cert.RetOutDxIdeal.τ Cert.RetOutDxIdeal.sig) → Buf (Elt Ideal) ℓ) (g : Dev Cert.RetOutDxIdeal.nD → PrngReg)
    (m' : (ℓ : Loc Cert.RefRetOutDxIdeal.nD Cert.RefRetOutDxIdeal.τ Cert.RefRetOutDxIdeal.sig) → Buf (Elt Ideal) ℓ) (g' : Dev Cert.RefRetOutDxIdeal.nD → PrngReg), Pre_RetOutDxIdeal m →
    (∀ c : Dev Cert.RetOutDxIdeal.nD,
      m' ((c.tc : Thread Cert.RefRetOutDxIdeal.nD Cert.RefRetOutDxIdeal.τ).loc Cert.RefRetOutDxIdeal.main_arg0) = m ((c.tc : Thread Cert.RetOutDxIdeal.nD Cert.RetOutDxIdeal.τ).loc Cert.RetOutDxIdeal.main_arg0)
      ∧ m' ((c.tc : Thread Cert.RefRetOutDxIdeal.nD Cert.RefRetOutDxIdeal.τ).loc Cert.RefRetOutDxIdeal.main_arg1) = m ((c.tc : Thread Cert.RetOutDxIdeal.nD Cert.RetOutDxIdeal.τ).loc Cert.RetOutDxIdeal.main_arg1)) →
    ∃ (v0 : (c : Dev Cert.RetOutDxIdeal.nD) → Buf (Elt Ideal) ((c.tc : Thread Cert.RetOutDxIdeal.nD Cert.RetOutDxIdeal.τ).loc Cert.RetOutDxIdeal.main_v2)),
      θ_run (Cert.RetOutDxIdeal.defs (F := Ideal)) (onTc (τ := Cert.RetOutDxIdeal.τ) (Cert.RetOutDxIdeal.main (F := Ideal))) ⟨m, fun _ => 0, g⟩ (fun r => ∀ c : Dev Cert.RetOutDxIdeal.nD,
          r.2.mem ((c.tc : Thread Cert.RetOutDxIdeal.nD Cert.RetOutDxIdeal.τ).loc Cert.RetOutDxIdeal.main_v2) = v0 c
          ∧ r.2.mem ((c.tc : Thread Cert.RetOutDxIdeal.nD Cert.RetOutDxIdeal.τ).loc Cert.RetOutDxIdeal.main_arg0) = m ((c.tc : Thread Cert.RetOutDxIdeal.nD Cert.RetOutDxIdeal.τ).loc Cert.RetOutDxIdeal.main_arg0)
          ∧ r.2.mem ((c.tc : Thread Cert.RetOutDxIdeal.nD Cert.RetOutDxIdeal.τ).loc Cert.RetOutDxIdeal.main_arg1) = m ((c.tc : Thread Cert.RetOutDxIdeal.nD Cert.RetOutDxIdeal.τ).loc Cert.RetOutDxIdeal.main_arg1))
      ∧ θ_run (Cert.RefRetOutDxIdeal.defs (F := Ideal)) (onTc (τ := Cert.RefRetOutDxIdeal.τ) (Cert.RefRetOutDxIdeal.main (F := Ideal))) ⟨m', fun _ => 0, g'⟩ (fun r => ∀ c : Dev Cert.RefRetOutDxIdeal.nD,
          r.2.mem ((c.tc : Thread Cert.RefRetOutDxIdeal.nD Cert.RefRetOutDxIdeal.τ).loc Cert.RefRetOutDxIdeal.main_v4) = v0 c
          ∧ r.2.mem ((c.tc : Thread Cert.RefRetOutDxIdeal.nD Cert.RefRetOutDxIdeal.τ).loc Cert.RefRetOutDxIdeal.main_arg0) = m' ((c.tc : Thread Cert.RefRetOutDxIdeal.nD Cert.RefRetOutDxIdeal.τ).loc Cert.RefRetOutDxIdeal.main_arg0)
          ∧ r.2.mem ((c.tc : Thread Cert.RefRetOutDxIdeal.nD Cert.RefRetOutDxIdeal.τ).loc Cert.RefRetOutDxIdeal.main_arg1) = m' ((c.tc : Thread Cert.RefRetOutDxIdeal.nD Cert.RefRetOutDxIdeal.τ).loc Cert.RefRetOutDxIdeal.main_arg1))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v1) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1))

def preserves_OutDw_OutDwIdeal : Prop :=
  True

def algebraic_OutDwIdeal_RefOutDwIdeal [hOutDwIdeal : Cert.OutDwIdeal.Facts] [hRefOutDwIdeal : Cert.RefOutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.RefOutDwIdeal.nD Cert.RefOutDwIdeal.τ Cert.RefOutDwIdeal.sig) → Buf (Elt Ideal) ℓ) (g' : Dev Cert.RefOutDwIdeal.nD → PrngReg), Pre_OutDwIdeal m →
    (∀ c : Dev Cert.OutDwIdeal.nD,
      m' ((c.tc : Thread Cert.RefOutDwIdeal.nD Cert.RefOutDwIdeal.τ).loc Cert.RefOutDwIdeal.main_arg0) = m ((c.tc : Thread Cert.OutDwIdeal.nD Cert.OutDwIdeal.τ).loc Cert.OutDwIdeal.main_arg0)
      ∧ m' ((c.tc : Thread Cert.RefOutDwIdeal.nD Cert.RefOutDwIdeal.τ).loc Cert.RefOutDwIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.RefOutDwIdeal.defs (F := Ideal)) (onTc (τ := Cert.RefOutDwIdeal.τ) (Cert.RefOutDwIdeal.main (F := Ideal))) ⟨m', fun _ => 0, g'⟩ (fun r => ∀ c : Dev Cert.RefOutDwIdeal.nD,
          r.2.mem ((c.tc : Thread Cert.RefOutDwIdeal.nD Cert.RefOutDwIdeal.τ).loc Cert.RefOutDwIdeal.main_v6) = v0 c
          ∧ r.2.mem ((c.tc : Thread Cert.RefOutDwIdeal.nD Cert.RefOutDwIdeal.τ).loc Cert.RefOutDwIdeal.main_arg0) = m' ((c.tc : Thread Cert.RefOutDwIdeal.nD Cert.RefOutDwIdeal.τ).loc Cert.RefOutDwIdeal.main_arg0)
          ∧ r.2.mem ((c.tc : Thread Cert.RefOutDwIdeal.nD Cert.RefOutDwIdeal.τ).loc Cert.RefOutDwIdeal.main_arg1) = m' ((c.tc : Thread Cert.RefOutDwIdeal.nD Cert.RefOutDwIdeal.τ).loc Cert.RefOutDwIdeal.main_arg1))

def preserves_OutDx_OutDxIdeal : Prop :=
  True

def algebraic_OutDxIdeal_RefOutDxIdeal [hOutDxIdeal : Cert.OutDxIdeal.Facts] [hRefOutDxIdeal : Cert.RefOutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.RefOutDxIdeal.nD Cert.RefOutDxIdeal.τ Cert.RefOutDxIdeal.sig) → Buf (Elt Ideal) ℓ) (g' : Dev Cert.RefOutDxIdeal.nD → PrngReg), Pre_OutDxIdeal m →
    (∀ c : Dev Cert.OutDxIdeal.nD,
      m' ((c.tc : Thread Cert.RefOutDxIdeal.nD Cert.RefOutDxIdeal.τ).loc Cert.RefOutDxIdeal.main_arg0) = m ((c.tc : Thread Cert.OutDxIdeal.nD Cert.OutDxIdeal.τ).loc Cert.OutDxIdeal.main_arg0)
      ∧ m' ((c.tc : Thread Cert.RefOutDxIdeal.nD Cert.RefOutDxIdeal.τ).loc Cert.RefOutDxIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.RefOutDxIdeal.defs (F := Ideal)) (onTc (τ := Cert.RefOutDxIdeal.τ) (Cert.RefOutDxIdeal.main (F := Ideal))) ⟨m', fun _ => 0, g'⟩ (fun r => ∀ c : Dev Cert.RefOutDxIdeal.nD,
          r.2.mem ((c.tc : Thread Cert.RefOutDxIdeal.nD Cert.RefOutDxIdeal.τ).loc Cert.RefOutDxIdeal.main_v4) = v0 c
          ∧ r.2.mem ((c.tc : Thread Cert.RefOutDxIdeal.nD Cert.RefOutDxIdeal.τ).loc Cert.RefOutDxIdeal.main_arg0) = m' ((c.tc : Thread Cert.RefOutDxIdeal.nD Cert.RefOutDxIdeal.τ).loc Cert.RefOutDxIdeal.main_arg0)
          ∧ r.2.mem ((c.tc : Thread Cert.RefOutDxIdeal.nD Cert.RefOutDxIdeal.τ).loc Cert.RefOutDxIdeal.main_arg1) = m' ((c.tc : Thread Cert.RefOutDxIdeal.nD Cert.RefOutDxIdeal.τ).loc Cert.RefOutDxIdeal.main_arg1))

def preserves_ConvOut_ConvOutIdeal : Prop :=
  True

def algebraic_ConvOutIdeal_RefConvOutIdeal [hConvOutIdeal : Cert.ConvOutIdeal.Facts] [hRefConvOutIdeal : Cert.RefConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.RefConvOutIdeal.nD Cert.RefConvOutIdeal.τ Cert.RefConvOutIdeal.sig) → Buf (Elt Ideal) ℓ) (g' : Dev Cert.RefConvOutIdeal.nD → PrngReg), Pre_ConvOutIdeal m →
    (∀ c : Dev Cert.ConvOutIdeal.nD,
      m' ((c.tc : Thread Cert.RefConvOutIdeal.nD Cert.RefConvOutIdeal.τ).loc Cert.RefConvOutIdeal.main_arg0) = m ((c.tc : Thread Cert.ConvOutIdeal.nD Cert.ConvOutIdeal.τ).loc Cert.ConvOutIdeal.main_arg0)
      ∧ m' ((c.tc : Thread Cert.RefConvOutIdeal.nD Cert.RefConvOutIdeal.τ).loc Cert.RefConvOutIdeal.main_arg1) = m ((c.tc : Thread Cert.ConvOutIdeal.nD Cert.ConvOutIdeal.τ).loc Cert.ConvOutIdeal.main_arg1)) →
    ∃ (v0 : (c : Dev Cert.ConvOutIdeal.nD) → Buf (Elt Ideal) ((c.tc : Thread Cert.ConvOutIdeal.nD Cert.ConvOutIdeal.τ).loc Cert.ConvOutIdeal.main_v2)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v2) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1))
      ∧ θ_run (Cert.RefConvOutIdeal.defs (F := Ideal)) (onTc (τ := Cert.RefConvOutIdeal.τ) (Cert.RefConvOutIdeal.main (F := Ideal))) ⟨m', fun _ => 0, g'⟩ (fun r => ∀ c : Dev Cert.RefConvOutIdeal.nD,
          r.2.mem ((c.tc : Thread Cert.RefConvOutIdeal.nD Cert.RefConvOutIdeal.τ).loc Cert.RefConvOutIdeal.main_v1) = v0 c
          ∧ r.2.mem ((c.tc : Thread Cert.RefConvOutIdeal.nD Cert.RefConvOutIdeal.τ).loc Cert.RefConvOutIdeal.main_arg0) = m' ((c.tc : Thread Cert.RefConvOutIdeal.nD Cert.RefConvOutIdeal.τ).loc Cert.RefConvOutIdeal.main_arg0)
          ∧ r.2.mem ((c.tc : Thread Cert.RefConvOutIdeal.nD Cert.RefConvOutIdeal.τ).loc Cert.RefConvOutIdeal.main_arg1) = m' ((c.tc : Thread Cert.RefConvOutIdeal.nD Cert.RefConvOutIdeal.τ).loc Cert.RefConvOutIdeal.main_arg1))

def preserves_ConvOutDw_ConvOutDwIdeal : Prop :=
  True

def algebraic_ConvOutDwIdeal_RefConvOutDwIdeal [hConvOutDwIdeal : Cert.ConvOutDwIdeal.Facts] [hRefConvOutDwIdeal : Cert.RefConvOutDwIdeal.Facts] : Prop :=
  ∀ (m : (ℓ : Loc Cert.ConvOutDwIdeal.nD Cert.ConvOutDwIdeal.τ Cert.ConvOutDwIdeal.sig) → Buf (Elt Ideal) ℓ) (g : Dev Cert.ConvOutDwIdeal.nD → PrngReg)
    (m' : (ℓ : Loc Cert.RefConvOutDwIdeal.nD Cert.RefConvOutDwIdeal.τ Cert.RefConvOutDwIdeal.sig) → Buf (Elt Ideal) ℓ) (g' : Dev Cert.RefConvOutDwIdeal.nD → PrngReg), Pre_ConvOutDwIdeal m →
    (∀ c : Dev Cert.ConvOutDwIdeal.nD,
      m' ((c.tc : Thread Cert.RefConvOutDwIdeal.nD Cert.RefConvOutDwIdeal.τ).loc Cert.RefConvOutDwIdeal.main_arg0) = m ((c.tc : Thread Cert.ConvOutDwIdeal.nD Cert.ConvOutDwIdeal.τ).loc Cert.ConvOutDwIdeal.main_arg0)
      ∧ m' ((c.tc : Thread Cert.RefConvOutDwIdeal.nD Cert.RefConvOutDwIdeal.τ).loc Cert.RefConvOutDwIdeal.main_arg1) = m ((c.tc : Thread Cert.ConvOutDwIdeal.nD Cert.ConvOutDwIdeal.τ).loc Cert.ConvOutDwIdeal.main_arg1)) →
    ∃ (v0 : (c : Dev Cert.ConvOutDwIdeal.nD) → Buf (Elt Ideal) ((c.tc : Thread Cert.ConvOutDwIdeal.nD Cert.ConvOutDwIdeal.τ).loc Cert.ConvOutDwIdeal.main_v0)),
      θ_run (Cert.ConvOutDwIdeal.defs (F := Ideal)) (onTc (τ := Cert.ConvOutDwIdeal.τ) (Cert.ConvOutDwIdeal.main (F := Ideal))) ⟨m, fun _ => 0, g⟩ (fun r => ∀ c : Dev Cert.ConvOutDwIdeal.nD,
          r.2.mem ((c.tc : Thread Cert.ConvOutDwIdeal.nD Cert.ConvOutDwIdeal.τ).loc Cert.ConvOutDwIdeal.main_v0) = v0 c
          ∧ r.2.mem ((c.tc : Thread Cert.ConvOutDwIdeal.nD Cert.ConvOutDwIdeal.τ).loc Cert.ConvOutDwIdeal.main_arg0) = m ((c.tc : Thread Cert.ConvOutDwIdeal.nD Cert.ConvOutDwIdeal.τ).loc Cert.ConvOutDwIdeal.main_arg0)
          ∧ r.2.mem ((c.tc : Thread Cert.ConvOutDwIdeal.nD Cert.ConvOutDwIdeal.τ).loc Cert.ConvOutDwIdeal.main_arg1) = m ((c.tc : Thread Cert.ConvOutDwIdeal.nD Cert.ConvOutDwIdeal.τ).loc Cert.ConvOutDwIdeal.main_arg1))
      ∧ θ_run (Cert.RefConvOutDwIdeal.defs (F := Ideal)) (onTc (τ := Cert.RefConvOutDwIdeal.τ) (Cert.RefConvOutDwIdeal.main (F := Ideal))) ⟨m', fun _ => 0, g'⟩ (fun r => ∀ c : Dev Cert.RefConvOutDwIdeal.nD,
          r.2.mem ((c.tc : Thread Cert.RefConvOutDwIdeal.nD Cert.RefConvOutDwIdeal.τ).loc Cert.RefConvOutDwIdeal.main_v6) = v0 c
          ∧ r.2.mem ((c.tc : Thread Cert.RefConvOutDwIdeal.nD Cert.RefConvOutDwIdeal.τ).loc Cert.RefConvOutDwIdeal.main_arg0) = m' ((c.tc : Thread Cert.RefConvOutDwIdeal.nD Cert.RefConvOutDwIdeal.τ).loc Cert.RefConvOutDwIdeal.main_arg0)
          ∧ r.2.mem ((c.tc : Thread Cert.RefConvOutDwIdeal.nD Cert.RefConvOutDwIdeal.τ).loc Cert.RefConvOutDwIdeal.main_arg1) = m' ((c.tc : Thread Cert.RefConvOutDwIdeal.nD Cert.RefConvOutDwIdeal.τ).loc Cert.RefConvOutDwIdeal.main_arg1))

def preserves_ConvOutDx_ConvOutDxIdeal : Prop :=
  True

def algebraic_ConvOutDxIdeal_RefConvOutDxIdeal [hConvOutDxIdeal : Cert.ConvOutDxIdeal.Facts] [hRefConvOutDxIdeal : Cert.RefConvOutDxIdeal.Facts] : Prop :=
  ∀ (m : (ℓ : Loc Cert.ConvOutDxIdeal.nD Cert.ConvOutDxIdeal.τ Cert.ConvOutDxIdeal.sig) → Buf (Elt Ideal) ℓ) (g : Dev Cert.ConvOutDxIdeal.nD → PrngReg)
    (m' : (ℓ : Loc Cert.RefConvOutDxIdeal.nD Cert.RefConvOutDxIdeal.τ Cert.RefConvOutDxIdeal.sig) → Buf (Elt Ideal) ℓ) (g' : Dev Cert.RefConvOutDxIdeal.nD → PrngReg), Pre_ConvOutDxIdeal m →
    (∀ c : Dev Cert.ConvOutDxIdeal.nD,
      m' ((c.tc : Thread Cert.RefConvOutDxIdeal.nD Cert.RefConvOutDxIdeal.τ).loc Cert.RefConvOutDxIdeal.main_arg0) = m ((c.tc : Thread Cert.ConvOutDxIdeal.nD Cert.ConvOutDxIdeal.τ).loc Cert.ConvOutDxIdeal.main_arg0)
      ∧ m' ((c.tc : Thread Cert.RefConvOutDxIdeal.nD Cert.RefConvOutDxIdeal.τ).loc Cert.RefConvOutDxIdeal.main_arg1) = m ((c.tc : Thread Cert.ConvOutDxIdeal.nD Cert.ConvOutDxIdeal.τ).loc Cert.ConvOutDxIdeal.main_arg1)) →
    ∃ (v0 : (c : Dev Cert.ConvOutDxIdeal.nD) → Buf (Elt Ideal) ((c.tc : Thread Cert.ConvOutDxIdeal.nD Cert.ConvOutDxIdeal.τ).loc Cert.ConvOutDxIdeal.main_v2)),
      θ_run (Cert.ConvOutDxIdeal.defs (F := Ideal)) (onTc (τ := Cert.ConvOutDxIdeal.τ) (Cert.ConvOutDxIdeal.main (F := Ideal))) ⟨m, fun _ => 0, g⟩ (fun r => ∀ c : Dev Cert.ConvOutDxIdeal.nD,
          r.2.mem ((c.tc : Thread Cert.ConvOutDxIdeal.nD Cert.ConvOutDxIdeal.τ).loc Cert.ConvOutDxIdeal.main_v2) = v0 c
          ∧ r.2.mem ((c.tc : Thread Cert.ConvOutDxIdeal.nD Cert.ConvOutDxIdeal.τ).loc Cert.ConvOutDxIdeal.main_arg0) = m ((c.tc : Thread Cert.ConvOutDxIdeal.nD Cert.ConvOutDxIdeal.τ).loc Cert.ConvOutDxIdeal.main_arg0)
          ∧ r.2.mem ((c.tc : Thread Cert.ConvOutDxIdeal.nD Cert.ConvOutDxIdeal.τ).loc Cert.ConvOutDxIdeal.main_arg1) = m ((c.tc : Thread Cert.ConvOutDxIdeal.nD Cert.ConvOutDxIdeal.τ).loc Cert.ConvOutDxIdeal.main_arg1))
      ∧ θ_run (Cert.RefConvOutDxIdeal.defs (F := Ideal)) (onTc (τ := Cert.RefConvOutDxIdeal.τ) (Cert.RefConvOutDxIdeal.main (F := Ideal))) ⟨m', fun _ => 0, g'⟩ (fun r => ∀ c : Dev Cert.RefConvOutDxIdeal.nD,
          r.2.mem ((c.tc : Thread Cert.RefConvOutDxIdeal.nD Cert.RefConvOutDxIdeal.τ).loc Cert.RefConvOutDxIdeal.main_v4) = v0 c
          ∧ r.2.mem ((c.tc : Thread Cert.RefConvOutDxIdeal.nD Cert.RefConvOutDxIdeal.τ).loc Cert.RefConvOutDxIdeal.main_arg0) = m' ((c.tc : Thread Cert.RefConvOutDxIdeal.nD Cert.RefConvOutDxIdeal.τ).loc Cert.RefConvOutDxIdeal.main_arg0)
          ∧ r.2.mem ((c.tc : Thread Cert.RefConvOutDxIdeal.nD Cert.RefConvOutDxIdeal.τ).loc Cert.RefConvOutDxIdeal.main_arg1) = m' ((c.tc : Thread Cert.RefConvOutDxIdeal.nD Cert.RefConvOutDxIdeal.τ).loc Cert.RefConvOutDxIdeal.main_arg1))

def Claim : Prop :=
  ∃ (hKernel : Cert.Kernel.Facts) (hKernelIdeal : Cert.KernelIdeal.Facts) (hReferenceIdeal : Cert.ReferenceIdeal.Facts) (hInQk : Cert.InQk.Facts) (hInQkIdeal : Cert.InQkIdeal.Facts) (hRefInQkIdeal : Cert.RefInQkIdeal.Facts) (hInRest : Cert.InRest.Facts) (hInRestIdeal : Cert.InRestIdeal.Facts) (hRefInRestIdeal : Cert.RefInRestIdeal.Facts) (hInDw : Cert.InDw.Facts) (hInDwIdeal : Cert.InDwIdeal.Facts) (hRefInDwIdeal : Cert.RefInDwIdeal.Facts) (hInDx : Cert.InDx.Facts) (hInDxIdeal : Cert.InDxIdeal.Facts) (hRefInDxIdeal : Cert.RefInDxIdeal.Facts) (hUp : Cert.Up.Facts) (hUpIdeal : Cert.UpIdeal.Facts) (hRefUpIdeal : Cert.RefUpIdeal.Facts) (hUpDw : Cert.UpDw.Facts) (hUpDwIdeal : Cert.UpDwIdeal.Facts) (hRefUpDwIdeal : Cert.RefUpDwIdeal.Facts) (hUpDx : Cert.UpDx.Facts) (hUpDxIdeal : Cert.UpDxIdeal.Facts) (hRefUpDxIdeal : Cert.RefUpDxIdeal.Facts) (hDown : Cert.Down.Facts) (hDownIdeal : Cert.DownIdeal.Facts) (hRefDownIdeal : Cert.RefDownIdeal.Facts) (hDownDw : Cert.DownDw.Facts) (hDownDwIdeal : Cert.DownDwIdeal.Facts) (hRefDownDwIdeal : Cert.RefDownDwIdeal.Facts) (hDownDx : Cert.DownDx.Facts) (hDownDxIdeal : Cert.DownDxIdeal.Facts) (hRefDownDxIdeal : Cert.RefDownDxIdeal.Facts) (hRetOut : Cert.RetOut.Facts) (hRetOutIdeal : Cert.RetOutIdeal.Facts) (hRefRetOutIdeal : Cert.RefRetOutIdeal.Facts) (hRetOutDw : Cert.RetOutDw.Facts) (hRetOutDwIdeal : Cert.RetOutDwIdeal.Facts) (hRefRetOutDwIdeal : Cert.RefRetOutDwIdeal.Facts) (hRetOutDx : Cert.RetOutDx.Facts) (hRetOutDxIdeal : Cert.RetOutDxIdeal.Facts) (hRefRetOutDxIdeal : Cert.RefRetOutDxIdeal.Facts) (hOut : Cert.Out.Facts) (hOutIdeal : Cert.OutIdeal.Facts) (hRefOutIdeal : Cert.RefOutIdeal.Facts) (hOutDw : Cert.OutDw.Facts) (hOutDwIdeal : Cert.OutDwIdeal.Facts) (hRefOutDwIdeal : Cert.RefOutDwIdeal.Facts) (hOutDx : Cert.OutDx.Facts) (hOutDxIdeal : Cert.OutDxIdeal.Facts) (hRefOutDxIdeal : Cert.RefOutDxIdeal.Facts) (hConvOut : Cert.ConvOut.Facts) (hConvOutIdeal : Cert.ConvOutIdeal.Facts) (hRefConvOutIdeal : Cert.RefConvOutIdeal.Facts) (hConvOutDw : Cert.ConvOutDw.Facts) (hConvOutDwIdeal : Cert.ConvOutDwIdeal.Facts) (hRefConvOutDwIdeal : Cert.RefConvOutDwIdeal.Facts) (hConvOutDx : Cert.ConvOutDx.Facts) (hConvOutDxIdeal : Cert.ConvOutDxIdeal.Facts) (hRefConvOutDxIdeal : Cert.RefConvOutDxIdeal.Facts),
    quiescent_Kernel (hKernel := hKernel)
    ∧ quiescent_KernelIdeal (hKernelIdeal := hKernelIdeal)
    ∧ quiescent_ReferenceIdeal (hReferenceIdeal := hReferenceIdeal)
    ∧ quiescent_InQk (hInQk := hInQk)
    ∧ quiescent_InQkIdeal (hInQkIdeal := hInQkIdeal)
    ∧ quiescent_RefInQkIdeal (hRefInQkIdeal := hRefInQkIdeal)
    ∧ quiescent_InRest (hInRest := hInRest)
    ∧ quiescent_InRestIdeal (hInRestIdeal := hInRestIdeal)
    ∧ quiescent_RefInRestIdeal (hRefInRestIdeal := hRefInRestIdeal)
    ∧ quiescent_InDw (hInDw := hInDw)
    ∧ quiescent_InDwIdeal (hInDwIdeal := hInDwIdeal)
    ∧ quiescent_RefInDwIdeal (hRefInDwIdeal := hRefInDwIdeal)
    ∧ quiescent_InDx (hInDx := hInDx)
    ∧ quiescent_InDxIdeal (hInDxIdeal := hInDxIdeal)
    ∧ quiescent_RefInDxIdeal (hRefInDxIdeal := hRefInDxIdeal)
    ∧ quiescent_Up (hUp := hUp)
    ∧ quiescent_UpIdeal (hUpIdeal := hUpIdeal)
    ∧ quiescent_RefUpIdeal (hRefUpIdeal := hRefUpIdeal)
    ∧ quiescent_UpDw (hUpDw := hUpDw)
    ∧ quiescent_UpDwIdeal (hUpDwIdeal := hUpDwIdeal)
    ∧ quiescent_RefUpDwIdeal (hRefUpDwIdeal := hRefUpDwIdeal)
    ∧ quiescent_UpDx (hUpDx := hUpDx)
    ∧ quiescent_UpDxIdeal (hUpDxIdeal := hUpDxIdeal)
    ∧ quiescent_RefUpDxIdeal (hRefUpDxIdeal := hRefUpDxIdeal)
    ∧ quiescent_Down (hDown := hDown)
    ∧ quiescent_DownIdeal (hDownIdeal := hDownIdeal)
    ∧ quiescent_RefDownIdeal (hRefDownIdeal := hRefDownIdeal)
    ∧ quiescent_DownDw (hDownDw := hDownDw)
    ∧ quiescent_DownDwIdeal (hDownDwIdeal := hDownDwIdeal)
    ∧ quiescent_RefDownDwIdeal (hRefDownDwIdeal := hRefDownDwIdeal)
    ∧ quiescent_DownDx (hDownDx := hDownDx)
    ∧ quiescent_DownDxIdeal (hDownDxIdeal := hDownDxIdeal)
    ∧ quiescent_RefDownDxIdeal (hRefDownDxIdeal := hRefDownDxIdeal)
    ∧ quiescent_RetOut (hRetOut := hRetOut)
    ∧ quiescent_RetOutIdeal (hRetOutIdeal := hRetOutIdeal)
    ∧ quiescent_RefRetOutIdeal (hRefRetOutIdeal := hRefRetOutIdeal)
    ∧ quiescent_RetOutDw (hRetOutDw := hRetOutDw)
    ∧ quiescent_RetOutDwIdeal (hRetOutDwIdeal := hRetOutDwIdeal)
    ∧ quiescent_RefRetOutDwIdeal (hRefRetOutDwIdeal := hRefRetOutDwIdeal)
    ∧ quiescent_RetOutDx (hRetOutDx := hRetOutDx)
    ∧ quiescent_RetOutDxIdeal (hRetOutDxIdeal := hRetOutDxIdeal)
    ∧ quiescent_RefRetOutDxIdeal (hRefRetOutDxIdeal := hRefRetOutDxIdeal)
    ∧ quiescent_Out (hOut := hOut)
    ∧ quiescent_OutIdeal (hOutIdeal := hOutIdeal)
    ∧ quiescent_RefOutIdeal (hRefOutIdeal := hRefOutIdeal)
    ∧ quiescent_OutDw (hOutDw := hOutDw)
    ∧ quiescent_OutDwIdeal (hOutDwIdeal := hOutDwIdeal)
    ∧ quiescent_RefOutDwIdeal (hRefOutDwIdeal := hRefOutDwIdeal)
    ∧ quiescent_OutDx (hOutDx := hOutDx)
    ∧ quiescent_OutDxIdeal (hOutDxIdeal := hOutDxIdeal)
    ∧ quiescent_RefOutDxIdeal (hRefOutDxIdeal := hRefOutDxIdeal)
    ∧ quiescent_ConvOut (hConvOut := hConvOut)
    ∧ quiescent_ConvOutIdeal (hConvOutIdeal := hConvOutIdeal)
    ∧ quiescent_RefConvOutIdeal (hRefConvOutIdeal := hRefConvOutIdeal)
    ∧ quiescent_ConvOutDw (hConvOutDw := hConvOutDw)
    ∧ quiescent_ConvOutDwIdeal (hConvOutDwIdeal := hConvOutDwIdeal)
    ∧ quiescent_RefConvOutDwIdeal (hRefConvOutDwIdeal := hRefConvOutDwIdeal)
    ∧ quiescent_ConvOutDx (hConvOutDx := hConvOutDx)
    ∧ quiescent_ConvOutDxIdeal (hConvOutDxIdeal := hConvOutDxIdeal)
    ∧ quiescent_RefConvOutDxIdeal (hRefConvOutDxIdeal := hRefConvOutDxIdeal)
    ∧ preserves_Kernel_KernelIdeal
    ∧ algebraic_KernelIdeal_ReferenceIdeal (hKernelIdeal := hKernelIdeal) (hReferenceIdeal := hReferenceIdeal)
    ∧ preserves_InQk_InQkIdeal
    ∧ algebraic_InQkIdeal_RefInQkIdeal (hInQkIdeal := hInQkIdeal) (hRefInQkIdeal := hRefInQkIdeal)
    ∧ preserves_InRest_InRestIdeal
    ∧ algebraic_InRestIdeal_RefInRestIdeal (hInRestIdeal := hInRestIdeal) (hRefInRestIdeal := hRefInRestIdeal)
    ∧ preserves_InDw_InDwIdeal
    ∧ algebraic_InDwIdeal_RefInDwIdeal (hInDwIdeal := hInDwIdeal) (hRefInDwIdeal := hRefInDwIdeal)
    ∧ preserves_InDx_InDxIdeal
    ∧ algebraic_InDxIdeal_RefInDxIdeal (hInDxIdeal := hInDxIdeal) (hRefInDxIdeal := hRefInDxIdeal)
    ∧ preserves_Up_UpIdeal
    ∧ algebraic_UpIdeal_RefUpIdeal (hUpIdeal := hUpIdeal) (hRefUpIdeal := hRefUpIdeal)
    ∧ preserves_UpDw_UpDwIdeal
    ∧ algebraic_UpDwIdeal_RefUpDwIdeal (hUpDwIdeal := hUpDwIdeal) (hRefUpDwIdeal := hRefUpDwIdeal)
    ∧ preserves_UpDx_UpDxIdeal
    ∧ algebraic_UpDxIdeal_RefUpDxIdeal (hUpDxIdeal := hUpDxIdeal) (hRefUpDxIdeal := hRefUpDxIdeal)
    ∧ preserves_Down_DownIdeal
    ∧ algebraic_DownIdeal_RefDownIdeal (hDownIdeal := hDownIdeal) (hRefDownIdeal := hRefDownIdeal)
    ∧ preserves_DownDw_DownDwIdeal
    ∧ algebraic_DownDwIdeal_RefDownDwIdeal (hDownDwIdeal := hDownDwIdeal) (hRefDownDwIdeal := hRefDownDwIdeal)
    ∧ preserves_DownDx_DownDxIdeal
    ∧ algebraic_DownDxIdeal_RefDownDxIdeal (hDownDxIdeal := hDownDxIdeal) (hRefDownDxIdeal := hRefDownDxIdeal)
    ∧ preserves_RetOut_RetOutIdeal
    ∧ algebraic_RetOutIdeal_RefRetOutIdeal (hRetOutIdeal := hRetOutIdeal) (hRefRetOutIdeal := hRefRetOutIdeal)
    ∧ preserves_RetOutDw_RetOutDwIdeal
    ∧ algebraic_RetOutDwIdeal_RefRetOutDwIdeal (hRetOutDwIdeal := hRetOutDwIdeal) (hRefRetOutDwIdeal := hRefRetOutDwIdeal)
    ∧ preserves_RetOutDx_RetOutDxIdeal
    ∧ algebraic_RetOutDxIdeal_RefRetOutDxIdeal (hRetOutDxIdeal := hRetOutDxIdeal) (hRefRetOutDxIdeal := hRefRetOutDxIdeal)
    ∧ preserves_Out_OutIdeal
    ∧ algebraic_OutIdeal_RefOutIdeal (hOutIdeal := hOutIdeal) (hRefOutIdeal := hRefOutIdeal)
    ∧ preserves_OutDw_OutDwIdeal
    ∧ algebraic_OutDwIdeal_RefOutDwIdeal (hOutDwIdeal := hOutDwIdeal) (hRefOutDwIdeal := hRefOutDwIdeal)
    ∧ preserves_OutDx_OutDxIdeal
    ∧ algebraic_OutDxIdeal_RefOutDxIdeal (hOutDxIdeal := hOutDxIdeal) (hRefOutDxIdeal := hRefOutDxIdeal)
    ∧ preserves_ConvOut_ConvOutIdeal
    ∧ algebraic_ConvOutIdeal_RefConvOutIdeal (hConvOutIdeal := hConvOutIdeal) (hRefConvOutIdeal := hRefConvOutIdeal)
    ∧ preserves_ConvOutDw_ConvOutDwIdeal
    ∧ algebraic_ConvOutDwIdeal_RefConvOutDwIdeal (hConvOutDwIdeal := hConvOutDwIdeal) (hRefConvOutDwIdeal := hRefConvOutDwIdeal)
    ∧ preserves_ConvOutDx_ConvOutDxIdeal
    ∧ algebraic_ConvOutDxIdeal_RefConvOutDxIdeal (hConvOutDxIdeal := hConvOutDxIdeal) (hRefConvOutDxIdeal := hRefConvOutDxIdeal)
-- ==== Kernel.lean ====
abbrev S16384x2048 : Shape := ⟨2, ![16384, 2048]⟩
abbrev S16384x8192 : Shape := ⟨2, ![16384, 8192]⟩
abbrev S1x16384 : Shape := ⟨2, ![1, 16384]⟩
abbrev S16384x10240 : Shape := ⟨2, ![16384, 10240]⟩
abbrev S16384 : Shape := ⟨1, ![16384]⟩
abbrev S64 : Shape := ⟨1, ![64]⟩
abbrev S_ : Shape := ⟨0, ![]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S8x8x256 : Shape := ⟨3, ![8, 8, 256]⟩
abbrev S128x8x128x256 : Shape := ⟨4, ![128, 8, 128, 256]⟩
abbrev S128x1024 : Shape := ⟨2, ![128, 1024]⟩
abbrev S128x2048 : Shape := ⟨2, ![128, 2048]⟩
abbrev S1x8x128x256 : Shape := ⟨4, ![1, 8, 128, 256]⟩
abbrev S8x128x256 : Shape := ⟨3, ![8, 128, 256]⟩
abbrev S128x256 : Shape := ⟨2, ![128, 256]⟩
abbrev S1x128x256 : Shape := ⟨3, ![1, 128, 256]⟩
abbrev S1x1x128x256 : Shape := ⟨4, ![1, 1, 128, 256]⟩
abbrev S1x1x256 : Shape := ⟨3, ![1, 1, 256]⟩
abbrev S1x256 : Shape := ⟨2, ![1, 256]⟩
abbrev S128x4096 : Shape := ⟨2, ![128, 4096]⟩

abbrev nBuf : Space → Nat
  | .hbm => 91
  | .vmem => 40
  | .smem => 0
  | _ => 0

abbrev bufTy : (tb : Table) → Fin (tcTables nBuf tb) → BufTy
  | .hbm, ⟨0, _⟩ => ⟨S16384x2048, .f32⟩
  | .hbm, ⟨1, _⟩ => ⟨S16384x8192, .bf16⟩
  | .hbm, ⟨2, _⟩ => ⟨S1x16384, .i32⟩
  | .hbm, ⟨3, _⟩ => ⟨S16384x2048, .bf16⟩
  | .hbm, ⟨4, _⟩ => ⟨S16384x10240, .bf16⟩
  | .hbm, ⟨5, _⟩ => ⟨S16384, .i32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S16384, .f32⟩
  | .hbm, ⟨15, _⟩ => ⟨S16384x1, .f32⟩
  | .hbm, ⟨16, _⟩ => ⟨S1x64, .f32⟩
  | .hbm, ⟨17, _⟩ => ⟨S16384x64, .f32⟩
  | .hbm, ⟨18, _⟩ => ⟨S16384x64, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x128, .f32⟩
  | .hbm, ⟨23, _⟩ => ⟨S16384x64, .f32⟩
  | .hbm, ⟨24, _⟩ => ⟨S16384x128, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S128, .f32⟩
  | .hbm, ⟨37, _⟩ => ⟨S128x1, .f32⟩
  | .hbm, ⟨38, _⟩ => ⟨S1x128, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S1x128x128, .f32⟩
  | .hbm, ⟨43, _⟩ => ⟨S_, .f32⟩
  | .hbm, ⟨44, _⟩ => ⟨S1x128x128, .f32⟩
  | .hbm, ⟨45, _⟩ => ⟨S1x128x128, .i1⟩
  | .hbm, ⟨46, _⟩ => ⟨S8x1x1, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S1x128x128, .f32⟩
  | .hbm, ⟨51, _⟩ => ⟨S8x128x128, .f32⟩
  | .hbm, ⟨52, _⟩ => ⟨S8x128x128, .f32⟩
  | .hbm, ⟨53, _⟩ => ⟨S8x128x128, .f32⟩
  | .hbm, ⟨54, _⟩ => ⟨S8x128x128, .f32⟩
  | .hbm, ⟨55, _⟩ => ⟨S_, .f32⟩
  | .hbm, ⟨56, _⟩ => ⟨S_, .f32⟩
  | .hbm, ⟨57, _⟩ => ⟨S8x128x128, .i1⟩
  | .hbm, ⟨58, _⟩ => ⟨S8x128x128, .f32⟩
  | .hbm, ⟨59, _⟩ => ⟨S8x128x128, .f32⟩
  | .hbm, ⟨60, _⟩ => ⟨S8x1, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S8x128, .f32⟩
  | .hbm, ⟨66, _⟩ => ⟨S8x128, .f32⟩
  | .hbm, ⟨67, _⟩ => ⟨S8x128, .f32⟩
  | .hbm, ⟨68, _⟩ => ⟨S8x128, .f32⟩
  | .hbm, ⟨69, _⟩ => ⟨S8x1, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S8x128, .f32⟩
  | .hbm, ⟨75, _⟩ => ⟨S8x128, .f32⟩
  | .hbm, ⟨76, _⟩ => ⟨S8x128, .f32⟩
  | .hbm, ⟨77, _⟩ => ⟨S8x128, .f32⟩
  | .hbm, ⟨78, _⟩ => ⟨S_, .f32⟩
  | .hbm, ⟨79, _⟩ => ⟨S8, .f32⟩
  | .hbm, ⟨80, _⟩ => ⟨S8, .f32⟩
  | .hbm, ⟨81, _⟩ => ⟨S8, .f32⟩
  | .hbm, ⟨82, _⟩ => ⟨S8x128x1, .f32⟩
  | .hbm, ⟨83, _⟩ => ⟨S8x128x128, .f32⟩
  | .hbm, ⟨84, _⟩ => ⟨S8x128x1, .f32⟩
  | .hbm, ⟨85, _⟩ => ⟨S8x128x128, .f32⟩
  | .hbm, ⟨86, _⟩ => ⟨S8x1x1, .f32⟩
  | .hbm, ⟨87, _⟩ => ⟨S8x8x256, .f32⟩
  | .hbm, ⟨88, _⟩ => ⟨S16384x2048, .f32⟩
  | .hbm, ⟨89, _⟩ => ⟨S128x8x128x256, .f32⟩
  | .hbm, ⟨90, _⟩ => ⟨S16384x10240, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .bf16⟩
  | .local _ .vmem, ⟨5, _⟩ => ⟨S128x2048, .bf16⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S8x128x128, .f32⟩
  | .local _ .vmem, ⟨11, _⟩ => ⟨S8x128x128, .f32⟩
  | .local _ .vmem, ⟨12, _⟩ => ⟨S8x128x128, .f32⟩
  | .local _ .vmem, ⟨13, _⟩ => ⟨S8x8x256, .f32⟩
  | .local _ .vmem, ⟨14, _⟩ => ⟨S128x2048, .f32⟩
  | .local _ .vmem, ⟨15, _⟩ => ⟨S128x2048, .f32⟩
  | .local _ .vmem, ⟨16, _⟩ => ⟨S1x8x128x256, .f32⟩
  | .local _ .vmem, ⟨17, _⟩ => ⟨S1x8x128x256, .f32⟩
  | .local _ .vmem, ⟨18, _⟩ => ⟨S8x128x256, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x2048, .bf16⟩
  | .local _ .vmem, ⟨24, _⟩ => ⟨S128x2048, .bf16⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S1x8x128x256, .f32⟩
  | .local _ .vmem, ⟨30, _⟩ => ⟨S1x8x128x256, .f32⟩
  | .local _ .vmem, ⟨31, _⟩ => ⟨S128x2048, .bf16⟩
  | .local _ .vmem, ⟨32, _⟩ => ⟨S128x2048, .bf16⟩
  | .local _ .vmem, ⟨33, _⟩ => ⟨S8x128x128, .f32⟩
  | .local _ .vmem, ⟨34, _⟩ => ⟨S8x128x128, .f32⟩
  | .local _ .vmem, ⟨35, _⟩ => ⟨S8x128x128, .f32⟩
  | .local _ .vmem, ⟨36, _⟩ => ⟨S8x8x256, .f32⟩
  | .local _ .vmem, ⟨37, _⟩ => ⟨S128x4096, .bf16⟩
  | .local _ .vmem, ⟨38, _⟩ => ⟨S128x4096, .bf16⟩
  | .local _ .vmem, ⟨39, _⟩ => ⟨S8x128x256, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69_0 : Ref sig .tc := ⟨.hbm, 88, rfl⟩
abbrev main_v69_1 : Ref sig .tc := ⟨.hbm, 89, rfl⟩
abbrev main_v70 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg9_0 : Ref sig .tc := ⟨.vmem, 35, rfl⟩
abbrev cc1_stg10_0 : Ref sig .tc := ⟨.vmem, 36, rfl⟩
abbrev cc1_stg11_0 : Ref sig .tc := ⟨.vmem, 37, rfl⟩
abbrev cc1_stg11_1 : Ref sig .tc := ⟨.vmem, 38, rfl⟩
abbrev cc1_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem8_0 : DmaSem sig := 33
abbrev cc1_sem9_0 : DmaSem sig := 34
abbrev cc1_sem10_0 : DmaSem sig := 35
abbrev cc1_sem11_0 : DmaSem sig := 36
abbrev cc1_sem11_1 : DmaSem sig := 37

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c127_i32 : BitVec 32 := 127#32
  let v0 : BitVec 32 := Scalar.subi c127_i32 arg0
  let c1_i32 : BitVec 32 := 1#32
  let c0_i32 : BitVec 32 := 0#32
  ![v0.toNat, c1_i32.toNat]

def cc1_transform_2 (i : grid1.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc1_transform_5 (i : grid1.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_6 (i : grid1.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_12 (i : grid1.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x8x128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S8x128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S8x128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S8x8x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S128x4096 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== ReferenceIdeal.lean ====
abbrev S16384x2048 : Shape := ⟨2, ![16384, 2048]⟩
abbrev S16384x8192 : Shape := ⟨2, ![16384, 8192]⟩
abbrev S1x16384 : Shape := ⟨2, ![1, 16384]⟩
abbrev S16384x10240 : Shape := ⟨2, ![16384, 10240]⟩
abbrev S16384x1024 : Shape := ⟨2, ![16384, 1024]⟩
abbrev S1x16384x1024 : Shape := ⟨3, ![1, 16384, 1024]⟩
abbrev S1x16384x2048 : Shape := ⟨3, ![1, 16384, 2048]⟩
abbrev S1x16384x8x128 : Shape := ⟨4, ![1, 16384, 8, 128]⟩
abbrev S64 : Shape := ⟨1, ![64]⟩
abbrev S_ : Shape := ⟨0, ![]⟩
abbrev S1x16384x1 : Shape := ⟨3, ![1, 16384, 1]⟩
abbrev S1x1x64 : Shape := ⟨3, ![1, 1, 64]⟩
abbrev S1x16384x64 : Shape := ⟨3, ![1, 16384, 64]⟩
abbrev S1x16384x1x64 : Shape := ⟨4, ![1, 16384, 1, 64]⟩
abbrev S1x16384x8x64 : Shape := ⟨4, ![1, 16384, 8, 64]⟩
abbrev S1x16384x8x256 : Shape := ⟨4, ![1, 16384, 8, 256]⟩
abbrev S8 : Shape := ⟨1, ![8]⟩
abbrev S1x128x128x8x128 : Shape := ⟨5, ![1, 128, 128, 8, 128]⟩
abbrev S1x128x128x8x256 : Shape := ⟨5, ![1, 128, 128, 8, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S1x128x8x128x128 : Shape := ⟨5, ![1, 128, 8, 128, 128]⟩
abbrev S1x1x8x128x128 : Shape := ⟨5, ![1, 1, 8, 128, 128]⟩
abbrev S1x128x8x256x128 : Shape := ⟨5, ![1, 128, 8, 256, 128]⟩
abbrev S8x1 : Shape := ⟨2, ![8, 1]⟩
abbrev S8x128 : Shape := ⟨2, ![8, 128]⟩
abbrev S128x8 : Shape := ⟨2, ![128, 8]⟩
abbrev S1x1x128x8x1 : Shape := ⟨5, ![1, 1, 128, 8, 1]⟩
abbrev S1x128x8x128x256 : Shape := ⟨5, ![1, 128, 8, 128, 256]⟩
abbrev S1x8x1x1 : Shape := ⟨4, ![1, 8, 1, 1]⟩
abbrev S1x8x128x256 : Shape := ⟨4, ![1, 8, 128, 256]⟩
abbrev S128x1x8x128x256 : Shape := ⟨5, ![128, 1, 8, 128, 256]⟩
abbrev S1x1x8x128x256 : Shape := ⟨5, ![1, 1, 8, 128, 256]⟩
abbrev S16384x6144 : Shape := ⟨2, ![16384, 6144]⟩

abbrev nBuf : Space → Nat
  | .hbm => 313
  | .vmem => 0
  | .smem => 0
  | _ => 0

abbrev hbmTy0_0 (i : Nat) : BufTy := match i % 128 with
  | 0 => ⟨S16384x2048, .f32⟩
  | 1 => ⟨S16384x8192, .bf16⟩
  | 2 => ⟨S1x16384, .i32⟩
  | 3 => ⟨S16384x2048, .bf16⟩
  | 4 => ⟨S16384x10240, .bf16⟩
  | 5 => ⟨S16384x1024, .f32⟩
  | 6 => ⟨S1x16384x1024, .f32⟩
  | 7 => ⟨S16384x1024, .f32⟩
  | 8 => ⟨S1x16384x1024, .f32⟩
  | 9 => ⟨S16384x2048, .bf16⟩
  | 10 => ⟨S1x16384x2048, .bf16⟩
  | 11 => ⟨S1x16384x2048, .f32⟩
  | 12 => ⟨S1x16384x8x128, .f32⟩
  | 13 => ⟨S64, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S1x16384, .f32⟩
  | 22 => ⟨S1x16384x1, .f32⟩
  | 23 => ⟨S1x1x64, .f32⟩
  | 24 => ⟨S1x16384x64, .f32⟩
  | 25 => ⟨S1x16384x64, .f32⟩
  | 26 => ⟨S1x16384x64, .f32⟩
  | 27 => ⟨S1x16384x64, .f32⟩
  | 28 => ⟨S1x16384x1x64, .f32⟩
  | 29 => ⟨S1x16384x64, .f32⟩
  | 30 => ⟨S1x16384x1x64, .f32⟩
  | 31 => ⟨S1x16384x8x64, .f32⟩
  | 32 => ⟨S1x16384x8x64, .f32⟩
  | 33 => ⟨S1x16384x8x64, .f32⟩
  | 34 => ⟨S1x16384x8x64, .f32⟩
  | 35 => ⟨S1x16384x8x64, .f32⟩
  | 36 => ⟨S1x16384x8x64, .f32⟩
  | 37 => ⟨S1x16384x8x64, .f32⟩
  | 38 => ⟨S1x16384x8x64, .f32⟩
  | 39 => ⟨S1x16384x8x64, .f32⟩
  | 40 => ⟨S1x16384x8x64, .f32⟩
  | 41 => ⟨S1x16384x8x64, .f32⟩
  | 42 => ⟨S1x16384x8x64, .f32⟩
  | 43 => ⟨S1x16384x8x128, .f32⟩
  | 44 => ⟨S1x16384x8x128, .f32⟩
  | 45 => ⟨S64, .f32⟩
  | 46 => ⟨S64, .f32⟩
  | 47 => ⟨S_, .f32⟩
  | 48 => ⟨S64, .f32⟩
  | 49 => ⟨S64, .f32⟩
  | 50 => ⟨S_, .f32⟩
  | 51 => ⟨S64, .f32⟩
  | 52 => ⟨S64, .f32⟩
  | 53 => ⟨S1x16384, .f32⟩
  | 54 => ⟨S1x16384x1, .f32⟩
  | 55 => ⟨S1x1x64, .f32⟩
  | 56 => ⟨S1x16384x64, .f32⟩
  | 57 => ⟨S1x16384x64, .f32⟩
  | 58 => ⟨S1x16384x64, .f32⟩
  | 59 => ⟨S1x16384x64, .f32⟩
  | 60 => ⟨S1x16384x1x64, .f32⟩
  | 61 => ⟨S1x16384x64, .f32⟩
  | 62 => ⟨S1x16384x1x64, .f32⟩
  | 63 => ⟨S1x16384x8x64, .f32⟩
  | 64 => ⟨S1x16384x8x64, .f32⟩
  | 65 => ⟨S1x16384x8x64, .f32⟩
  | 66 => ⟨S1x16384x8x64, .f32⟩
  | 67 => ⟨S1x16384x8x64, .f32⟩
  | 68 => ⟨S1x16384x8x64, .f32⟩
  | 69 => ⟨S1x16384x8x64, .f32⟩
  | 70 => ⟨S1x16384x8x64, .f32⟩
  | 71 => ⟨S1x16384x8x64, .f32⟩
  | 72 => ⟨S1x16384x8x64, .f32⟩
  | 73 => ⟨S1x16384x8x64, .f32⟩
  | 74 => ⟨S1x16384x8x64, .f32⟩
  | 75 => ⟨S1x16384x8x128, .f32⟩
  | 76 => ⟨S_, .f32⟩
  | 77 => ⟨S1x16384x8x128, .f32⟩
  | 78 => ⟨S1x16384x8x128, .f32⟩
  | 79 => ⟨S1x16384x8x256, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S8, .f32⟩
  | 91 => ⟨S1x128x128x8x128, .f32⟩
  | 92 => ⟨S1x128x128x8x128, .f32⟩
  | 93 => ⟨S1x128x128x8x256, .f32⟩
  | 94 => ⟨S128, .f32⟩
  | 95 => ⟨S128x1, .f32⟩
  | 96 => ⟨S1x128, .f32⟩
  | 97 => ⟨S128x128, .f32⟩
  | 98 => ⟨S128x128, .f32⟩
  | 99 => ⟨S128x128, .f32⟩
  | 100 => ⟨S1x128x128, .f32⟩
  | 101 => ⟨S_, .f32⟩
  | 102 => ⟨S1x128x128, .f32⟩
  | 103 => ⟨S1x128x128, .i1⟩
  | 104 => ⟨S8x1x1, .f32⟩
  | 105 => ⟨S_, .f32⟩
  | 106 => ⟨S128x128, .f32⟩
  | 107 => ⟨S128x128, .f32⟩
  | 108 => ⟨S1x128x128, .f32⟩
  | 109 => ⟨S8x128x128, .f32⟩
  | 110 => ⟨S8x128x128, .f32⟩
  | 111 => ⟨S8x128x128, .f32⟩
  | 112 => ⟨S8x128x128, .f32⟩
  | 113 => ⟨S_, .f32⟩
  | 114 => ⟨S_, .f32⟩
  | 115 => ⟨S8x128x128, .i1⟩
  | 116 => ⟨S8x128x128, .f32⟩
  | 117 => ⟨S8x128x128, .f32⟩
  | 118 => ⟨S1x128x8x128x128, .f32⟩
  | 119 => ⟨S1x1x8x128x128, .f32⟩
  | 120 => ⟨S1x128x8x128x128, .f32⟩
  | 121 => ⟨S1x128x8x128x128, .f32⟩
  | 122 => ⟨S1x128x8x256x128, .f32⟩
  | 123 => ⟨S1x128x128x8x256, .f32⟩
  | 124 => ⟨S8x1, .f32⟩
  | 125 => ⟨S_, .f32⟩
  | 126 => ⟨S128, .f32⟩
  | 127 => ⟨S128, .f32⟩
  | _ => ⟨S16384x2048, .f32⟩

abbrev hbmTy0_1 (i : Nat) : BufTy := match i % 128 with
  | 0 => ⟨S1x128, .f32⟩
  | 1 => ⟨S8x128, .f32⟩
  | 2 => ⟨S8x128, .f32⟩
  | 3 => ⟨S8x128, .f32⟩
  | 4 => ⟨S8x128, .f32⟩
  | 5 => ⟨S128x8, .f32⟩
  | 6 => ⟨S1x1x128x8x1, .f32⟩
  | 7 => ⟨S1x128x128x8x128, .f32⟩
  | 8 => ⟨S1x128x128x8x128, .f32⟩
  | 9 => ⟨S1x128x8x128x256, .f32⟩
  | 10 => ⟨S_, .f32⟩
  | 11 => ⟨S8, .f32⟩
  | 12 => ⟨S8, .f32⟩
  | 13 => ⟨S8, .f32⟩
  | 14 => ⟨S1x8x1x1, .f32⟩
  | 15 => ⟨S_, .f32⟩
  | 16 => ⟨S1x8x128x256, .f32⟩
  | 17 => ⟨S128x1x8x128x256, .f32⟩
  | 18 => ⟨S_, .f32⟩
  | 19 => ⟨S128x1x8x128x256, .f32⟩
  | 20 => ⟨S_, .i32⟩
  | 21 => ⟨S128x1x8x128x256, .f32⟩
  | 22 => ⟨S1x8x1x1, .f32⟩
  | 23 => ⟨S_, .i32⟩
  | 24 => ⟨S1x8x128x256, .f32⟩
  | 25 => ⟨S128x1x8x128x256, .f32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S1x1x8x128x256, .f32⟩
  | 33 => ⟨S1x8x128x256, .f32⟩
  | 34 => ⟨S1x8x128x256, .f32⟩
  | 35 => ⟨S1x8x128x256, .f32⟩
  | 36 => ⟨S1x8x128x256, .f32⟩
  | 37 => ⟨S1x1x8x128x256, .f32⟩
  | 38 => ⟨S_, .i32⟩
  | 39 => ⟨S_, .i32⟩
  | 40 => ⟨S_, .i32⟩
  | 41 => ⟨S_, .i32⟩
  | 42 => ⟨S128x1x8x128x256, .f32⟩
  | 43 => ⟨S_, .i32⟩
  | 44 => ⟨S_, .i32⟩
  | 45 => ⟨S1x128x8x128x256, .f32⟩
  | 46 => ⟨S8x1, .f32⟩
  | 47 => ⟨S_, .f32⟩
  | 48 => ⟨S128, .f32⟩
  | 49 => ⟨S128, .f32⟩
  | 50 => ⟨S1x128, .f32⟩
  | 51 => ⟨S8x128, .f32⟩
  | 52 => ⟨S8x128, .f32⟩
  | 53 => ⟨S8x128, .f32⟩
  | 54 => ⟨S8x128, .f32⟩
  | 55 => ⟨S128x8, .f32⟩
  | 56 => ⟨S1x1x128x8x1, .f32⟩
  | 57 => ⟨S1x128x128x8x128, .f32⟩
  | 58 => ⟨S1x128x128x8x128, .f32⟩
  | 59 => ⟨S1x128x8x256x128, .f32⟩
  | 60 => ⟨S1x128x128x8x256, .f32⟩
  | 61 => ⟨S1x128x128x8x256, .f32⟩
  | 62 => ⟨S1x16384x8x256, .f32⟩
  | 63 => ⟨S1x16384x2048, .f32⟩
  | 64 => ⟨S16384x2048, .f32⟩
  | 65 => ⟨S1x16384x2048, .f32⟩
  | 66 => ⟨S_, .f32⟩
  | 67 => ⟨S1x8x128x256, .f32⟩
  | 68 => ⟨S1x16384x8x256, .f32⟩
  | 69 => ⟨S1x128x128x8x256, .f32⟩
  | 70 => ⟨S1x128x8x256x128, .f32⟩
  | 71 => ⟨S1x128x8x128x128, .f32⟩
  | 72 => ⟨S1x128x128x8x128, .f32⟩
  | 73 => ⟨S1x128x8x256x128, .f32⟩
  | 74 => ⟨S1x128x8x128x256, .f32⟩
  | 75 => ⟨S1x128x128x8x128, .f32⟩
  | 76 => ⟨S1x128x128x8x128, .f32⟩
  | 77 => ⟨S128x1x8x128x256, .f32⟩
  | 78 => ⟨S_, .f32⟩
  | 79 => ⟨S1x8x128x256, .f32⟩
  | 80 => ⟨S_, .f32⟩
  | 81 => ⟨S128x1x8x128x256, .f32⟩
  | 82 => ⟨S_, .i32⟩
  | 83 => ⟨S128x1x8x128x256, .f32⟩
  | 84 => ⟨S1x8x1x1, .f32⟩
  | 85 => ⟨S_, .i32⟩
  | 86 => ⟨S1x8x128x256, .f32⟩
  | 87 => ⟨S128x1x8x128x256, .f32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S1x1x8x128x256, .f32⟩
  | 99 => ⟨S1x8x128x256, .f32⟩
  | 100 => ⟨S1x8x128x256, .f32⟩
  | 101 => ⟨S1x8x128x256, .f32⟩
  | 102 => ⟨S1x8x128x256, .f32⟩
  | 103 => ⟨S1x1x8x128x256, .f32⟩
  | 104 => ⟨S_, .i32⟩
  | 105 => ⟨S_, .i32⟩
  | 106 => ⟨S_, .i32⟩
  | 107 => ⟨S_, .i32⟩
  | 108 => ⟨S128x1x8x128x256, .f32⟩
  | 109 => ⟨S_, .i32⟩
  | 110 => ⟨S_, .i32⟩
  | 111 => ⟨S1x128x8x128x256, .f32⟩
  | 112 => ⟨S1x128x8x256x128, .f32⟩
  | 113 => ⟨S1x128x128x8x256, .f32⟩
  | 114 => ⟨S1x128x8x128x128, .f32⟩
  | 115 => ⟨S1x128x128x8x128, .f32⟩
  | 116 => ⟨S1x128x128x8x128, .f32⟩
  | 117 => ⟨S1x128x128x8x128, .f32⟩
  | 118 => ⟨S1x128x8x256x128, .f32⟩
  | 119 => ⟨S1x128x8x128x128, .f32⟩
  | 120 => ⟨S1x128x8x256x128, .f32⟩
  | 121 => ⟨S1x128x128x8x256, .f32⟩
  | 122 => ⟨S1x128x128x8x256, .f32⟩
  | 123 => ⟨S1x128x8x128x128, .f32⟩
  | 124 => ⟨S1x128x8x128x128, .f32⟩
  | 125 => ⟨S1x128x8x128x128, .f32⟩
  | 126 => ⟨S1x128x128x8x128, .f32⟩
  | 127 => ⟨S1x128x128x8x128, .f32⟩
  | _ => ⟨S16384x2048, .f32⟩

abbrev hbmTy0_2 (i : Nat) : BufTy := match i % 128 with
  | 0 => ⟨S1x128x8x128x128, .f32⟩
  | 1 => ⟨S1x128x128x8x128, .f32⟩
  | 2 => ⟨S1x128x128x8x128, .f32⟩
  | 3 => ⟨S1x16384x8x256, .f32⟩
  | 4 => ⟨S1x16384x8x128, .f32⟩
  | 5 => ⟨S1x16384x8x128, .f32⟩
  | 6 => ⟨S1x16384x2048, .f32⟩
  | 7 => ⟨S_, .f32⟩
  | 8 => ⟨S1x16384x8x128, .f32⟩
  | 9 => ⟨S1x16384x8x128, .f32⟩
  | 10 => ⟨S1x16384x8x64, .f32⟩
  | 11 => ⟨S1x16384x8x64, .f32⟩
  | 12 => ⟨S1x16384x8x64, .f32⟩
  | 13 => ⟨S1x16384x8x64, .f32⟩
  | 14 => ⟨S1x16384x8x64, .f32⟩
  | 15 => ⟨S1x16384x8x64, .f32⟩
  | 16 => ⟨S1x16384x8x64, .f32⟩
  | 17 => ⟨S1x16384x8x64, .f32⟩
  | 18 => ⟨S1x16384x8x64, .f32⟩
  | 19 => ⟨S1x16384x8x64, .f32⟩
  | 20 => ⟨S1x16384x8x64, .f32⟩
  | 21 => ⟨S1x16384x8x64, .f32⟩
  | 22 => ⟨S1x16384x8x64, .f32⟩
  | 23 => ⟨S_, .f32⟩
  | 24 => ⟨S1x16384x8x128, .f32⟩
  | 25 => ⟨S_, .f32⟩
  | 26 => ⟨S1x16384x8x128, .f32⟩
  | 27 => ⟨S1x16384x8x128, .f32⟩
  | 28 => ⟨S1x16384x1024, .f32⟩
  | 29 => ⟨S1x16384x8x64, .f32⟩
  | 30 => ⟨S1x16384x8x64, .f32⟩
  | 31 => ⟨S1x16384x8x64, .f32⟩
  | 32 => ⟨S1x16384x8x64, .f32⟩
  | 33 => ⟨S1x16384x8x64, .f32⟩
  | 34 => ⟨S1x16384x8x64, .f32⟩
  | 35 => ⟨S1x16384x8x64, .f32⟩
  | 36 => ⟨S1x16384x8x64, .f32⟩
  | 37 => ⟨S1x16384x8x64, .f32⟩
  | 38 => ⟨S1x16384x8x64, .f32⟩
  | 39 => ⟨S1x16384x8x64, .f32⟩
  | 40 => ⟨S1x16384x8x64, .f32⟩
  | 41 => ⟨S1x16384x8x64, .f32⟩
  | 42 => ⟨S_, .f32⟩
  | 43 => ⟨S1x16384x8x128, .f32⟩
  | 44 => ⟨S_, .f32⟩
  | 45 => ⟨S1x16384x8x128, .f32⟩
  | 46 => ⟨S1x16384x8x128, .f32⟩
  | 47 => ⟨S1x16384x1024, .f32⟩
  | 48 => ⟨S16384x2048, .f32⟩
  | 49 => ⟨S16384x1024, .f32⟩
  | 50 => ⟨S16384x1024, .bf16⟩
  | 51 => ⟨S16384x1024, .f32⟩
  | 52 => ⟨S16384x1024, .bf16⟩
  | 53 => ⟨S16384x2048, .f32⟩
  | 54 => ⟨S16384x2048, .bf16⟩
  | 55 => ⟨S16384x6144, .bf16⟩
  | 56 => ⟨S16384x10240, .bf16⟩
  | _ => ⟨S16384x2048, .f32⟩

abbrev hbmTy (i : Nat) : BufTy := match i / 128 with
  | 0 => hbmTy0_0 i
  | 1 => hbmTy0_1 i
  | 2 => hbmTy0_2 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_1 : Ref sig .tc := ⟨.hbm, 47, rfl⟩
abbrev main_v40 : Ref sig .tc := ⟨.hbm, 48, rfl⟩
abbrev main_v41 : Ref sig .tc := ⟨.hbm, 49, rfl⟩
abbrev main_cst_2 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_3 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_4 : Ref sig .tc := ⟨.hbm, 81, rfl⟩
abbrev main_v71 : Ref sig .tc := ⟨.hbm, 82, rfl⟩
abbrev main_v72 : Ref sig .tc := ⟨.hbm, 83, rfl⟩
abbrev main_cst_5 : Ref sig .tc := ⟨.hbm, 84, rfl⟩
abbrev main_v73 : Ref sig .tc := ⟨.hbm, 85, rfl⟩
abbrev main_v74 : Ref sig .tc := ⟨.hbm, 86, rfl⟩
abbrev main_cst_6 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_cst_7 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_cst_8 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_cst_9 : Ref sig .tc := ⟨.hbm, 113, rfl⟩
abbrev main_call0_v0 : Ref sig .tc := ⟨.hbm, 114, rfl⟩
abbrev main_call0_v1 : Ref sig .tc := ⟨.hbm, 115, rfl⟩
abbrev main_call0_v2 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_10 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_cst_11 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_cst_12 : Ref sig .tc := ⟨.hbm, 143, rfl⟩
abbrev main_v122 : Ref sig .tc := ⟨.hbm, 144, rfl⟩
abbrev main_v123 : Ref sig .tc := ⟨.hbm, 145, rfl⟩
abbrev main_cst_13 : Ref sig .tc := ⟨.hbm, 146, rfl⟩
abbrev main_v124 : Ref sig .tc := ⟨.hbm, 147, rfl⟩
abbrev main_c : Ref sig .tc := ⟨.hbm, 148, rfl⟩
abbrev main_v125_0 : Ref sig .tc := ⟨.hbm, 149, rfl⟩
abbrev main_v125_1 : Ref sig .tc := ⟨.hbm, 150, rfl⟩
abbrev main_v125_2 : Ref sig .tc := ⟨.hbm, 151, rfl⟩
abbrev main_v125_3 : Ref sig .tc := ⟨.hbm, 152, rfl⟩
abbrev main_v125_4 : Ref sig .tc := ⟨.hbm, 153, rfl⟩
abbrev main_while0c_c_28 : Ref sig .tc := ⟨.hbm, 154, rfl⟩
abbrev main_while0c_v229 : Ref sig .tc := ⟨.hbm, 155, rfl⟩
abbrev main_while0b_call1_c : Ref sig .tc := ⟨.hbm, 156, rfl⟩
abbrev main_while0b_call1_c_0 : Ref sig .tc := ⟨.hbm, 157, rfl⟩
abbrev main_while0b_call1_c_1 : Ref sig .tc := ⟨.hbm, 158, rfl⟩
abbrev main_while0b_call1_c_2 : Ref sig .tc := ⟨.hbm, 159, rfl⟩
abbrev main_while0b_call1_v0 : Ref sig .tc := ⟨.hbm, 160, rfl⟩
abbrev main_while0b_v229 : Ref sig .tc := ⟨.hbm, 161, rfl⟩
abbrev main_while0b_v230 : Ref sig .tc := ⟨.hbm, 162, rfl⟩
abbrev main_while0b_v231 : Ref sig .tc := ⟨.hbm, 163, rfl⟩
abbrev main_while0b_v232 : Ref sig .tc := ⟨.hbm, 164, rfl⟩
abbrev main_while0b_call2_v0 : Ref sig .tc := ⟨.hbm, 165, rfl⟩
abbrev main_while0b_call2_c : Ref sig .tc := ⟨.hbm, 166, rfl⟩
abbrev main_while0b_call2_c_0 : Ref sig .tc := ⟨.hbm, 167, rfl⟩
abbrev main_while0b_call2_c_1 : Ref sig .tc := ⟨.hbm, 168, rfl⟩
abbrev main_while0b_call2_c_2 : Ref sig .tc := ⟨.hbm, 169, rfl⟩
abbrev main_while0b_v233 : Ref sig .tc := ⟨.hbm, 170, rfl⟩
abbrev main_while0b_c_28 : Ref sig .tc := ⟨.hbm, 171, rfl⟩
abbrev main_while0b_v234 : Ref sig .tc := ⟨.hbm, 172, rfl⟩
abbrev main_v126 : Ref sig .tc := ⟨.hbm, 173, rfl⟩
abbrev main_v127 : Ref sig .tc := ⟨.hbm, 174, rfl⟩
abbrev main_cst_14 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_cst_15 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_cst_16 : Ref sig .tc := ⟨.hbm, 206, rfl⟩
abbrev main_v157 : Ref sig .tc := ⟨.hbm, 207, rfl⟩
abbrev main_cst_17 : Ref sig .tc := ⟨.hbm, 208, rfl⟩
abbrev main_v158 : Ref sig .tc := ⟨.hbm, 209, rfl⟩
abbrev main_c_18 : Ref sig .tc := ⟨.hbm, 210, rfl⟩
abbrev main_v159_0 : Ref sig .tc := ⟨.hbm, 211, rfl⟩
abbrev main_v159_1 : Ref sig .tc := ⟨.hbm, 212, rfl⟩
abbrev main_v159_2 : Ref sig .tc := ⟨.hbm, 213, rfl⟩
abbrev main_v159_3 : Ref sig .tc := ⟨.hbm, 214, rfl⟩
abbrev main_v159_4 : Ref sig .tc := ⟨.hbm, 215, rfl⟩
abbrev main_while1c_c_28 : Ref sig .tc := ⟨.hbm, 216, rfl⟩
abbrev main_while1c_v229 : Ref sig .tc := ⟨.hbm, 217, rfl⟩
abbrev main_while1b_c_28 : Ref sig .tc := ⟨.hbm, 218, rfl⟩
abbrev main_while1b_v229 : Ref sig .tc := ⟨.hbm, 219, rfl⟩
abbrev main_while1b_c_29 : Ref sig .tc := ⟨.hbm, 220, rfl⟩
abbrev main_while1b_v230 : Ref sig .tc := ⟨.hbm, 221, rfl⟩
abbrev main_while1b_call3_c : Ref sig .tc := ⟨.hbm, 222, rfl⟩
abbrev main_while1b_call3_c_0 : Ref sig .tc := ⟨.hbm, 223, rfl⟩
abbrev main_while1b_call3_c_1 : Ref sig .tc := ⟨.hbm, 224, rfl⟩
abbrev main_while1b_call3_c_2 : Ref sig .tc := ⟨.hbm, 225, rfl⟩
abbrev main_while1b_call3_v0 : Ref sig .tc := ⟨.hbm, 226, rfl⟩
abbrev main_while1b_v231 : Ref sig .tc := ⟨.hbm, 227, rfl⟩
abbrev main_while1b_v232 : Ref sig .tc := ⟨.hbm, 228, rfl⟩
abbrev main_while1b_v233 : Ref sig .tc := ⟨.hbm, 229, rfl⟩
abbrev main_while1b_v234 : Ref sig .tc := ⟨.hbm, 230, rfl⟩
abbrev main_while1b_call4_v0 : Ref sig .tc := ⟨.hbm, 231, rfl⟩
abbrev main_while1b_call4_c : Ref sig .tc := ⟨.hbm, 232, rfl⟩
abbrev main_while1b_call4_c_0 : Ref sig .tc := ⟨.hbm, 233, rfl⟩
abbrev main_while1b_call4_c_1 : Ref sig .tc := ⟨.hbm, 234, rfl⟩
abbrev main_while1b_call4_c_2 : Ref sig .tc := ⟨.hbm, 235, rfl⟩
abbrev main_while1b_v235 : Ref sig .tc := ⟨.hbm, 236, rfl⟩
abbrev main_while1b_c_30 : Ref sig .tc := ⟨.hbm, 237, rfl⟩
abbrev main_while1b_v236 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_cst_19 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_cst_20 : Ref sig .tc := ⟨.hbm, 279, rfl⟩
abbrev main_v199 : Ref sig .tc := ⟨.hbm, 280, rfl⟩
abbrev main_cst_21 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_cst_22 : Ref sig .tc := ⟨.hbm, 298, rfl⟩
abbrev main_v216 : Ref sig .tc := ⟨.hbm, 299, rfl⟩
abbrev main_cst_23 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩

abbrev nD : Nat := 1
abbrev τ : Topo := Topo.v7x

variable {F : FTy → Type} [FloatOps F]

abbrev main_while0_count : Scf.Loop 32 := ⟨0#32, 128#32, 1#32⟩

abbrev main_while1_count : Scf.Loop 32 := ⟨0#32, 128#32, 1#32⟩
-- ==== InQk.lean ====
abbrev S16384x1024 : Shape := ⟨2, ![16384, 1024]⟩
abbrev S1024x10240 : Shape := ⟨2, ![1024, 10240]⟩
abbrev S1x10240 : Shape := ⟨2, ![1, 10240]⟩
abbrev S1024x4x2560 : Shape := ⟨3, ![1024, 4, 2560]⟩
abbrev S4x1024x2560 : Shape := ⟨3, ![4, 1024, 2560]⟩
abbrev S16384x2048 : Shape := ⟨2, ![16384, 2048]⟩
abbrev S2048x1024 : Shape := ⟨2, ![2048, 1024]⟩
abbrev S1x1024x512 : Shape := ⟨3, ![1, 1024, 512]⟩
abbrev S1x512 : Shape := ⟨2, ![1, 512]⟩
abbrev S2048x512 : Shape := ⟨2, ![2048, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x10240, .f32⟩
  | .hbm, ⟨2, _⟩ => ⟨S1x10240, .f32⟩
  | .hbm, ⟨3, _⟩ => ⟨S1024x4x2560, .f32⟩
  | .hbm, ⟨4, _⟩ => ⟨S4x1024x2560, .f32⟩
  | .hbm, ⟨5, _⟩ => ⟨S4x1024x2560, .bf16⟩
  | .hbm, ⟨6, _⟩ => ⟨S16384x2048, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c5_i32 : BitVec 32 := 5#32
  let v1 : BitVec 32 := Scalar.divsi v0 c5_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c5_i32 c0_i32_2
  let v8 : BitVec 32 := Scalar.extui v7
  let c0_i32_3 : BitVec 32 := 0#32
  let v9 : BitVec 1 := Scalar.cmpi .slt c5_i32 c0_i32_3
  let v10 : BitVec 32 := Scalar.extui v9
  let v11 : BitVec 32 := Scalar.subi v8 v10
  let v12 : BitVec 1 := Scalar.cmpi .ne v6 v11
  let v13 : BitVec 32 := Scalar.remsi v0 c5_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi c0_i32_5 arg1
  let c5_i32_6 : BitVec 32 := 5#32
  let c0_i32_7 : BitVec 32 := 0#32
  let v19 : BitVec 1 := Scalar.cmpi .eq c5_i32_6 c0_i32_7
  let c1_i32_8 : BitVec 32 := 1#32
  let v20 : BitVec 32 := Scalar.select v19 c1_i32_8 c5_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefInQkIdeal.lean ====
abbrev S16384x1024 : Shape := ⟨2, ![16384, 1024]⟩
abbrev S1024x10240 : Shape := ⟨2, ![1024, 10240]⟩
abbrev S1x10240 : Shape := ⟨2, ![1, 10240]⟩
abbrev S16384x10240 : Shape := ⟨2, ![16384, 10240]⟩
abbrev S16384x2048 : Shape := ⟨2, ![16384, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x10240, .f32⟩
  | .hbm, ⟨2, _⟩ => ⟨S1x10240, .f32⟩
  | .hbm, ⟨3, _⟩ => ⟨S16384x1024, .f32⟩
  | .hbm, ⟨4, _⟩ => ⟨S16384x10240, .f32⟩
  | .hbm, ⟨5, _⟩ => ⟨S16384x10240, .f32⟩
  | .hbm, ⟨6, _⟩ => ⟨S16384x10240, .f32⟩
  | .hbm, ⟨7, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InRest.lean ====
abbrev S16384x1024 : Shape := ⟨2, ![16384, 1024]⟩
abbrev S1024x10240 : Shape := ⟨2, ![1024, 10240]⟩
abbrev S1x10240 : Shape := ⟨2, ![1, 10240]⟩
abbrev S1024x4x2560 : Shape := ⟨3, ![1024, 4, 2560]⟩
abbrev S4x1024x2560 : Shape := ⟨3, ![4, 1024, 2560]⟩
abbrev S16384x8192 : Shape := ⟨2, ![16384, 8192]⟩
abbrev S2048x1024 : Shape := ⟨2, ![2048, 1024]⟩
abbrev S1x1024x512 : Shape := ⟨3, ![1, 1024, 512]⟩
abbrev S1x512 : Shape := ⟨2, ![1, 512]⟩
abbrev S2048x512 : Shape := ⟨2, ![2048, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x10240, .f32⟩
  | .hbm, ⟨2, _⟩ => ⟨S1x10240, .f32⟩
  | .hbm, ⟨3, _⟩ => ⟨S1024x4x2560, .f32⟩
  | .hbm, ⟨4, _⟩ => ⟨S4x1024x2560, .f32⟩
  | .hbm, ⟨5, _⟩ => ⟨S4x1024x2560, .bf16⟩
  | .hbm, ⟨6, _⟩ => ⟨S16384x8192, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512, .f32⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c5_i32 : BitVec 32 := 5#32
  let v1 : BitVec 32 := Scalar.divsi v0 c5_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi v0 c5_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.addi c4_i32_4 arg1
  let c5_i32_5 : BitVec 32 := 5#32
  let c0_i32_6 : BitVec 32 := 0#32
  let v19 : BitVec 1 := Scalar.cmpi .eq c5_i32_5 c0_i32_6
  let c1_i32_7 : BitVec 32 := 1#32
  let v20 : BitVec 32 := Scalar.select v19 c1_i32_7 c5_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefInRestIdeal.lean ====
abbrev S16384x1024 : Shape := ⟨2, ![16384, 1024]⟩
abbrev S1024x10240 : Shape := ⟨2, ![1024, 10240]⟩
abbrev S1x10240 : Shape := ⟨2, ![1, 10240]⟩
abbrev S16384x10240 : Shape := ⟨2, ![16384, 10240]⟩
abbrev S16384x8192 : Shape := ⟨2, ![16384, 8192]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x10240, .f32⟩
  | .hbm, ⟨2, _⟩ => ⟨S1x10240, .f32⟩
  | .hbm, ⟨3, _⟩ => ⟨S16384x1024, .f32⟩
  | .hbm, ⟨4, _⟩ => ⟨S16384x10240, .f32⟩
  | .hbm, ⟨5, _⟩ => ⟨S16384x10240, .f32⟩
  | .hbm, ⟨6, _⟩ => ⟨S16384x10240, .f32⟩
  | .hbm, ⟨7, _⟩ => ⟨S16384x8192, .f32⟩
  | .hbm, ⟨8, _⟩ => ⟨S16384x8192, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDw.lean ====
abbrev S16384x1024 : Shape := ⟨2, ![16384, 1024]⟩
abbrev S16384x10240 : Shape := ⟨2, ![16384, 10240]⟩
abbrev S4x1024x2560 : Shape := ⟨3, ![4, 1024, 2560]⟩
abbrev S1x10240 : Shape := ⟨2, ![1, 10240]⟩
abbrev S2048x1024 : Shape := ⟨2, ![2048, 1024]⟩
abbrev S2048x1280 : Shape := ⟨2, ![2048, 1280]⟩
abbrev S1x1024x1280 : Shape := ⟨3, ![1, 1024, 1280]⟩
abbrev S1x1280 : Shape := ⟨2, ![1, 1280]⟩
abbrev S1024x1280 : Shape := ⟨2, ![1024, 1280]⟩
abbrev S1280 : Shape := ⟨1, ![1280]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S16384x10240, .bf16⟩
  | .hbm, ⟨2, _⟩ => ⟨S4x1024x2560, .f32⟩
  | .hbm, ⟨3, _⟩ => ⟨S1x10240, .f32⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1x1024x1280, .f32⟩
  | .local _ .vmem, ⟨5, _⟩ => ⟨S1x1024x1280, .f32⟩
  | .local _ .vmem, ⟨6, _⟩ => ⟨S1x1280, .f32⟩
  | .local _ .vmem, ⟨7, _⟩ => ⟨S1x1280, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg1 : BitVec 32 := BitVec.ofNat 32 (i 1).val
  let c0_i32_7 : BitVec 32 := 0#32
  let v12 : BitVec 1 := Scalar.cmpi .eq arg1 c0_i32_7
  let v13 : BitVec 32 := Scalar.extui v12
  let c0_i32_8 : BitVec 32 := 0#32
  let v14 : BitVec 1 := Scalar.cmpi .ne v13 c0_i32_8
  v14

def k0_cond4 (i : grid0.Coords) : BitVec 1 :=
  let arg1 : BitVec 32 := BitVec.ofNat 32 (i 1).val
  let c0_i32_9 : BitVec 32 := 0#32
  let v15 : BitVec 1 := Scalar.cmpi .sgt arg1 c0_i32_9
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== RefInDwIdeal.lean ====
abbrev S16384x1024 : Shape := ⟨2, ![16384, 1024]⟩
abbrev S16384x10240 : Shape := ⟨2, ![16384, 10240]⟩
abbrev S_ : Shape := ⟨0, ![]⟩
abbrev S1024x10240 : Shape := ⟨2, ![1024, 10240]⟩
abbrev S1x10240 : Shape := ⟨2, ![1, 10240]⟩
abbrev S10240 : Shape := ⟨1, ![10240]⟩
abbrev S10240x1024 : Shape := ⟨2, ![10240, 1024]⟩
abbrev S1024x2560 : Shape := ⟨2, ![1024, 2560]⟩
abbrev S1x1024x2560 : Shape := ⟨3, ![1, 1024, 2560]⟩
abbrev S4x1024x2560 : Shape := ⟨3, ![4, 1024, 2560]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x10240, .bf16⟩
  | .hbm, ⟨2, _⟩ => ⟨S_, .f32⟩
  | .hbm, ⟨3, _⟩ => ⟨S1024x10240, .f32⟩
  | .hbm, ⟨4, _⟩ => ⟨S_, .f32⟩
  | .hbm, ⟨5, _⟩ => ⟨S1x10240, .f32⟩
  | .hbm, ⟨6, _⟩ => ⟨S16384x1024, .f32⟩
  | .hbm, ⟨7, _⟩ => ⟨S16384x10240, .f32⟩
  | .hbm, ⟨8, _⟩ => ⟨S16384x10240, .f32⟩
  | .hbm, ⟨9, _⟩ => ⟨S16384x10240, .f32⟩
  | .hbm, ⟨10, _⟩ => ⟨S16384x10240, .f32⟩
  | .hbm, ⟨11, _⟩ => ⟨S_, .f32⟩
  | .hbm, ⟨12, _⟩ => ⟨S10240, .f32⟩
  | .hbm, ⟨13, _⟩ => ⟨S1x10240, .f32⟩
  | .hbm, ⟨14, _⟩ => ⟨S10240x1024, .f32⟩
  | .hbm, ⟨15, _⟩ => ⟨S1024x10240, .f32⟩
  | .hbm, ⟨16, _⟩ => ⟨S1024x2560, .f32⟩
  | .hbm, ⟨17, _⟩ => ⟨S1024x2560, .f32⟩
  | .hbm, ⟨18, _⟩ => ⟨S1024x2560, .f32⟩
  | .hbm, ⟨19, _⟩ => ⟨S1024x2560, .f32⟩
  | .hbm, ⟨20, _⟩ => ⟨S1x1024x2560, .f32⟩
  | .hbm, ⟨21, _⟩ => ⟨S1x1024x2560, .f32⟩
  | .hbm, ⟨22, _⟩ => ⟨S1x1024x2560, .f32⟩
  | .hbm, ⟨23, _⟩ => ⟨S1x1024x2560, .f32⟩
  | .hbm, ⟨24, _⟩ => ⟨S4x1024x2560, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== InDx.lean ====
abbrev S16384x10240 : Shape := ⟨2, ![16384, 10240]⟩
abbrev S1024x10240 : Shape := ⟨2, ![1024, 10240]⟩
abbrev S1024x4x2560 : Shape := ⟨3, ![1024, 4, 2560]⟩
abbrev S4x1024x2560 : Shape := ⟨3, ![4, 1024, 2560]⟩
abbrev S16384x1024 : Shape := ⟨2, ![16384, 1024]⟩
abbrev S1024x2560 : Shape := ⟨2, ![1024, 2560]⟩
abbrev S1x1024x2560 : Shape := ⟨3, ![1, 1024, 2560]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x10240, .bf16⟩
  | .hbm, ⟨1, _⟩ => ⟨S1024x10240, .f32⟩
  | .hbm, ⟨2, _⟩ => ⟨S1024x4x2560, .f32⟩
  | .hbm, ⟨3, _⟩ => ⟨S4x1024x2560, .f32⟩
  | .hbm, ⟨4, _⟩ => ⟨S4x1024x2560, .bf16⟩
  | .hbm, ⟨5, _⟩ => ⟨S16384x1024, .bf16⟩
  | .local _ .vmem, ⟨0, _⟩ => ⟨S1024x2560, .bf16⟩
  | .local _ .vmem, ⟨1, _⟩ => ⟨S1024x2560, .bf16⟩
  | .local _ .vmem, ⟨2, _⟩ => ⟨S1x1024x2560, .bf16⟩
  | .local _ .vmem, ⟨3, _⟩ => ⟨S1x1024x2560, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefInDxIdeal.lean ====
abbrev S16384x10240 : Shape := ⟨2, ![16384, 10240]⟩
abbrev S1024x10240 : Shape := ⟨2, ![1024, 10240]⟩
abbrev S_ : Shape := ⟨0, ![]⟩
abbrev S16384x1024 : Shape := ⟨2, ![16384, 1024]⟩
abbrev S1x10240 : Shape := ⟨2, ![1, 10240]⟩

abbrev nBuf : Space → Nat
  | .hbm => 12
  | .vmem => 0
  | .smem => 0
  | _ => 0

abbrev bufTy : (tb : Table) → Fin (tcTables nBuf tb) → BufTy
  | .hbm, ⟨0, _⟩ => ⟨S16384x10240, .bf16⟩
  | .hbm, ⟨1, _⟩ => ⟨S1024x10240, .f32⟩
  | .hbm, ⟨2, _⟩ => ⟨S_, .f32⟩
  | .hbm, ⟨3, _⟩ => ⟨S16384x1024, .f32⟩
  | .hbm, ⟨4, _⟩ => ⟨S_, .f32⟩
  | .hbm, ⟨5, _⟩ => ⟨S1x10240, .f32⟩
  | .hbm, ⟨6, _⟩ => ⟨S16384x10240, .f32⟩
  | .hbm, ⟨7, _⟩ => ⟨S16384x10240, .f32⟩
  | .hbm, ⟨8, _⟩ => ⟨S16384x10240, .f32⟩
  | .hbm, ⟨9, _⟩ => ⟨S16384x10240, .f32⟩
  | .hbm, ⟨10, _⟩ => ⟨S16384x1024, .f32⟩
  | .hbm, ⟨11, _⟩ => ⟨S16384x1024, .bf16⟩
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Up.lean ====
abbrev S16384x1024 : Shape := ⟨2, ![16384, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S16384x5632 : Shape := ⟨2, ![16384, 5632]⟩
abbrev S512x1024 : Shape := ⟨2, ![512, 1024]⟩
abbrev S1x1024x1408 : Shape := ⟨3, ![1, 1024, 1408]⟩
abbrev S512x1408 : Shape := ⟨2, ![512, 1408]⟩
abbrev S1024x1408 : Shape := ⟨2, ![1024, 1408]⟩
abbrev S16384x1408 : Shape := ⟨2, ![16384, 1408]⟩

abbrev nBuf : Space → Nat
  | .hbm => 11
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .f32⟩
  | .hbm, ⟨2, _⟩ => ⟨S1024x4x1408, .f32⟩
  | .hbm, ⟨3, _⟩ => ⟨S4x1024x1408, .f32⟩
  | .hbm, ⟨4, _⟩ => ⟨S4x1024x1408, .bf16⟩
  | .hbm, ⟨5, _⟩ => ⟨S16384x5632, .bf16⟩
  | .hbm, ⟨6, _⟩ => ⟨S16384x1408, .bf16⟩
  | .hbm, ⟨7, _⟩ => ⟨S16384x1408, .bf16⟩
  | .hbm, ⟨8, _⟩ => ⟨S16384x1408, .bf16⟩
  | .hbm, ⟨9, _⟩ => ⟨S16384x1408, .bf16⟩
  | .hbm, ⟨10, _⟩ => ⟨S16384x5632, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1408, .bf16⟩
  | .local _ .vmem, ⟨5, _⟩ => ⟨S512x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c2_i32 : BitVec 32 := 2#32
  let c0_i32_6 : BitVec 32 := 0#32
  let v18 : BitVec 1 := Scalar.cmpi .eq c2_i32 c0_i32_6
  let c1_i32_7 : BitVec 32 := 1#32
  let v19 : BitVec 32 := Scalar.select v18 c1_i32_7 c2_i32
  let v20 : BitVec 32 := Scalar.remsi v17 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c2_i32_11 : BitVec 32 := 2#32
  let v28 : BitVec 32 := Scalar.muli v27 c2_i32_11
  let c2_i32_12 : BitVec 32 := 2#32
  let v29 : BitVec 32 := Scalar.divsi v17 c2_i32_12
  let c0_i32_13 : BitVec 32 := 0#32
  let v30 : BitVec 1 := Scalar.cmpi .sgt v17 c0_i32_13
  let v31 : BitVec 32 := Scalar.extui v30
  let c0_i32_14 : BitVec 32 := 0#32
  let v32 : BitVec 1 := Scalar.cmpi .slt v17 c0_i32_14
  let v33 : BitVec 32 := Scalar.extui v32
  let v34 : BitVec 32 := Scalar.subi v31 v33
  let c0_i32_15 : BitVec 32 := 0#32
  let v35 : BitVec 1 := Scalar.cmpi .sgt c2_i32_12 c0_i32_15
  let v36 : BitVec 32 := Scalar.extui v35
  let c0_i32_16 : BitVec 32 := 0#32
  let v37 : BitVec 1 := Scalar.cmpi .slt c2_i32_12 c0_i32_16
  let v38 : BitVec 32 := Scalar.extui v37
  let v39 : BitVec 32 := Scalar.subi v36 v38
  let v40 : BitVec 1 := Scalar.cmpi .ne v34 v39
  let v41 : BitVec 32 := Scalar.remsi v17 c2_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let v46 : BitVec 32 := Scalar.addi v28 v45
  let c0_i32_19 : BitVec 32 := 0#32
  let v47 : BitVec 32 := Scalar.addi c0_i32_19 arg0
  let c1_i32_20 : BitVec 32 := 1#32
  let c0_i32_21 : BitVec 32 := 0#32
  let v48 : BitVec 1 := Scalar.cmpi .eq c1_i32_20 c0_i32_21
  let c1_i32_22 : BitVec 32 := 1#32
  let v49 : BitVec 32 := Scalar.select v48 c1_i32_22 c1_i32_20
  let v50 : BitVec 32 := Scalar.remsi v47 v49
  let c0_i32_23 : BitVec 32 := 0#32
  let v51 : BitVec 1 := Scalar.cmpi .ne v50 c0_i32_23
  let c0_i32_24 : BitVec 32 := 0#32
  let v52 : BitVec 1 := Scalar.cmpi .slt v50 c0_i32_24
  let c0_i32_25 : BitVec 32 := 0#32
  let v53 : BitVec 1 := Scalar.cmpi .slt v49 c0_i32_25
  let v54 : BitVec 1 := Scalar.xori v52 v53
  let v55 : BitVec 1 := Scalar.andi v54 v51
  let v56 : BitVec 32 := Scalar.addi v50 v49
  let v57 : BitVec 32 := Scalar.select v55 v56 v50
  let c0_i32_26 : BitVec 32 := 0#32
  let c0_i32_27 : BitVec 32 := 0#32
  ![v46.toNat, c0_i32_26.toNat, v57.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefUpIdeal.lean ====
abbrev S16384x1024 : Shape := ⟨2, ![16384, 1024]⟩
abbrev S1024x5632 : Shape := ⟨2, ![1024, 5632]⟩
abbrev S16384x5632 : Shape := ⟨2, ![16384, 5632]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .f32⟩
  | .hbm, ⟨2, _⟩ => ⟨S16384x1024, .f32⟩
  | .hbm, ⟨3, _⟩ => ⟨S16384x5632, .f32⟩
  | .hbm, ⟨4, _⟩ => ⟨S16384x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpDw.lean ====
abbrev S16384x1024 : Shape := ⟨2, ![16384, 1024]⟩
abbrev S16384x5632 : Shape := ⟨2, ![16384, 5632]⟩
abbrev S16384x1408 : Shape := ⟨2, ![16384, 1408]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 8
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S16384x1408, .bf16⟩
  | .hbm, ⟨3, _⟩ => ⟨S16384x1408, .bf16⟩
  | .hbm, ⟨4, _⟩ => ⟨S16384x1408, .bf16⟩
  | .hbm, ⟨5, _⟩ => ⟨S16384x1408, .bf16⟩
  | .hbm, ⟨6, _⟩ => ⟨S16384x5632, .bf16⟩
  | .hbm, ⟨7, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.muli v26 c2_i32_10
  let c2_i32_11 : BitVec 32 := 2#32
  let v28 : BitVec 32 := Scalar.divsi v16 c2_i32_11
  let c0_i32_12 : BitVec 32 := 0#32
  let v29 : BitVec 1 := Scalar.cmpi .sgt v16 c0_i32_12
  let v30 : BitVec 32 := Scalar.extui v29
  let c0_i32_13 : BitVec 32 := 0#32
  let v31 : BitVec 1 := Scalar.cmpi .slt v16 c0_i32_13
  let v32 : BitVec 32 := Scalar.extui v31
  let v33 : BitVec 32 := Scalar.subi v30 v32
  let c0_i32_14 : BitVec 32 := 0#32
  let v34 : BitVec 1 := Scalar.cmpi .sgt c2_i32_11 c0_i32_14
  let v35 : BitVec 32 := Scalar.extui v34
  let c0_i32_15 : BitVec 32 := 0#32
  let v36 : BitVec 1 := Scalar.cmpi .slt c2_i32_11 c0_i32_15
  let v37 : BitVec 32 := Scalar.extui v36
  let v38 : BitVec 32 := Scalar.subi v35 v37
  let v39 : BitVec 1 := Scalar.cmpi .ne v33 v38
  let v40 : BitVec 32 := Scalar.remsi v16 c2_i32_11
  let c0_i32_16 : BitVec 32 := 0#32
  let v41 : BitVec 1 := Scalar.cmpi .ne v40 c0_i32_16
  let v42 : BitVec 1 := Scalar.andi v39 v41
  let c1_i32_17 : BitVec 32 := 1#32
  let v43 : BitVec 32 := Scalar.subi v28 c1_i32_17
  let v44 : BitVec 32 := Scalar.select v42 v43 v28
  let v45 : BitVec 32 := Scalar.addi v27 v44
  let c1_i32_18 : BitVec 32 := 1#32
  let c0_i32_19 : BitVec 32 := 0#32
  let v46 : BitVec 1 := Scalar.cmpi .eq c1_i32_18 c0_i32_19
  let c1_i32_20 : BitVec 32 := 1#32
  let v47 : BitVec 32 := Scalar.select v46 c1_i32_20 c1_i32_18
  let v48 : BitVec 32 := Scalar.remsi arg0 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  let c0_i32_25 : BitVec 32 := 0#32
  ![v45.toNat, c0_i32_24.toNat, v55.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefUpDwIdeal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S_, .f32⟩
  | .hbm, ⟨3, _⟩ => ⟨S1024x5632, .f32⟩
  | .hbm, ⟨4, _⟩ => ⟨S16384x1024, .f32⟩
  | .hbm, ⟨5, _⟩ => ⟨S16384x5632, .f32⟩
  | .hbm, ⟨6, _⟩ => ⟨S16384x5632, .f32⟩
  | .hbm, ⟨7, _⟩ => ⟨S5632x1024, .f32⟩
  | .hbm, ⟨8, _⟩ => ⟨S1024x5632, .f32⟩
  | .hbm, ⟨9, _⟩ => ⟨S1024x1408, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S1x1024x1408, .f32⟩
  | .hbm, ⟨14, _⟩ => ⟨S1x1024x1408, .f32⟩
  | .hbm, ⟨15, _⟩ => ⟨S1x1024x1408, .f32⟩
  | .hbm, ⟨16, _⟩ => ⟨S1x1024x1408, .f32⟩
  | .hbm, ⟨17, _⟩ => ⟨S4x1024x1408, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== UpDx.lean ====
abbrev S16384x5632 : Shape := ⟨2, ![16384, 5632]⟩
abbrev S1024x5632 : Shape := ⟨2, ![1024, 5632]⟩
abbrev S16384x1408 : Shape := ⟨2, ![16384, 1408]⟩
abbrev S1024x4x1408 : Shape := ⟨3, ![1024, 4, 1408]⟩
abbrev S4x1024x1408 : Shape := ⟨3, ![4, 1024, 1408]⟩
abbrev S16384x1024 : Shape := ⟨2, ![16384, 1024]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .f32⟩
  | .hbm, ⟨2, _⟩ => ⟨S16384x1408, .bf16⟩
  | .hbm, ⟨3, _⟩ => ⟨S16384x1408, .bf16⟩
  | .hbm, ⟨4, _⟩ => ⟨S16384x1408, .bf16⟩
  | .hbm, ⟨5, _⟩ => ⟨S16384x1408, .bf16⟩
  | .hbm, ⟨6, _⟩ => ⟨S16384x5632, .bf16⟩
  | .hbm, ⟨7, _⟩ => ⟨S1024x4x1408, .f32⟩
  | .hbm, ⟨8, _⟩ => ⟨S4x1024x1408, .f32⟩
  | .hbm, ⟨9, _⟩ => ⟨S4x1024x1408, .bf16⟩
  | .hbm, ⟨10, _⟩ => ⟨S16384x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.muli v26 c2_i32_10
  let c2_i32_11 : BitVec 32 := 2#32
  let v28 : BitVec 32 := Scalar.divsi v16 c2_i32_11
  let c0_i32_12 : BitVec 32 := 0#32
  let v29 : BitVec 1 := Scalar.cmpi .sgt v16 c0_i32_12
  let v30 : BitVec 32 := Scalar.extui v29
  let c0_i32_13 : BitVec 32 := 0#32
  let v31 : BitVec 1 := Scalar.cmpi .slt v16 c0_i32_13
  let v32 : BitVec 32 := Scalar.extui v31
  let v33 : BitVec 32 := Scalar.subi v30 v32
  let c0_i32_14 : BitVec 32 := 0#32
  let v34 : BitVec 1 := Scalar.cmpi .sgt c2_i32_11 c0_i32_14
  let v35 : BitVec 32 := Scalar.extui v34
  let c0_i32_15 : BitVec 32 := 0#32
  let v36 : BitVec 1 := Scalar.cmpi .slt c2_i32_11 c0_i32_15
  let v37 : BitVec 32 := Scalar.extui v36
  let v38 : BitVec 32 := Scalar.subi v35 v37
  let v39 : BitVec 1 := Scalar.cmpi .ne v33 v38
  let v40 : BitVec 32 := Scalar.remsi v16 c2_i32_11
  let c0_i32_16 : BitVec 32 := 0#32
  let v41 : BitVec 1 := Scalar.cmpi .ne v40 c0_i32_16
  let v42 : BitVec 1 := Scalar.andi v39 v41
  let c1_i32_17 : BitVec 32 := 1#32
  let v43 : BitVec 32 := Scalar.subi v28 c1_i32_17
  let v44 : BitVec 32 := Scalar.select v42 v43 v28
  let v45 : BitVec 32 := Scalar.addi v27 v44
  let c1_i32_18 : BitVec 32 := 1#32
  let c0_i32_19 : BitVec 32 := 0#32
  let v46 : BitVec 1 := Scalar.cmpi .eq c1_i32_18 c0_i32_19
  let c1_i32_20 : BitVec 32 := 1#32
  let v47 : BitVec 32 := Scalar.select v46 c1_i32_20 c1_i32_18
  let v48 : BitVec 32 := Scalar.remsi arg1 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  let c0_i32_25 : BitVec 32 := 0#32
  ![v45.toNat, c0_i32_24.toNat, v55.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefUpDxIdeal.lean ====
abbrev S16384x5632 : Shape := ⟨2, ![16384, 5632]⟩
abbrev S1024x5632 : Shape := ⟨2, ![1024, 5632]⟩
abbrev S_ : Shape := ⟨0, ![]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .f32⟩
  | .hbm, ⟨2, _⟩ => ⟨S_, .f32⟩
  | .hbm, ⟨3, _⟩ => ⟨S16384x1024, .f32⟩
  | .hbm, ⟨4, _⟩ => ⟨S16384x5632, .f32⟩
  | .hbm, ⟨5, _⟩ => ⟨S16384x5632, .f32⟩
  | .hbm, ⟨6, _⟩ => ⟨S16384x1024, .f32⟩
  | .hbm, ⟨7, _⟩ => ⟨S16384x1024, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Down.lean ====
abbrev S16384x2816 : Shape := ⟨2, ![16384, 2816]⟩
abbrev S2816x1024 : Shape := ⟨2, ![2816, 1024]⟩
abbrev S1x2816x1024 : Shape := ⟨3, ![1, 2816, 1024]⟩
abbrev S16384x1024 : Shape := ⟨2, ![16384, 1024]⟩
abbrev S512x2816 : Shape := ⟨2, ![512, 2816]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S2816x1024, .bf16⟩
  | .hbm, ⟨3, _⟩ => ⟨S1x2816x1024, .bf16⟩
  | .hbm, ⟨4, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi c0_i32_6 arg0
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let c0_i32_14 : BitVec 32 := 0#32
  ![v17.toNat, c0_i32_13.toNat, v28.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefDownIdeal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x2816, .f32⟩
  | .hbm, ⟨3, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DownDw.lean ====
abbrev S16384x2816 : Shape := ⟨2, ![16384, 2816]⟩
abbrev S16384x1024 : Shape := ⟨2, ![16384, 1024]⟩
abbrev S1x2816x1024 : Shape := ⟨3, ![1, 2816, 1024]⟩
abbrev S1024x2816 : Shape := ⟨2, ![1024, 2816]⟩
abbrev S1024x512 : Shape := ⟨2, ![1024, 512]⟩
abbrev S1x2816x512 : Shape := ⟨3, ![1, 2816, 512]⟩
abbrev S2816x512 : Shape := ⟨2, ![2816, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S1x2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x512, .bf16⟩
  | .local _ .vmem, ⟨3, _⟩ => ⟨S1024x512, .bf16⟩
  | .local _ .vmem, ⟨4, _⟩ => ⟨S1x2816x512, .f32⟩
  | .local _ .vmem, ⟨5, _⟩ => ⟨S1x2816x512, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefDownDwIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S2816x1024, .f32⟩
  | .hbm, ⟨9, _⟩ => ⟨S1x2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDx.lean ====
abbrev S16384x1024 : Shape := ⟨2, ![16384, 1024]⟩
abbrev S2816x1024 : Shape := ⟨2, ![2816, 1024]⟩
abbrev S1x2816x1024 : Shape := ⟨3, ![1, 2816, 1024]⟩
abbrev S16384x2816 : Shape := ⟨2, ![16384, 2816]⟩
abbrev S512x1024 : Shape := ⟨2, ![512, 1024]⟩
abbrev S512x2816 : Shape := ⟨2, ![512, 2816]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .f32⟩
  | .hbm, ⟨2, _⟩ => ⟨S2816x1024, .bf16⟩
  | .hbm, ⟨3, _⟩ => ⟨S1x2816x1024, .bf16⟩
  | .hbm, ⟨4, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1x2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefDownDxIdeal.lean ====
abbrev S16384x1024 : Shape := ⟨2, ![16384, 1024]⟩
abbrev S2816x1024 : Shape := ⟨2, ![2816, 1024]⟩
abbrev S_ : Shape := ⟨0, ![]⟩
abbrev S16384x2816 : Shape := ⟨2, ![16384, 2816]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .f32⟩
  | .hbm, ⟨2, _⟩ => ⟨S_, .f32⟩
  | .hbm, ⟨3, _⟩ => ⟨S16384x2816, .f32⟩
  | .hbm, ⟨4, _⟩ => ⟨S16384x1024, .f32⟩
  | .hbm, ⟨5, _⟩ => ⟨S16384x1024, .f32⟩
  | .hbm, ⟨6, _⟩ => ⟨S16384x2816, .f32⟩
  | .hbm, ⟨7, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== RetOut.lean ====
abbrev S16384x2048 : Shape := ⟨2, ![16384, 2048]⟩
abbrev S2048x1024 : Shape := ⟨2, ![2048, 1024]⟩
abbrev S1x2048x1024 : Shape := ⟨3, ![1, 2048, 1024]⟩
abbrev S16384x1024 : Shape := ⟨2, ![16384, 1024]⟩
abbrev S512x2048 : Shape := ⟨2, ![512, 2048]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S2048x1024, .bf16⟩
  | .hbm, ⟨3, _⟩ => ⟨S1x2048x1024, .bf16⟩
  | .hbm, ⟨4, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S512x1024, .f32⟩
  | .local _ .vmem, ⟨4, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi c0_i32_6 arg0
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let c0_i32_14 : BitVec 32 := 0#32
  ![v17.toNat, c0_i32_13.toNat, v28.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefRetOutIdeal.lean ====
abbrev S16384x2048 : Shape := ⟨2, ![16384, 2048]⟩
abbrev S2048x1024 : Shape := ⟨2, ![2048, 1024]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S16384x2048, .f32⟩
  | .hbm, ⟨3, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== RetOutDw.lean ====
abbrev S16384x2048 : Shape := ⟨2, ![16384, 2048]⟩
abbrev S16384x1024 : Shape := ⟨2, ![16384, 1024]⟩
abbrev S1x2048x1024 : Shape := ⟨3, ![1, 2048, 1024]⟩
abbrev S1024x2048 : Shape := ⟨2, ![1024, 2048]⟩
abbrev S1024x512 : Shape := ⟨2, ![1024, 512]⟩
abbrev S1x2048x512 : Shape := ⟨3, ![1, 2048, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S1x2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1x2048x512, .f32⟩
  | .local _ .vmem, ⟨5, _⟩ => ⟨S1x2048x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefRetOutDwIdeal.lean ====
abbrev S16384x2048 : Shape := ⟨2, ![16384, 2048]⟩
abbrev S16384x1024 : Shape := ⟨2, ![16384, 1024]⟩
abbrev S_ : Shape := ⟨0, ![]⟩
abbrev S2048x1024 : Shape := ⟨2, ![2048, 1024]⟩
abbrev S1024x2048 : Shape := ⟨2, ![1024, 2048]⟩
abbrev S1x2048x1024 : Shape := ⟨3, ![1, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S_, .f32⟩
  | .hbm, ⟨3, _⟩ => ⟨S2048x1024, .f32⟩
  | .hbm, ⟨4, _⟩ => ⟨S16384x2048, .f32⟩
  | .hbm, ⟨5, _⟩ => ⟨S16384x1024, .f32⟩
  | .hbm, ⟨6, _⟩ => ⟨S16384x1024, .f32⟩
  | .hbm, ⟨7, _⟩ => ⟨S1024x2048, .f32⟩
  | .hbm, ⟨8, _⟩ => ⟨S2048x1024, .f32⟩
  | .hbm, ⟨9, _⟩ => ⟨S1x2048x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== RetOutDx.lean ====
abbrev S16384x1024 : Shape := ⟨2, ![16384, 1024]⟩
abbrev S2048x1024 : Shape := ⟨2, ![2048, 1024]⟩
abbrev S1x2048x1024 : Shape := ⟨3, ![1, 2048, 1024]⟩
abbrev S16384x2048 : Shape := ⟨2, ![16384, 2048]⟩
abbrev S512x1024 : Shape := ⟨2, ![512, 1024]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S2048x1024, .f32⟩
  | .hbm, ⟨2, _⟩ => ⟨S2048x1024, .bf16⟩
  | .hbm, ⟨3, _⟩ => ⟨S1x2048x1024, .bf16⟩
  | .hbm, ⟨4, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S1x2048x1024, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefRetOutDxIdeal.lean ====
abbrev S16384x1024 : Shape := ⟨2, ![16384, 1024]⟩
abbrev S2048x1024 : Shape := ⟨2, ![2048, 1024]⟩
abbrev S_ : Shape := ⟨0, ![]⟩
abbrev S16384x2048 : Shape := ⟨2, ![16384, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2048x1024, .f32⟩
  | .hbm, ⟨2, _⟩ => ⟨S_, .f32⟩
  | .hbm, ⟨3, _⟩ => ⟨S16384x2048, .f32⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩
abbrev S1x1024x1024 : Shape := ⟨3, ![1, 1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S1024x1024, .bf16⟩
  | .hbm, ⟨3, _⟩ => ⟨S1x1024x1024, .bf16⟩
  | .hbm, ⟨4, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi c0_i32_6 arg0
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let c0_i32_14 : BitVec 32 := 0#32
  ![v17.toNat, c0_i32_13.toNat, v28.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefOutIdeal.lean ====
abbrev S16384x1024 : Shape := ⟨2, ![16384, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutDw.lean ====
abbrev S16384x1024 : Shape := ⟨2, ![16384, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== RefOutDwIdeal.lean ====
abbrev S16384x1024 : Shape := ⟨2, ![16384, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S16384x1024 : Shape := ⟨2, ![16384, 1024]⟩
abbrev S1024x1024 : Shape := ⟨2, ![1024, 1024]⟩
abbrev S1x1024x1024 : Shape := ⟨3, ![1, 1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S1024x1024, .bf16⟩
  | .hbm, ⟨3, _⟩ => ⟨S1x1024x1024, .bf16⟩
  | .hbm, ⟨4, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefOutDxIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S_, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ConvOut.lean ====
abbrev S16384x1024 : Shape := ⟨2, ![16384, 1024]⟩
abbrev S1024x1024 : Shape := ⟨2, ![1024, 1024]⟩
abbrev S1x1024x1024 : Shape := ⟨3, ![1, 1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S1024x1024, .bf16⟩
  | .hbm, ⟨3, _⟩ => ⟨S1x1024x1024, .bf16⟩
  | .hbm, ⟨4, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi c0_i32_6 arg0
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let c0_i32_14 : BitVec 32 := 0#32
  ![v17.toNat, c0_i32_13.toNat, v28.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefConvOutIdeal.lean ====
abbrev S16384x1024 : Shape := ⟨2, ![16384, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ConvOutDw.lean ====
abbrev S16384x1024 : Shape := ⟨2, ![16384, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== RefConvOutDwIdeal.lean ====
abbrev S16384x1024 : Shape := ⟨2, ![16384, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvOutDx.lean ====
abbrev S16384x1024 : Shape := ⟨2, ![16384, 1024]⟩
abbrev S1024x1024 : Shape := ⟨2, ![1024, 1024]⟩
abbrev S1x1024x1024 : Shape := ⟨3, ![1, 1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S1024x1024, .bf16⟩
  | .hbm, ⟨3, _⟩ => ⟨S1x1024x1024, .bf16⟩
  | .hbm, ⟨4, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefConvOutDxIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S_, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.FwdRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers as the call finds them: `m` is the memory at its entry. -/
abbrev V (c : Dev nD) (b : Ref sig .tc) : Buf (Elt F) ((c : Thread nD τ).loc b) := m ((c : Thread nD τ).loc b)

/-! ## The windows' blocks -/

/-- Window `w`'s block at point `t`, in its array at the call's entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Before the body window 0's buffer holds its block, for any data with these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Before the body window 1's buffer holds its block, for any data with these arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Before the body window 2's buffer holds its block, for any data with these arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Before the body window 3's buffer holds its block, for any data with these arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Before the body window 4's buffer holds its block, for any data with these arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Before the body window 5's buffer holds its block, for any data with these arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Before the body window 6's buffer holds its block, for any data with these arrays whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Before the body window 7's buffer holds its block, for any data with these arrays whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Before the body window 8's buffer holds its block, for any data with these arrays whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's branch, from the grid coordinates. -/
abbrev cond0_0 (i : grid0.Coords) : Prop := (Scalar.cmpi .ne (Scalar.extui (Scalar.cmpi .eq (BitVec.ofNat 32 (i 0).val) 0#32)) 0#32) = 1#1
/-- The branch is taken at the first point only. -/
theorem hcond0_0 : ∀ t : Fin cfg0.N, cond0_0 (grid0.coords t) ↔ t.val % 128 = 0 :=
  (fun t => by
    have ht : t.val < 128 := Nat.lt_of_lt_of_eq t.isLt N_0
    have e0 : (grid0.coords t 0).val = t.val / 1 % 128 := Pipeline.Grid.coords_val t 0 (by decide) rfl
    simp only [cond0_0, e0]
    word_cmp
   : ∀ t : Fin grid0.N, cond0_0 (grid0.coords t) ↔ t.val % 128 = 0)

/-! ## The kernel body on any staging memrefs -/

/-- One staging buffer of output window 9, through which its contents are read. -/
abbrev VO0_9 : View sig .tc .vmem S128x2048 .f32 := (Memref.whole cc0_stg9_0 : Memref sig .tc .vmem S128x2048 .f32).view
/-- One staging buffer of output window 10, through which its contents are read. -/
abbrev VO0_10 : View sig .tc .vmem S1x8x128x256 .f32 := (Memref.whole cc0_stg10_0 : Memref sig .tc .vmem S1x8x128x256 .f32).view
/-- Window 0's staging buffer at point `t`. -/
abbrev ms0_0 (t : Fin cfg0.N) : Memref sig .tc .vmem S128x1024 .f32 := win0_0.stage (cfg0.slots t 0)
/-- Window 0's staging buffer is a whole buffer. -/
abbrev hs0_0 (t : Fin cfg0.N) : (ms0_0 t).IsWhole := hstage0_0 ((cfg0.slots t 0).cast nbuf0_0)
/-- Window 1's staging buffer at point `t`. -/
abbrev ms0_1 (t : Fin cfg0.N) : Memref sig .tc .vmem S128x1024 .f32 := win0_1.stage (cfg0.slots t 1)
/-- Window 1's staging buffer is a whole buffer. -/
abbrev hs0_1 (t : Fin cfg0.N) : (ms0_1 t).IsWhole := hstage0_1 ((cfg0.slots t 1).cast nbuf0_1)
/-- Window 2's staging buffer at point `t`. -/
abbrev ms0_2 (t : Fin cfg0.N) : Memref sig .tc .vmem S128x2048 .bf16 := win0_2.stage (cfg0.slots t 2)
/-- Window 2's staging buffer is a whole buffer. -/
abbrev hs0_2 (t : Fin cfg0.N) : (ms0_2 t).IsWhole := hstage0_2 ((cfg0.slots t 2).cast nbuf0_2)
/-- Window 3's staging buffer at point `t`. -/
abbrev ms0_3 (t : Fin cfg0.N) : Memref sig .tc .vmem S128x128 .f32 := win0_3.stage (cfg0.slots t 3)
/-- Window 3's staging buffer is a whole buffer. -/
abbrev hs0_3 (t : Fin cfg0.N) : (ms0_3 t).IsWhole := hstage0_3 ((cfg0.slots t 3).cast nbuf0_3)
/-- Window 4's staging buffer at point `t`. -/
abbrev ms0_4 (t : Fin cfg0.N) : Memref sig .tc .vmem S128x128 .f32 := win0_4.stage (cfg0.slots t 4)
/-- Window 4's staging buffer is a whole buffer. -/
abbrev hs0_4 (t : Fin cfg0.N) : (ms0_4 t).IsWhole := hstage0_4 ((cfg0.slots t 4).cast nbuf0_4)
/-- Window 5's staging buffer at point `t`. -/
abbrev ms0_5 (t : Fin cfg0.N) : Memref sig .tc .vmem S8x128x128 .f32 := win0_5.stage (cfg0.slots t 5)
/-- Window 5's staging buffer is a whole buffer. -/
abbrev hs0_5 (t : Fin cfg0.N) : (ms0_5 t).IsWhole := hstage0_5 ((cfg0.slots t 5).cast nbuf0_5)
/-- Window 6's staging buffer at point `t`. -/
abbrev ms0_6 (t : Fin cfg0.N) : Memref sig .tc .vmem S8x128x128 .f32 := win0_6.stage (cfg0.slots t 6)
/-- Window 6's staging buffer is a whole buffer. -/
abbrev hs0_6 (t : Fin cfg0.N) : (ms0_6 t).IsWhole := hstage0_6 ((cfg0.slots t 6).cast nbuf0_6)
/-- Window 7's staging buffer at point `t`. -/
abbrev ms0_7 (t : Fin cfg0.N) : Memref sig .tc .vmem S8x128x128 .f32 := win0_7.stage (cfg0.slots t 7)
/-- Window 7's staging buffer is a whole buffer. -/
abbrev hs0_7 (t : Fin cfg0.N) : (ms0_7 t).IsWhole := hstage0_7 ((cfg0.slots t 7).cast nbuf0_7)
/-- Window 8's staging buffer at point `t`. -/
abbrev ms0_8 (t : Fin cfg0.N) : Memref sig .tc .vmem S8x8x256 .f32 := win0_8.stage (cfg0.slots t 8)
/-- Window 8's staging buffer is a whole buffer. -/
abbrev hs0_8 (t : Fin cfg0.N) : (ms0_8 t).IsWhole := hstage0_8 ((cfg0.slots t 8).cast nbuf0_8)
/-- Window 9's staging buffer at point `t`. -/
abbrev ms0_9 (t : Fin cfg0.N) : Memref sig .tc .vmem S128x2048 .f32 := win0_9.stage (cfg0.slots t 9)
/-- Window 9's staging buffer is a whole buffer. -/
abbrev hs0_9 (t : Fin cfg0.N) : (ms0_9 t).IsWhole := hstage0_9 ((cfg0.slots t 9).cast nbuf0_9)
/-- Window 10's staging buffer at point `t`. -/
abbrev ms0_10 (t : Fin cfg0.N) : Memref sig .tc .vmem S1x8x128x256 .f32 := win0_10.stage (cfg0.slots t 10)
/-- Window 10's staging buffer is a whole buffer. -/
abbrev hs0_10 (t : Fin cfg0.N) : (ms0_10 t).IsWhole := hstage0_10 ((cfg0.slots t 10).cast nbuf0_10)
/-- The carried state's buffer. -/
abbrev scM0_0 : Memref sig .tc .vmem S8x128x256 .f32 := Memref.whole cc0_scratch0
/-- The carried state's buffer, through which its contents are read. -/
abbrev VS0_0 : View sig .tc .vmem S8x128x256 .f32 := scM0_0.view

/-- What goes along with the call untouched: the other buffers at some contents and the random-number register at some state. -/
def Rst (c : Dev nD) : sProp 𝕄 :=
  iprop(Pipeline.scopedRestBut (Ix := Unit) (Name := ℕ) (U := UR sig nD τ) (Lvl := ℕ) (Val := Elt F) spec0 c [cc0_scratch0] ∗ (∃ r, prngReg c r))

/-- What the call starts with: the carried state's buffer at some contents, and the rest. -/
theorem PhiA0_eq (c : Dev nD) :
    (Pipeline.ΦA spec0 c : sProp 𝕄)
      = iprop(iprop((∃ d, owns (c : Thread nD τ) scM0_0 fullShare d)) ∗ Rst (F := F) c) := by
  unfold Pipeline.ΦA Rst
  rw [Pipeline.scopedRest_split_of_list spec0 c [cc0_scratch0] (by decide) (by decide)]
  simp only [scM0_0, owns_whole]
  exact Entails.antisymm BI.sep_assoc BI.sep_assoc'

end Cert.KernelIdeal.Fwd

end
-- ==== Proof.FwdRunA.lean ====
module

public import proofs.«01_k».proof.Proof.FwdRuns

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The blocks the body's stores leave in each output at the first point, with the proof that the body runs: from the inputs' buffers at their
    contents and the others at anything, to the same inputs and these blocks written. -/
noncomputable def kernelRun0_A (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S8x128x128 .f32) (harg6 : arg6.IsWhole) (arg7 : Memref sig .tc .vmem S8x128x128 .f32) (harg7 : arg7.IsWhole) (arg8 : Memref sig .tc .vmem S8x128x128 .f32) (harg8 : arg8.IsWhole) (arg9 : Memref sig .tc .vmem S8x8x256 .f32) (harg9 : arg9.IsWhole) (arg10 : Memref sig .tc .vmem S128x2048 .f32) (harg10 : arg10.IsWhole) (arg11 : Memref sig .tc .vmem S1x8x128x256 .f32) (harg11 : arg11.IsWhole) (arg12 : Memref sig .tc .vmem S8x128x256 .f32) (harg12 : arg12.IsWhole) (hc0 : cond0_0 i)
    (x0 : Vec F S128x1024 .f32) (x1 : Vec F S128x1024 .f32) (x2 : Vec F S128x2048 .bf16) (x3 : Vec F S128x128 .f32) (x4 : Vec F S128x128 .f32) (x5 : Vec F S8x128x128 .f32) (x6 : Vec F S8x128x128 .f32) (x7 : Vec F S8x128x128 .f32) (x8 : Vec F S8x8x256 .f32) :
    Σ' (L9 : List (View.Piece (Elt F) S128x2048 .f32)), Σ' (L10 : List (View.Piece (Elt F) S1x8x128x256 .f32)), { LS0 : List (View.Piece (Elt F) S8x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc0_retention_fwd i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_retention_fwd_eq_skeleton]; unfold cc0_retention_fwd_skel
    simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS0

end Cert.KernelIdeal.Fwd

end
-- ==== Proof.FwdRunB.lean ====
module

public import proofs.«01_k».proof.Proof.FwdRuns

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The blocks the body's stores leave in each output at a later point, with the proof that the body runs: from the inputs' buffers and the
    carried state at their contents and the others at anything, to the same inputs and these blocks written. -/
noncomputable def kernelRun0_B (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S8x128x128 .f32) (harg6 : arg6.IsWhole) (arg7 : Memref sig .tc .vmem S8x128x128 .f32) (harg7 : arg7.IsWhole) (arg8 : Memref sig .tc .vmem S8x128x128 .f32) (harg8 : arg8.IsWhole) (arg9 : Memref sig .tc .vmem S8x8x256 .f32) (harg9 : arg9.IsWhole) (arg10 : Memref sig .tc .vmem S128x2048 .f32) (harg10 : arg10.IsWhole) (arg11 : Memref sig .tc .vmem S1x8x128x256 .f32) (harg11 : arg11.IsWhole) (arg12 : Memref sig .tc .vmem S8x128x256 .f32) (harg12 : arg12.IsWhole) (hc0 : ¬cond0_0 i)
    (x0 : Vec F S128x1024 .f32) (x1 : Vec F S128x1024 .f32) (x2 : Vec F S128x2048 .bf16) (x3 : Vec F S128x128 .f32) (x4 : Vec F S128x128 .f32) (x5 : Vec F S8x128x128 .f32) (x6 : Vec F S8x128x128 .f32) (x7 : Vec F S8x128x128 .f32) (x8 : Vec F S8x8x256 .f32) (xs0 : Vec F S8x128x256 .f32) :
    Σ' (L9 : List (View.Piece (Elt F) S128x2048 .f32)), Σ' (L10 : List (View.Piece (Elt F) S1x8x128x256 .f32)), { LS0 : List (View.Piece (Elt F) S8x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc0_retention_fwd i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_retention_fwd_eq_skeleton]; unfold cc0_retention_fwd_skel
    simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS0

end Cert.KernelIdeal.Fwd

end
-- ==== Proof.FwdBody.lean ====
module

public import proofs.«01_k».proof.Proof.FwdRunA
public import proofs.«01_k».proof.Proof.FwdRunB

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-- The blocks case A stores into output 9 fill its staging buffer. -/
theorem cover0_A_9 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S8x128x128 .f32) (harg6 : arg6.IsWhole) (arg7 : Memref sig .tc .vmem S8x128x128 .f32) (harg7 : arg7.IsWhole) (arg8 : Memref sig .tc .vmem S8x128x128 .f32) (harg8 : arg8.IsWhole) (arg9 : Memref sig .tc .vmem S8x8x256 .f32) (harg9 : arg9.IsWhole) (arg10 : Memref sig .tc .vmem S128x2048 .f32) (harg10 : arg10.IsWhole) (arg11 : Memref sig .tc .vmem S1x8x128x256 .f32) (harg11 : arg11.IsWhole) (arg12 : Memref sig .tc .vmem S8x128x256 .f32) (harg12 : arg12.IsWhole) (hc0 : cond0_0 i)
    (x0 : Vec F S128x1024 .f32) (x1 : Vec F S128x1024 .f32) (x2 : Vec F S128x2048 .bf16) (x3 : Vec F S128x128 .f32) (x4 : Vec F S128x128 .f32) (x5 : Vec F S8x128x128 .f32) (x6 : Vec F S8x128x128 .f32) (x7 : Vec F S8x128x128 .f32) (x8 : Vec F S8x8x256 .f32) (y : S128x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1 S128x256.size (by sl_kernel_rfl) y

/-- What case A leaves in output 9's staging buffer. -/
def out0_A_9 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S8x128x128 .f32) (harg6 : arg6.IsWhole) (arg7 : Memref sig .tc .vmem S8x128x128 .f32) (harg7 : arg7.IsWhole) (arg8 : Memref sig .tc .vmem S8x128x128 .f32) (harg8 : arg8.IsWhole) (arg9 : Memref sig .tc .vmem S8x8x256 .f32) (harg9 : arg9.IsWhole) (arg10 : Memref sig .tc .vmem S128x2048 .f32) (harg10 : arg10.IsWhole) (arg11 : Memref sig .tc .vmem S1x8x128x256 .f32) (harg11 : arg11.IsWhole) (arg12 : Memref sig .tc .vmem S8x128x256 .f32) (harg12 : arg12.IsWhole) (hc0 : cond0_0 i)
    (x0 : Vec F S128x1024 .f32) (x1 : Vec F S128x1024 .f32) (x2 : Vec F S128x2048 .bf16) (x3 : Vec F S128x128 .f32) (x4 : Vec F S128x128 .f32) (x5 : Vec F S8x128x128 .f32) (x6 : Vec F S8x128x128 .f32) (x7 : Vec F S8x128x128 .f32) (x8 : Vec F S8x8x256 .f32) : Vec F S128x2048 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1)

/-- The blocks case A stores into output 10 fill its staging buffer. -/
theorem cover0_A_10 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S8x128x128 .f32) (harg6 : arg6.IsWhole) (arg7 : Memref sig .tc .vmem S8x128x128 .f32) (harg7 : arg7.IsWhole) (arg8 : Memref sig .tc .vmem S8x128x128 .f32) (harg8 : arg8.IsWhole) (arg9 : Memref sig .tc .vmem S8x8x256 .f32) (harg9 : arg9.IsWhole) (arg10 : Memref sig .tc .vmem S128x2048 .f32) (harg10 : arg10.IsWhole) (arg11 : Memref sig .tc .vmem S1x8x128x256 .f32) (harg11 : arg11.IsWhole) (arg12 : Memref sig .tc .vmem S8x128x256 .f32) (harg12 : arg12.IsWhole) (hc0 : cond0_0 i)
    (x0 : Vec F S128x1024 .f32) (x1 : Vec F S128x1024 .f32) (x2 : Vec F S128x2048 .bf16) (x3 : Vec F S128x128 .f32) (x4 : Vec F S128x128 .f32) (x5 : Vec F S8x128x128 .f32) (x6 : Vec F S8x128x128 .f32) (x7 : Vec F S8x128x128 .f32) (x8 : Vec F S8x8x256 .f32) (y : S1x8x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1 S1x1x128x256.size (by sl_kernel_rfl) y

/-- What case A leaves in output 10's staging buffer. -/
def out0_A_10 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S8x128x128 .f32) (harg6 : arg6.IsWhole) (arg7 : Memref sig .tc .vmem S8x128x128 .f32) (harg7 : arg7.IsWhole) (arg8 : Memref sig .tc .vmem S8x128x128 .f32) (harg8 : arg8.IsWhole) (arg9 : Memref sig .tc .vmem S8x8x256 .f32) (harg9 : arg9.IsWhole) (arg10 : Memref sig .tc .vmem S128x2048 .f32) (harg10 : arg10.IsWhole) (arg11 : Memref sig .tc .vmem S1x8x128x256 .f32) (harg11 : arg11.IsWhole) (arg12 : Memref sig .tc .vmem S8x128x256 .f32) (harg12 : arg12.IsWhole) (hc0 : cond0_0 i)
    (x0 : Vec F S128x1024 .f32) (x1 : Vec F S128x1024 .f32) (x2 : Vec F S128x2048 .bf16) (x3 : Vec F S128x128 .f32) (x4 : Vec F S128x128 .f32) (x5 : Vec F S8x128x128 .f32) (x6 : Vec F S8x128x128 .f32) (x7 : Vec F S8x128x128 .f32) (x8 : Vec F S8x8x256 .f32) : Vec F S1x8x128x256 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1)

/-- The blocks case A stores into the carried state fill it. -/
theorem scover0_A_0 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S8x128x128 .f32) (harg6 : arg6.IsWhole) (arg7 : Memref sig .tc .vmem S8x128x128 .f32) (harg7 : arg7.IsWhole) (arg8 : Memref sig .tc .vmem S8x128x128 .f32) (harg8 : arg8.IsWhole) (arg9 : Memref sig .tc .vmem S8x8x256 .f32) (harg9 : arg9.IsWhole) (arg10 : Memref sig .tc .vmem S128x2048 .f32) (harg10 : arg10.IsWhole) (arg11 : Memref sig .tc .vmem S1x8x128x256 .f32) (harg11 : arg11.IsWhole) (arg12 : Memref sig .tc .vmem S8x128x256 .f32) (harg12 : arg12.IsWhole) (hc0 : cond0_0 i)
    (x0 : Vec F S128x1024 .f32) (x1 : Vec F S128x1024 .f32) (x2 : Vec F S128x2048 .bf16) (x3 : Vec F S128x128 .f32) (x4 : Vec F S128x128 .f32) (x5 : Vec F S8x128x128 .f32) (x6 : Vec F S8x128x128 .f32) (x7 : Vec F S8x128x128 .f32) (x8 : Vec F S8x8x256 .f32) (y : S8x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.2.1 (by sl_whole_mem) y

/-- What case A leaves in the carried state. -/
def sout0_A_0 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S8x128x128 .f32) (harg6 : arg6.IsWhole) (arg7 : Memref sig .tc .vmem S8x128x128 .f32) (harg7 : arg7.IsWhole) (arg8 : Memref sig .tc .vmem S8x128x128 .f32) (harg8 : arg8.IsWhole) (arg9 : Memref sig .tc .vmem S8x8x256 .f32) (harg9 : arg9.IsWhole) (arg10 : Memref sig .tc .vmem S128x2048 .f32) (harg10 : arg10.IsWhole) (arg11 : Memref sig .tc .vmem S1x8x128x256 .f32) (harg11 : arg11.IsWhole) (arg12 : Memref sig .tc .vmem S8x128x256 .f32) (harg12 : arg12.IsWhole) (hc0 : cond0_0 i)
    (x0 : Vec F S128x1024 .f32) (x1 : Vec F S128x1024 .f32) (x2 : Vec F S128x2048 .bf16) (x3 : Vec F S128x128 .f32) (x4 : Vec F S128x128 .f32) (x5 : Vec F S8x128x128 .f32) (x6 : Vec F S8x128x128 .f32) (x7 : Vec F S8x128x128 .f32) (x8 : Vec F S8x8x256 .f32) : Vec F S8x128x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.2.1)

/-- The blocks case B stores into output 9 fill its staging buffer. -/
theorem cover0_B_9 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S8x128x128 .f32) (harg6 : arg6.IsWhole) (arg7 : Memref sig .tc .vmem S8x128x128 .f32) (harg7 : arg7.IsWhole) (arg8 : Memref sig .tc .vmem S8x128x128 .f32) (harg8 : arg8.IsWhole) (arg9 : Memref sig .tc .vmem S8x8x256 .f32) (harg9 : arg9.IsWhole) (arg10 : Memref sig .tc .vmem S128x2048 .f32) (harg10 : arg10.IsWhole) (arg11 : Memref sig .tc .vmem S1x8x128x256 .f32) (harg11 : arg11.IsWhole) (arg12 : Memref sig .tc .vmem S8x128x256 .f32) (harg12 : arg12.IsWhole) (hc0 : ¬cond0_0 i)
    (x0 : Vec F S128x1024 .f32) (x1 : Vec F S128x1024 .f32) (x2 : Vec F S128x2048 .bf16) (x3 : Vec F S128x128 .f32) (x4 : Vec F S128x128 .f32) (x5 : Vec F S8x128x128 .f32) (x6 : Vec F S8x128x128 .f32) (x7 : Vec F S8x128x128 .f32) (x8 : Vec F S8x8x256 .f32) (xs0 : Vec F S8x128x256 .f32) (y : S128x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0).1 S128x256.size (by sl_kernel_rfl) y

/-- What case B leaves in output 9's staging buffer. -/
def out0_B_9 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S8x128x128 .f32) (harg6 : arg6.IsWhole) (arg7 : Memref sig .tc .vmem S8x128x128 .f32) (harg7 : arg7.IsWhole) (arg8 : Memref sig .tc .vmem S8x128x128 .f32) (harg8 : arg8.IsWhole) (arg9 : Memref sig .tc .vmem S8x8x256 .f32) (harg9 : arg9.IsWhole) (arg10 : Memref sig .tc .vmem S128x2048 .f32) (harg10 : arg10.IsWhole) (arg11 : Memref sig .tc .vmem S1x8x128x256 .f32) (harg11 : arg11.IsWhole) (arg12 : Memref sig .tc .vmem S8x128x256 .f32) (harg12 : arg12.IsWhole) (hc0 : ¬cond0_0 i)
    (x0 : Vec F S128x1024 .f32) (x1 : Vec F S128x1024 .f32) (x2 : Vec F S128x2048 .bf16) (x3 : Vec F S128x128 .f32) (x4 : Vec F S128x128 .f32) (x5 : Vec F S8x128x128 .f32) (x6 : Vec F S8x128x128 .f32) (x7 : Vec F S8x128x128 .f32) (x8 : Vec F S8x8x256 .f32) (xs0 : Vec F S8x128x256 .f32) : Vec F S128x2048 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0).1)

/-- The blocks case B stores into output 10 fill its staging buffer. -/
theorem cover0_B_10 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S8x128x128 .f32) (harg6 : arg6.IsWhole) (arg7 : Memref sig .tc .vmem S8x128x128 .f32) (harg7 : arg7.IsWhole) (arg8 : Memref sig .tc .vmem S8x128x128 .f32) (harg8 : arg8.IsWhole) (arg9 : Memref sig .tc .vmem S8x8x256 .f32) (harg9 : arg9.IsWhole) (arg10 : Memref sig .tc .vmem S128x2048 .f32) (harg10 : arg10.IsWhole) (arg11 : Memref sig .tc .vmem S1x8x128x256 .f32) (harg11 : arg11.IsWhole) (arg12 : Memref sig .tc .vmem S8x128x256 .f32) (harg12 : arg12.IsWhole) (hc0 : ¬cond0_0 i)
    (x0 : Vec F S128x1024 .f32) (x1 : Vec F S128x1024 .f32) (x2 : Vec F S128x2048 .bf16) (x3 : Vec F S128x128 .f32) (x4 : Vec F S128x128 .f32) (x5 : Vec F S8x128x128 .f32) (x6 : Vec F S8x128x128 .f32) (x7 : Vec F S8x128x128 .f32) (x8 : Vec F S8x8x256 .f32) (xs0 : Vec F S8x128x256 .f32) (y : S1x8x128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0).2.1 S1x1x128x256.size (by sl_kernel_rfl) y

/-- What case B leaves in output 10's staging buffer. -/
def out0_B_10 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S8x128x128 .f32) (harg6 : arg6.IsWhole) (arg7 : Memref sig .tc .vmem S8x128x128 .f32) (harg7 : arg7.IsWhole) (arg8 : Memref sig .tc .vmem S8x128x128 .f32) (harg8 : arg8.IsWhole) (arg9 : Memref sig .tc .vmem S8x8x256 .f32) (harg9 : arg9.IsWhole) (arg10 : Memref sig .tc .vmem S128x2048 .f32) (harg10 : arg10.IsWhole) (arg11 : Memref sig .tc .vmem S1x8x128x256 .f32) (harg11 : arg11.IsWhole) (arg12 : Memref sig .tc .vmem S8x128x256 .f32) (harg12 : arg12.IsWhole) (hc0 : ¬cond0_0 i)
    (x0 : Vec F S128x1024 .f32) (x1 : Vec F S128x1024 .f32) (x2 : Vec F S128x2048 .bf16) (x3 : Vec F S128x128 .f32) (x4 : Vec F S128x128 .f32) (x5 : Vec F S8x128x128 .f32) (x6 : Vec F S8x128x128 .f32) (x7 : Vec F S8x128x128 .f32) (x8 : Vec F S8x8x256 .f32) (xs0 : Vec F S8x128x256 .f32) : Vec F S1x8x128x256 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0).2.1)

/-- The blocks case B stores into the carried state fill it. -/
theorem scover0_B_0 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S8x128x128 .f32) (harg6 : arg6.IsWhole) (arg7 : Memref sig .tc .vmem S8x128x128 .f32) (harg7 : arg7.IsWhole) (arg8 : Memref sig .tc .vmem S8x128x128 .f32) (harg8 : arg8.IsWhole) (arg9 : Memref sig .tc .vmem S8x8x256 .f32) (harg9 : arg9.IsWhole) (arg10 : Memref sig .tc .vmem S128x2048 .f32) (harg10 : arg10.IsWhole) (arg11 : Memref sig .tc .vmem S1x8x128x256 .f32) (harg11 : arg11.IsWhole) (arg12 : Memref sig .tc .vmem S8x128x256 .f32) (harg12 : arg12.IsWhole) (hc0 : ¬cond0_0 i)
    (x0 : Vec F S128x1024 .f32) (x1 : Vec F S128x1024 .f32) (x2 : Vec F S128x2048 .bf16) (x3 : Vec F S128x128 .f32) (x4 : Vec F S128x128 .f32) (x5 : Vec F S8x128x128 .f32) (x6 : Vec F S8x128x128 .f32) (x7 : Vec F S8x128x128 .f32) (x8 : Vec F S8x8x256 .f32) (xs0 : Vec F S8x128x256 .f32) (y : S8x128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0).2.2.1 S1x128x256.size (by sl_kernel_rfl) y

/-- What case B leaves in the carried state. -/
def sout0_B_0 (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S8x128x128 .f32) (harg6 : arg6.IsWhole) (arg7 : Memref sig .tc .vmem S8x128x128 .f32) (harg7 : arg7.IsWhole) (arg8 : Memref sig .tc .vmem S8x128x128 .f32) (harg8 : arg8.IsWhole) (arg9 : Memref sig .tc .vmem S8x8x256 .f32) (harg9 : arg9.IsWhole) (arg10 : Memref sig .tc .vmem S128x2048 .f32) (harg10 : arg10.IsWhole) (arg11 : Memref sig .tc .vmem S1x8x128x256 .f32) (harg11 : arg11.IsWhole) (arg12 : Memref sig .tc .vmem S8x128x256 .f32) (harg12 : arg12.IsWhole) (hc0 : ¬cond0_0 i)
    (x0 : Vec F S128x1024 .f32) (x1 : Vec F S128x1024 .f32) (x2 : Vec F S128x2048 .bf16) (x3 : Vec F S128x128 .f32) (x4 : Vec F S128x128 .f32) (x5 : Vec F S8x128x128 .f32) (x6 : Vec F S8x128x128 .f32) (x7 : Vec F S8x128x128 .f32) (x8 : Vec F S8x8x256 .f32) (xs0 : Vec F S8x128x256 .f32) : Vec F S8x128x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0).2.2.1)

/-! ## What the outputs hold after each point -/

/-- What the outputs' staging buffers and the carried state hold after the body at position `n`: at the first point those of case A, at a
    later one those of case B from what the point before left. -/
def outsAt0 (c : Dev nD) : (n : ℕ) → n < cfg0.N → Vec F S128x2048 .f32 × Vec F S1x8x128x256 .f32 × Vec F S8x128x256 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 128 = 0 then
      (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2)

/-- At the first point these are the contents of case A. -/
theorem outsAt0_A (c : Dev nD) (t : Fin cfg0.N) (h0 : t.val % 128 = 0) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans rfl

/-- At a later point these are the contents of case B, from what the point before left. -/
theorem outsAt0_B (c : Dev nD) (t : Fin cfg0.N) (h0 : ¬t.val % 128 = 0) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- What is held before position `n` beside the windows: before the first point the scratch at anything, afterwards the carried state as the
    point before left it, the other buffers at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ Rst (F := F) c)

/-- Before the first point: what the call starts with. -/
theorem PhiS_zero (c : Dev nD) (n : ℕ) (h : n ≤ cfg0.N) (hz : n = 0) : PhiS m c n h = Pipeline.ΦA spec0 c := by
  subst hz; rfl

/-- After point `n`: the carried state as that point leaves it. -/
theorem PhiS_succ (c : Dev nD) (n : ℕ) (hn : n < cfg0.N) :
    PhiS m c (n + 1) hn = iprop(iprop(owns (c : Thread nD τ) scM0_0 fullShare ((outsAt0 m c n hn).2.2)) ∗ Rst (F := F) c) := rfl

/-- Before a later point: the carried state as the point before left it. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ Rst (F := F) c) := by
  cases n with
  | zero => exact absurd rfl hz
  | succ n => rfl

/-! ## The pipeline's proof data -/

/-- The data of the call on device `c`: its arrays as the memory at its entry holds them; after a point each input's buffer at its block and
    each output's at what the body leaves; nothing owed. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
  Φ t := PhiS m c t.val (Nat.le_of_lt_succ t.isLt)
  q w := Pipeline.shareOf spec0 w
  owed _ := 0

/-- The arrays are those the memory at the call's entry holds. -/
theorem A_eq (c : Dev nD) (w : Fin cfg0.W) : (dat m c).A w = V m c (Pipeline.arrRef spec0 w) := by
  dsimp only [dat]

/-- What is held at a point's start, by the point's number. -/
theorem PhiS_castSucc (c : Dev nD) (t : Fin cfg0.N) :
    (dat m c).Φ t.castSucc = PhiS m c t.val (Nat.le_of_lt t.isLt) := by
  dsimp only [dat]; exact Pipeline.Dat.Φ_castSucc (PhiS m c) t

/-- The body leaves window 0 at its block. -/
theorem after0_0 (c : Dev nD) (t : Fin cfg0.N) : (dat m c).after 0 t = iblk m c 0 t := by dsimp only [dat]
/-- The body leaves window 1 at its block. -/
theorem after0_1 (c : Dev nD) (t : Fin cfg0.N) : (dat m c).after 1 t = iblk m c 1 t := by dsimp only [dat]
/-- The body leaves window 2 at its block. -/
theorem after0_2 (c : Dev nD) (t : Fin cfg0.N) : (dat m c).after 2 t = iblk m c 2 t := by dsimp only [dat]
/-- The body leaves window 3 at its block. -/
theorem after0_3 (c : Dev nD) (t : Fin cfg0.N) : (dat m c).after 3 t = iblk m c 3 t := by dsimp only [dat]
/-- The body leaves window 4 at its block. -/
theorem after0_4 (c : Dev nD) (t : Fin cfg0.N) : (dat m c).after 4 t = iblk m c 4 t := by dsimp only [dat]
/-- The body leaves window 5 at its block. -/
theorem after0_5 (c : Dev nD) (t : Fin cfg0.N) : (dat m c).after 5 t = iblk m c 5 t := by dsimp only [dat]
/-- The body leaves window 6 at its block. -/
theorem after0_6 (c : Dev nD) (t : Fin cfg0.N) : (dat m c).after 6 t = iblk m c 6 t := by dsimp only [dat]
/-- The body leaves window 7 at its block. -/
theorem after0_7 (c : Dev nD) (t : Fin cfg0.N) : (dat m c).after 7 t = iblk m c 7 t := by dsimp only [dat]
/-- The body leaves window 8 at its block. -/
theorem after0_8 (c : Dev nD) (t : Fin cfg0.N) : (dat m c).after 8 t = iblk m c 8 t := by dsimp only [dat]
/-- The body leaves output 9 at what the point computes. -/
theorem after0_9 (c : Dev nD) (t : Fin cfg0.N) : (dat m c).after 9 t = (outsAt0 m c t.val t.isLt).1 := by dsimp only [dat]
/-- The body leaves output 10 at what the point computes. -/
theorem after0_10 (c : Dev nD) (t : Fin cfg0.N) : (dat m c).after 10 t = (outsAt0 m c t.val t.isLt).2.1 := by dsimp only [dat]

/-- Before the body window 0's buffer holds its block. -/
theorem before0_0 (c : Dev nD) (t : Fin cfg0.N) (d) : (dat m c).before 0 t d = iblk m c 0 t :=
  before0_0_of m (dat m c) (A_eq m c 0) (after0_0 m c) t d
/-- Before the body window 1's buffer holds its block. -/
theorem before0_1 (c : Dev nD) (t : Fin cfg0.N) (d) : (dat m c).before 1 t d = iblk m c 1 t :=
  before0_1_of m (dat m c) (A_eq m c 1) (after0_1 m c) t d
/-- Before the body window 2's buffer holds its block. -/
theorem before0_2 (c : Dev nD) (t : Fin cfg0.N) (d) : (dat m c).before 2 t d = iblk m c 2 t :=
  before0_2_of m (dat m c) (A_eq m c 2) (after0_2 m c) t d
/-- Before the body window 3's buffer holds its block. -/
theorem before0_3 (c : Dev nD) (t : Fin cfg0.N) (d) : (dat m c).before 3 t d = iblk m c 3 t :=
  before0_3_of m (dat m c) (A_eq m c 3) (after0_3 m c) t d
/-- Before the body window 4's buffer holds its block. -/
theorem before0_4 (c : Dev nD) (t : Fin cfg0.N) (d) : (dat m c).before 4 t d = iblk m c 4 t :=
  before0_4_of m (dat m c) (A_eq m c 4) (after0_4 m c) t d
/-- Before the body window 5's buffer holds its block. -/
theorem before0_5 (c : Dev nD) (t : Fin cfg0.N) (d) : (dat m c).before 5 t d = iblk m c 5 t :=
  before0_5_of m (dat m c) (A_eq m c 5) (after0_5 m c) t d
/-- Before the body window 6's buffer holds its block. -/
theorem before0_6 (c : Dev nD) (t : Fin cfg0.N) (d) : (dat m c).before 6 t d = iblk m c 6 t :=
  before0_6_of m (dat m c) (A_eq m c 6) (after0_6 m c) t d
/-- Before the body window 7's buffer holds its block. -/
theorem before0_7 (c : Dev nD) (t : Fin cfg0.N) (d) : (dat m c).before 7 t d = iblk m c 7 t :=
  before0_7_of m (dat m c) (A_eq m c 7) (after0_7 m c) t d
/-- Before the body window 8's buffer holds its block. -/
theorem before0_8 (c : Dev nD) (t : Fin cfg0.N) (d) : (dat m c).before 8 t d = iblk m c 8 t :=
  before0_8_of m (dat m c) (A_eq m c 8) (after0_8 m c) t d

/-! ## The body obligation, at a generic point -/

/-- What the body is called with at point `t`: every window's buffer at its contents before the point. -/
def bodyPre (c : Dev nD) (t : Fin cfg0.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d))
    ∗ (∃ d, owns (c : Thread nD τ) (ms0_5 t) fullShare ((dat m c).before 5 t d))
    ∗ (∃ d, owns (c : Thread nD τ) (ms0_6 t) fullShare ((dat m c).before 6 t d))
    ∗ (∃ d, owns (c : Thread nD τ) (ms0_7 t) fullShare ((dat m c).before 7 t d))
    ∗ (∃ d, owns (c : Thread nD τ) (ms0_8 t) fullShare ((dat m c).before 8 t d))
    ∗ (∃ d, owns (c : Thread nD τ) (ms0_9 t) fullShare ((dat m c).before 9 t d))
    ∗ (∃ d, owns (c : Thread nD τ) (ms0_10 t) fullShare ((dat m c).before 10 t d)))

/-- What the body returns at point `t`: every window's buffer at its contents after the point. -/
def bodyPost (c : Dev nD) (t : Fin cfg0.N) : sProp 𝕄 :=
  iprop((dat m c).Φ t.succ ∗ (dat m c).owesAt () t.succ
    ∗ owns (c : Thread nD τ) (ms0_0 t) fullShare ((dat m c).after 0 t)
    ∗ owns (c : Thread nD τ) (ms0_1 t) fullShare ((dat m c).after 1 t)
    ∗ owns (c : Thread nD τ) (ms0_2 t) fullShare ((dat m c).after 2 t)
    ∗ owns (c : Thread nD τ) (ms0_3 t) fullShare ((dat m c).after 3 t)
    ∗ owns (c : Thread nD τ) (ms0_4 t) fullShare ((dat m c).after 4 t)
    ∗ owns (c : Thread nD τ) (ms0_5 t) fullShare ((dat m c).after 5 t)
    ∗ owns (c : Thread nD τ) (ms0_6 t) fullShare ((dat m c).after 6 t)
    ∗ owns (c : Thread nD τ) (ms0_7 t) fullShare ((dat m c).after 7 t)
    ∗ owns (c : Thread nD τ) (ms0_8 t) fullShare ((dat m c).after 8 t)
    ∗ owns (c : Thread nD τ) (ms0_9 t) fullShare ((dat m c).after 9 t)
    ∗ owns (c : Thread nD τ) (ms0_10 t) fullShare ((dat m c).after 10 t))

set_option maxHeartbeats 9600000 in
/-- The body runs at every point: the first point is of case A, the others are of case B, and each case's run leaves the buffers as stated. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dat m c).owesAt () t.succ = (dat m c).owesAt () t.castSucc from rfl,
    after0_0, after0_1, after0_2, after0_3, after0_4, after0_5, after0_6, after0_7, after0_8, after0_9, after0_10]
  rw [show (dat m c).Φ t.succ = PhiS m c (t.val + 1) t.isLt from rfl, PhiS_succ]
  have hN : t.val < 128 := lt_of_lt_of_eq t.isLt (show cfg0.N = 128 from N_0)
  by_cases h0 : t.val % 128 = 0
  · by_cases hz : t.val = 0
    · rw [PhiS_castSucc m c t, PhiS_zero m c _ _ hz, PhiA0_eq]
      rw [outsAt0_A m c t h0]
      unfold out0_A_9 out0_A_10 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      iintro ⟨H0, H1, H2, H3, H4, H5, H6, H7, H8, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _)
    · exfalso; have hN : t.val < 128 := lt_of_lt_of_eq t.isLt (show cfg0.N = 128 from N_0); omega
  · by_cases hz : t.val = 0
    · exfalso; have hN : t.val < 128 := lt_of_lt_of_eq t.isLt (show cfg0.N = 128 from N_0); omega
    · rw [PhiS_castSucc m c t, PhiS_pos m c _ _ hz]
      rw [outsAt0_B m c t h0]
      unfold out0_B_9 out0_B_10 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      iintro ⟨H0, H1, H2, H3, H4, H5, H6, H7, H8, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _)

/-- The call's body at point `t`, on that point's buffers. -/
theorem defs₀_row (t : Fin cfg0.N) :
    defs₀ (F := F) .tc cfg0.body (cfg0.bodyArgs t (cfg0.slots t)) = bodyAt0 t := by
  unfold defs₀; rw [Defs.onTc_tc]

/-- The body does at every point what the call's data say. -/
theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

/-- What the call starts with is what is held before the first point. -/
theorem hin (c : Dev nD) : Pipeline.ΦA spec0 c ⊢ (dat m c).Φ 0 := by
  rw [show (dat m c).Φ 0 = PhiS m c 0 (Nat.zero_le _) from rfl, PhiS_zero m c 0 _ rfl]
  try exact Idealize.SL.BI.Entails.refl _

/-- After a point what is held gives back what the call started with, the carried state's contents forgotten. -/
theorem Phi_out (c : Dev nD) (t : Fin (cfg0.N + 1)) (ht : t.val ≠ 0) : (dat m c).Φ t ⊢ Pipeline.ΦA spec0 c := by
  rw [show (dat m c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dat m c).Φ (Fin.last cfg0.N) ⊢ Pipeline.ΦA spec0 c :=
  Phi_out m c _ (by rw [Fin.val_last]; have : cfg0.N = 128 := N_0; omega)

end Cert.KernelIdeal.Fwd

end
-- ==== Proof.BwdRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers as the call finds them: `m` is the memory at its entry. -/
abbrev V (c : Dev nD) (b : Ref sig .tc) : Buf (Elt F) ((c : Thread nD τ).loc b) := m ((c : Thread nD τ).loc b)

/-! ## The windows' blocks -/

/-- Window `w`'s block at point `t`, in its array at the call's entry. -/
def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

/-- Before the body window 0's buffer holds its block, for any data with these arrays whose body leaves the block in place. -/
theorem before1_0_of {c : Dev nD} (dat : Dat τ (Elt F) Unit ℕ (UR sig nD τ) ℕ cfg1 c) (hA : dat.A 0 = V m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Before the body window 1's buffer holds its block, for any data with these arrays whose body leaves the block in place. -/
theorem before1_1_of {c : Dev nD} (dat : Dat τ (Elt F) Unit ℕ (UR sig nD τ) ℕ cfg1 c) (hA : dat.A 1 = V m c (Pipeline.arrRef spec1 1))
    (hafter : ∀ t, dat.after 1 t = iblk m c 1 t) (t : Fin cfg1.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Before the body window 2's buffer holds its block, for any data with these arrays whose body leaves the block in place. -/
theorem before1_2_of {c : Dev nD} (dat : Dat τ (Elt F) Unit ℕ (UR sig nD τ) ℕ cfg1 c) (hA : dat.A 2 = V m c (Pipeline.arrRef spec1 2))
    (hafter : ∀ t, dat.after 2 t = iblk m c 2 t) (t : Fin cfg1.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Before the body window 3's buffer holds its block, for any data with these arrays whose body leaves the block in place. -/
theorem before1_3_of {c : Dev nD} (dat : Dat τ (Elt F) Unit ℕ (UR sig nD τ) ℕ cfg1 c) (hA : dat.A 3 = V m c (Pipeline.arrRef spec1 3))
    (hafter : ∀ t, dat.after 3 t = iblk m c 3 t) (t : Fin cfg1.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Before the body window 4's buffer holds its block, for any data with these arrays whose body leaves the block in place. -/
theorem before1_4_of {c : Dev nD} (dat : Dat τ (Elt F) Unit ℕ (UR sig nD τ) ℕ cfg1 c) (hA : dat.A 4 = V m c (Pipeline.arrRef spec1 4))
    (hafter : ∀ t, dat.after 4 t = iblk m c 4 t) (t : Fin cfg1.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Before the body window 5's buffer holds its block, for any data with these arrays whose body leaves the block in place. -/
theorem before1_5_of {c : Dev nD} (dat : Dat τ (Elt F) Unit ℕ (UR sig nD τ) ℕ cfg1 c) (hA : dat.A 5 = V m c (Pipeline.arrRef spec1 5))
    (hafter : ∀ t, dat.after 5 t = iblk m c 5 t) (t : Fin cfg1.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Before the body window 6's buffer holds its block, for any data with these arrays whose body leaves the block in place. -/
theorem before1_6_of {c : Dev nD} (dat : Dat τ (Elt F) Unit ℕ (UR sig nD τ) ℕ cfg1 c) (hA : dat.A 6 = V m c (Pipeline.arrRef spec1 6))
    (hafter : ∀ t, dat.after 6 t = iblk m c 6 t) (t : Fin cfg1.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Before the body window 7's buffer holds its block, for any data with these arrays whose body leaves the block in place. -/
theorem before1_7_of {c : Dev nD} (dat : Dat τ (Elt F) Unit ℕ (UR sig nD τ) ℕ cfg1 c) (hA : dat.A 7 = V m c (Pipeline.arrRef spec1 7))
    (hafter : ∀ t, dat.after 7 t = iblk m c 7 t) (t : Fin cfg1.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Before the body window 8's buffer holds its block, for any data with these arrays whose body leaves the block in place. -/
theorem before1_8_of {c : Dev nD} (dat : Dat τ (Elt F) Unit ℕ (UR sig nD τ) ℕ cfg1 c) (hA : dat.A 8 = V m c (Pipeline.arrRef spec1 8))
    (hafter : ∀ t, dat.after 8 t = iblk m c 8 t) (t : Fin cfg1.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Before the body window 9's buffer holds its block, for any data with these arrays whose body leaves the block in place. -/
theorem before1_9_of {c : Dev nD} (dat : Dat τ (Elt F) Unit ℕ (UR sig nD τ) ℕ cfg1 c) (hA : dat.A 9 = V m c (Pipeline.arrRef spec1 9))
    (hafter : ∀ t, dat.after 9 t = iblk m c 9 t) (t : Fin cfg1.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Before the body window 10's buffer holds its block, for any data with these arrays whose body leaves the block in place. -/
theorem before1_10_of {c : Dev nD} (dat : Dat τ (Elt F) Unit ℕ (UR sig nD τ) ℕ cfg1 c) (hA : dat.A 10 = V m c (Pipeline.arrRef spec1 10))
    (hafter : ∀ t, dat.after 10 t = iblk m c 10 t) (t : Fin cfg1.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's branch, from the grid coordinates. -/
abbrev cond1_0 (i : grid1.Coords) : Prop := (Scalar.cmpi .ne (Scalar.extui (Scalar.cmpi .eq (BitVec.ofNat 32 (i 0).val) 0#32)) 0#32) = 1#1
/-- The branch is taken at the first point only. -/
theorem hcond1_0 : ∀ t : Fin cfg1.N, cond1_0 (grid1.coords t) ↔ t.val % 128 = 0 :=
  (fun t => by
    have ht : t.val < 128 := Nat.lt_of_lt_of_eq t.isLt N_1
    have e0 : (grid1.coords t 0).val = t.val / 1 % 128 := Pipeline.Grid.coords_val t 0 (by decide) rfl
    simp only [cond1_0, e0]
    word_cmp
   : ∀ t : Fin grid1.N, cond1_0 (grid1.coords t) ↔ t.val % 128 = 0)

/-! ## The kernel body on any staging memrefs -/

/-- One staging buffer of output window 11, through which its contents are read. -/
abbrev VO1_11 : View sig .tc .vmem S128x4096 .bf16 := (Memref.whole cc1_stg11_0 : Memref sig .tc .vmem S128x4096 .bf16).view
/-- Window 0's staging buffer at point `t`. -/
abbrev ms1_0 (t : Fin cfg1.N) : Memref sig .tc .vmem S128x1024 .f32 := win1_0.stage (cfg1.slots t 0)
/-- Window 0's staging buffer is a whole buffer. -/
abbrev hs1_0 (t : Fin cfg1.N) : (ms1_0 t).IsWhole := hstage1_0 ((cfg1.slots t 0).cast nbuf1_0)
/-- Window 1's staging buffer at point `t`. -/
abbrev ms1_1 (t : Fin cfg1.N) : Memref sig .tc .vmem S128x1024 .f32 := win1_1.stage (cfg1.slots t 1)
/-- Window 1's staging buffer is a whole buffer. -/
abbrev hs1_1 (t : Fin cfg1.N) : (ms1_1 t).IsWhole := hstage1_1 ((cfg1.slots t 1).cast nbuf1_1)
/-- Window 2's staging buffer at point `t`. -/
abbrev ms1_2 (t : Fin cfg1.N) : Memref sig .tc .vmem S128x2048 .bf16 := win1_2.stage (cfg1.slots t 2)
/-- Window 2's staging buffer is a whole buffer. -/
abbrev hs1_2 (t : Fin cfg1.N) : (ms1_2 t).IsWhole := hstage1_2 ((cfg1.slots t 2).cast nbuf1_2)
/-- Window 3's staging buffer at point `t`. -/
abbrev ms1_3 (t : Fin cfg1.N) : Memref sig .tc .vmem S128x128 .f32 := win1_3.stage (cfg1.slots t 3)
/-- Window 3's staging buffer is a whole buffer. -/
abbrev hs1_3 (t : Fin cfg1.N) : (ms1_3 t).IsWhole := hstage1_3 ((cfg1.slots t 3).cast nbuf1_3)
/-- Window 4's staging buffer at point `t`. -/
abbrev ms1_4 (t : Fin cfg1.N) : Memref sig .tc .vmem S128x128 .f32 := win1_4.stage (cfg1.slots t 4)
/-- Window 4's staging buffer is a whole buffer. -/
abbrev hs1_4 (t : Fin cfg1.N) : (ms1_4 t).IsWhole := hstage1_4 ((cfg1.slots t 4).cast nbuf1_4)
/-- Window 5's staging buffer at point `t`. -/
abbrev ms1_5 (t : Fin cfg1.N) : Memref sig .tc .vmem S1x8x128x256 .f32 := win1_5.stage (cfg1.slots t 5)
/-- Window 5's staging buffer is a whole buffer. -/
abbrev hs1_5 (t : Fin cfg1.N) : (ms1_5 t).IsWhole := hstage1_5 ((cfg1.slots t 5).cast nbuf1_5)
/-- Window 6's staging buffer at point `t`. -/
abbrev ms1_6 (t : Fin cfg1.N) : Memref sig .tc .vmem S128x2048 .bf16 := win1_6.stage (cfg1.slots t 6)
/-- Window 6's staging buffer is a whole buffer. -/
abbrev hs1_6 (t : Fin cfg1.N) : (ms1_6 t).IsWhole := hstage1_6 ((cfg1.slots t 6).cast nbuf1_6)
/-- Window 7's staging buffer at point `t`. -/
abbrev ms1_7 (t : Fin cfg1.N) : Memref sig .tc .vmem S8x128x128 .f32 := win1_7.stage (cfg1.slots t 7)
/-- Window 7's staging buffer is a whole buffer. -/
abbrev hs1_7 (t : Fin cfg1.N) : (ms1_7 t).IsWhole := hstage1_7 ((cfg1.slots t 7).cast nbuf1_7)
/-- Window 8's staging buffer at point `t`. -/
abbrev ms1_8 (t : Fin cfg1.N) : Memref sig .tc .vmem S8x128x128 .f32 := win1_8.stage (cfg1.slots t 8)
/-- Window 8's staging buffer is a whole buffer. -/
abbrev hs1_8 (t : Fin cfg1.N) : (ms1_8 t).IsWhole := hstage1_8 ((cfg1.slots t 8).cast nbuf1_8)
/-- Window 9's staging buffer at point `t`. -/
abbrev ms1_9 (t : Fin cfg1.N) : Memref sig .tc .vmem S8x128x128 .f32 := win1_9.stage (cfg1.slots t 9)
/-- Window 9's staging buffer is a whole buffer. -/
abbrev hs1_9 (t : Fin cfg1.N) : (ms1_9 t).IsWhole := hstage1_9 ((cfg1.slots t 9).cast nbuf1_9)
/-- Window 10's staging buffer at point `t`. -/
abbrev ms1_10 (t : Fin cfg1.N) : Memref sig .tc .vmem S8x8x256 .f32 := win1_10.stage (cfg1.slots t 10)
/-- Window 10's staging buffer is a whole buffer. -/
abbrev hs1_10 (t : Fin cfg1.N) : (ms1_10 t).IsWhole := hstage1_10 ((cfg1.slots t 10).cast nbuf1_10)
/-- Window 11's staging buffer at point `t`. -/
abbrev ms1_11 (t : Fin cfg1.N) : Memref sig .tc .vmem S128x4096 .bf16 := win1_11.stage (cfg1.slots t 11)
/-- Window 11's staging buffer is a whole buffer. -/
abbrev hs1_11 (t : Fin cfg1.N) : (ms1_11 t).IsWhole := hstage1_11 ((cfg1.slots t 11).cast nbuf1_11)
/-- The carried state's buffer. -/
abbrev scM1_0 : Memref sig .tc .vmem S8x128x256 .f32 := Memref.whole cc1_scratch0
/-- The carried state's buffer, through which its contents are read. -/
abbrev VS1_0 : View sig .tc .vmem S8x128x256 .f32 := scM1_0.view

/-- What goes along with the call untouched: the other buffers at some contents and the random-number register at some state. -/
def Rst (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- What the call starts with: the carried state's buffer at some contents, and the rest. -/
theorem PhiA1_eq (c : Dev nD) :
    (Pipeline.ΦA spec1 c : sProp 𝕄)
      = iprop(iprop((∃ d, owns (c : Thread nD τ) scM1_0 fullShare d)) ∗ Rst (F := F) c) := by
  unfold Pipeline.ΦA Rst
  rw [Pipeline.scopedRest_split_of_list spec1 c [cc1_scratch0] (by decide) (by decide)]
  simp only [scM1_0, owns_whole]
  exact Entails.antisymm BI.sep_assoc BI.sep_assoc'

end Cert.KernelIdeal.Bwd

end
-- ==== Proof.BwdRunA.lean ====
module

public import proofs.«01_k».proof.Proof.BwdRuns

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The blocks the body's stores leave in each output at the first point, with the proof that the body runs: from the inputs' buffers at their
    contents and the others at anything, to the same inputs and these blocks written. -/
noncomputable def kernelRun1_A (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x8x128x256 .f32) (harg6 : arg6.IsWhole) (arg7 : Memref sig .tc .vmem S128x2048 .bf16) (harg7 : arg7.IsWhole) (arg8 : Memref sig .tc .vmem S8x128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x8x256 .f32) (harg11 : arg11.IsWhole) (arg13 : Memref sig .tc .vmem S128x4096 .bf16) (harg13 : arg13.IsWhole) (arg14 : Memref sig .tc .vmem S8x128x256 .f32) (harg14 : arg14.IsWhole) (hc0 : cond1_0 i)
    (x0 : Vec F S128x1024 .f32) (x1 : Vec F S128x1024 .f32) (x2 : Vec F S128x2048 .bf16) (x3 : Vec F S128x128 .f32) (x4 : Vec F S128x128 .f32) (x5 : Vec F S1x8x128x256 .f32) (x6 : Vec F S128x2048 .bf16) (x7 : Vec F S8x128x128 .f32) (x8 : Vec F S8x128x128 .f32) (x9 : Vec F S8x128x128 .f32) (x10 : Vec F S8x8x256 .f32) :
    Σ' (L11 : List (View.Piece (Elt F) S128x4096 .bf16)), { LS0 : List (View.Piece (Elt F) S8x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0)) -∗ K ⟨⟩))
          ⊢ wp frame (wpE (defs₀ (F := F)) Variants.none c none) E (cc1_retention_bwd i arg1 harg1 arg2 harg2 arg3 harg3 arg4 harg4 arg5 harg5 arg6 harg6 arg7 harg7 arg8 harg8 arg9 harg9 arg10 harg10 arg11 harg11 (Memref.whole main_arg4) (Memref.isWhole_whole _) arg13 harg13 arg14 harg14) K } := by
  refine ⟨?_, ?_, fun E K => ?run⟩
  case run =>
    simp only [cc1_retention_bwd_eq_skeleton]; unfold cc1_retention_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    iexists _; iexact HS0

end Cert.KernelIdeal.Bwd

end
-- ==== Proof.BwdRunB.lean ====
module

public import proofs.«01_k».proof.Proof.BwdRuns

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The blocks the body's stores leave in each output at a later point, with the proof that the body runs: from the inputs' buffers and the
    carried state at their contents and the others at anything, to the same inputs and these blocks written. -/
noncomputable def kernelRun1_B (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x8x128x256 .f32) (harg6 : arg6.IsWhole) (arg7 : Memref sig .tc .vmem S128x2048 .bf16) (harg7 : arg7.IsWhole) (arg8 : Memref sig .tc .vmem S8x128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x8x256 .f32) (harg11 : arg11.IsWhole) (arg13 : Memref sig .tc .vmem S128x4096 .bf16) (harg13 : arg13.IsWhole) (arg14 : Memref sig .tc .vmem S8x128x256 .f32) (harg14 : arg14.IsWhole) (hc0 : ¬cond1_0 i)
    (x0 : Vec F S128x1024 .f32) (x1 : Vec F S128x1024 .f32) (x2 : Vec F S128x2048 .bf16) (x3 : Vec F S128x128 .f32) (x4 : Vec F S128x128 .f32) (x5 : Vec F S1x8x128x256 .f32) (x6 : Vec F S128x2048 .bf16) (x7 : Vec F S8x128x128 .f32) (x8 : Vec F S8x128x128 .f32) (x9 : Vec F S8x128x128 .f32) (x10 : Vec F S8x8x256 .f32) (xs0 : Vec F S8x128x256 .f32) :
    Σ' (L11 : List (View.Piece (Elt F) S128x4096 .bf16)), { LS0 : List (View.Piece (Elt F) S8x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg13 fullShare d) ∗ owns (c : Thread nD τ) arg14 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0)) -∗ K ⟨⟩))
          ⊢ wp frame (wpE (defs₀ (F := F)) Variants.none c none) E (cc1_retention_bwd i arg1 harg1 arg2 harg2 arg3 harg3 arg4 harg4 arg5 harg5 arg6 harg6 arg7 harg7 arg8 harg8 arg9 harg9 arg10 harg10 arg11 harg11 (Memref.whole main_arg4) (Memref.isWhole_whole _) arg13 harg13 arg14 harg14) K } := by
  refine ⟨?_, ?_, fun E K => ?run⟩
  case run =>
    simp only [cc1_retention_bwd_eq_skeleton]; unfold cc1_retention_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    iexists _; iexact HS0

end Cert.KernelIdeal.Bwd

end
-- ==== Proof.BwdBody.lean ====
module

public import proofs.«01_k».proof.Proof.BwdRunA
public import proofs.«01_k».proof.Proof.BwdRunB

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-- The blocks case A stores into output 11 fill its staging buffer. -/
theorem cover1_A_11 (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x8x128x256 .f32) (harg6 : arg6.IsWhole) (arg7 : Memref sig .tc .vmem S128x2048 .bf16) (harg7 : arg7.IsWhole) (arg8 : Memref sig .tc .vmem S8x128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x8x256 .f32) (harg11 : arg11.IsWhole) (arg13 : Memref sig .tc .vmem S128x4096 .bf16) (harg13 : arg13.IsWhole) (arg14 : Memref sig .tc .vmem S8x128x256 .f32) (harg14 : arg14.IsWhole) (hc0 : cond1_0 i)
    (x0 : Vec F S128x1024 .f32) (x1 : Vec F S128x1024 .f32) (x2 : Vec F S128x2048 .bf16) (x3 : Vec F S128x128 .f32) (x4 : Vec F S128x128 .f32) (x5 : Vec F S1x8x128x256 .f32) (x6 : Vec F S128x2048 .bf16) (x7 : Vec F S8x128x128 .f32) (x8 : Vec F S8x128x128 .f32) (x9 : Vec F S8x128x128 .f32) (x10 : Vec F S8x8x256 .f32) (y : S128x4096.Idx) :
    ∃ pc ∈ (kernelRun1_A c i arg1 harg1 arg2 harg2 arg3 harg3 arg4 harg4 arg5 harg5 arg6 harg6 arg7 harg7 arg8 harg8 arg9 harg9 arg10 harg10 arg11 harg11 arg13 harg13 arg14 harg14 hc0 x0 x1 x2 x3 x4 x5 x6 x7 x8 x9 x10).1, y ∈ pc.1.set :=
  View.cover_of_tiledBy (kernelRun1_A c i arg1 harg1 arg2 harg2 arg3 harg3 arg4 harg4 arg5 harg5 arg6 harg6 arg7 harg7 arg8 harg8 arg9 harg9 arg10 harg10 arg11 harg11 arg13 harg13 arg14 harg14 hc0 x0 x1 x2 x3 x4 x5 x6 x7 x8 x9 x10).1 ![128, 128] (by sl_kernel_rfl) y

/-- What case A leaves in output 11's staging buffer. -/
def out1_A_11 (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x8x128x256 .f32) (harg6 : arg6.IsWhole) (arg7 : Memref sig .tc .vmem S128x2048 .bf16) (harg7 : arg7.IsWhole) (arg8 : Memref sig .tc .vmem S8x128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x8x256 .f32) (harg11 : arg11.IsWhole) (arg13 : Memref sig .tc .vmem S128x4096 .bf16) (harg13 : arg13.IsWhole) (arg14 : Memref sig .tc .vmem S8x128x256 .f32) (harg14 : arg14.IsWhole) (hc0 : cond1_0 i)
    (x0 : Vec F S128x1024 .f32) (x1 : Vec F S128x1024 .f32) (x2 : Vec F S128x2048 .bf16) (x3 : Vec F S128x128 .f32) (x4 : Vec F S128x128 .f32) (x5 : Vec F S1x8x128x256 .f32) (x6 : Vec F S128x2048 .bf16) (x7 : Vec F S8x128x128 .f32) (x8 : Vec F S8x128x128 .f32) (x9 : Vec F S8x128x128 .f32) (x10 : Vec F S8x8x256 .f32) : Vec F S128x4096 .bf16 :=
  VO1_11.read (Elt F) (VO1_11.writes (Elt F) VO1_11.junk (kernelRun1_A c i arg1 harg1 arg2 harg2 arg3 harg3 arg4 harg4 arg5 harg5 arg6 harg6 arg7 harg7 arg8 harg8 arg9 harg9 arg10 harg10 arg11 harg11 arg13 harg13 arg14 harg14 hc0 x0 x1 x2 x3 x4 x5 x6 x7 x8 x9 x10).1)

/-- The blocks case A stores into the carried state fill it. -/
theorem scover1_A_0 (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x8x128x256 .f32) (harg6 : arg6.IsWhole) (arg7 : Memref sig .tc .vmem S128x2048 .bf16) (harg7 : arg7.IsWhole) (arg8 : Memref sig .tc .vmem S8x128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x8x256 .f32) (harg11 : arg11.IsWhole) (arg13 : Memref sig .tc .vmem S128x4096 .bf16) (harg13 : arg13.IsWhole) (arg14 : Memref sig .tc .vmem S8x128x256 .f32) (harg14 : arg14.IsWhole) (hc0 : cond1_0 i)
    (x0 : Vec F S128x1024 .f32) (x1 : Vec F S128x1024 .f32) (x2 : Vec F S128x2048 .bf16) (x3 : Vec F S128x128 .f32) (x4 : Vec F S128x128 .f32) (x5 : Vec F S1x8x128x256 .f32) (x6 : Vec F S128x2048 .bf16) (x7 : Vec F S8x128x128 .f32) (x8 : Vec F S8x128x128 .f32) (x9 : Vec F S8x128x128 .f32) (x10 : Vec F S8x8x256 .f32) (y : S8x128x256.Idx) :
    ∃ pc ∈ (kernelRun1_A c i arg1 harg1 arg2 harg2 arg3 harg3 arg4 harg4 arg5 harg5 arg6 harg6 arg7 harg7 arg8 harg8 arg9 harg9 arg10 harg10 arg11 harg11 arg13 harg13 arg14 harg14 hc0 x0 x1 x2 x3 x4 x5 x6 x7 x8 x9 x10).2.1, y ∈ pc.1.set :=
  View.cover_of_wholeMem (kernelRun1_A c i arg1 harg1 arg2 harg2 arg3 harg3 arg4 harg4 arg5 harg5 arg6 harg6 arg7 harg7 arg8 harg8 arg9 harg9 arg10 harg10 arg11 harg11 arg13 harg13 arg14 harg14 hc0 x0 x1 x2 x3 x4 x5 x6 x7 x8 x9 x10).2.1 (by sl_whole_mem) y

/-- What case A leaves in the carried state. -/
def sout1_A_0 (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x8x128x256 .f32) (harg6 : arg6.IsWhole) (arg7 : Memref sig .tc .vmem S128x2048 .bf16) (harg7 : arg7.IsWhole) (arg8 : Memref sig .tc .vmem S8x128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x8x256 .f32) (harg11 : arg11.IsWhole) (arg13 : Memref sig .tc .vmem S128x4096 .bf16) (harg13 : arg13.IsWhole) (arg14 : Memref sig .tc .vmem S8x128x256 .f32) (harg14 : arg14.IsWhole) (hc0 : cond1_0 i)
    (x0 : Vec F S128x1024 .f32) (x1 : Vec F S128x1024 .f32) (x2 : Vec F S128x2048 .bf16) (x3 : Vec F S128x128 .f32) (x4 : Vec F S128x128 .f32) (x5 : Vec F S1x8x128x256 .f32) (x6 : Vec F S128x2048 .bf16) (x7 : Vec F S8x128x128 .f32) (x8 : Vec F S8x128x128 .f32) (x9 : Vec F S8x128x128 .f32) (x10 : Vec F S8x8x256 .f32) : Vec F S8x128x256 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg13 harg13 arg14 harg14 hc0 x0 x1 x2 x3 x4 x5 x6 x7 x8 x9 x10).2.1)

/-- The blocks case B stores into output 11 fill its staging buffer. -/
theorem cover1_B_11 (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x8x128x256 .f32) (harg6 : arg6.IsWhole) (arg7 : Memref sig .tc .vmem S128x2048 .bf16) (harg7 : arg7.IsWhole) (arg8 : Memref sig .tc .vmem S8x128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x8x256 .f32) (harg11 : arg11.IsWhole) (arg13 : Memref sig .tc .vmem S128x4096 .bf16) (harg13 : arg13.IsWhole) (arg14 : Memref sig .tc .vmem S8x128x256 .f32) (harg14 : arg14.IsWhole) (hc0 : ¬cond1_0 i)
    (x0 : Vec F S128x1024 .f32) (x1 : Vec F S128x1024 .f32) (x2 : Vec F S128x2048 .bf16) (x3 : Vec F S128x128 .f32) (x4 : Vec F S128x128 .f32) (x5 : Vec F S1x8x128x256 .f32) (x6 : Vec F S128x2048 .bf16) (x7 : Vec F S8x128x128 .f32) (x8 : Vec F S8x128x128 .f32) (x9 : Vec F S8x128x128 .f32) (x10 : Vec F S8x8x256 .f32) (xs0 : Vec F S8x128x256 .f32) (y : S128x4096.Idx) :
    ∃ pc ∈ (kernelRun1_B c i arg1 harg1 arg2 harg2 arg3 harg3 arg4 harg4 arg5 harg5 arg6 harg6 arg7 harg7 arg8 harg8 arg9 harg9 arg10 harg10 arg11 harg11 arg13 harg13 arg14 harg14 hc0 x0 x1 x2 x3 x4 x5 x6 x7 x8 x9 x10 xs0).1, y ∈ pc.1.set :=
  View.cover_of_tiledBy (kernelRun1_B c i arg1 harg1 arg2 harg2 arg3 harg3 arg4 harg4 arg5 harg5 arg6 harg6 arg7 harg7 arg8 harg8 arg9 harg9 arg10 harg10 arg11 harg11 arg13 harg13 arg14 harg14 hc0 x0 x1 x2 x3 x4 x5 x6 x7 x8 x9 x10 xs0).1 ![128, 128] (by sl_kernel_rfl) y

/-- What case B leaves in output 11's staging buffer. -/
def out1_B_11 (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x8x128x256 .f32) (harg6 : arg6.IsWhole) (arg7 : Memref sig .tc .vmem S128x2048 .bf16) (harg7 : arg7.IsWhole) (arg8 : Memref sig .tc .vmem S8x128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x8x256 .f32) (harg11 : arg11.IsWhole) (arg13 : Memref sig .tc .vmem S128x4096 .bf16) (harg13 : arg13.IsWhole) (arg14 : Memref sig .tc .vmem S8x128x256 .f32) (harg14 : arg14.IsWhole) (hc0 : ¬cond1_0 i)
    (x0 : Vec F S128x1024 .f32) (x1 : Vec F S128x1024 .f32) (x2 : Vec F S128x2048 .bf16) (x3 : Vec F S128x128 .f32) (x4 : Vec F S128x128 .f32) (x5 : Vec F S1x8x128x256 .f32) (x6 : Vec F S128x2048 .bf16) (x7 : Vec F S8x128x128 .f32) (x8 : Vec F S8x128x128 .f32) (x9 : Vec F S8x128x128 .f32) (x10 : Vec F S8x8x256 .f32) (xs0 : Vec F S8x128x256 .f32) : Vec F S128x4096 .bf16 :=
  VO1_11.read (Elt F) (VO1_11.writes (Elt F) VO1_11.junk (kernelRun1_B c i arg1 harg1 arg2 harg2 arg3 harg3 arg4 harg4 arg5 harg5 arg6 harg6 arg7 harg7 arg8 harg8 arg9 harg9 arg10 harg10 arg11 harg11 arg13 harg13 arg14 harg14 hc0 x0 x1 x2 x3 x4 x5 x6 x7 x8 x9 x10 xs0).1)

/-- The blocks case B stores into the carried state fill it. -/
theorem scover1_B_0 (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x8x128x256 .f32) (harg6 : arg6.IsWhole) (arg7 : Memref sig .tc .vmem S128x2048 .bf16) (harg7 : arg7.IsWhole) (arg8 : Memref sig .tc .vmem S8x128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x8x256 .f32) (harg11 : arg11.IsWhole) (arg13 : Memref sig .tc .vmem S128x4096 .bf16) (harg13 : arg13.IsWhole) (arg14 : Memref sig .tc .vmem S8x128x256 .f32) (harg14 : arg14.IsWhole) (hc0 : ¬cond1_0 i)
    (x0 : Vec F S128x1024 .f32) (x1 : Vec F S128x1024 .f32) (x2 : Vec F S128x2048 .bf16) (x3 : Vec F S128x128 .f32) (x4 : Vec F S128x128 .f32) (x5 : Vec F S1x8x128x256 .f32) (x6 : Vec F S128x2048 .bf16) (x7 : Vec F S8x128x128 .f32) (x8 : Vec F S8x128x128 .f32) (x9 : Vec F S8x128x128 .f32) (x10 : Vec F S8x8x256 .f32) (xs0 : Vec F S8x128x256 .f32) (y : S8x128x256.Idx) :
    ∃ pc ∈ (kernelRun1_B c i arg1 harg1 arg2 harg2 arg3 harg3 arg4 harg4 arg5 harg5 arg6 harg6 arg7 harg7 arg8 harg8 arg9 harg9 arg10 harg10 arg11 harg11 arg13 harg13 arg14 harg14 hc0 x0 x1 x2 x3 x4 x5 x6 x7 x8 x9 x10 xs0).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg13 harg13 arg14 harg14 hc0 x0 x1 x2 x3 x4 x5 x6 x7 x8 x9 x10 xs0).2.1 S1x128x256.size (by sl_kernel_rfl) y

/-- What case B leaves in the carried state. -/
def sout1_B_0 (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x2048 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x8x128x256 .f32) (harg6 : arg6.IsWhole) (arg7 : Memref sig .tc .vmem S128x2048 .bf16) (harg7 : arg7.IsWhole) (arg8 : Memref sig .tc .vmem S8x128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x8x256 .f32) (harg11 : arg11.IsWhole) (arg13 : Memref sig .tc .vmem S128x4096 .bf16) (harg13 : arg13.IsWhole) (arg14 : Memref sig .tc .vmem S8x128x256 .f32) (harg14 : arg14.IsWhole) (hc0 : ¬cond1_0 i)
    (x0 : Vec F S128x1024 .f32) (x1 : Vec F S128x1024 .f32) (x2 : Vec F S128x2048 .bf16) (x3 : Vec F S128x128 .f32) (x4 : Vec F S128x128 .f32) (x5 : Vec F S1x8x128x256 .f32) (x6 : Vec F S128x2048 .bf16) (x7 : Vec F S8x128x128 .f32) (x8 : Vec F S8x128x128 .f32) (x9 : Vec F S8x128x128 .f32) (x10 : Vec F S8x8x256 .f32) (xs0 : Vec F S8x128x256 .f32) : Vec F S8x128x256 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg13 harg13 arg14 harg14 hc0 x0 x1 x2 x3 x4 x5 x6 x7 x8 x9 x10 xs0).2.1)

/-! ## What the outputs hold after each point -/

/-- What the outputs' staging buffers and the carried state hold after the body at position `n`: at the first point those of case A, at a
    later one those of case B from what the point before left. -/
def outsAt1 (c : Dev nD) : (n : ℕ) → n < cfg1.N → Vec F S128x4096 .bf16 × Vec F S8x128x256 .f32
  | 0, hn => (out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) ((hcond1_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) ((hcond1_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) % 128 = 0 then
      (out1_A_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) ((hcond1_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) ((hcond1_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
    else
      (out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) (fun h => h0 ((hcond1_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) (fun h => h0 ((hcond1_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt1 c n (Nat.lt_of_succ_lt hn)).2)

/-- At the first point these are the contents of case A. -/
theorem outsAt1_A (c : Dev nD) (t : Fin cfg1.N) (h0 : t.val % 128 = 0) :
    outsAt1 m c t.val t.isLt = (out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) ((hcond1_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) ((hcond1_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  obtain ⟨n, hn⟩ := t
  cases n with
  | zero => exact rfl
  | succ n => exact (dif_pos h0).trans rfl

/-- At a later point these are the contents of case B, from what the point before left. -/
theorem outsAt1_B (c : Dev nD) (t : Fin cfg1.N) (h0 : ¬t.val % 128 = 0) :
    outsAt1 m c t.val t.isLt = (out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) (fun h => h0 ((hcond1_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt1 m c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) (fun h => h0 ((hcond1_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt1 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- What is held before position `n` beside the windows: before the first point the scratch at anything, afterwards the carried state as the
    point before left it, the other buffers at anything. -/
def PhiS (c : Dev nD) : (n : ℕ) → n ≤ cfg1.N → sProp 𝕄
  | 0, _ => Pipeline.ΦA spec1 c
  | n + 1, hn => iprop(iprop(owns (c : Thread nD τ) scM1_0 fullShare ((outsAt1 m c n hn).2)) ∗ Rst (F := F) c)

/-- Before the first point: what the call starts with. -/
theorem PhiS_zero (c : Dev nD) (n : ℕ) (h : n ≤ cfg1.N) (hz : n = 0) : PhiS m c n h = Pipeline.ΦA spec1 c := by
  subst hz; rfl

/-- After point `n`: the carried state as that point leaves it. -/
theorem PhiS_succ (c : Dev nD) (n : ℕ) (hn : n < cfg1.N) :
    PhiS m c (n + 1) hn = iprop(iprop(owns (c : Thread nD τ) scM1_0 fullShare ((outsAt1 m c n hn).2)) ∗ Rst (F := F) c) := rfl

/-- Before a later point: the carried state as the point before left it. -/
theorem PhiS_pos (c : Dev nD) (n : ℕ) (h : n ≤ cfg1.N) (hz : n ≠ 0) :
    PhiS m c n h = iprop(iprop(owns (c : Thread nD τ) scM1_0 fullShare ((outsAt1 m c (n - 1) (by omega)).2)) ∗ Rst (F := F) c) := by
  cases n with
  | zero => exact absurd rfl hz
  | succ n => rfl

/-! ## The pipeline's proof data -/

/-- The data of the call on device `c`: its arrays as the memory at its entry holds them; after a point each input's buffer at its block and
    each output's at what the body leaves; nothing owed. -/
def dat (c : Dev nD) : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt1 m c t.val t.isLt).1
  Φ t := PhiS m c t.val (Nat.le_of_lt_succ t.isLt)
  q w := Pipeline.shareOf spec1 w
  owed _ := 0

/-- The arrays are those the memory at the call's entry holds. -/
theorem A_eq (c : Dev nD) (w : Fin cfg1.W) : (dat m c).A w = V m c (Pipeline.arrRef spec1 w) := by
  dsimp only [dat]

/-- What is held at a point's start, by the point's number. -/
theorem PhiS_castSucc (c : Dev nD) (t : Fin cfg1.N) :
    (dat m c).Φ t.castSucc = PhiS m c t.val (Nat.le_of_lt t.isLt) := by
  dsimp only [dat]; exact Pipeline.Dat.Φ_castSucc (PhiS m c) t

/-- The body leaves window 0 at its block. -/
theorem after1_0 (c : Dev nD) (t : Fin cfg1.N) : (dat m c).after 0 t = iblk m c 0 t := by dsimp only [dat]
/-- The body leaves window 1 at its block. -/
theorem after1_1 (c : Dev nD) (t : Fin cfg1.N) : (dat m c).after 1 t = iblk m c 1 t := by dsimp only [dat]
/-- The body leaves window 2 at its block. -/
theorem after1_2 (c : Dev nD) (t : Fin cfg1.N) : (dat m c).after 2 t = iblk m c 2 t := by dsimp only [dat]
/-- The body leaves window 3 at its block. -/
theorem after1_3 (c : Dev nD) (t : Fin cfg1.N) : (dat m c).after 3 t = iblk m c 3 t := by dsimp only [dat]
/-- The body leaves window 4 at its block. -/
theorem after1_4 (c : Dev nD) (t : Fin cfg1.N) : (dat m c).after 4 t = iblk m c 4 t := by dsimp only [dat]
/-- The body leaves window 5 at its block. -/
theorem after1_5 (c : Dev nD) (t : Fin cfg1.N) : (dat m c).after 5 t = iblk m c 5 t := by dsimp only [dat]
/-- The body leaves window 6 at its block. -/
theorem after1_6 (c : Dev nD) (t : Fin cfg1.N) : (dat m c).after 6 t = iblk m c 6 t := by dsimp only [dat]
/-- The body leaves window 7 at its block. -/
theorem after1_7 (c : Dev nD) (t : Fin cfg1.N) : (dat m c).after 7 t = iblk m c 7 t := by dsimp only [dat]
/-- The body leaves window 8 at its block. -/
theorem after1_8 (c : Dev nD) (t : Fin cfg1.N) : (dat m c).after 8 t = iblk m c 8 t := by dsimp only [dat]
/-- The body leaves window 9 at its block. -/
theorem after1_9 (c : Dev nD) (t : Fin cfg1.N) : (dat m c).after 9 t = iblk m c 9 t := by dsimp only [dat]
/-- The body leaves window 10 at its block. -/
theorem after1_10 (c : Dev nD) (t : Fin cfg1.N) : (dat m c).after 10 t = iblk m c 10 t := by dsimp only [dat]
/-- The body leaves output 11 at what the point computes. -/
theorem after1_11 (c : Dev nD) (t : Fin cfg1.N) : (dat m c).after 11 t = (outsAt1 m c t.val t.isLt).1 := by dsimp only [dat]

/-- Before the body window 0's buffer holds its block. -/
theorem before1_0 (c : Dev nD) (t : Fin cfg1.N) (d) : (dat m c).before 0 t d = iblk m c 0 t :=
  before1_0_of m (dat m c) (A_eq m c 0) (after1_0 m c) t d
/-- Before the body window 1's buffer holds its block. -/
theorem before1_1 (c : Dev nD) (t : Fin cfg1.N) (d) : (dat m c).before 1 t d = iblk m c 1 t :=
  before1_1_of m (dat m c) (A_eq m c 1) (after1_1 m c) t d
/-- Before the body window 2's buffer holds its block. -/
theorem before1_2 (c : Dev nD) (t : Fin cfg1.N) (d) : (dat m c).before 2 t d = iblk m c 2 t :=
  before1_2_of m (dat m c) (A_eq m c 2) (after1_2 m c) t d
/-- Before the body window 3's buffer holds its block. -/
theorem before1_3 (c : Dev nD) (t : Fin cfg1.N) (d) : (dat m c).before 3 t d = iblk m c 3 t :=
  before1_3_of m (dat m c) (A_eq m c 3) (after1_3 m c) t d
/-- Before the body window 4's buffer holds its block. -/
theorem before1_4 (c : Dev nD) (t : Fin cfg1.N) (d) : (dat m c).before 4 t d = iblk m c 4 t :=
  before1_4_of m (dat m c) (A_eq m c 4) (after1_4 m c) t d
/-- Before the body window 5's buffer holds its block. -/
theorem before1_5 (c : Dev nD) (t : Fin cfg1.N) (d) : (dat m c).before 5 t d = iblk m c 5 t :=
  before1_5_of m (dat m c) (A_eq m c 5) (after1_5 m c) t d
/-- Before the body window 6's buffer holds its block. -/
theorem before1_6 (c : Dev nD) (t : Fin cfg1.N) (d) : (dat m c).before 6 t d = iblk m c 6 t :=
  before1_6_of m (dat m c) (A_eq m c 6) (after1_6 m c) t d
/-- Before the body window 7's buffer holds its block. -/
theorem before1_7 (c : Dev nD) (t : Fin cfg1.N) (d) : (dat m c).before 7 t d = iblk m c 7 t :=
  before1_7_of m (dat m c) (A_eq m c 7) (after1_7 m c) t d
/-- Before the body window 8's buffer holds its block. -/
theorem before1_8 (c : Dev nD) (t : Fin cfg1.N) (d) : (dat m c).before 8 t d = iblk m c 8 t :=
  before1_8_of m (dat m c) (A_eq m c 8) (after1_8 m c) t d
/-- Before the body window 9's buffer holds its block. -/
theorem before1_9 (c : Dev nD) (t : Fin cfg1.N) (d) : (dat m c).before 9 t d = iblk m c 9 t :=
  before1_9_of m (dat m c) (A_eq m c 9) (after1_9 m c) t d
/-- Before the body window 10's buffer holds its block. -/
theorem before1_10 (c : Dev nD) (t : Fin cfg1.N) (d) : (dat m c).before 10 t d = iblk m c 10 t :=
  before1_10_of m (dat m c) (A_eq m c 10) (after1_10 m c) t d

/-! ## The body obligation, at a generic point -/

/-- What the body is called with at point `t`: every window's buffer at its contents before the point. -/
def bodyPre (c : Dev nD) (t : Fin cfg1.N) : sProp 𝕄 :=
  iprop((dat m c).Φ t.castSucc ∗ (dat m c).owesAt () t.castSucc
    ∗ (∃ d, owns (c : Thread nD τ) (ms1_0 t) fullShare ((dat m c).before 0 t d))
    ∗ (∃ d, owns (c : Thread nD τ) (ms1_1 t) fullShare ((dat m c).before 1 t d))
    ∗ (∃ d, owns (c : Thread nD τ) (ms1_2 t) fullShare ((dat m c).before 2 t d))
    ∗ (∃ d, owns (c : Thread nD τ) (ms1_3 t) fullShare ((dat m c).before 3 t d))
    ∗ (∃ d, owns (c : Thread nD τ) (ms1_4 t) fullShare ((dat m c).before 4 t d))
    ∗ (∃ d, owns (c : Thread nD τ) (ms1_5 t) fullShare ((dat m c).before 5 t d))
    ∗ (∃ d, owns (c : Thread nD τ) (ms1_6 t) fullShare ((dat m c).before 6 t d))
    ∗ (∃ d, owns (c : Thread nD τ) (ms1_7 t) fullShare ((dat m c).before 7 t d))
    ∗ (∃ d, owns (c : Thread nD τ) (ms1_8 t) fullShare ((dat m c).before 8 t d))
    ∗ (∃ d, owns (c : Thread nD τ) (ms1_9 t) fullShare ((dat m c).before 9 t d))
    ∗ (∃ d, owns (c : Thread nD τ) (ms1_10 t) fullShare ((dat m c).before 10 t d))
    ∗ (∃ d, owns (c : Thread nD τ) (ms1_11 t) fullShare ((dat m c).before 11 t d)))

/-- What the body returns at point `t`: every window's buffer at its contents after the point. -/
def bodyPost (c : Dev nD) (t : Fin cfg1.N) : sProp 𝕄 :=
  iprop((dat m c).Φ t.succ ∗ (dat m c).owesAt () t.succ
    ∗ owns (c : Thread nD τ) (ms1_0 t) fullShare ((dat m c).after 0 t)
    ∗ owns (c : Thread nD τ) (ms1_1 t) fullShare ((dat m c).after 1 t)
    ∗ owns (c : Thread nD τ) (ms1_2 t) fullShare ((dat m c).after 2 t)
    ∗ owns (c : Thread nD τ) (ms1_3 t) fullShare ((dat m c).after 3 t)
    ∗ owns (c : Thread nD τ) (ms1_4 t) fullShare ((dat m c).after 4 t)
    ∗ owns (c : Thread nD τ) (ms1_5 t) fullShare ((dat m c).after 5 t)
    ∗ owns (c : Thread nD τ) (ms1_6 t) fullShare ((dat m c).after 6 t)
    ∗ owns (c : Thread nD τ) (ms1_7 t) fullShare ((dat m c).after 7 t)
    ∗ owns (c : Thread nD τ) (ms1_8 t) fullShare ((dat m c).after 8 t)
    ∗ owns (c : Thread nD τ) (ms1_9 t) fullShare ((dat m c).after 9 t)
    ∗ owns (c : Thread nD τ) (ms1_10 t) fullShare ((dat m c).after 10 t)
    ∗ owns (c : Thread nD τ) (ms1_11 t) fullShare ((dat m c).after 11 t))

set_option maxHeartbeats 9600000 in
/-- The body runs at every point: the first point is of case A, the others are of case B, and each case's run leaves the buffers as stated. -/
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before1_0, before1_1, before1_2, before1_3, before1_4, before1_5, before1_6, before1_7, before1_8, before1_9, before1_10]
  rw [show (dat m c).owesAt () t.succ = (dat m c).owesAt () t.castSucc from rfl,
    after1_0, after1_1, after1_2, after1_3, after1_4, after1_5, after1_6, after1_7, after1_8, after1_9, after1_10, after1_11]
  rw [show (dat m c).Φ t.succ = PhiS m c (t.val + 1) t.isLt from rfl, PhiS_succ]
  have hN : t.val < 128 := lt_of_lt_of_eq t.isLt (show cfg1.N = 128 from N_1)
  by_cases h0 : t.val % 128 = 0
  · by_cases hz : t.val = 0
    · rw [PhiS_castSucc m c t, PhiS_zero m c _ _ hz, PhiA1_eq]
      rw [outsAt1_A m c t h0]
      unfold out1_A_11 sout1_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_A c (grid1.coords t) _ _ _ _ _ _ _ _ _ _ _ _ _ _ _ _ _ _ _ _ _ _ _ _ _ _ ((hcond1_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      iintro ⟨H0, H1, H2, H3, H4, H5, H6, H7, H8, H9, H10, ⟨%e11, H11⟩, ⟨%es0, HS0⟩⟩
      isplitl [HS0 Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (cover1_A_11 c _ _ _ _ _ _ _ _ _ _ _ _ _ _ _ _ _ _ _ _ _ _ _ _ _ _ _ _ _ _ _ _ _ _ _ _ _ _ _)
    · exfalso; have hN : t.val < 128 := lt_of_lt_of_eq t.isLt (show cfg1.N = 128 from N_1); omega
  · by_cases hz : t.val = 0
    · exfalso; have hN : t.val < 128 := lt_of_lt_of_eq t.isLt (show cfg1.N = 128 from N_1); omega
    · rw [PhiS_castSucc m c t, PhiS_pos m c _ _ hz]
      rw [outsAt1_B m c t h0]
      unfold out1_B_11 sout1_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_B c (grid1.coords t) _ _ _ _ _ _ _ _ _ _ _ _ _ _ _ _ _ _ _ _ _ _ _ _ _ _ (fun h => h0 ((hcond1_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      iintro ⟨H0, H1, H2, H3, H4, H5, H6, H7, H8, H9, H10, ⟨%e11, H11⟩, ⟨%es0, HS0⟩⟩
      isplitl [HS0 Hg]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (cover1_B_11 c _ _ _ _ _ _ _ _ _ _ _ _ _ _ _ _ _ _ _ _ _ _ _ _ _ _ _ _ _ _ _ _ _ _ _ _ _ _ _ _)

/-- The call's body at point `t`, on that point's buffers. -/
theorem defs₀_row (t : Fin cfg1.N) :
    defs₀ (F := F) .tc cfg1.body (cfg1.bodyArgs t (cfg1.slots t)) = bodyAt1 t := by
  unfold defs₀; rw [Defs.onTc_tc]

/-- The body does at every point what the call's data say. -/
theorem body_obligation (c : Dev nD) : BodyObligation (dat (F := F) m c) (defs₀ (F := F)) Variants.none () Set.univ := fun t => by
  rw [bigSep_W1, bigSep_W1, defs₀_row]
  exact triple_restated (sound_body m c t) rfl .rfl fun _ => .rfl

/-- What the call starts with is what is held before the first point. -/
theorem hin (c : Dev nD) : Pipeline.ΦA spec1 c ⊢ (dat m c).Φ 0 := by
  rw [show (dat m c).Φ 0 = PhiS m c 0 (Nat.zero_le _) from rfl, PhiS_zero m c 0 _ rfl]
  try exact Idealize.SL.BI.Entails.refl _

/-- After a point what is held gives back what the call started with, the carried state's contents forgotten. -/
theorem Phi_out (c : Dev nD) (t : Fin (cfg1.N + 1)) (ht : t.val ≠ 0) : (dat m c).Φ t ⊢ Pipeline.ΦA spec1 c := by
  rw [show (dat m c).Φ t = PhiS m c t.val (Nat.le_of_lt_succ t.isLt) from rfl, PhiS_pos m c _ _ ht, PhiA1_eq]
  iintro ⟨HS0, Hg⟩
  isplitl [HS0]
  · iexists _; iexact HS0
  iexact Hg

/-- The same after the last point. -/
theorem hout (c : Dev nD) : (dat m c).Φ (Fin.last cfg1.N) ⊢ Pipeline.ΦA spec1 c :=
  Phi_out m c _ (by rw [Fin.val_last]; have : cfg1.N = 128 := N_1; omega)

end Cert.KernelIdeal.Bwd

end
-- ==== Proof.Run.lean ====
module

public import proofs.«01_k».proof.Proof.FwdBody
public import proofs.«01_k».proof.Proof.BwdBody
public import proofs.«01_k».proof.Proof.Gen.KernelIdeal.Regions
public import Idealize.ShloMosaic.Lib.Pipeline.FrameSuffix
public import Idealize.ShloMosaic.Lib.Pipeline.RegionsLoop

@[expose] public section

set_option maxRecDepth 16384

noncomputable section

/-! The whole kernel program's run, over any float values: host lines, the forward call, one host line, the backward call.
The contents of every array of the device are followed from the launch to the end. -/

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the arrays between the items -/

/-- The memory when the forward call is entered. -/
def mem3 : (ℓ : Loc nD τ sig) → Buf (Elt F) ℓ := fun ℓ => V3 m ℓ.1 ℓ.2
/-- The arrays of device `c` after the forward call: its operands and results as its last point leaves them. -/
def W4 (c : Dev nD) : Valuation τ sig (Elt F) :=
  Pipeline.withArrays spec0 c (V3 m c) fun w => (Fwd.dat (mem3 m) c).arrAt w cfg0.N
/-- The arrays after the one host line between the calls. -/
def W5 (c : Dev nD) : Valuation τ sig (Elt F) := StableHlo.after hostOps1 (W4 m c)
/-- The memory when the backward call is entered. -/
def mem5 : (ℓ : Loc nD τ sig) → Buf (Elt F) ℓ := fun ℓ => W5 m ℓ.1 ℓ.2
/-- The arrays of device `c` at the end. -/
def W6 (c : Dev nD) : Valuation τ sig (Elt F) :=
  Pipeline.withArrays spec1 c (W5 m c) fun w => (Bwd.dat (mem5 m) c).arrAt w cfg1.N

/-- The forward call's arrays, read at its exit. -/
theorem W4_arr (c : Dev nD) (w : Fin cfg0.W) :
    W4 m c (Proc.devRef .tc (Pipeline.arrRef spec0 w)) = (Fwd.dat (mem3 m) c).arrAt w cfg0.N :=
  (Fwd.dat (mem3 m) c).withArrays_arrAt launch₀0.sharedIn (V3 m c) (Fwd.A_eq (mem3 m) c) w
/-- The forward call leaves every other array alone. -/
theorem W4_of (c : Dev nD) (b : Ref sig .tc) (hb : ∀ w, Pipeline.arrRef spec0 w ≠ b) : W4 m c b = V3 m c b :=
  Pipeline.withArrays_of_ne spec0 c (V3 m c) _ b hb
/-- The line between the calls writes the backward call's result array only. -/
theorem W5_of (c : Dev nD) (b : Ref sig .tc) (h : b ∉ hostOps1_W) : W5 m c b = W4 m c b :=
  StableHlo.after_of_writes_sub hostOps1 _ hostOps1_writes h
/-- The backward call's arrays, read at its exit. -/
theorem W6_arr (c : Dev nD) (w : Fin cfg1.W) :
    W6 m c (Proc.devRef .tc (Pipeline.arrRef spec1 w)) = (Bwd.dat (mem5 m) c).arrAt w cfg1.N :=
  (Bwd.dat (mem5 m) c).withArrays_arrAt launch₀1.sharedIn (W5 m c) (Bwd.A_eq (mem5 m) c) w
/-- The backward call leaves every other array alone. -/
theorem W6_of (c : Dev nD) (b : Ref sig .tc) (hb : ∀ w, Pipeline.arrRef spec1 w ≠ b) : W6 m c b = W5 m c b :=
  Pipeline.withArrays_of_ne spec1 c (W5 m c) _ b hb

/-- Argument 0 holds what it held at launch before each call. -/
theorem V3_arg0 (c : Dev nD) : V3 m c main_arg0 = m ((c : Thread nD τ).loc main_arg0) :=
  (V3_of m c main_arg0 (by decide)).trans ((V2_of m c main_arg0 (by decide)).trans (V1_of m c main_arg0 (by decide)))
/-- Argument 0 after the forward call, which reads it. -/
theorem W4_arg0 (c : Dev nD) : W4 m c main_arg0 = m ((c : Thread nD τ).loc main_arg0) :=
  (W4_arr m c 0).trans (((Fwd.dat (mem3 m) c).arrAt_in 0 rfl _).trans ((Fwd.A_eq (mem3 m) c 0).trans (V3_arg0 m c)))
/-- Argument 0 before the backward call. -/
theorem W5_arg0 (c : Dev nD) : W5 m c main_arg0 = m ((c : Thread nD τ).loc main_arg0) :=
  (W5_of m c main_arg0 (by decide)).trans (W4_arg0 m c)
/-- Argument 0 at the end: the backward call only reads it. -/
theorem W6_arg0 (c : Dev nD) : W6 m c main_arg0 = m ((c : Thread nD τ).loc main_arg0) :=
  (W6_arr m c 0).trans (((Bwd.dat (mem5 m) c).arrAt_in 0 rfl _).trans ((Bwd.A_eq (mem5 m) c 0).trans (W5_arg0 m c)))
/-- Argument 1 holds what it held at launch before each call. -/
theorem V3_arg1 (c : Dev nD) : V3 m c main_arg1 = m ((c : Thread nD τ).loc main_arg1) :=
  (V3_of m c main_arg1 (by decide)).trans ((V2_of m c main_arg1 (by decide)).trans (V1_of m c main_arg1 (by decide)))
/-- Argument 1 after the forward call, which reads it. -/
theorem W4_arg1 (c : Dev nD) : W4 m c main_arg1 = m ((c : Thread nD τ).loc main_arg1) :=
  (W4_arr m c 2).trans (((Fwd.dat (mem3 m) c).arrAt_in 2 rfl _).trans ((Fwd.A_eq (mem3 m) c 2).trans (V3_arg1 m c)))
/-- Argument 1 before the backward call. -/
theorem W5_arg1 (c : Dev nD) : W5 m c main_arg1 = m ((c : Thread nD τ).loc main_arg1) :=
  (W5_of m c main_arg1 (by decide)).trans (W4_arg1 m c)
/-- Argument 1 at the end: the backward call only reads it. -/
theorem W6_arg1 (c : Dev nD) : W6 m c main_arg1 = m ((c : Thread nD τ).loc main_arg1) :=
  (W6_arr m c 2).trans (((Bwd.dat (mem5 m) c).arrAt_in 2 rfl _).trans ((Bwd.A_eq (mem5 m) c 2).trans (W5_arg1 m c)))
/-- Argument 2 holds what it held at launch before each call. -/
theorem V3_arg2 (c : Dev nD) : V3 m c main_arg2 = m ((c : Thread nD τ).loc main_arg2) :=
  (V3_of m c main_arg2 (by decide)).trans ((V2_of m c main_arg2 (by decide)).trans (V1_of m c main_arg2 (by decide)))
/-- Argument 2 after the forward call. -/
theorem W4_arg2 (c : Dev nD) : W4 m c main_arg2 = m ((c : Thread nD τ).loc main_arg2) :=
  (W4_of m c main_arg2 (by decide)).trans (V3_arg2 m c)
/-- Argument 2 before the backward call. -/
theorem W5_arg2 (c : Dev nD) : W5 m c main_arg2 = m ((c : Thread nD τ).loc main_arg2) :=
  (W5_of m c main_arg2 (by decide)).trans (W4_arg2 m c)
/-- Argument 2 at the end. -/
theorem W6_arg2 (c : Dev nD) : W6 m c main_arg2 = m ((c : Thread nD τ).loc main_arg2) :=
  (W6_of m c main_arg2 (by decide)).trans (W5_arg2 m c)
/-- Argument 3 holds what it held at launch before each call. -/
theorem V3_arg3 (c : Dev nD) : V3 m c main_arg3 = m ((c : Thread nD τ).loc main_arg3) :=
  (V3_of m c main_arg3 (by decide)).trans ((V2_of m c main_arg3 (by decide)).trans (V1_of m c main_arg3 (by decide)))
/-- Argument 3 after the forward call. -/
theorem W4_arg3 (c : Dev nD) : W4 m c main_arg3 = m ((c : Thread nD τ).loc main_arg3) :=
  (W4_of m c main_arg3 (by decide)).trans (V3_arg3 m c)
/-- Argument 3 before the backward call. -/
theorem W5_arg3 (c : Dev nD) : W5 m c main_arg3 = m ((c : Thread nD τ).loc main_arg3) :=
  (W5_of m c main_arg3 (by decide)).trans (W4_arg3 m c)
/-- Argument 3 at the end: the backward call only reads it. -/
theorem W6_arg3 (c : Dev nD) : W6 m c main_arg3 = m ((c : Thread nD τ).loc main_arg3) :=
  (W6_arr m c 6).trans (((Bwd.dat (mem5 m) c).arrAt_in 6 rfl _).trans ((Bwd.A_eq (mem5 m) c 6).trans (W5_arg3 m c)))
/-- Argument 4 holds what it held at launch before each call. -/
theorem V3_arg4 (c : Dev nD) : V3 m c main_arg4 = m ((c : Thread nD τ).loc main_arg4) :=
  (V3_of m c main_arg4 (by decide)).trans ((V2_of m c main_arg4 (by decide)).trans (V1_of m c main_arg4 (by decide)))
/-- Argument 4 after the forward call. -/
theorem W4_arg4 (c : Dev nD) : W4 m c main_arg4 = m ((c : Thread nD τ).loc main_arg4) :=
  (W4_of m c main_arg4 (by decide)).trans (V3_arg4 m c)
/-- Argument 4 before the backward call. -/
theorem W5_arg4 (c : Dev nD) : W5 m c main_arg4 = m ((c : Thread nD τ).loc main_arg4) :=
  (W5_of m c main_arg4 (by decide)).trans (W4_arg4 m c)
/-- Argument 4 at the end. -/
theorem W6_arg4 (c : Dev nD) : W6 m c main_arg4 = m ((c : Thread nD τ).loc main_arg4) :=
  (W6_of m c main_arg4 (by decide)).trans (W5_arg4 m c)

/-- The forward result, which neither the line between the calls nor the backward call touches. -/
theorem W6_r (c : Dev nD) : W6 m c main_v69_0 = (Fwd.dat (mem3 m) c).arrAt 9 cfg0.N :=
  (W6_of m c main_v69_0 (by decide)).trans ((W5_of m c main_v69_0 (by decide)).trans (W4_arr m c 9))
/-- The backward result. -/
theorem W6_dproj (c : Dev nD) : W6 m c main_v70 = (Bwd.dat (mem5 m) c).arrAt 11 cfg1.N := W6_arr m c 11

/-! ## The calls as items of the program -/

/-- The proof data of the two calls, each at the memory it is entered with. -/
def pdats : (p : Fin 2) → (c : Dev nD) → Dat τ (Elt F) Unit ℕ (UR sig nD τ) ℕ (Pipeline.pin (pcfgs (F := F)) adm p) c
  | ⟨0, _⟩ => fun c => Fwd.dat (mem3 m) c
  | ⟨1, _⟩ => fun c => Bwd.dat (mem5 m) c

/-- No loop variant is used. -/
abbrev 𝒱₀ : Variants := Variants.none
/-- No semaphore is waited for at a level. -/
abbrev L : GSem nD τ sig → Finset Unit := fun _ => ∅
/-- Every level is zero. -/
abbrev lv : GSem nD τ sig → Unit → ℕ := fun _ _ => 0
/-- What goes along with the arrays: the generator's register at some state, and nothing owed. -/
abbrev R (c : Dev nD) : sProp 𝕄 := iprop((∃ r, prngReg c r) ∗ ∃ W, owes (c : Thread nD τ) (0 : CellTallies nD τ sig Unit) W)
/-- A stretch of host lines, run from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An array outside the calls' scratch is among those followed. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the end, without what is owed. -/
abbrev Tₙ (c : Dev nD) : sProp 𝕄 := iprop(StableHlo.held (c : Thread nD τ) (Pipeline.ucRefs τ sig) (W6 m c) ∗ ∃ r, prngReg c r)

/-- At the forward call's exit each of its arrays is at the final contents. -/
theorem hF0 (c : Dev nD) (w : Fin cfg0.W) :
    (Fwd.dat (mem3 m) c).arrAt w cfg0.N = W4 m c (Pipeline.arrRef spec0 w) := (W4_arr m c w).symm
/-- At the forward call's exit every other array is as it was. -/
theorem hrest0 (c : Dev nD) : ∀ b, b ∉ Finset.univ.image (Pipeline.arrRef spec0) → W4 m c b = V3 m c b :=
  fun b hb => W4_of m c b fun w e => hb (Finset.mem_image.mpr ⟨w, Finset.mem_univ _, e⟩)

set_option backward.isDefEq.respectTransparency.types false in
/-- The forward call: from the arrays as it finds them to the arrays as it leaves them. -/
def reg0 : Pipeline.RegionSeg (pcfgs (F := F)) adm (pdats m) () defs₀ 𝒱₀ L lv 0 where
    win := launch₀0.win
    block_pos := launch₀0.block_pos
    stage_whole := launch₀0.stage_whole
    K := PEmpty
    osem k := k.elim
    ho := Pipeline.OwnSemFacts.none _
    hbody c := (Fwd.body_obligation (mem3 m) c).loose
    hwaits := Pipeline.hwaits_of_owed_zero _ _ _ _ L lv 0 fun _ _ => rfl
    pre c := iprop(StableHlo.held (c : Thread nD τ) (Pipeline.ucRefs τ sig) (V3 m c) ∗ R c)
    post c := iprop(StableHlo.held (c : Thread nD τ) (Pipeline.ucRefs τ sig) (W4 m c) ∗ R c)
    X c := iprop(∃ r, prngReg c r)
    Y c := iprop(∃ r, prngReg c r)
    Z c := Pipeline.unscopedRest (Ix := Unit) (Name := ℕ) (U := UR sig nD τ) (Lvl := ℕ) spec0 c (fun b => V3 m c b)
    hentry c := by
      rw [Pipeline.ownSems0_none]
      have hsplit := Pipeline.arrays_of_unscopedBufs_shared (p := 0) (pcfgs (F := F)) adm (pdats m) launch₀0.win launch₀0.sharedIn launch₀0.arr_whole c (fun _ _ => rfl) (fun b => V3 m c b) (Fwd.A_eq (mem3 m) c)
      rw [Pipeline.unscopedBufs_held] at hsplit
      iintro ⟨⟨Hub, Hp, HO⟩, -, -⟩
      ihave H := hsplit $$ Hub
      icases H with ⟨Ha, Hrest⟩
      imodintro
      isplitl [Ha]; · iexact Ha
      isplitr; · unfold Pipeline.prefHeld; rw [show (Finset.univ : Finset (Fin 0)) = ∅ from rfl, BI.bigSep_empty]; iempintro
      isplitl [HO]
      · unfold Pipeline.Dat.owesAt Pipeline.owesWithin
        icases HO with ⟨%W, HO⟩; iexists W; isplitr; · ipureintro; exact fun _ _ => Or.inl trivial
        iexact HO
      isplitl [Hp]; · iexact Hp
      iexact Hrest
    hin c := by
      refine BIBase.Entails.trans ?_ (Fwd.hin (mem3 m) c)
      unfold Pipeline.ΦA
      iintro ⟨Hp, -, Hr⟩
      isplitl [Hr]; · iexact Hr
      iexact Hp
    hout c := by
      refine (Fwd.hout (mem3 m) c).trans ?_
      rw [Pipeline.ownSems0_none]
      unfold Pipeline.ΦA
      iintro ⟨Hr, Hp⟩
      isplitl [Hp]; · iexact Hp
      isplitr; · iempintro
      iexact Hr
    hexit c := by
      have hjoin := Pipeline.unscopedBufs_of_arrays_shared (p := 0) (pcfgs (F := F)) adm (Ix := Unit) (Name := ℕ) (U := UR sig nD τ) (Lvl := ℕ)
        launch₀0.win launch₀0.sharedIn launch₀0.arr_whole c (pdats m) (fun _ _ => rfl) (fun b => V3 m c b) (fun b => W4 m c b) ((pdats m 0 c).arrAt · cfg0.N) (hF0 m c) (hrest0 m c)
      rw [Pipeline.unscopedBufs_held] at hjoin
      iintro ⟨Ha, HO, HY, Hrest⟩
      imodintro
      isplitl [Ha Hrest]
      · iapply hjoin; isplitl [Ha] <;> iassumption
      isplitl [HY]; · iexact HY
      unfold Pipeline.Dat.owesAt Pipeline.owesWithin
      icases HO with ⟨%W, -, HO⟩; iexists W; iexact HO

/-- At the backward call's exit each of its arrays is at the final contents. -/
theorem hF1 (c : Dev nD) (w : Fin cfg1.W) :
    (Bwd.dat (mem5 m) c).arrAt w cfg1.N = W6 m c (Pipeline.arrRef spec1 w) := (W6_arr m c w).symm
/-- At the backward call's exit every other array is as it was. -/
theorem hrest1 (c : Dev nD) : ∀ b, b ∉ Finset.univ.image (Pipeline.arrRef spec1) → W6 m c b = W5 m c b :=
  fun b hb => W6_of m c b fun w e => hb (Finset.mem_image.mpr ⟨w, Finset.mem_univ _, e⟩)

set_option backward.isDefEq.respectTransparency.types false in
/-- The backward call: from the arrays as it finds them to the arrays as it leaves them. -/
def reg1 : Pipeline.RegionSeg (pcfgs (F := F)) adm (pdats m) () defs₀ 𝒱₀ L lv 1 where
    win := launch₀1.win
    block_pos := launch₀1.block_pos
    stage_whole := launch₀1.stage_whole
    K := PEmpty
    osem k := k.elim
    ho := Pipeline.OwnSemFacts.none _
    hbody c := (Bwd.body_obligation (mem5 m) c).loose
    hwaits := Pipeline.hwaits_of_owed_zero _ _ _ _ L lv 1 fun _ _ => rfl
    pre c := iprop(StableHlo.held (c : Thread nD τ) (Pipeline.ucRefs τ sig) (W5 m c) ∗ R c)
    post c := iprop(Tₙ m c ∗ ∃ W, owes (c : Thread nD τ) (0 : CellTallies nD τ sig Unit) W)
    X c := iprop(∃ r, prngReg c r)
    Y c := iprop(∃ r, prngReg c r)
    Z c := Pipeline.unscopedRest (Ix := Unit) (Name := ℕ) (U := UR sig nD τ) (Lvl := ℕ) spec1 c (fun b => W5 m c b)
    hentry c := by
      rw [Pipeline.ownSems0_none]
      have hsplit := Pipeline.arrays_of_unscopedBufs_shared (p := 1) (pcfgs (F := F)) adm (pdats m) launch₀1.win launch₀1.sharedIn launch₀1.arr_whole c (fun _ _ => rfl) (fun b => W5 m c b) (Bwd.A_eq (mem5 m) c)
      rw [Pipeline.unscopedBufs_held] at hsplit
      iintro ⟨⟨Hub, Hp, HO⟩, -, -⟩
      ihave H := hsplit $$ Hub
      icases H with ⟨Ha, Hrest⟩
      imodintro
      isplitl [Ha]; · iexact Ha
      isplitr; · unfold Pipeline.prefHeld; rw [show (Finset.univ : Finset (Fin 0)) = ∅ from rfl, BI.bigSep_empty]; iempintro
      isplitl [HO]
      · unfold Pipeline.Dat.owesAt Pipeline.owesWithin
        icases HO with ⟨%W, HO⟩; iexists W; isplitr; · ipureintro; exact fun _ _ => Or.inl trivial
        iexact HO
      isplitl [Hp]; · iexact Hp
      iexact Hrest
    hin c := by
      refine BIBase.Entails.trans ?_ (Bwd.hin (mem5 m) c)
      unfold Pipeline.ΦA
      iintro ⟨Hp, -, Hr⟩
      isplitl [Hr]; · iexact Hr
      iexact Hp
    hout c := by
      refine (Bwd.hout (mem5 m) c).trans ?_
      rw [Pipeline.ownSems0_none]
      unfold Pipeline.ΦA
      iintro ⟨Hr, Hp⟩
      isplitl [Hp]; · iexact Hp
      isplitr; · iempintro
      iexact Hr
    hexit c := by
      have hjoin := Pipeline.unscopedBufs_of_arrays_shared (p := 1) (pcfgs (F := F)) adm (Ix := Unit) (Name := ℕ) (U := UR sig nD τ) (Lvl := ℕ)
        launch₀1.win launch₀1.sharedIn launch₀1.arr_whole c (pdats m) (fun _ _ => rfl) (fun b => W5 m c b) (fun b => W6 m c b) ((pdats m 1 c).arrAt · cfg1.N) (hF1 m c) (hrest1 m c)
      rw [Pipeline.unscopedBufs_held] at hjoin
      iintro ⟨Ha, HO, HY, Hrest⟩
      imodintro
      isplitl [Ha HY Hrest]
      · isplitl [Ha Hrest]
        · iapply hjoin; isplitl [Ha] <;> iassumption
        iexact HY
      unfold Pipeline.Dat.owesAt Pipeline.owesWithin
      icases HO with ⟨%W, -, HO⟩; iexists W; iexact HO

/-! ## The run -/

/-- The program's items in order. -/
abbrev segs : List (Pipeline.Seg (pcfgs (F := F)) adm (pdats m) () defs₀ 𝒱₀ L lv) :=
  [ .host (hseg hostOps0 hostOps0_sub hostOps0_fresh (V0 m)), .host (hseg hostOps0_1 hostOps0_1_sub hostOps0_1_fresh (V1 m)),
    .host (hseg hostOps0_2 hostOps0_2_sub hostOps0_2_fresh (V2 m)), .region (reg0 m),
    .host (hseg hostOps1 hostOps1_sub hostOps1_fresh (W4 m)), .region (reg1 m) ]
/-- The program is the run of its items. -/
theorem main_run (c : Dev nD) : main (F := F) c = Pipeline.Seg.run (segs m) := (main_chain c).trans (by chain_rfl)

/-- What a final memory is read for: every argument as launched, the two results at the calls' final contents. -/
def Final (s : MemSt nD τ sig (Elt F)) : Prop := ∀ c : Dev nD,
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_v69_0) = (Fwd.dat (mem3 m) c).arrAt 9 cfg0.N
    ∧ s.mem ((c : Thread nD τ).loc main_v70) = (Bwd.dat (mem5 m) c).arrAt 11 cfg1.N

set_option backward.isDefEq.respectTransparency.types false in
/-- From any memory the program terminates without fault, every argument as launched, both results at the calls' final
contents, every counter at zero. -/
theorem run_main : θ_run defs (onTc (τ := τ) (main (F := F))) ⟨m, fun _ => 0, ρ⟩ (fun r => Final m r.2 ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h hz => ⟨fun c =>
      ⟨(h c _ (mem_uc main_arg0 (by decide))).trans (W6_arg0 m c), (h c _ (mem_uc main_arg1 (by decide))).trans (W6_arg1 m c),
       (h c _ (mem_uc main_arg2 (by decide))).trans (W6_arg2 m c), (h c _ (mem_uc main_arg3 (by decide))).trans (W6_arg3 m c),
       (h c _ (mem_uc main_arg4 (by decide))).trans (W6_arg4 m c), (h c _ (mem_uc main_v69_0 (by decide))).trans (W6_r m c),
       (h c _ (mem_uc main_v70 (by decide))).trans (W6_dproj m c)⟩, funext fun g => hz g (.inr (regions_no_unscoped g.2))⟩)

end Cert.KernelIdeal.Run

end
-- ==== Proof.Same.lean ====
module

public import proofs.«01_k».proof.Defs
public import proofs.«01_k».proof.Proof.Gen.Kernel
public import proofs.«01_k».proof.Proof.Gen.KernelIdeal

@[expose] public section

set_option maxRecDepth 16384
set_option maxHeartbeats 4000000

noncomputable section

/-! The two printed kernels have the same text: read at the same float values, their bodies and main functions are equal. -/

namespace Cert.Proof.Same

open Idealize.ShloMosaic Idealize.SL.Sem

/-- The forward bodies agree. -/
theorem fwd_eq : @Cert.Kernel.cc0_retention_fwd Bits _ _ = @Cert.KernelIdeal.cc0_retention_fwd Bits _ _ := rfl

/-- The backward bodies agree. -/
theorem bwd_eq : @Cert.Kernel.cc1_retention_bwd Bits _ _ = @Cert.KernelIdeal.cc1_retention_bwd Bits _ _ := rfl

/-- So do the body tables of the calls. -/
theorem bodies_eq : @Cert.Kernel.defs₀ Bits _ _ = @Cert.KernelIdeal.defs₀ Bits _ _ := by
  unfold Cert.Kernel.defs₀ Cert.KernelIdeal.defs₀
  refine congrArg Defs.onTc ?_
  funext k a
  match k, a with
  | ⟨0, _⟩, (t, s) => dsimp only; rw [fwd_eq]; rfl
  | ⟨1, _⟩, (t, s) => dsimp only; rw [bwd_eq]; rfl

/-- And the pipelines built on them. -/
theorem defs_eq : @Cert.Kernel.defs Bits _ _ = @Cert.KernelIdeal.defs Bits _ _ := by
  show Pipeline.defs Cert.Kernel.pcfgs Cert.Kernel.defs₀ = Pipeline.defs Cert.KernelIdeal.pcfgs Cert.KernelIdeal.defs₀
  rw [bodies_eq]
  rfl

/-- The main functions agree. -/
theorem main_eq : @Cert.Kernel.main Bits _ _ = @Cert.KernelIdeal.main Bits _ _ := rfl

end Cert.Proof.Same

end
-- ==== Proof.Frames.lean ====
module

public import proofs.«01_k».proof.Defs
public import proofs.«01_k».proof.Proof.Run
public import proofs.«01_k».proof.Proof.Same

@[expose] public section

set_option maxRecDepth 16384

noncomputable section

namespace Cert.Proof

open Idealize.ShloMosaic Idealize.SL.Sem

/-- The idealised kernel runs from any memory, leaves its arguments as they were and every counter at zero. -/
theorem frame_kernelIdeal : Cert.quiescent_KernelIdeal := by
  intro m ρ _
  refine (θ_run Cert.KernelIdeal.defs _ _).mono (fun r h => ?_) (Cert.KernelIdeal.Run.run_main (F := Ideal) m ρ)
  exact ⟨fun c => ⟨(h.1 c).1, (h.1 c).2.1, (h.1 c).2.2.1, (h.1 c).2.2.2.1, (h.1 c).2.2.2.2.1⟩, h.2⟩

set_option maxHeartbeats 8000000 in
/-- The kernel at machine floats: its text is the idealised one's, so it is the same run read at those floats. -/
theorem frame_kernel : Cert.quiescent_Kernel := by
  intro m ρ _
  have h₀ := Cert.KernelIdeal.Run.run_main (F := Bits) m ρ
  rw [Same.defs_eq, Same.main_eq]
  refine (θ_run Cert.KernelIdeal.defs _ _).mono (fun r h => ?_) h₀
  exact ⟨fun c => ⟨(h.1 c).1, (h.1 c).2.1, (h.1 c).2.2.1, (h.1 c).2.2.2.1, (h.1 c).2.2.2.2.1⟩, h.2⟩

end Cert.Proof

end
-- ==== Proof.RefOps.lean ====
module

public import proofs.«01_k».proof.Proof.Gen.ReferenceIdeal
public import Idealize.ShloMosaic.Lib.StableHlo.RunLoop
public import Idealize.ShloMosaic.Lib.Pipeline.Frame

@[expose] public section

set_option maxRecDepth 16384

noncomputable section

/-! The reference's host operations, as lists: each window of its main function, and the bodies and conditions of its two loops, is the
chain of the lists below. -/

namespace Cert.ReferenceIdeal.Ops

open Idealize.ShloMosaic Idealize.ShloMosaic.TcCoe
open Idealize.SL Idealize.SL.RA Idealize.SL.BI
open Idealize.SL.Sem Facts₀ Facts

variable {F : FTy → Type} [FloatOps F]

/-- Operations of window 0 of the main function. -/
abbrev p0_0 : List (HloOp τ sig (Elt F)) :=
  ( StableHlo.unary main_arg0 main_v0 ((extractStridedSlice S16384x1024 ![0, 0] · slices_S16384x2048_S16384x1024_0_0) : (⟨S16384x2048, .f32⟩ : BufTy).Contents (Elt F) → (⟨S16384x1024, .f32⟩ : BufTy).Contents (Elt F)) ::
    StableHlo.unary main_v0 main_v1 (broadcastInDim S1x16384x1024 ![1, 2] bcast_S16384x1024_S1x16384x1024_1_2 : (⟨S16384x1024, .f32⟩ : BufTy).Contents (Elt F) → (⟨S1x16384x1024, .f32⟩ : BufTy).Contents (Elt F)) ::
    StableHlo.unary main_arg0 main_v2 ((extractStridedSlice S16384x1024 ![0, 1024] · slices_S16384x2048_S16384x1024_0_1024) : (⟨S16384x2048, .f32⟩ : BufTy).Contents (Elt F) → (⟨S16384x1024, .f32⟩ : BufTy).Contents (Elt F)) ::
    StableHlo.unary main_v2 main_v3 (broadcastInDim S1x16384x1024 ![1, 2] bcast_S16384x1024_S1x16384x1024_1_2 : (⟨S16384x1024, .f32⟩ : BufTy).Contents (Elt F) → (⟨S1x16384x1024, .f32⟩ : BufTy).Contents (Elt F)) ::
    StableHlo.unary main_arg1 main_v4 ((extractStridedSlice S16384x2048 ![0, 0] · slices_S16384x8192_S16384x2048_0_0) : (⟨S16384x8192, .bf16⟩ : BufTy).Contents (Elt F) → (⟨S16384x2048, .bf16⟩ : BufTy).Contents (Elt F)) ::
    StableHlo.unary main_v4 main_v5 (broadcastInDim S1x16384x2048 ![1, 2] bcast_S16384x2048_S1x16384x2048_1_2 : (⟨S16384x2048, .bf16⟩ : BufTy).Contents (Elt F) → (⟨S1x16384x2048, .bf16⟩ : BufTy).Contents (Elt F)) ::
    StableHlo.unary main_v5 main_v6 ((extf .f32 · bitsLt_bf16_f32) : (⟨S1x16384x2048, .bf16⟩ : BufTy).Contents (Elt F) → (⟨S1x16384x2048, .f32⟩ : BufTy).Contents (Elt F)) ::
    StableHlo.reshape main_v1 main_v7 (rfl : (.f32 : EltTy) = .f32) shapeCasts_S1x16384x1024_S1x16384x8x128 ::
    StableHlo.nullary main_v8 (sitofp .f32 (iotaInDim S64 32 0)) ::
    StableHlo.unary main_v8 main_v9 (Host.negf : (⟨S64, .f32⟩ : BufTy).Contents (Elt F) → (⟨S64, .f32⟩ : BufTy).Contents (Elt F)) ::
    StableHlo.nullary main_cst (constant S_ .f32 0x42800000#32) ::
    StableHlo.unary main_cst main_v10 (broadcastInDim S64 ![] bcast_S_S64 : (⟨S_, .f32⟩ : BufTy).Contents (Elt F) → (⟨S64, .f32⟩ : BufTy).Contents (Elt F)) ::
    StableHlo.binary main_v9 main_v10 main_v11 (Host.divf : (⟨S64, .f32⟩ : BufTy).Contents (Elt F) → (⟨S64, .f32⟩ : BufTy).Contents (Elt F) → (⟨S64, .f32⟩ : BufTy).Contents (Elt F)) ::
    StableHlo.nullary main_cst_0 (constant S_ .f32 0x461C4000#32) ::
    StableHlo.unary main_cst_0 main_v12 (broadcastInDim S64 ![] bcast_S_S64 : (⟨S_, .f32⟩ : BufTy).Contents (Elt F) → (⟨S64, .f32⟩ : BufTy).Contents (Elt F)) ::
    StableHlo.binary main_v12 main_v11 main_v13 (Host.powf : (⟨S64, .f32⟩ : BufTy).Contents (Elt F) → (⟨S64, .f32⟩ : BufTy).Contents (Elt F) → (⟨S64, .f32⟩ : BufTy).Contents (Elt F)) ::
    StableHlo.unary main_arg2 main_v14 (sitofp .f32 : (⟨S1x16384, .i32⟩ : BufTy).Contents (Elt F) → (⟨S1x16384, .f32⟩ : BufTy).Contents (Elt F)) ::
    StableHlo.unary main_v14 main_v15 (broadcastInDim S1x16384x1 ![0, 1] bcast_S1x16384_S1x16384x1_0_1 : (⟨S1x16384, .f32⟩ : BufTy).Contents (Elt F) → (⟨S1x16384x1, .f32⟩ : BufTy).Contents (Elt F)) ::
    StableHlo.unary main_v13 main_v16 (broadcastInDim S1x1x64 ![2] bcast_S64_S1x1x64_2 : (⟨S64, .f32⟩ : BufTy).Contents (Elt F) → (⟨S1x1x64, .f32⟩ : BufTy).Contents (Elt F)) ::
    StableHlo.unary main_v15 main_v17 (broadcastInDim S1x16384x64 ![0, 1, 2] bcast_S1x16384x1_S1x16384x64_0_1_2 : (⟨S1x16384x1, .f32⟩ : BufTy).Contents (Elt F) → (⟨S1x16384x64, .f32⟩ : BufTy).Contents (Elt F)) ::
    StableHlo.unary main_v16 main_v18 (broadcastInDim S1x16384x64 ![0, 1, 2] bcast_S1x1x64_S1x16384x64_0_1_2 : (⟨S1x1x64, .f32⟩ : BufTy).Contents (Elt F) → (⟨S1x16384x64, .f32⟩ : BufTy).Contents (Elt F)) ::
    StableHlo.binary main_v17 main_v18 main_v19 (mulf : (⟨S1x16384x64, .f32⟩ : BufTy).Contents (Elt F) → (⟨S1x16384x64, .f32⟩ : BufTy).Contents (Elt F) → (⟨S1x16384x64, .f32⟩ : BufTy).Contents (Elt F)) ::
    StableHlo.unary main_v19 main_v20 (Host.cos : (⟨S1x16384x64, .f32⟩ : BufTy).Contents (Elt F) → (⟨S1x16384x64, .f32⟩ : BufTy).Contents (Elt F)) ::
    StableHlo.unary main_v20 main_v21 (broadcastInDim S1x16384x1x64 ![0, 1, 3] bcast_S1x16384x64_S1x16384x1x64_0_1_3 : (⟨S1x16384x64, .f32⟩ : BufTy).Contents (Elt F) → (⟨S1x16384x1x64, .f32⟩ : BufTy).Contents (Elt F)) ::
    StableHlo.unary main_v19 main_v22 (Host.sin : (⟨S1x16384x64, .f32⟩ : BufTy).Contents (Elt F) → (⟨S1x16384x64, .f32⟩ : BufTy).Contents (Elt F)) ::
    StableHlo.unary main_v22 main_v23 (broadcastInDim S1x16384x1x64 ![0, 1, 3] bcast_S1x16384x64_S1x16384x1x64_0_1_3 : (⟨S1x16384x64, .f32⟩ : BufTy).Contents (Elt F) → (⟨S1x16384x1x64, .f32⟩ : BufTy).Contents (Elt F)) ::
    StableHlo.unary main_v7 main_v24 ((extractStridedSlice S1x16384x8x64 ![0, 0, 0, 0] · slices_S1x16384x8x128_S1x16384x8x64_0_0_0_0) : (⟨S1x16384x8x128, .f32⟩ : BufTy).Contents (Elt F) → (⟨S1x16384x8x64, .f32⟩ : BufTy).Contents (Elt F)) ::
    StableHlo.unary main_v7 main_v25 ((extractStridedSlice S1x16384x8x64 ![0, 0, 0, 64] · slices_S1x16384x8x128_S1x16384x8x64_0_0_0_64) : (⟨S1x16384x8x128, .f32⟩ : BufTy).Contents (Elt F) → (⟨S1x16384x8x64, .f32⟩ : BufTy).Contents (Elt F)) ::
    StableHlo.unary main_v21 main_v26 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)) ::
    StableHlo.binary main_v24 main_v26 main_v27 (mulf : (⟨S1x16384x8x64, .f32⟩ : BufTy).Contents (Elt F) → (⟨S1x16384x8x64, .f32⟩ : BufTy).Contents (Elt F) → (⟨S1x16384x8x64, .f32⟩ : BufTy).Contents (Elt F)) ::
    StableHlo.unary main_v23 main_v28 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)) ::
    StableHlo.binary main_v25 main_v28 main_v29 (mulf : (⟨S1x16384x8x64, .f32⟩ : BufTy).Contents (Elt F) → (⟨S1x16384x8x64, .f32⟩ : BufTy).Contents (Elt F) → (⟨S1x16384x8x64, .f32⟩ : BufTy).Contents (Elt F)) ::
    StableHlo.binary main_v27 main_v29 main_v30 (subf : (⟨S1x16384x8x64, .f32⟩ : BufTy).Contents (Elt F) → (⟨S1x16384x8x64, .f32⟩ : BufTy).Contents (Elt F) → (⟨S1x16384x8x64, .f32⟩ : BufTy).Contents (Elt F)) ::
    StableHlo.unary main_v21 main_v31 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)) ::
    StableHlo.binary main_v25 main_v31 main_v32 (mulf : (⟨S1x16384x8x64, .f32⟩ : BufTy).Contents (Elt F) → (⟨S1x16384x8x64, .f32⟩ : BufTy).Contents (Elt F) → (⟨S1x16384x8x64, .f32⟩ : BufTy).Contents (Elt F)) ::
    StableHlo.unary main_v23 main_v33 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)) ::
    StableHlo.binary main_v24 main_v33 main_v34 (mulf : (⟨S1x16384x8x64, .f32⟩ : BufTy).Contents (Elt F) → (⟨S1x16384x8x64, .f32⟩ : BufTy).Contents (Elt F) → (⟨S1x16384x8x64, .f32⟩ : BufTy).Contents (Elt F)) ::
    StableHlo.binary main_v32 main_v34 main_v35 (addf : (⟨S1x16384x8x64, .f32⟩ : BufTy).Contents (Elt F) → (⟨S1x16384x8x64, .f32⟩ : BufTy).Contents (Elt F) → (⟨S1x16384x8x64, .f32⟩ : BufTy).Contents (Elt F)) ::
    StableHlo.binary main_v30 main_v35 main_v36 ((fun a b => concatenate S1x16384x8x128 3 [⟨S1x16384x8x64, a⟩, ⟨S1x16384x8x64, b⟩] concatenates_S1x16384x8x64_S1x16384x8x64_S1x16384x8x128_d3) : (⟨S1x16384x8x64, .f32⟩ : BufTy).Contents (Elt F) → (⟨S1x16384x8x64, .f32⟩ : BufTy).Contents (Elt F) → (⟨S1x16384x8x128, .f32⟩ : BufTy).Contents (Elt F)) ::
    StableHlo.reshape main_v3 main_v37 (rfl : (.f32 : EltTy) = .f32) shapeCasts_S1x16384x1024_S1x16384x8x128 ::
    StableHlo.nullary main_v38 (sitofp .f32 (iotaInDim S64 32 0)) ::
    StableHlo.unary main_v38 main_v39 (Host.negf : (⟨S64, .f32⟩ : BufTy).Contents (Elt F) → (⟨S64, .f32⟩ : BufTy).Contents (Elt F)) ::
    StableHlo.nullary main_cst_1 (constant S_ .f32 0x42800000#32) ::
    StableHlo.unary main_cst_1 main_v40 (broadcastInDim S64 ![] bcast_S_S64 : (⟨S_, .f32⟩ : BufTy).Contents (Elt F) → (⟨S64, .f32⟩ : BufTy).Contents (Elt F)) ::
    StableHlo.binary main_v39 main_v40 main_v41 (Host.divf : (⟨S64, .f32⟩ : BufTy).Contents (Elt F) → (⟨S64, .f32⟩ : BufTy).Contents (Elt F) → (⟨S64, .f32⟩ : BufTy).Contents (Elt F)) ::
    StableHlo.nullary main_cst_2 (constant S_ .f32 0x461C4000#32) ::
    StableHlo.unary main_cst_2 main_v42 (broadcastInDim S64 ![] bcast_S_S64 : (⟨S_, .f32⟩ : BufTy).Contents (Elt F) → (⟨S64, .f32⟩ : BufTy).Contents (Elt F)) ::
    StableHlo.binary main_v42 main_v41 main_v43 (Host.powf : (⟨S64, .f32⟩ : BufTy).Contents (Elt F) → (⟨S64, .f32⟩ : BufTy).Contents (Elt F) → (⟨S64, .f32⟩ : BufTy).Contents (Elt F)) ::
    StableHlo.unary main_arg2 main_v44 (sitofp .f32 : (⟨S1x16384, .i32⟩ : BufTy).Contents (Elt F) → (⟨S1x16384, .f32⟩ : BufTy).Contents (Elt F)) ::
    StableHlo.unary main_v44 main_v45 (broadcastInDim S1x16384x1 ![0, 1] bcast_S1x16384_S1x16384x1_0_1 : (⟨S1x16384, .f32⟩ : BufTy).Contents (Elt F) → (⟨S1x16384x1, .f32⟩ : BufTy).Contents (Elt F)) ::
    StableHlo.unary main_v43 main_v46 (broadcastInDim S1x1x64 ![2] bcast_S64_S1x1x64_2 : (⟨S64, .f32⟩ : BufTy).Contents (Elt F) → (⟨S1x1x64, .f32⟩ : BufTy).Contents (Elt F)) ::
    StableHlo.unary main_v45 main_v47 (broadcastInDim S1x16384x64 ![0, 1, 2] bcast_S1x16384x1_S1x16384x64_0_1_2 : (⟨S1x16384x1, .f32⟩ : BufTy).Contents (Elt F) → (⟨S1x16384x64, .f32⟩ : BufTy).Contents (Elt F)) ::
    StableHlo.unary main_v46 main_v48 (broadcastInDim S1x16384x64 ![0, 1, 2] bcast_S1x1x64_S1x16384x64_0_1_2 : (⟨S1x1x64, .f32⟩ : BufTy).Contents (Elt F) → (⟨S1x16384x64, .f32⟩ : BufTy).Contents (Elt F)) ::
    StableHlo.binary main_v47 main_v48 main_v49 (mulf : (⟨S1x16384x64, .f32⟩ : BufTy).Contents (Elt F) → (⟨S1x16384x64, .f32⟩ : BufTy).Contents (Elt F) → (⟨S1x16384x64, .f32⟩ : BufTy).Contents (Elt F)) ::
    StableHlo.unary main_v49 main_v50 (Host.cos : (⟨S1x16384x64, .f32⟩ : BufTy).Contents (Elt F) → (⟨S1x16384x64, .f32⟩ : BufTy).Contents (Elt F)) ::
    StableHlo.unary main_v50 main_v51 (broadcastInDim S1x16384x1x64 ![0, 1, 3] bcast_S1x16384x64_S1x16384x1x64_0_1_3 : (⟨S1x16384x64, .f32⟩ : BufTy).Contents (Elt F) → (⟨S1x16384x1x64, .f32⟩ : BufTy).Contents (Elt F)) ::
    StableHlo.unary main_v49 main_v52 (Host.sin : (⟨S1x16384x64, .f32⟩ : BufTy).Contents (Elt F) → (⟨S1x16384x64, .f32⟩ : BufTy).Contents (Elt F)) ::
    StableHlo.unary main_v52 main_v53 (broadcastInDim S1x16384x1x64 ![0, 1, 3] bcast_S1x16384x64_S1x16384x1x64_0_1_3 : (⟨S1x16384x64, .f32⟩ : BufTy).Contents (Elt F) → (⟨S1x16384x1x64, .f32⟩ : BufTy).Contents (Elt F)) ::
    StableHlo.unary main_v37 main_v54 ((extractStridedSlice S1x16384x8x64 ![0, 0, 0, 0] · slices_S1x16384x8x128_S1x16384x8x64_0_0_0_0) : (⟨S1x16384x8x128, .f32⟩ : BufTy).Contents (Elt F) → (⟨S1x16384x8x64, .f32⟩ : BufTy).Contents (Elt F)) ::
    StableHlo.unary main_v37 main_v55 ((extractStridedSlice S1x16384x8x64 ![0, 0, 0, 64] · slices_S1x16384x8x128_S1x16384x8x64_0_0_0_64) : (⟨S1x16384x8x128, .f32⟩ : BufTy).Contents (Elt F) → (⟨S1x16384x8x64, .f32⟩ : BufTy).Contents (Elt F)) :: [])
/-- They touch only the buffers of the main processor. -/
theorem p0_0_sub : (p0_0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- The buffers they write, in order. -/
abbrev p0_0_W : List (Ref sig .tc) := [main_v0, main_v1, main_v2, main_v3, main_v4, main_v5, main_v6, main_v7, main_v8, main_v9, main_cst, main_v10, main_v11, main_cst_0, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_cst_1, main_v40, main_v41, main_cst_2, main_v42, main_v43, main_v44, main_v45, main_v46, main_v47, main_v48, main_v49, main_v50, main_v51, main_v52, main_v53, main_v54, main_v55]
/-- What each of these operations writes. -/
theorem p0_0_writes : (p0_0 : List (HloOp τ sig (Elt F))).map HloOp.writes = p0_0_W.map fun r => {Proc.devRef .tc r} := rfl

/-- Operations of window 1 of the main function. -/
abbrev p1_0 : List (HloOp τ sig (Elt F)) :=
  ( StableHlo.unary main_v51 main_v56 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)) ::
    StableHlo.binary main_v54 main_v56 main_v57 (mulf : (⟨S1x16384x8x64, .f32⟩ : BufTy).Contents (Elt F) → (⟨S1x16384x8x64, .f32⟩ : BufTy).Contents (Elt F) → (⟨S1x16384x8x64, .f32⟩ : BufTy).Contents (Elt F)) ::
    StableHlo.unary main_v53 main_v58 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)) ::
    StableHlo.binary main_v55 main_v58 main_v59 (mulf : (⟨S1x16384x8x64, .f32⟩ : BufTy).Contents (Elt F) → (⟨S1x16384x8x64, .f32⟩ : BufTy).Contents (Elt F) → (⟨S1x16384x8x64, .f32⟩ : BufTy).Contents (Elt F)) ::
    StableHlo.binary main_v57 main_v59 main_v60 (subf : (⟨S1x16384x8x64, .f32⟩ : BufTy).Contents (Elt F) → (⟨S1x16384x8x64, .f32⟩ : BufTy).Contents (Elt F) → (⟨S1x16384x8x64, .f32⟩ : BufTy).Contents (Elt F)) ::
    StableHlo.unary main_v51 main_v61 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)) ::
    StableHlo.binary main_v55 main_v61 main_v62 (mulf : (⟨S1x16384x8x64, .f32⟩ : BufTy).Contents (Elt F) → (⟨S1x16384x8x64, .f32⟩ : BufTy).Contents (Elt F) → (⟨S1x16384x8x64, .f32⟩ : BufTy).Contents (Elt F)) ::
    StableHlo.unary main_v53 main_v63 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)) ::
    StableHlo.binary main_v54 main_v63 main_v64 (mulf : (⟨S1x16384x8x64, .f32⟩ : BufTy).Contents (Elt F) → (⟨S1x16384x8x64, .f32⟩ : BufTy).Contents (Elt F) → (⟨S1x16384x8x64, .f32⟩ : BufTy).Contents (Elt F)) ::
    StableHlo.binary main_v62 main_v64 main_v65 (addf : (⟨S1x16384x8x64, .f32⟩ : BufTy).Contents (Elt F) → (⟨S1x16384x8x64, .f32⟩ : BufTy).Contents (Elt F) → (⟨S1x16384x8x64, .f32⟩ : BufTy).Contents (Elt F)) ::
    StableHlo.binary main_v60 main_v65 main_v66 ((fun a b => concatenate S1x16384x8x128 3 [⟨S1x16384x8x64, a⟩, ⟨S1x16384x8x64, b⟩] concatenates_S1x16384x8x64_S1x16384x8x64_S1x16384x8x128_d3) : (⟨S1x16384x8x64, .f32⟩ : BufTy).Contents (Elt F) → (⟨S1x16384x8x64, .f32⟩ : BufTy).Contents (Elt F) → (⟨S1x16384x8x128, .f32⟩ : BufTy).Contents (Elt F)) ::
    StableHlo.nullary main_cst_3 (constant S_ .f32 0x3DB504F3#32) ::
    StableHlo.unary main_cst_3 main_v67 (broadcastInDim S1x16384x8x128 ![] bcast_S_S1x16384x8x128 : (⟨S_, .f32⟩ : BufTy).Contents (Elt F) → (⟨S1x16384x8x128, .f32⟩ : BufTy).Contents (Elt F)) ::
    StableHlo.binary main_v66 main_v67 main_v68 (mulf : (⟨S1x16384x8x128, .f32⟩ : BufTy).Contents (Elt F) → (⟨S1x16384x8x128, .f32⟩ : BufTy).Contents (Elt F) → (⟨S1x16384x8x128, .f32⟩ : BufTy).Contents (Elt F)) ::
    StableHlo.reshape main_v6 main_v69 (rfl : (.f32 : EltTy) = .f32) shapeCasts_S1x16384x2048_S1x16384x8x256 ::
    StableHlo.nullary main_v70 (sitofp .f32 (iotaInDim S8 32 0)) ::
    StableHlo.nullary main_cst_4 (constant S_ .f32 0xC0A00000#32) ::
    StableHlo.unary main_cst_4 main_v71 (broadcastInDim S8 ![] bcast_S_S8 : (⟨S_, .f32⟩ : BufTy).Contents (Elt F) → (⟨S8, .f32⟩ : BufTy).Contents (Elt F)) ::
    StableHlo.binary main_v71 main_v70 main_v72 (subf : (⟨S8, .f32⟩ : BufTy).Contents (Elt F) → (⟨S8, .f32⟩ : BufTy).Contents (Elt F) → (⟨S8, .f32⟩ : BufTy).Contents (Elt F)) ::
    StableHlo.nullary main_cst_5 (constant S_ .f32 0x40000000#32) ::
    StableHlo.unary main_cst_5 main_v73 (broadcastInDim S8 ![] bcast_S_S8 : (⟨S_, .f32⟩ : BufTy).Contents (Elt F) → (⟨S8, .f32⟩ : BufTy).Contents (Elt F)) ::
    StableHlo.binary main_v73 main_v72 main_v74 (Host.powf : (⟨S8, .f32⟩ : BufTy).Contents (Elt F) → (⟨S8, .f32⟩ : BufTy).Contents (Elt F) → (⟨S8, .f32⟩ : BufTy).Contents (Elt F)) ::
    StableHlo.nullary main_cst_6 (constant S_ .f32 0x3F800000#32) ::
    StableHlo.unary main_cst_6 main_v75 (broadcastInDim S8 ![] bcast_S_S8 : (⟨S_, .f32⟩ : BufTy).Contents (Elt F) → (⟨S8, .f32⟩ : BufTy).Contents (Elt F)) ::
    StableHlo.binary main_v75 main_v74 main_v76 (subf : (⟨S8, .f32⟩ : BufTy).Contents (Elt F) → (⟨S8, .f32⟩ : BufTy).Contents (Elt F) → (⟨S8, .f32⟩ : BufTy).Contents (Elt F)) ::
    StableHlo.unary main_v76 main_v77 (Host.log : (⟨S8, .f32⟩ : BufTy).Contents (Elt F) → (⟨S8, .f32⟩ : BufTy).Contents (Elt F)) ::
    StableHlo.reshape main_v36 main_v78 (rfl : (.f32 : EltTy) = .f32) shapeCasts_S1x16384x8x128_S1x128x128x8x128 ::
    StableHlo.reshape main_v68 main_v79 (rfl : (.f32 : EltTy) = .f32) shapeCasts_S1x16384x8x128_S1x128x128x8x128 ::
    StableHlo.reshape main_v69 main_v80 (rfl : (.f32 : EltTy) = .f32) shapeCasts_S1x16384x8x256_S1x128x128x8x256 ::
    StableHlo.nullary main_v81 (sitofp .f32 (iotaInDim S128 32 0)) ::
    StableHlo.unary main_v81 main_v82 (broadcastInDim S128x1 ![0] bcast_S128_S128x1_0 : (⟨S128, .f32⟩ : BufTy).Contents (Elt F) → (⟨S128x1, .f32⟩ : BufTy).Contents (Elt F)) ::
    StableHlo.unary main_v81 main_v83 (broadcastInDim S1x128 ![1] bcast_S128_S1x128_1 : (⟨S128, .f32⟩ : BufTy).Contents (Elt F) → (⟨S1x128, .f32⟩ : BufTy).Contents (Elt F)) ::
    StableHlo.unary main_v82 main_v84 (broadcastInDim S128x128 ![0, 1] bcast_S128x1_S128x128_0_1 : (⟨S128x1, .f32⟩ : BufTy).Contents (Elt F) → (⟨S128x128, .f32⟩ : BufTy).Contents (Elt F)) ::
    StableHlo.unary main_v83 main_v85 (broadcastInDim S128x128 ![0, 1] bcast_S1x128_S128x128_0_1 : (⟨S1x128, .f32⟩ : BufTy).Contents (Elt F) → (⟨S128x128, .f32⟩ : BufTy).Contents (Elt F)) ::
    StableHlo.binary main_v84 main_v85 main_v86 (subf : (⟨S128x128, .f32⟩ : BufTy).Contents (Elt F) → (⟨S128x128, .f32⟩ : BufTy).Contents (Elt F) → (⟨S128x128, .f32⟩ : BufTy).Contents (Elt F)) ::
    StableHlo.unary main_v86 main_v87 (broadcastInDim S1x128x128 ![1, 2] bcast_S128x128_S1x128x128_1_2 : (⟨S128x128, .f32⟩ : BufTy).Contents (Elt F) → (⟨S1x128x128, .f32⟩ : BufTy).Contents (Elt F)) ::
    StableHlo.nullary main_cst_7 (constant S_ .f32 0x00000000#32) ::
    StableHlo.unary main_cst_7 main_v88 (broadcastInDim S1x128x128 ![] bcast_S_S1x128x128 : (⟨S_, .f32⟩ : BufTy).Contents (Elt F) → (⟨S1x128x128, .f32⟩ : BufTy).Contents (Elt F)) ::
    StableHlo.binary main_v87 main_v88 main_v89 (cmpf .oge : (⟨S1x128x128, .f32⟩ : BufTy).Contents (Elt F) → (⟨S1x128x128, .f32⟩ : BufTy).Contents (Elt F) → (⟨S1x128x128, .i1⟩ : BufTy).Contents (Elt F)) ::
    StableHlo.unary main_v77 main_v90 (broadcastInDim S8x1x1 ![0] bcast_S8_S8x1x1_0 : (⟨S8, .f32⟩ : BufTy).Contents (Elt F) → (⟨S8x1x1, .f32⟩ : BufTy).Contents (Elt F)) ::
    StableHlo.nullary main_cst_8 (constant S_ .f32 0x00000000#32) ::
    StableHlo.unary main_cst_8 main_v91 (broadcastInDim S128x128 ![] bcast_S_S128x128 : (⟨S_, .f32⟩ : BufTy).Contents (Elt F) → (⟨S128x128, .f32⟩ : BufTy).Contents (Elt F)) ::
    StableHlo.binary main_v86 main_v91 main_v92 (maximumf : (⟨S128x128, .f32⟩ : BufTy).Contents (Elt F) → (⟨S128x128, .f32⟩ : BufTy).Contents (Elt F) → (⟨S128x128, .f32⟩ : BufTy).Contents (Elt F)) ::
    StableHlo.unary main_v92 main_v93 (broadcastInDim S1x128x128 ![1, 2] bcast_S128x128_S1x128x128_1_2 : (⟨S128x128, .f32⟩ : BufTy).Contents (Elt F) → (⟨S1x128x128, .f32⟩ : BufTy).Contents (Elt F)) ::
    StableHlo.unary main_v90 main_v94 (broadcastInDim S8x128x128 ![0, 1, 2] bcast_S8x1x1_S8x128x128_0_1_2 : (⟨S8x1x1, .f32⟩ : BufTy).Contents (Elt F) → (⟨S8x128x128, .f32⟩ : BufTy).Contents (Elt F)) ::
    StableHlo.unary main_v93 main_v95 (broadcastInDim S8x128x128 ![0, 1, 2] bcast_S1x128x128_S8x128x128_0_1_2 : (⟨S1x128x128, .f32⟩ : BufTy).Contents (Elt F) → (⟨S8x128x128, .f32⟩ : BufTy).Contents (Elt F)) ::
    StableHlo.binary main_v94 main_v95 main_v96 (mulf : (⟨S8x128x128, .f32⟩ : BufTy).Contents (Elt F) → (⟨S8x128x128, .f32⟩ : BufTy).Contents (Elt F) → (⟨S8x128x128, .f32⟩ : BufTy).Contents (Elt F)) ::
    StableHlo.unary main_v96 main_v97 (Host.exp : (⟨S8x128x128, .f32⟩ : BufTy).Contents (Elt F) → (⟨S8x128x128, .f32⟩ : BufTy).Contents (Elt F)) ::
    StableHlo.nullary main_cst_9 (constant S_ .f32 0x00000000#32) :: [])
/-- They touch only the buffers of the main processor. -/
theorem p1_0_sub : (p1_0 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.reshape_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.reshape_bufs_sub .., StableHlo.reshape_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub ..⟩
/-- The buffers they write, in order. -/
abbrev p1_0_W : List (Ref sig .tc) := [main_v56, main_v57, main_v58, main_v59, main_v60, main_v61, main_v62, main_v63, main_v64, main_v65, main_v66, main_cst_3, main_v67, main_v68, main_v69, main_v70, main_cst_4, main_v71, main_v72, main_cst_5, main_v73, main_v74, main_cst_6, main_v75, main_v76, main_v77, main_v78, main_v79, main_v80, main_v81, main_v82, main_v83, main_v84, main_v85, main_v86, main_v87, main_cst_7, main_v88, main_v89, main_v90, main_cst_8, main_v91, main_v92, main_v93, main_v94, main_v95, main_v96, main_v97, main_cst_9]
/-- What each of these operations writes. -/
theorem p1_0_writes : (p1_0 : List (HloOp τ sig (Elt F))).map HloOp.writes = p1_0_W.map fun r => {Proc.devRef .tc r} := rfl

/-- Operations of window 1 of the main function. -/
abbrev p1_1 : List (HloOp τ sig (Elt F)) :=
  [ StableHlo.unary main_cst_9 main_call0_v0 id,
    StableHlo.unary main_v89 main_call0_v1 (broadcastInDim S8x128x128 ![0, 1, 2] bcast_S1x128x128_S8x128x128_0_1_2 : (⟨S1x128x128, .i1⟩ : BufTy).Contents (Elt F) → (⟨S8x128x128, .i1⟩ : BufTy).Contents (Elt F)),
    StableHlo.unary main_call0_v0 main_call0_v2 (broadcastInDim S8x128x128 ![] bcast_S_S8x128x128 : (⟨S_, .f32⟩ : BufTy).Contents (Elt F) → (⟨S8x128x128, .f32⟩ : BufTy).Contents (Elt F)),
    StableHlo.ternary main_call0_v1 main_v97 main_call0_v2 main_v98 (select : (⟨S8x128x128, .i1⟩ : BufTy).Contents (Elt F) → (⟨S8x128x128, .f32⟩ : BufTy).Contents (Elt F) → (⟨S8x128x128, .f32⟩ : BufTy).Contents (Elt F) → (⟨S8x128x128, .f32⟩ : BufTy).Contents (Elt F)) ]
/-- They touch only the buffers of the main processor. -/
theorem p1_1_sub : (p1_1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- The buffers they write, in order. -/
abbrev p1_1_W : List (Ref sig .tc) := [main_call0_v0, main_call0_v1, main_call0_v2, main_v98]
/-- What each of these operations writes. -/
theorem p1_1_writes : (p1_1 : List (HloOp τ sig (Elt F))).map HloOp.writes = p1_1_W.map fun r => {Proc.devRef .tc r} := rfl

/-- Operations of window 1 of the main function. -/
abbrev p1_2 : List (HloOp τ sig (Elt F)) :=
  [ StableHlo.binary main_v78 main_v79 main_v99 ((fun l r => Host.dotGeneral dot_S1x128x128x8x128_S1x128x128x8x128_S1x128x8x128x128_4_4_2_2_013_013 none l r) : (⟨S1x128x128x8x128, .f32⟩ : BufTy).Contents (Elt F) → (⟨S1x128x128x8x128, .f32⟩ : BufTy).Contents (Elt F) → (⟨S1x128x8x128x128, .f32⟩ : BufTy).Contents (Elt F)),
    StableHlo.unary main_v98 main_v100 (broadcastInDim S1x1x8x128x128 ![2, 3, 4] bcast_S8x128x128_S1x1x8x128x128_2_3_4 : (⟨S8x128x128, .f32⟩ : BufTy).Contents (Elt F) → (⟨S1x1x8x128x128, .f32⟩ : BufTy).Contents (Elt F)),
    StableHlo.unary main_v100 main_v101 (broadcastInDim S1x128x8x128x128 ![0, 1, 2, 3, 4] bcast_S1x1x8x128x128_S1x128x8x128x128_0_1_2_3_4 : (⟨S1x1x8x128x128, .f32⟩ : BufTy).Contents (Elt F) → (⟨S1x128x8x128x128, .f32⟩ : BufTy).Contents (Elt F)),
    StableHlo.binary main_v99 main_v101 main_v102 (mulf : (⟨S1x128x8x128x128, .f32⟩ : BufTy).Contents (Elt F) → (⟨S1x128x8x128x128, .f32⟩ : BufTy).Contents (Elt F) → (⟨S1x128x8x128x128, .f32⟩ : BufTy).Contents (Elt F)),
    StableHlo.binary main_v80 main_v102 main_v103 ((fun l r => Host.dotGeneral dot_S1x128x128x8x256_S1x128x8x128x128_S1x128x8x256x128_2_4_4_3_013_012 none l r) : (⟨S1x128x128x8x256, .f32⟩ : BufTy).Contents (Elt F) → (⟨S1x128x8x128x128, .f32⟩ : BufTy).Contents (Elt F) → (⟨S1x128x8x256x128, .f32⟩ : BufTy).Contents (Elt F)),
    StableHlo.unary main_v103 main_v104 ((transpose S1x128x128x8x256 [0, 1, 4, 2, 3] · transposes_S1x128x8x256x128_S1x128x128x8x256_0_1_4_2_3) : (⟨S1x128x8x256x128, .f32⟩ : BufTy).Contents (Elt F) → (⟨S1x128x128x8x256, .f32⟩ : BufTy).Contents (Elt F)),
    StableHlo.unary main_v77 main_v105 (broadcastInDim S8x1 ![0] bcast_S8_S8x1_0 : (⟨S8, .f32⟩ : BufTy).Contents (Elt F) → (⟨S8x1, .f32⟩ : BufTy).Contents (Elt F)),
    StableHlo.nullary main_cst_10 (constant S_ .f32 0x42FE0000#32),
    StableHlo.unary main_cst_10 main_v106 (broadcastInDim S128 ![] bcast_S_S128 : (⟨S_, .f32⟩ : BufTy).Contents (Elt F) → (⟨S128, .f32⟩ : BufTy).Contents (Elt F)),
    StableHlo.binary main_v106 main_v81 main_v107 (subf : (⟨S128, .f32⟩ : BufTy).Contents (Elt F) → (⟨S128, .f32⟩ : BufTy).Contents (Elt F) → (⟨S128, .f32⟩ : BufTy).Contents (Elt F)) ]
/-- They touch only the buffers of the main processor. -/
theorem p1_2_sub : (p1_2 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub ..⟩
/-- The buffers they write, in order. -/
abbrev p1_2_W : List (Ref sig .tc) := [main_v99, main_v100, main_v101, main_v102, main_v103, main_v104, main_v105, main_cst_10, main_v106, main_v107]
/-- What each of these operations writes. -/
theorem p1_2_writes : (p1_2 : List (HloOp τ sig (Elt F))).map HloOp.writes = p1_2_W.map fun r => {Proc.devRef .tc r} := rfl

/-- Operations of window 2 of the main function. -/
abbrev p2_0 : List (HloOp τ sig (Elt F)) :=
  ( StableHlo.unary main_v107 main_v108 (broadcastInDim S1x128 ![1] bcast_S128_S1x128_1 : (⟨S128, .f32⟩ : BufTy).Contents (Elt F) → (⟨S1x128, .f32⟩ : BufTy).Contents (Elt F)) ::
    StableHlo.unary main_v105 main_v109 (broadcastInDim S8x128 ![0, 1] bcast_S8x1_S8x128_0_1 : (⟨S8x1, .f32⟩ : BufTy).Contents (Elt F) → (⟨S8x128, .f32⟩ : BufTy).Contents (Elt F)) ::
    StableHlo.unary main_v108 main_v110 (broadcastInDim S8x128 ![0, 1] bcast_S1x128_S8x128_0_1 : (⟨S1x128, .f32⟩ : BufTy).Contents (Elt F) → (⟨S8x128, .f32⟩ : BufTy).Contents (Elt F)) ::
    StableHlo.binary main_v109 main_v110 main_v111 (mulf : (⟨S8x128, .f32⟩ : BufTy).Contents (Elt F) → (⟨S8x128, .f32⟩ : BufTy).Contents (Elt F) → (⟨S8x128, .f32⟩ : BufTy).Contents (Elt F)) ::
    StableHlo.unary main_v111 main_v112 (Host.exp : (⟨S8x128, .f32⟩ : BufTy).Contents (Elt F) → (⟨S8x128, .f32⟩ : BufTy).Contents (Elt F)) ::
    StableHlo.unary main_v112 main_v113 ((transpose S128x8 [1, 0] · transposes_S8x128_S128x8_1_0) : (⟨S8x128, .f32⟩ : BufTy).Contents (Elt F) → (⟨S128x8, .f32⟩ : BufTy).Contents (Elt F)) ::
    StableHlo.unary main_v113 main_v114 (broadcastInDim S1x1x128x8x1 ![2, 3] bcast_S128x8_S1x1x128x8x1_2_3 : (⟨S128x8, .f32⟩ : BufTy).Contents (Elt F) → (⟨S1x1x128x8x1, .f32⟩ : BufTy).Contents (Elt F)) ::
    StableHlo.unary main_v114 main_v115 (broadcastInDim S1x128x128x8x128 ![0, 1, 2, 3, 4] bcast_S1x1x128x8x1_S1x128x128x8x128_0_1_2_3_4 : (⟨S1x1x128x8x1, .f32⟩ : BufTy).Contents (Elt F) → (⟨S1x128x128x8x128, .f32⟩ : BufTy).Contents (Elt F)) ::
    StableHlo.binary main_v79 main_v115 main_v116 (mulf : (⟨S1x128x128x8x128, .f32⟩ : BufTy).Contents (Elt F) → (⟨S1x128x128x8x128, .f32⟩ : BufTy).Contents (Elt F) → (⟨S1x128x128x8x128, .f32⟩ : BufTy).Contents (Elt F)) ::
    StableHlo.binary main_v116 main_v80 main_v117 ((fun l r => Host.dotGeneral dot_S1x128x128x8x128_S1x128x128x8x256_S1x128x8x128x256_2_2_4_4_013_013 none l r) : (⟨S1x128x128x8x128, .f32⟩ : BufTy).Contents (Elt F) → (⟨S1x128x128x8x256, .f32⟩ : BufTy).Contents (Elt F) → (⟨S1x128x8x128x256, .f32⟩ : BufTy).Contents (Elt F)) ::
    StableHlo.nullary main_cst_11 (constant S_ .f32 0x43000000#32) ::
    StableHlo.unary main_cst_11 main_v118 (broadcastInDim S8 ![] bcast_S_S8 : (⟨S_, .f32⟩ : BufTy).Contents (Elt F) → (⟨S8, .f32⟩ : BufTy).Contents (Elt F)) ::
    StableHlo.binary main_v77 main_v118 main_v119 (mulf : (⟨S8, .f32⟩ : BufTy).Contents (Elt F) → (⟨S8, .f32⟩ : BufTy).Contents (Elt F) → (⟨S8, .f32⟩ : BufTy).Contents (Elt F)) ::
    StableHlo.unary main_v119 main_v120 (Host.exp : (⟨S8, .f32⟩ : BufTy).Contents (Elt F) → (⟨S8, .f32⟩ : BufTy).Contents (Elt F)) ::
    StableHlo.unary main_v120 main_v121 (broadcastInDim S1x8x1x1 ![1] bcast_S8_S1x8x1x1_1 : (⟨S8, .f32⟩ : BufTy).Contents (Elt F) → (⟨S1x8x1x1, .f32⟩ : BufTy).Contents (Elt F)) ::
    StableHlo.nullary main_cst_12 (constant S_ .f32 0x00000000#32) ::
    StableHlo.unary main_cst_12 main_v122 (broadcastInDim S1x8x128x256 ![] bcast_S_S1x8x128x256 : (⟨S_, .f32⟩ : BufTy).Contents (Elt F) → (⟨S1x8x128x256, .f32⟩ : BufTy).Contents (Elt F)) ::
    StableHlo.unary main_v117 main_v123 ((transpose S128x1x8x128x256 [1, 0, 2, 3, 4] · transposes_S1x128x8x128x256_S128x1x8x128x256_1_0_2_3_4) : (⟨S1x128x8x128x256, .f32⟩ : BufTy).Contents (Elt F) → (⟨S128x1x8x128x256, .f32⟩ : BufTy).Contents (Elt F)) ::
    StableHlo.nullary main_cst_13 (constant S_ .f32 0x00000000#32) ::
    StableHlo.unary main_cst_13 main_v124 (broadcastInDim S128x1x8x128x256 ![] bcast_S_S128x1x8x128x256 : (⟨S_, .f32⟩ : BufTy).Contents (Elt F) → (⟨S128x1x8x128x256, .f32⟩ : BufTy).Contents (Elt F)) ::
    StableHlo.nullary main_c (constantI S_ 32 0#32) ::
    StableHlo.unary main_v123 main_v125_0 id ::
    StableHlo.unary main_v121 main_v125_1 id ::
    StableHlo.unary main_c main_v125_2 id ::
    StableHlo.unary main_v122 main_v125_3 id ::
    StableHlo.unary main_v124 main_v125_4 id :: [])
/-- They touch only the buffers of the main processor. -/
theorem p2_0_sub : (p2_0 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- The buffers they write, in order. -/
abbrev p2_0_W : List (Ref sig .tc) := [main_v108, main_v109, main_v110, main_v111, main_v112, main_v113, main_v114, main_v115, main_v116, main_v117, main_cst_11, main_v118, main_v119, main_v120, main_v121, main_cst_12, main_v122, main_v123, main_cst_13, main_v124, main_c, main_v125_0, main_v125_1, main_v125_2, main_v125_3, main_v125_4]
/-- What each of these operations writes. -/
theorem p2_0_writes : (p2_0 : List (HloOp τ sig (Elt F))).map HloOp.writes = p2_0_W.map fun r => {Proc.devRef .tc r} := rfl

/-- Operations of window 2 of the main function. -/
abbrev p2_2 : List (HloOp τ sig (Elt F)) :=
  ( StableHlo.unary main_v125_4 main_v126 ((transpose S1x128x8x128x256 [1, 0, 2, 3, 4] · transposes_S128x1x8x128x256_S1x128x8x128x256_1_0_2_3_4) : (⟨S128x1x8x128x256, .f32⟩ : BufTy).Contents (Elt F) → (⟨S1x128x8x128x256, .f32⟩ : BufTy).Contents (Elt F)) ::
    StableHlo.unary main_v77 main_v127 (broadcastInDim S8x1 ![0] bcast_S8_S8x1_0 : (⟨S8, .f32⟩ : BufTy).Contents (Elt F) → (⟨S8x1, .f32⟩ : BufTy).Contents (Elt F)) ::
    StableHlo.nullary main_cst_14 (constant S_ .f32 0x3F800000#32) ::
    StableHlo.unary main_cst_14 main_v128 (broadcastInDim S128 ![] bcast_S_S128 : (⟨S_, .f32⟩ : BufTy).Contents (Elt F) → (⟨S128, .f32⟩ : BufTy).Contents (Elt F)) ::
    StableHlo.binary main_v81 main_v128 main_v129 (addf : (⟨S128, .f32⟩ : BufTy).Contents (Elt F) → (⟨S128, .f32⟩ : BufTy).Contents (Elt F) → (⟨S128, .f32⟩ : BufTy).Contents (Elt F)) ::
    StableHlo.unary main_v129 main_v130 (broadcastInDim S1x128 ![1] bcast_S128_S1x128_1 : (⟨S128, .f32⟩ : BufTy).Contents (Elt F) → (⟨S1x128, .f32⟩ : BufTy).Contents (Elt F)) ::
    StableHlo.unary main_v127 main_v131 (broadcastInDim S8x128 ![0, 1] bcast_S8x1_S8x128_0_1 : (⟨S8x1, .f32⟩ : BufTy).Contents (Elt F) → (⟨S8x128, .f32⟩ : BufTy).Contents (Elt F)) ::
    StableHlo.unary main_v130 main_v132 (broadcastInDim S8x128 ![0, 1] bcast_S1x128_S8x128_0_1 : (⟨S1x128, .f32⟩ : BufTy).Contents (Elt F) → (⟨S8x128, .f32⟩ : BufTy).Contents (Elt F)) ::
    StableHlo.binary main_v131 main_v132 main_v133 (mulf : (⟨S8x128, .f32⟩ : BufTy).Contents (Elt F) → (⟨S8x128, .f32⟩ : BufTy).Contents (Elt F) → (⟨S8x128, .f32⟩ : BufTy).Contents (Elt F)) ::
    StableHlo.unary main_v133 main_v134 (Host.exp : (⟨S8x128, .f32⟩ : BufTy).Contents (Elt F) → (⟨S8x128, .f32⟩ : BufTy).Contents (Elt F)) ::
    StableHlo.unary main_v134 main_v135 ((transpose S128x8 [1, 0] · transposes_S8x128_S128x8_1_0) : (⟨S8x128, .f32⟩ : BufTy).Contents (Elt F) → (⟨S128x8, .f32⟩ : BufTy).Contents (Elt F)) ::
    StableHlo.unary main_v135 main_v136 (broadcastInDim S1x1x128x8x1 ![2, 3] bcast_S128x8_S1x1x128x8x1_2_3 : (⟨S128x8, .f32⟩ : BufTy).Contents (Elt F) → (⟨S1x1x128x8x1, .f32⟩ : BufTy).Contents (Elt F)) ::
    StableHlo.unary main_v136 main_v137 (broadcastInDim S1x128x128x8x128 ![0, 1, 2, 3, 4] bcast_S1x1x128x8x1_S1x128x128x8x128_0_1_2_3_4 : (⟨S1x1x128x8x1, .f32⟩ : BufTy).Contents (Elt F) → (⟨S1x128x128x8x128, .f32⟩ : BufTy).Contents (Elt F)) ::
    StableHlo.binary main_v78 main_v137 main_v138 (mulf : (⟨S1x128x128x8x128, .f32⟩ : BufTy).Contents (Elt F) → (⟨S1x128x128x8x128, .f32⟩ : BufTy).Contents (Elt F) → (⟨S1x128x128x8x128, .f32⟩ : BufTy).Contents (Elt F)) ::
    StableHlo.binary main_v126 main_v138 main_v139 ((fun l r => Host.dotGeneral dot_S1x128x8x128x256_S1x128x128x8x128_S1x128x8x256x128_3_4_4_2_012_013 none l r) : (⟨S1x128x8x128x256, .f32⟩ : BufTy).Contents (Elt F) → (⟨S1x128x128x8x128, .f32⟩ : BufTy).Contents (Elt F) → (⟨S1x128x8x256x128, .f32⟩ : BufTy).Contents (Elt F)) ::
    StableHlo.unary main_v139 main_v140 ((transpose S1x128x128x8x256 [0, 1, 4, 2, 3] · transposes_S1x128x8x256x128_S1x128x128x8x256_0_1_4_2_3) : (⟨S1x128x8x256x128, .f32⟩ : BufTy).Contents (Elt F) → (⟨S1x128x128x8x256, .f32⟩ : BufTy).Contents (Elt F)) ::
    StableHlo.binary main_v104 main_v140 main_v141 (addf : (⟨S1x128x128x8x256, .f32⟩ : BufTy).Contents (Elt F) → (⟨S1x128x128x8x256, .f32⟩ : BufTy).Contents (Elt F) → (⟨S1x128x128x8x256, .f32⟩ : BufTy).Contents (Elt F)) ::
    StableHlo.reshape main_v141 main_v142 (rfl : (.f32 : EltTy) = .f32) shapeCasts_S1x128x128x8x256_S1x16384x8x256 ::
    StableHlo.reshape main_v142 main_v143 (rfl : (.f32 : EltTy) = .f32) shapeCasts_S1x16384x8x256_S1x16384x2048 ::
    StableHlo.unary main_arg3 main_v144 ((extf .f32 · bitsLt_bf16_f32) : (⟨S16384x2048, .bf16⟩ : BufTy).Contents (Elt F) → (⟨S16384x2048, .f32⟩ : BufTy).Contents (Elt F)) ::
    StableHlo.unary main_v144 main_v145 (broadcastInDim S1x16384x2048 ![1, 2] bcast_S16384x2048_S1x16384x2048_1_2 : (⟨S16384x2048, .f32⟩ : BufTy).Contents (Elt F) → (⟨S1x16384x2048, .f32⟩ : BufTy).Contents (Elt F)) ::
    StableHlo.nullary main_cst_15 (constant S_ .f32 0x00000000#32) ::
    StableHlo.unary main_cst_15 main_v146 (broadcastInDim S1x8x128x256 ![] bcast_S_S1x8x128x256 : (⟨S_, .f32⟩ : BufTy).Contents (Elt F) → (⟨S1x8x128x256, .f32⟩ : BufTy).Contents (Elt F)) ::
    StableHlo.reshape main_v145 main_v147 (rfl : (.f32 : EltTy) = .f32) shapeCasts_S1x16384x2048_S1x16384x8x256 ::
    StableHlo.reshape main_v147 main_v148 (rfl : (.f32 : EltTy) = .f32) shapeCasts_S1x16384x8x256_S1x128x128x8x256 ::
    StableHlo.unary main_v148 main_v149 ((transpose S1x128x8x256x128 [0, 1, 3, 4, 2] · transposes_S1x128x128x8x256_S1x128x8x256x128_0_1_3_4_2) : (⟨S1x128x128x8x256, .f32⟩ : BufTy).Contents (Elt F) → (⟨S1x128x8x256x128, .f32⟩ : BufTy).Contents (Elt F)) ::
    StableHlo.binary main_v149 main_v126 main_v150 ((fun l r => Host.dotGeneral dot_S1x128x8x256x128_S1x128x8x128x256_S1x128x8x128x128_3_4_4_3_012_012 none l r) : (⟨S1x128x8x256x128, .f32⟩ : BufTy).Contents (Elt F) → (⟨S1x128x8x128x256, .f32⟩ : BufTy).Contents (Elt F) → (⟨S1x128x8x128x128, .f32⟩ : BufTy).Contents (Elt F)) ::
    StableHlo.unary main_v150 main_v151 ((transpose S1x128x128x8x128 [0, 1, 3, 2, 4] · transposes_S1x128x8x128x128_S1x128x128x8x128_0_1_3_2_4) : (⟨S1x128x8x128x128, .f32⟩ : BufTy).Contents (Elt F) → (⟨S1x128x128x8x128, .f32⟩ : BufTy).Contents (Elt F)) ::
    StableHlo.binary main_v149 main_v138 main_v152 ((fun l r => Host.dotGeneral dot_S1x128x8x256x128_S1x128x128x8x128_S1x128x8x256x128_4_2_3_4_012_013 none l r) : (⟨S1x128x8x256x128, .f32⟩ : BufTy).Contents (Elt F) → (⟨S1x128x128x8x128, .f32⟩ : BufTy).Contents (Elt F) → (⟨S1x128x8x256x128, .f32⟩ : BufTy).Contents (Elt F)) ::
    StableHlo.unary main_v152 main_v153 ((transpose S1x128x8x128x256 [0, 1, 2, 4, 3] · transposes_S1x128x8x256x128_S1x128x8x128x256_0_1_2_4_3) : (⟨S1x128x8x256x128, .f32⟩ : BufTy).Contents (Elt F) → (⟨S1x128x8x128x256, .f32⟩ : BufTy).Contents (Elt F)) ::
    StableHlo.unary main_v136 main_v154 (broadcastInDim S1x128x128x8x128 ![0, 1, 2, 3, 4] bcast_S1x1x128x8x1_S1x128x128x8x128_0_1_2_3_4 : (⟨S1x1x128x8x1, .f32⟩ : BufTy).Contents (Elt F) → (⟨S1x128x128x8x128, .f32⟩ : BufTy).Contents (Elt F)) ::
    StableHlo.binary main_v151 main_v154 main_v155 (mulf : (⟨S1x128x128x8x128, .f32⟩ : BufTy).Contents (Elt F) → (⟨S1x128x128x8x128, .f32⟩ : BufTy).Contents (Elt F) → (⟨S1x128x128x8x128, .f32⟩ : BufTy).Contents (Elt F)) ::
    StableHlo.unary main_v153 main_v156 ((transpose S128x1x8x128x256 [1, 0, 2, 3, 4] · transposes_S1x128x8x128x256_S128x1x8x128x256_1_0_2_3_4) : (⟨S1x128x8x128x256, .f32⟩ : BufTy).Contents (Elt F) → (⟨S128x1x8x128x256, .f32⟩ : BufTy).Contents (Elt F)) :: [])
/-- They touch only the buffers of the main processor. -/
theorem p2_2_sub : (p2_2 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.binary_bufs_sub .., StableHlo.reshape_bufs_sub .., StableHlo.reshape_bufs_sub .., StableHlo.unary_bufs_sub .., StableHlo.unary_bufs_sub .., StableHlo.nullary_bufs_sub .., StableHlo.unary_bufs_sub .., StableHlo.reshape_bufs_sub .., StableHlo.reshape_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub ..⟩
/-- The buffers they write, in order. -/
abbrev p2_2_W : List (Ref sig .tc) := [main_v126, main_v127, main_cst_14, main_v128, main_v129, main_v130, main_v131, main_v132, main_v133, main_v134, main_v135, main_v136, main_v137, main_v138, main_v139, main_v140, main_v141, main_v142, main_v143, main_v144, main_v145, main_cst_15, main_v146, main_v147, main_v148, main_v149, main_v150, main_v151, main_v152, main_v153, main_v154, main_v155, main_v156]
/-- What each of these operations writes. -/
theorem p2_2_writes : (p2_2 : List (HloOp τ sig (Elt F))).map HloOp.writes = p2_2_W.map fun r => {Proc.devRef .tc r} := rfl

/-- Operations of window 3 of the main function. -/
abbrev p3_0 : List (HloOp τ sig (Elt F)) :=
  [ StableHlo.nullary main_cst_16 (constant S_ .f32 0x00000000#32),
    StableHlo.unary main_cst_16 main_v157 (broadcastInDim S1x8x128x256 ![] bcast_S_S1x8x128x256 : (⟨S_, .f32⟩ : BufTy).Contents (Elt F) → (⟨S1x8x128x256, .f32⟩ : BufTy).Contents (Elt F)),
    StableHlo.nullary main_cst_17 (constant S_ .f32 0x00000000#32),
    StableHlo.unary main_cst_17 main_v158 (broadcastInDim S128x1x8x128x256 ![] bcast_S_S128x1x8x128x256 : (⟨S_, .f32⟩ : BufTy).Contents (Elt F) → (⟨S128x1x8x128x256, .f32⟩ : BufTy).Contents (Elt F)),
    StableHlo.nullary main_c_18 (constantI S_ 32 0#32),
    StableHlo.unary main_v156 main_v159_0 id,
    StableHlo.unary main_v121 main_v159_1 id,
    StableHlo.unary main_c_18 main_v159_2 id,
    StableHlo.unary main_v157 main_v159_3 id,
    StableHlo.unary main_v158 main_v159_4 id ]
/-- They touch only the buffers of the main processor. -/
theorem p3_0_sub : (p3_0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- The buffers they write, in order. -/
abbrev p3_0_W : List (Ref sig .tc) := [main_cst_16, main_v157, main_cst_17, main_v158, main_c_18, main_v159_0, main_v159_1, main_v159_2, main_v159_3, main_v159_4]
/-- What each of these operations writes. -/
theorem p3_0_writes : (p3_0 : List (HloOp τ sig (Elt F))).map HloOp.writes = p3_0_W.map fun r => {Proc.devRef .tc r} := rfl

/-- Operations of window 3 of the main function. -/
abbrev p3_2 : List (HloOp τ sig (Elt F)) :=
  ( StableHlo.unary main_v159_4 main_v160 ((transpose S1x128x8x128x256 [1, 0, 2, 3, 4] · transposes_S128x1x8x128x256_S1x128x8x128x256_1_0_2_3_4) : (⟨S128x1x8x128x256, .f32⟩ : BufTy).Contents (Elt F) → (⟨S1x128x8x128x256, .f32⟩ : BufTy).Contents (Elt F)) ::
    StableHlo.binary main_v160 main_v116 main_v161 ((fun l r => Host.dotGeneral dot_S1x128x8x128x256_S1x128x128x8x128_S1x128x8x256x128_3_4_4_2_012_013 none l r) : (⟨S1x128x8x128x256, .f32⟩ : BufTy).Contents (Elt F) → (⟨S1x128x128x8x128, .f32⟩ : BufTy).Contents (Elt F) → (⟨S1x128x8x256x128, .f32⟩ : BufTy).Contents (Elt F)) ::
    StableHlo.unary main_v161 main_v162 ((transpose S1x128x128x8x256 [0, 1, 4, 2, 3] · transposes_S1x128x8x256x128_S1x128x128x8x256_0_1_4_2_3) : (⟨S1x128x8x256x128, .f32⟩ : BufTy).Contents (Elt F) → (⟨S1x128x128x8x256, .f32⟩ : BufTy).Contents (Elt F)) ::
    StableHlo.binary main_v160 main_v80 main_v163 ((fun l r => Host.dotGeneral dot_S1x128x8x128x256_S1x128x128x8x256_S1x128x8x128x128_4_4_3_2_012_013 none l r) : (⟨S1x128x8x128x256, .f32⟩ : BufTy).Contents (Elt F) → (⟨S1x128x128x8x256, .f32⟩ : BufTy).Contents (Elt F) → (⟨S1x128x8x128x128, .f32⟩ : BufTy).Contents (Elt F)) ::
    StableHlo.unary main_v163 main_v164 ((transpose S1x128x128x8x128 [0, 1, 4, 2, 3] · transposes_S1x128x8x128x128_S1x128x128x8x128_0_1_4_2_3) : (⟨S1x128x8x128x128, .f32⟩ : BufTy).Contents (Elt F) → (⟨S1x128x128x8x128, .f32⟩ : BufTy).Contents (Elt F)) ::
    StableHlo.unary main_v114 main_v165 (broadcastInDim S1x128x128x8x128 ![0, 1, 2, 3, 4] bcast_S1x1x128x8x1_S1x128x128x8x128_0_1_2_3_4 : (⟨S1x1x128x8x1, .f32⟩ : BufTy).Contents (Elt F) → (⟨S1x128x128x8x128, .f32⟩ : BufTy).Contents (Elt F)) ::
    StableHlo.binary main_v164 main_v165 main_v166 (mulf : (⟨S1x128x128x8x128, .f32⟩ : BufTy).Contents (Elt F) → (⟨S1x128x128x8x128, .f32⟩ : BufTy).Contents (Elt F) → (⟨S1x128x128x8x128, .f32⟩ : BufTy).Contents (Elt F)) ::
    StableHlo.unary main_v148 main_v167 ((transpose S1x128x8x256x128 [0, 1, 3, 4, 2] · transposes_S1x128x128x8x256_S1x128x8x256x128_0_1_3_4_2) : (⟨S1x128x128x8x256, .f32⟩ : BufTy).Contents (Elt F) → (⟨S1x128x8x256x128, .f32⟩ : BufTy).Contents (Elt F)) ::
    StableHlo.binary main_v167 main_v80 main_v168 ((fun l r => Host.dotGeneral dot_S1x128x8x256x128_S1x128x128x8x256_S1x128x8x128x128_3_4_4_2_012_013 none l r) : (⟨S1x128x8x256x128, .f32⟩ : BufTy).Contents (Elt F) → (⟨S1x128x128x8x256, .f32⟩ : BufTy).Contents (Elt F) → (⟨S1x128x8x128x128, .f32⟩ : BufTy).Contents (Elt F)) ::
    StableHlo.binary main_v167 main_v102 main_v169 ((fun l r => Host.dotGeneral dot_S1x128x8x256x128_S1x128x8x128x128_S1x128x8x256x128_4_3_3_4_012_012 none l r) : (⟨S1x128x8x256x128, .f32⟩ : BufTy).Contents (Elt F) → (⟨S1x128x8x128x128, .f32⟩ : BufTy).Contents (Elt F) → (⟨S1x128x8x256x128, .f32⟩ : BufTy).Contents (Elt F)) ::
    StableHlo.unary main_v169 main_v170 ((transpose S1x128x128x8x256 [0, 1, 4, 2, 3] · transposes_S1x128x8x256x128_S1x128x128x8x256_0_1_4_2_3) : (⟨S1x128x8x256x128, .f32⟩ : BufTy).Contents (Elt F) → (⟨S1x128x128x8x256, .f32⟩ : BufTy).Contents (Elt F)) ::
    StableHlo.binary main_v162 main_v170 main_v171 (addf : (⟨S1x128x128x8x256, .f32⟩ : BufTy).Contents (Elt F) → (⟨S1x128x128x8x256, .f32⟩ : BufTy).Contents (Elt F) → (⟨S1x128x128x8x256, .f32⟩ : BufTy).Contents (Elt F)) ::
    StableHlo.unary main_v100 main_v172 (broadcastInDim S1x128x8x128x128 ![0, 1, 2, 3, 4] bcast_S1x1x8x128x128_S1x128x8x128x128_0_1_2_3_4 : (⟨S1x1x8x128x128, .f32⟩ : BufTy).Contents (Elt F) → (⟨S1x128x8x128x128, .f32⟩ : BufTy).Contents (Elt F)) ::
    StableHlo.binary main_v168 main_v172 main_v173 (mulf : (⟨S1x128x8x128x128, .f32⟩ : BufTy).Contents (Elt F) → (⟨S1x128x8x128x128, .f32⟩ : BufTy).Contents (Elt F) → (⟨S1x128x8x128x128, .f32⟩ : BufTy).Contents (Elt F)) ::
    StableHlo.binary main_v173 main_v78 main_v174 ((fun l r => Host.dotGeneral dot_S1x128x8x128x128_S1x128x128x8x128_S1x128x8x128x128_3_2_4_4_012_013 none l r) : (⟨S1x128x8x128x128, .f32⟩ : BufTy).Contents (Elt F) → (⟨S1x128x128x8x128, .f32⟩ : BufTy).Contents (Elt F) → (⟨S1x128x8x128x128, .f32⟩ : BufTy).Contents (Elt F)) ::
    StableHlo.unary main_v174 main_v175 ((transpose S1x128x128x8x128 [0, 1, 3, 2, 4] · transposes_S1x128x8x128x128_S1x128x128x8x128_0_1_3_2_4) : (⟨S1x128x8x128x128, .f32⟩ : BufTy).Contents (Elt F) → (⟨S1x128x128x8x128, .f32⟩ : BufTy).Contents (Elt F)) ::
    StableHlo.binary main_v166 main_v175 main_v176 (addf : (⟨S1x128x128x8x128, .f32⟩ : BufTy).Contents (Elt F) → (⟨S1x128x128x8x128, .f32⟩ : BufTy).Contents (Elt F) → (⟨S1x128x128x8x128, .f32⟩ : BufTy).Contents (Elt F)) ::
    StableHlo.binary main_v173 main_v79 main_v177 ((fun l r => Host.dotGeneral dot_S1x128x8x128x128_S1x128x128x8x128_S1x128x8x128x128_4_2_3_4_012_013 none l r) : (⟨S1x128x8x128x128, .f32⟩ : BufTy).Contents (Elt F) → (⟨S1x128x128x8x128, .f32⟩ : BufTy).Contents (Elt F) → (⟨S1x128x8x128x128, .f32⟩ : BufTy).Contents (Elt F)) ::
    StableHlo.unary main_v177 main_v178 ((transpose S1x128x128x8x128 [0, 1, 3, 2, 4] · transposes_S1x128x8x128x128_S1x128x128x8x128_0_1_3_2_4) : (⟨S1x128x8x128x128, .f32⟩ : BufTy).Contents (Elt F) → (⟨S1x128x128x8x128, .f32⟩ : BufTy).Contents (Elt F)) ::
    StableHlo.binary main_v155 main_v178 main_v179 (addf : (⟨S1x128x128x8x128, .f32⟩ : BufTy).Contents (Elt F) → (⟨S1x128x128x8x128, .f32⟩ : BufTy).Contents (Elt F) → (⟨S1x128x128x8x128, .f32⟩ : BufTy).Contents (Elt F)) ::
    StableHlo.reshape main_v171 main_v180 (rfl : (.f32 : EltTy) = .f32) shapeCasts_S1x128x128x8x256_S1x16384x8x256 ::
    StableHlo.reshape main_v176 main_v181 (rfl : (.f32 : EltTy) = .f32) shapeCasts_S1x128x128x8x128_S1x16384x8x128 ::
    StableHlo.reshape main_v179 main_v182 (rfl : (.f32 : EltTy) = .f32) shapeCasts_S1x128x128x8x128_S1x16384x8x128 ::
    StableHlo.reshape main_v180 main_v183 (rfl : (.f32 : EltTy) = .f32) shapeCasts_S1x16384x8x256_S1x16384x2048 ::
    StableHlo.nullary main_cst_19 (constant S_ .f32 0x3DB504F3#32) ::
    StableHlo.unary main_cst_19 main_v184 (broadcastInDim S1x16384x8x128 ![] bcast_S_S1x16384x8x128 : (⟨S_, .f32⟩ : BufTy).Contents (Elt F) → (⟨S1x16384x8x128, .f32⟩ : BufTy).Contents (Elt F)) ::
    StableHlo.binary main_v181 main_v184 main_v185 (mulf : (⟨S1x16384x8x128, .f32⟩ : BufTy).Contents (Elt F) → (⟨S1x16384x8x128, .f32⟩ : BufTy).Contents (Elt F) → (⟨S1x16384x8x128, .f32⟩ : BufTy).Contents (Elt F)) ::
    StableHlo.unary main_v185 main_v186 ((extractStridedSlice S1x16384x8x64 ![0, 0, 0, 0] · slices_S1x16384x8x128_S1x16384x8x64_0_0_0_0) : (⟨S1x16384x8x128, .f32⟩ : BufTy).Contents (Elt F) → (⟨S1x16384x8x64, .f32⟩ : BufTy).Contents (Elt F)) ::
    StableHlo.unary main_v185 main_v187 ((extractStridedSlice S1x16384x8x64 ![0, 0, 0, 64] · slices_S1x16384x8x128_S1x16384x8x64_0_0_0_64) : (⟨S1x16384x8x128, .f32⟩ : BufTy).Contents (Elt F) → (⟨S1x16384x8x64, .f32⟩ : BufTy).Contents (Elt F)) ::
    StableHlo.unary main_v53 main_v188 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)) ::
    StableHlo.binary main_v187 main_v188 main_v189 (mulf : (⟨S1x16384x8x64, .f32⟩ : BufTy).Contents (Elt F) → (⟨S1x16384x8x64, .f32⟩ : BufTy).Contents (Elt F) → (⟨S1x16384x8x64, .f32⟩ : BufTy).Contents (Elt F)) ::
    StableHlo.unary main_v51 main_v190 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)) ::
    StableHlo.binary main_v187 main_v190 main_v191 (mulf : (⟨S1x16384x8x64, .f32⟩ : BufTy).Contents (Elt F) → (⟨S1x16384x8x64, .f32⟩ : BufTy).Contents (Elt F) → (⟨S1x16384x8x64, .f32⟩ : BufTy).Contents (Elt F)) ::
    StableHlo.unary main_v186 main_v192 (Host.negf : (⟨S1x16384x8x64, .f32⟩ : BufTy).Contents (Elt F) → (⟨S1x16384x8x64, .f32⟩ : BufTy).Contents (Elt F)) ::
    StableHlo.unary main_v53 main_v193 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)) ::
    StableHlo.binary main_v192 main_v193 main_v194 (mulf : (⟨S1x16384x8x64, .f32⟩ : BufTy).Contents (Elt F) → (⟨S1x16384x8x64, .f32⟩ : BufTy).Contents (Elt F) → (⟨S1x16384x8x64, .f32⟩ : BufTy).Contents (Elt F)) ::
    StableHlo.binary main_v191 main_v194 main_v195 (addf : (⟨S1x16384x8x64, .f32⟩ : BufTy).Contents (Elt F) → (⟨S1x16384x8x64, .f32⟩ : BufTy).Contents (Elt F) → (⟨S1x16384x8x64, .f32⟩ : BufTy).Contents (Elt F)) ::
    StableHlo.unary main_v51 main_v196 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)) ::
    StableHlo.binary main_v186 main_v196 main_v197 (mulf : (⟨S1x16384x8x64, .f32⟩ : BufTy).Contents (Elt F) → (⟨S1x16384x8x64, .f32⟩ : BufTy).Contents (Elt F) → (⟨S1x16384x8x64, .f32⟩ : BufTy).Contents (Elt F)) ::
    StableHlo.binary main_v189 main_v197 main_v198 (addf : (⟨S1x16384x8x64, .f32⟩ : BufTy).Contents (Elt F) → (⟨S1x16384x8x64, .f32⟩ : BufTy).Contents (Elt F) → (⟨S1x16384x8x64, .f32⟩ : BufTy).Contents (Elt F)) ::
    StableHlo.nullary main_cst_20 (constant S_ .f32 0x00000000#32) ::
    StableHlo.binary main_v195 main_cst_20 main_v199 ((fun x v => pad S1x16384x8x128 ![0, 0, 0, 64] ![0, 0, 0, 0] ![0, 0, 0, 0] x v pads_S1x16384x8x64_S1x16384x8x128_000_000_000_6400 h_S_) : (⟨S1x16384x8x64, .f32⟩ : BufTy).Contents (Elt F) → (⟨S_, .f32⟩ : BufTy).Contents (Elt F) → (⟨S1x16384x8x128, .f32⟩ : BufTy).Contents (Elt F)) ::
    StableHlo.nullary main_cst_21 (constant S_ .f32 0x00000000#32) ::
    StableHlo.binary main_v198 main_cst_21 main_v200 ((fun x v => pad S1x16384x8x128 ![0, 0, 0, 0] ![0, 0, 0, 64] ![0, 0, 0, 0] x v pads_S1x16384x8x64_S1x16384x8x128_000_000_000_0640 h_S_) : (⟨S1x16384x8x64, .f32⟩ : BufTy).Contents (Elt F) → (⟨S_, .f32⟩ : BufTy).Contents (Elt F) → (⟨S1x16384x8x128, .f32⟩ : BufTy).Contents (Elt F)) ::
    StableHlo.binary main_v199 main_v200 main_v201 (addf : (⟨S1x16384x8x128, .f32⟩ : BufTy).Contents (Elt F) → (⟨S1x16384x8x128, .f32⟩ : BufTy).Contents (Elt F) → (⟨S1x16384x8x128, .f32⟩ : BufTy).Contents (Elt F)) ::
    StableHlo.reshape main_v201 main_v202 (rfl : (.f32 : EltTy) = .f32) shapeCasts_S1x16384x8x128_S1x16384x1024 ::
    StableHlo.unary main_v182 main_v203 ((extractStridedSlice S1x16384x8x64 ![0, 0, 0, 0] · slices_S1x16384x8x128_S1x16384x8x64_0_0_0_0) : (⟨S1x16384x8x128, .f32⟩ : BufTy).Contents (Elt F) → (⟨S1x16384x8x64, .f32⟩ : BufTy).Contents (Elt F)) ::
    StableHlo.unary main_v182 main_v204 ((extractStridedSlice S1x16384x8x64 ![0, 0, 0, 64] · slices_S1x16384x8x128_S1x16384x8x64_0_0_0_64) : (⟨S1x16384x8x128, .f32⟩ : BufTy).Contents (Elt F) → (⟨S1x16384x8x64, .f32⟩ : BufTy).Contents (Elt F)) ::
    StableHlo.unary main_v23 main_v205 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)) :: [])
/-- They touch only the buffers of the main processor. -/
theorem p3_2_sub : (p3_2 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.unary_bufs_sub .., StableHlo.binary_bufs_sub .., StableHlo.reshape_bufs_sub .., StableHlo.reshape_bufs_sub .., StableHlo.reshape_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.reshape_bufs_sub .., StableHlo.unary_bufs_sub .., StableHlo.unary_bufs_sub .., StableHlo.unary_bufs_sub ..⟩
/-- The buffers they write, in order. -/
abbrev p3_2_W : List (Ref sig .tc) := [main_v160, main_v161, main_v162, main_v163, main_v164, main_v165, main_v166, main_v167, main_v168, main_v169, main_v170, main_v171, main_v172, main_v173, main_v174, main_v175, main_v176, main_v177, main_v178, main_v179, main_v180, main_v181, main_v182, main_v183, main_cst_19, main_v184, main_v185, main_v186, main_v187, main_v188, main_v189, main_v190, main_v191, main_v192, main_v193, main_v194, main_v195, main_v196, main_v197, main_v198, main_cst_20, main_v199, main_cst_21, main_v200, main_v201, main_v202, main_v203, main_v204, main_v205]
/-- What each of these operations writes. -/
theorem p3_2_writes : (p3_2 : List (HloOp τ sig (Elt F))).map HloOp.writes = p3_2_W.map fun r => {Proc.devRef .tc r} := rfl

/-- Operations of window 4 of the main function. -/
abbrev p4_0 : List (HloOp τ sig (Elt F)) :=
  [ StableHlo.binary main_v204 main_v205 main_v206 (mulf : (⟨S1x16384x8x64, .f32⟩ : BufTy).Contents (Elt F) → (⟨S1x16384x8x64, .f32⟩ : BufTy).Contents (Elt F) → (⟨S1x16384x8x64, .f32⟩ : BufTy).Contents (Elt F)),
    StableHlo.unary main_v21 main_v207 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)),
    StableHlo.binary main_v204 main_v207 main_v208 (mulf : (⟨S1x16384x8x64, .f32⟩ : BufTy).Contents (Elt F) → (⟨S1x16384x8x64, .f32⟩ : BufTy).Contents (Elt F) → (⟨S1x16384x8x64, .f32⟩ : BufTy).Contents (Elt F)),
    StableHlo.unary main_v203 main_v209 (Host.negf : (⟨S1x16384x8x64, .f32⟩ : BufTy).Contents (Elt F) → (⟨S1x16384x8x64, .f32⟩ : BufTy).Contents (Elt F)),
    StableHlo.unary main_v23 main_v210 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)),
    StableHlo.binary main_v209 main_v210 main_v211 (mulf : (⟨S1x16384x8x64, .f32⟩ : BufTy).Contents (Elt F) → (⟨S1x16384x8x64, .f32⟩ : BufTy).Contents (Elt F) → (⟨S1x16384x8x64, .f32⟩ : BufTy).Contents (Elt F)),
    StableHlo.binary main_v208 main_v211 main_v212 (addf : (⟨S1x16384x8x64, .f32⟩ : BufTy).Contents (Elt F) → (⟨S1x16384x8x64, .f32⟩ : BufTy).Contents (Elt F) → (⟨S1x16384x8x64, .f32⟩ : BufTy).Contents (Elt F)),
    StableHlo.unary main_v21 main_v213 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)),
    StableHlo.binary main_v203 main_v213 main_v214 (mulf : (⟨S1x16384x8x64, .f32⟩ : BufTy).Contents (Elt F) → (⟨S1x16384x8x64, .f32⟩ : BufTy).Contents (Elt F) → (⟨S1x16384x8x64, .f32⟩ : BufTy).Contents (Elt F)),
    StableHlo.binary main_v206 main_v214 main_v215 (addf : (⟨S1x16384x8x64, .f32⟩ : BufTy).Contents (Elt F) → (⟨S1x16384x8x64, .f32⟩ : BufTy).Contents (Elt F) → (⟨S1x16384x8x64, .f32⟩ : BufTy).Contents (Elt F)),
    StableHlo.nullary main_cst_22 (constant S_ .f32 0x00000000#32),
    StableHlo.binary main_v212 main_cst_22 main_v216 ((fun x v => pad S1x16384x8x128 ![0, 0, 0, 64] ![0, 0, 0, 0] ![0, 0, 0, 0] x v pads_S1x16384x8x64_S1x16384x8x128_000_000_000_6400 h_S_) : (⟨S1x16384x8x64, .f32⟩ : BufTy).Contents (Elt F) → (⟨S_, .f32⟩ : BufTy).Contents (Elt F) → (⟨S1x16384x8x128, .f32⟩ : BufTy).Contents (Elt F)),
    StableHlo.nullary main_cst_23 (constant S_ .f32 0x00000000#32),
    StableHlo.binary main_v215 main_cst_23 main_v217 ((fun x v => pad S1x16384x8x128 ![0, 0, 0, 0] ![0, 0, 0, 64] ![0, 0, 0, 0] x v pads_S1x16384x8x64_S1x16384x8x128_000_000_000_0640 h_S_) : (⟨S1x16384x8x64, .f32⟩ : BufTy).Contents (Elt F) → (⟨S_, .f32⟩ : BufTy).Contents (Elt F) → (⟨S1x16384x8x128, .f32⟩ : BufTy).Contents (Elt F)),
    StableHlo.binary main_v216 main_v217 main_v218 (addf : (⟨S1x16384x8x128, .f32⟩ : BufTy).Contents (Elt F) → (⟨S1x16384x8x128, .f32⟩ : BufTy).Contents (Elt F) → (⟨S1x16384x8x128, .f32⟩ : BufTy).Contents (Elt F)),
    StableHlo.reshape main_v218 main_v219 (rfl : (.f32 : EltTy) = .f32) shapeCasts_S1x16384x8x128_S1x16384x1024,
    StableHlo.reshape main_v143 main_v220 (rfl : (.f32 : EltTy) = .f32) shapeCasts_S1x16384x2048_S16384x2048,
    StableHlo.reshape main_v219 main_v221 (rfl : (.f32 : EltTy) = .f32) shapeCasts_S1x16384x1024_S16384x1024,
    StableHlo.unary main_v221 main_v222 ((truncf .bf16 · bitsLt_bf16_f32) : (⟨S16384x1024, .f32⟩ : BufTy).Contents (Elt F) → (⟨S16384x1024, .bf16⟩ : BufTy).Contents (Elt F)),
    StableHlo.reshape main_v202 main_v223 (rfl : (.f32 : EltTy) = .f32) shapeCasts_S1x16384x1024_S16384x1024,
    StableHlo.unary main_v223 main_v224 ((truncf .bf16 · bitsLt_bf16_f32) : (⟨S16384x1024, .f32⟩ : BufTy).Contents (Elt F) → (⟨S16384x1024, .bf16⟩ : BufTy).Contents (Elt F)),
    StableHlo.reshape main_v183 main_v225 (rfl : (.f32 : EltTy) = .f32) shapeCasts_S1x16384x2048_S16384x2048,
    StableHlo.unary main_v225 main_v226 ((truncf .bf16 · bitsLt_bf16_f32) : (⟨S16384x2048, .f32⟩ : BufTy).Contents (Elt F) → (⟨S16384x2048, .bf16⟩ : BufTy).Contents (Elt F)),
    StableHlo.unary main_arg4 main_v227 ((extractStridedSlice S16384x6144 ![0, 4096] · slices_S16384x10240_S16384x6144_0_4096) : (⟨S16384x10240, .bf16⟩ : BufTy).Contents (Elt F) → (⟨S16384x6144, .bf16⟩ : BufTy).Contents (Elt F)),
    StableHlo.nary ![main_v222, main_v224, main_v226, main_v227] main_v228 (fun u => (concatenate S16384x10240 1 [⟨S16384x1024, (u 0 : (⟨S16384x1024, .bf16⟩ : BufTy).Contents (Elt F))⟩, ⟨S16384x1024, (u 1 : (⟨S16384x1024, .bf16⟩ : BufTy).Contents (Elt F))⟩, ⟨S16384x2048, (u 2 : (⟨S16384x2048, .bf16⟩ : BufTy).Contents (Elt F))⟩, ⟨S16384x6144, (u 3 : (⟨S16384x6144, .bf16⟩ : BufTy).Contents (Elt F))⟩] concatenates_S16384x1024_S16384x1024_S16384x2048_S16384x6144_S16384x10240_d1 : (⟨S16384x10240, .bf16⟩ : BufTy).Contents (Elt F))) ]
/-- They touch only the buffers of the main processor. -/
theorem p4_0_sub : (p4_0 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.reshape_bufs_sub .., StableHlo.reshape_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.nary_bufs_sub ..⟩
/-- The buffers they write, in order. -/
abbrev p4_0_W : List (Ref sig .tc) := [main_v206, main_v207, main_v208, main_v209, main_v210, main_v211, main_v212, main_v213, main_v214, main_v215, main_cst_22, main_v216, main_cst_23, main_v217, main_v218, main_v219, main_v220, main_v221, main_v222, main_v223, main_v224, main_v225, main_v226, main_v227, main_v228]
/-- What each of these operations writes. -/
theorem p4_0_writes : (p4_0 : List (HloOp τ sig (Elt F))).map HloOp.writes = p4_0_W.map fun r => {Proc.devRef .tc r} := rfl

/-- Operations of the body of loop 0. -/
abbrev b0_0 : List (HloOp τ sig (Elt F)) :=
  [ StableHlo.nullary main_while0b_call1_c (constantI S_ 32 0#32),
    StableHlo.nullary main_while0b_call1_c_0 (constantI S_ 32 0#32),
    StableHlo.nullary main_while0b_call1_c_1 (constantI S_ 32 0#32),
    StableHlo.nullary main_while0b_call1_c_2 (constantI S_ 32 0#32),
    StableHlo.TRef.unaryIndexed (.of main_v125_0 : StableHlo.TRef sig ⟨S128x1x8x128x256, .f32⟩) ![(.of main_v125_2 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩), (.of main_while0b_call1_c_2 : StableHlo.TRef sig ⟨S_, .i32⟩)] (.of main_while0b_call1_v0 : StableHlo.TRef sig ⟨S1x1x8x128x256, .f32⟩) (fun x i => Host.dynamicSlice S1x1x8x128x256 x (fun k => (i k (Shape.Idx.first h_S_)).toInt) sliceFits_S128x1x8x128x256_S1x1x8x128x256),
    StableHlo.reshape main_while0b_call1_v0 main_while0b_v229 (rfl : (.f32 : EltTy) = .f32) shapeCasts_S1x1x8x128x256_S1x8x128x256 ]
/-- They touch only the buffers of the main processor. -/
theorem b0_0_sub : (b0_0 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- The buffers they write, in order. -/
abbrev b0_0_W : List (Ref sig .tc) := [main_while0b_call1_c, main_while0b_call1_c_0, main_while0b_call1_c_1, main_while0b_call1_c_2, main_while0b_call1_v0, main_while0b_v229]
/-- What each of these operations writes. -/
theorem b0_0_writes : (b0_0 : List (HloOp τ sig (Elt F))).map HloOp.writes = b0_0_W.map fun r => {Proc.devRef .tc r} := rfl

/-- Operations of the body of loop 0. -/
abbrev b0_1 : List (HloOp τ sig (Elt F)) :=
  [ StableHlo.unary main_v125_1 main_while0b_v230 (broadcastInDim S1x8x128x256 ![0, 1, 2, 3] bcast_S1x8x1x1_S1x8x128x256_0_1_2_3 : (⟨S1x8x1x1, .f32⟩ : BufTy).Contents (Elt F) → (⟨S1x8x128x256, .f32⟩ : BufTy).Contents (Elt F)),
    StableHlo.binary main_v125_3 main_while0b_v230 main_while0b_v231 (mulf : (⟨S1x8x128x256, .f32⟩ : BufTy).Contents (Elt F) → (⟨S1x8x128x256, .f32⟩ : BufTy).Contents (Elt F) → (⟨S1x8x128x256, .f32⟩ : BufTy).Contents (Elt F)),
    StableHlo.binary main_while0b_v231 main_while0b_v229 main_while0b_v232 (addf : (⟨S1x8x128x256, .f32⟩ : BufTy).Contents (Elt F) → (⟨S1x8x128x256, .f32⟩ : BufTy).Contents (Elt F) → (⟨S1x8x128x256, .f32⟩ : BufTy).Contents (Elt F)) ]
/-- They touch only the buffers of the main processor. -/
theorem b0_1_sub : (b0_1 : List (HloOp τ sig (Elt F))).Forall fun op => op.bufs ⊆ StableHlo.tcRefs τ sig :=
  ⟨StableHlo.unary_bufs_sub .., StableHlo.binary_bufs_sub .., StableHlo.binary_bufs_sub ..⟩
/-- The buffers they write, in order. -/
abbrev b0_1_W : List (Ref sig .tc) := [main_while0b_v230, main_while0b_v231, main_while0b_v232]
/-- What each of these operations writes. -/
theorem b0_1_writes : (b0_1 : List (HloOp τ sig (Elt F))).map HloOp.writes = b0_1_W.map fun r => {Proc.devRef .tc r} := rfl

/-- Operations of the body of loop 0. -/
abbrev b0_2 : List (HloOp τ sig (Elt F)) :=
  [ StableHlo.unary main_v125_3 main_while0b_call2_v0 (broadcastInDim S1x1x8x128x256 ![1, 2, 3, 4] bcast_S1x8x128x256_S1x1x8x128x256_1_2_3_4 : (⟨S1x8x128x256, .f32⟩ : BufTy).Contents (Elt F) → (⟨S1x1x8x128x256, .f32⟩ : BufTy).Contents (Elt F)),
    StableHlo.nullary main_while0b_call2_c (constantI S_ 32 0#32),
    StableHlo.nullary main_while0b_call2_c_0 (constantI S_ 32 0#32),
    StableHlo.nullary main_while0b_call2_c_1 (constantI S_ 32 0#32),
    StableHlo.nullary main_while0b_call2_c_2 (constantI S_ 32 0#32),
    StableHlo.TRef.binaryIndexed (.of main_v125_4 : StableHlo.TRef sig ⟨S128x1x8x128x256, .f32⟩) (.of main_while0b_call2_v0 : StableHlo.TRef sig ⟨S1x1x8x128x256, .f32⟩) ![(.of main_v125_2 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩), (.of main_while0b_call2_c_2 : StableHlo.TRef sig ⟨S_, .i32⟩)] (.of main_while0b_v233 : StableHlo.TRef sig ⟨S128x1x8x128x256, .f32⟩) (fun x u i => Host.dynamicUpdateSlice x u (fun k => (i k (Shape.Idx.first h_S_)).toInt) updateFits_S128x1x8x128x256_S1x1x8x128x256) ]
/-- They touch only the buffers of the main processor. -/
theorem b0_2_sub : (b0_2 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- The buffers they write, in order. -/
abbrev b0_2_W : List (Ref sig .tc) := [main_while0b_call2_v0, main_while0b_call2_c, main_while0b_call2_c_0, main_while0b_call2_c_1, main_while0b_call2_c_2, main_while0b_v233]
/-- What each of these operations writes. -/
theorem b0_2_writes : (b0_2 : List (HloOp τ sig (Elt F))).map HloOp.writes = b0_2_W.map fun r => {Proc.devRef .tc r} := rfl

/-- Operations of the body of loop 0. -/
abbrev b0_3 : List (HloOp τ sig (Elt F)) :=
  [ StableHlo.nullary main_while0b_c_28 (constantI S_ 32 1#32),
    StableHlo.binary main_v125_2 main_while0b_c_28 main_while0b_v234 (addi : (⟨S_, .i32⟩ : BufTy).Contents (Elt F) → (⟨S_, .i32⟩ : BufTy).Contents (Elt F) → (⟨S_, .i32⟩ : BufTy).Contents (Elt F)),
    StableHlo.unary main_while0b_v234 main_v125_2 id,
    StableHlo.unary main_while0b_v232 main_v125_3 id,
    StableHlo.unary main_while0b_v233 main_v125_4 id ]
/-- They touch only the buffers of the main processor. -/
theorem b0_3_sub : (b0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- The buffers they write, in order. -/
abbrev b0_3_W : List (Ref sig .tc) := [main_while0b_c_28, main_while0b_v234, main_v125_2, main_v125_3, main_v125_4]
/-- What each of these operations writes. -/
theorem b0_3_writes : (b0_3 : List (HloOp τ sig (Elt F))).map HloOp.writes = b0_3_W.map fun r => {Proc.devRef .tc r} := rfl

/-- Operations of the condition of loop 0. -/
abbrev cond0 : List (HloOp τ sig (Elt F)) :=
  [ StableHlo.nullary main_while0c_c_28 (constantI S_ 32 128#32),
    StableHlo.binary main_v125_2 main_while0c_c_28 main_while0c_v229 (cmpi .slt : (⟨S_, .i32⟩ : BufTy).Contents (Elt F) → (⟨S_, .i32⟩ : BufTy).Contents (Elt F) → (⟨S_, .i1⟩ : BufTy).Contents (Elt F)) ]
/-- They touch only the buffers of the main processor. -/
theorem cond0_sub : (cond0 : List (HloOp τ sig (Elt F))).Forall fun op => op.bufs ⊆ StableHlo.tcRefs τ sig :=
  ⟨StableHlo.nullary_bufs_sub .., StableHlo.binary_bufs_sub ..⟩
/-- The buffers they write, in order. -/
abbrev cond0_W : List (Ref sig .tc) := [main_while0c_c_28, main_while0c_v229]
/-- What each of these operations writes. -/
theorem cond0_writes : (cond0 : List (HloOp τ sig (Elt F))).map HloOp.writes = cond0_W.map fun r => {Proc.devRef .tc r} := rfl

/-- Operations of the body of loop 1. -/
abbrev b1_0 : List (HloOp τ sig (Elt F)) :=
  [ StableHlo.nullary main_while1b_c_28 (constantI S_ 32 128#32),
    StableHlo.binary main_while1b_c_28 main_v159_2 main_while1b_v229 (subi : (⟨S_, .i32⟩ : BufTy).Contents (Elt F) → (⟨S_, .i32⟩ : BufTy).Contents (Elt F) → (⟨S_, .i32⟩ : BufTy).Contents (Elt F)),
    StableHlo.nullary main_while1b_c_29 (constantI S_ 32 1#32),
    StableHlo.binary main_while1b_v229 main_while1b_c_29 main_while1b_v230 (subi : (⟨S_, .i32⟩ : BufTy).Contents (Elt F) → (⟨S_, .i32⟩ : BufTy).Contents (Elt F) → (⟨S_, .i32⟩ : BufTy).Contents (Elt F)) ]
/-- They touch only the buffers of the main processor. -/
theorem b1_0_sub : (b1_0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
/-- The buffers they write, in order. -/
abbrev b1_0_W : List (Ref sig .tc) := [main_while1b_c_28, main_while1b_v229, main_while1b_c_29, main_while1b_v230]
/-- What each of these operations writes. -/
theorem b1_0_writes : (b1_0 : List (HloOp τ sig (Elt F))).map HloOp.writes = b1_0_W.map fun r => {Proc.devRef .tc r} := rfl

/-- Operations of the body of loop 1. -/
abbrev b1_1 : List (HloOp τ sig (Elt F)) :=
  [ StableHlo.nullary main_while1b_call3_c (constantI S_ 32 0#32),
    StableHlo.nullary main_while1b_call3_c_0 (constantI S_ 32 0#32),
    StableHlo.nullary main_while1b_call3_c_1 (constantI S_ 32 0#32),
    StableHlo.nullary main_while1b_call3_c_2 (constantI S_ 32 0#32),
    StableHlo.TRef.unaryIndexed (.of main_v159_0 : StableHlo.TRef sig ⟨S128x1x8x128x256, .f32⟩) ![(.of main_while1b_v230 : StableHlo.TRef sig ⟨S_, .i32⟩), (.of main_while1b_call3_c : StableHlo.TRef sig ⟨S_, .i32⟩), (.of main_while1b_call3_c_0 : StableHlo.TRef sig ⟨S_, .i32⟩), (.of main_while1b_call3_c_1 : StableHlo.TRef sig ⟨S_, .i32⟩), (.of main_while1b_call3_c_2 : StableHlo.TRef sig ⟨S_, .i32⟩)] (.of main_while1b_call3_v0 : StableHlo.TRef sig ⟨S1x1x8x128x256, .f32⟩) (fun x i => Host.dynamicSlice S1x1x8x128x256 x (fun k => (i k (Shape.Idx.first h_S_)).toInt) sliceFits_S128x1x8x128x256_S1x1x8x128x256),
    StableHlo.reshape main_while1b_call3_v0 main_while1b_v231 (rfl : (.f32 : EltTy) = .f32) shapeCasts_S1x1x8x128x256_S1x8x128x256 ]
/-- They touch only the buffers of the main processor. -/
theorem b1_1_sub : (b1_1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- The buffers they write, in order. -/
abbrev b1_1_W : List (Ref sig .tc) := [main_while1b_call3_c, main_while1b_call3_c_0, main_while1b_call3_c_1, main_while1b_call3_c_2, main_while1b_call3_v0, main_while1b_v231]
/-- What each of these operations writes. -/
theorem b1_1_writes : (b1_1 : List (HloOp τ sig (Elt F))).map HloOp.writes = b1_1_W.map fun r => {Proc.devRef .tc r} := rfl

/-- Operations of the body of loop 1. -/
abbrev b1_2 : List (HloOp τ sig (Elt F)) :=
  [ StableHlo.unary main_v159_1 main_while1b_v232 (broadcastInDim S1x8x128x256 ![0, 1, 2, 3] bcast_S1x8x1x1_S1x8x128x256_0_1_2_3 : (⟨S1x8x1x1, .f32⟩ : BufTy).Contents (Elt F) → (⟨S1x8x128x256, .f32⟩ : BufTy).Contents (Elt F)),
    StableHlo.binary main_v159_3 main_while1b_v232 main_while1b_v233 (mulf : (⟨S1x8x128x256, .f32⟩ : BufTy).Contents (Elt F) → (⟨S1x8x128x256, .f32⟩ : BufTy).Contents (Elt F) → (⟨S1x8x128x256, .f32⟩ : BufTy).Contents (Elt F)),
    StableHlo.binary main_while1b_v231 main_while1b_v233 main_while1b_v234 (addf : (⟨S1x8x128x256, .f32⟩ : BufTy).Contents (Elt F) → (⟨S1x8x128x256, .f32⟩ : BufTy).Contents (Elt F) → (⟨S1x8x128x256, .f32⟩ : BufTy).Contents (Elt F)) ]
/-- They touch only the buffers of the main processor. -/
theorem b1_2_sub : (b1_2 : List (HloOp τ sig (Elt F))).Forall fun op => op.bufs ⊆ StableHlo.tcRefs τ sig :=
  ⟨StableHlo.unary_bufs_sub .., StableHlo.binary_bufs_sub .., StableHlo.binary_bufs_sub ..⟩
/-- The buffers they write, in order. -/
abbrev b1_2_W : List (Ref sig .tc) := [main_while1b_v232, main_while1b_v233, main_while1b_v234]
/-- What each of these operations writes. -/
theorem b1_2_writes : (b1_2 : List (HloOp τ sig (Elt F))).map HloOp.writes = b1_2_W.map fun r => {Proc.devRef .tc r} := rfl

/-- Operations of the body of loop 1. -/
abbrev b1_3 : List (HloOp τ sig (Elt F)) :=
  [ StableHlo.unary main_v159_3 main_while1b_call4_v0 (broadcastInDim S1x1x8x128x256 ![1, 2, 3, 4] bcast_S1x8x128x256_S1x1x8x128x256_1_2_3_4 : (⟨S1x8x128x256, .f32⟩ : BufTy).Contents (Elt F) → (⟨S1x1x8x128x256, .f32⟩ : BufTy).Contents (Elt F)),
    StableHlo.nullary main_while1b_call4_c (constantI S_ 32 0#32),
    StableHlo.nullary main_while1b_call4_c_0 (constantI S_ 32 0#32),
    StableHlo.nullary main_while1b_call4_c_1 (constantI S_ 32 0#32),
    StableHlo.nullary main_while1b_call4_c_2 (constantI S_ 32 0#32),
    StableHlo.TRef.binaryIndexed (.of main_v159_4 : StableHlo.TRef sig ⟨S128x1x8x128x256, .f32⟩) (.of main_while1b_call4_v0 : StableHlo.TRef sig ⟨S1x1x8x128x256, .f32⟩) ![(.of main_while1b_v230 : StableHlo.TRef sig ⟨S_, .i32⟩), (.of main_while1b_call4_c : StableHlo.TRef sig ⟨S_, .i32⟩), (.of main_while1b_call4_c_0 : StableHlo.TRef sig ⟨S_, .i32⟩), (.of main_while1b_call4_c_1 : StableHlo.TRef sig ⟨S_, .i32⟩), (.of main_while1b_call4_c_2 : StableHlo.TRef sig ⟨S_, .i32⟩)] (.of main_while1b_v235 : StableHlo.TRef sig ⟨S128x1x8x128x256, .f32⟩) (fun x u i => Host.dynamicUpdateSlice x u (fun k => (i k (Shape.Idx.first h_S_)).toInt) updateFits_S128x1x8x128x256_S1x1x8x128x256) ]
/-- They touch only the buffers of the main processor. -/
theorem b1_3_sub : (b1_3 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- The buffers they write, in order. -/
abbrev b1_3_W : List (Ref sig .tc) := [main_while1b_call4_v0, main_while1b_call4_c, main_while1b_call4_c_0, main_while1b_call4_c_1, main_while1b_call4_c_2, main_while1b_v235]
/-- What each of these operations writes. -/
theorem b1_3_writes : (b1_3 : List (HloOp τ sig (Elt F))).map HloOp.writes = b1_3_W.map fun r => {Proc.devRef .tc r} := rfl

/-- Operations of the body of loop 1. -/
abbrev b1_4 : List (HloOp τ sig (Elt F)) :=
  [ StableHlo.nullary main_while1b_c_30 (constantI S_ 32 1#32),
    StableHlo.binary main_v159_2 main_while1b_c_30 main_while1b_v236 (addi : (⟨S_, .i32⟩ : BufTy).Contents (Elt F) → (⟨S_, .i32⟩ : BufTy).Contents (Elt F) → (⟨S_, .i32⟩ : BufTy).Contents (Elt F)),
    StableHlo.unary main_while1b_v236 main_v159_2 id,
    StableHlo.unary main_while1b_v234 main_v159_3 id,
    StableHlo.unary main_while1b_v235 main_v159_4 id ]
/-- They touch only the buffers of the main processor. -/
theorem b1_4_sub : (b1_4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- The buffers they write, in order. -/
abbrev b1_4_W : List (Ref sig .tc) := [main_while1b_c_30, main_while1b_v236, main_v159_2, main_v159_3, main_v159_4]
/-- What each of these operations writes. -/
theorem b1_4_writes : (b1_4 : List (HloOp τ sig (Elt F))).map HloOp.writes = b1_4_W.map fun r => {Proc.devRef .tc r} := rfl

/-- Operations of the condition of loop 1. -/
abbrev cond1 : List (HloOp τ sig (Elt F)) :=
  [ StableHlo.nullary main_while1c_c_28 (constantI S_ 32 128#32),
    StableHlo.binary main_v159_2 main_while1c_c_28 main_while1c_v229 (cmpi .slt : (⟨S_, .i32⟩ : BufTy).Contents (Elt F) → (⟨S_, .i32⟩ : BufTy).Contents (Elt F) → (⟨S_, .i1⟩ : BufTy).Contents (Elt F)) ]
/-- They touch only the buffers of the main processor. -/
theorem cond1_sub : (cond1 : List (HloOp τ sig (Elt F))).Forall fun op => op.bufs ⊆ StableHlo.tcRefs τ sig :=
  ⟨StableHlo.nullary_bufs_sub .., StableHlo.binary_bufs_sub ..⟩
/-- The buffers they write, in order. -/
abbrev cond1_W : List (Ref sig .tc) := [main_while1c_c_28, main_while1c_v229]
/-- What each of these operations writes. -/
theorem cond1_writes : (cond1 : List (HloOp τ sig (Elt F))).map HloOp.writes = cond1_W.map fun r => {Proc.devRef .tc r} := rfl

/-- The same text as a chain of those lists. -/
theorem part0_chain (c : Dev nD) : main_part0 (F := F) c = (Pipeline.chainK
  [  ]
  (StableHlo.seq p0_0) : Prog (TpuEff nD τ sig (Elt F) (HostLoop.Sig (Pipeline.Sig Λ₀ (Fin 0) fun p => (pcfgs (F := F) p).Adm) 2) .tc) PUnit) := by
  chain_rfl

/-- The same text as a chain of those lists. -/
theorem part1_chain (c : Dev nD) : main_part1 (F := F) c = (Pipeline.chainK
  [ StableHlo.seq p1_0,
    StableHlo.seq p1_1 ]
  (StableHlo.seq p1_2) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

/-- The same text as a chain of those lists. -/
theorem part2_chain (c : Dev nD) : main_part2 (F := F) c = (Pipeline.chainK
  [ StableHlo.seq p2_0,
    HostLoop.enter 0 ]
  (StableHlo.seq p2_2) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

/-- The same text as a chain of those lists. -/
theorem part3_chain (c : Dev nD) : main_part3 (F := F) c = (Pipeline.chainK
  [ StableHlo.seq p3_0,
    HostLoop.enter 1 ]
  (StableHlo.seq p3_2) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

/-- The same text as a chain of those lists. -/
theorem part4_chain (c : Dev nD) : main_part4 (F := F) c = (Pipeline.chain
  [ StableHlo.seq p4_0 ] : Prog (TpuEff nD τ sig (Elt F) (HostLoop.Sig (Pipeline.Sig Λ₀ (Fin 0) fun p => (pcfgs (F := F) p).Adm) 2) .tc) PUnit) := by
  rewrite [StableHlo.chain_seq_cons]
  chain_rfl

/-- The pieces of the body of loop 0. -/
abbrev body0 : List (List (HloOp τ sig (Elt F))) := [b0_0, b0_1, b0_2, b0_3]
/-- These operations touch only the buffers of the main processor. -/
theorem body0_plain : StableHlo.Plain (body0 : List (List (HloOp τ sig (Elt F)))) :=
  .cons b0_0_sub <| .cons b0_1_sub <| .cons b0_2_sub <| .cons b0_3_sub .nil

/-- The same text as a chain of those lists. -/
theorem body0_chain : main_while0_body (F := F) = (Pipeline.chain
  [ StableHlo.seq b0_0,
    StableHlo.seq b0_1,
    StableHlo.seq b0_2,
    StableHlo.seq b0_3 ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, StableHlo.chain_seq_cons]
  chain_rfl

/-- The pieces of the body of loop 1. -/
abbrev body1 : List (List (HloOp τ sig (Elt F))) := [b1_0, b1_1, b1_2, b1_3, b1_4]
/-- These operations touch only the buffers of the main processor. -/
theorem body1_plain : StableHlo.Plain (body1 : List (List (HloOp τ sig (Elt F)))) :=
  .cons b1_0_sub <| .cons b1_1_sub <| .cons b1_2_sub <| .cons b1_3_sub <| .cons b1_4_sub .nil

/-- The same text as a chain of those lists. -/
theorem body1_chain : main_while1_body (F := F) = (Pipeline.chain
  [ StableHlo.seq b1_0,
    StableHlo.seq b1_1,
    StableHlo.seq b1_2,
    StableHlo.seq b1_3,
    StableHlo.seq b1_4 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

/-- The pieces of the main function before the first loop. -/
abbrev seg0 : List (List (HloOp τ sig (Elt F))) := [p0_0, p1_0, p1_1, p1_2, p2_0]
/-- These operations touch only the buffers of the main processor. -/
theorem seg0_plain : StableHlo.Plain (seg0 : List (List (HloOp τ sig (Elt F)))) :=
  .cons p0_0_sub <| .cons p1_0_sub <| .cons p1_1_sub <| .cons p1_2_sub <| .cons p2_0_sub .nil

/-- The pieces of the main function between the loops. -/
abbrev seg1 : List (List (HloOp τ sig (Elt F))) := [p2_2, p3_0]
/-- These operations touch only the buffers of the main processor. -/
theorem seg1_plain : StableHlo.Plain (seg1 : List (List (HloOp τ sig (Elt F)))) :=
  .cons p2_2_sub <| .cons p3_0_sub .nil

/-- The pieces of the main function after the second loop. -/
abbrev seg2 : List (List (HloOp τ sig (Elt F))) := [p3_2, p4_0]
/-- These operations touch only the buffers of the main processor. -/
theorem seg2_plain : StableHlo.Plain (seg2 : List (List (HloOp τ sig (Elt F)))) :=
  .cons p3_2_sub <| .cons p4_0_sub .nil

/-- The main function as a chain. -/
theorem main_chain (c : Dev nD) : main (F := F) c = (Pipeline.chain
  [ StableHlo.seq p0_0,
    StableHlo.seq p1_0,
    StableHlo.seq p1_1,
    StableHlo.seq p1_2,
    StableHlo.seq p2_0,
    HostLoop.enter 0,
    StableHlo.seq p2_2,
    StableHlo.seq p3_0,
    HostLoop.enter 1,
    StableHlo.seq p3_2,
    StableHlo.seq p4_0 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c >>= fun _ => main_part3 (F := F) c >>= fun _ => main_part4 (F := F) c) = _
  rewrite [part4_chain, part3_chain, Pipeline.chainK_bind_chain, part2_chain, Pipeline.chainK_bind_chain, part1_chain, Pipeline.chainK_bind_chain, part0_chain, Pipeline.chainK_bind_chain]
  chain_rfl

end Cert.ReferenceIdeal.Ops

end
-- ==== Proof.RefRun.lean ====
module

public import proofs.«01_k».proof.Proof.RefOps
public import Idealize.ShloMosaic.Lib.Pipeline.RegionsLoop
public import Idealize.ShloMosaic.Lib.Scf.ExitTest
public import Idealize.ShloMosaic.Lib.Scf.Counter
public import Idealize.ShloMosaic.Adequacy
public import Idealize.ShloMosaic.Init

@[expose] public section

set_option maxRecDepth 16384

noncomputable section

/-! The reference's run, over any float values: host lines, a loop of 128 trips, host lines, a second loop of 128 trips, host lines.
Every buffer's contents are followed from the launch to the end. -/

namespace Cert.ReferenceIdeal.Run

open Cert.ReferenceIdeal.Ops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg ucRefs sub_ucRefs Ticket)

variable {F : FTy → Type} [FloatOps F]

variable (m : (ℓ : Loc nD τ sig) → Buf (Elt F) ℓ) (ρ : Dev nD → PrngReg)

/-! ## The contents between the pieces -/

/-- At the launch. -/
abbrev E0 (c : Dev nD) : Valuation τ sig (Elt F) := launchContents m c
/-- When the first loop is entered. -/
def E1 (c : Dev nD) : Valuation τ sig (Elt F) := afterL seg0 (E0 m c)
/-- Before trip `k` of the first loop. -/
abbrev T0 (k : ℕ) (c : Dev nD) : Valuation τ sig (Elt F) := atTrip cond0 body0 (E1 m) k c
/-- When the first loop is left. -/
def E2 (c : Dev nD) : Valuation τ sig (Elt F) := after cond0 (T0 m 128 c)
/-- When the second loop is entered. -/
def E3 (c : Dev nD) : Valuation τ sig (Elt F) := afterL seg1 (E2 m c)
/-- Before trip `k` of the second loop. -/
abbrev T1 (k : ℕ) (c : Dev nD) : Valuation τ sig (Elt F) := atTrip cond1 body1 (E3 m) k c
/-- When the second loop is left. -/
def E4 (c : Dev nD) : Valuation τ sig (Elt F) := after cond1 (T1 m 128 c)
/-- At the end. -/
def E5 (c : Dev nD) : Valuation τ sig (Elt F) := afterL seg2 (E4 m c)

/-! ## What a piece does not write it keeps -/

/-- A buffer these operations do not write keeps its contents. -/
theorem p0_0_keep (V : Valuation τ sig (Elt F)) {r : Ref sig .tc} (h : r ∉ p0_0_W) : after p0_0 V r = V r :=
  after_of_writes_sub p0_0 V (forall_writes_sub_of_map p0_0_writes) h
/-- A buffer these operations do not write keeps its contents. -/
theorem p1_0_keep (V : Valuation τ sig (Elt F)) {r : Ref sig .tc} (h : r ∉ p1_0_W) : after p1_0 V r = V r :=
  after_of_writes_sub p1_0 V (forall_writes_sub_of_map p1_0_writes) h
/-- A buffer these operations do not write keeps its contents. -/
theorem p1_1_keep (V : Valuation τ sig (Elt F)) {r : Ref sig .tc} (h : r ∉ p1_1_W) : after p1_1 V r = V r :=
  after_of_writes_sub p1_1 V (forall_writes_sub_of_map p1_1_writes) h
/-- A buffer these operations do not write keeps its contents. -/
theorem p1_2_keep (V : Valuation τ sig (Elt F)) {r : Ref sig .tc} (h : r ∉ p1_2_W) : after p1_2 V r = V r :=
  after_of_writes_sub p1_2 V (forall_writes_sub_of_map p1_2_writes) h
/-- A buffer these operations do not write keeps its contents. -/
theorem p2_0_keep (V : Valuation τ sig (Elt F)) {r : Ref sig .tc} (h : r ∉ p2_0_W) : after p2_0 V r = V r :=
  after_of_writes_sub p2_0 V (forall_writes_sub_of_map p2_0_writes) h
/-- A buffer these operations do not write keeps its contents. -/
theorem p2_2_keep (V : Valuation τ sig (Elt F)) {r : Ref sig .tc} (h : r ∉ p2_2_W) : after p2_2 V r = V r :=
  after_of_writes_sub p2_2 V (forall_writes_sub_of_map p2_2_writes) h
/-- A buffer these operations do not write keeps its contents. -/
theorem p3_0_keep (V : Valuation τ sig (Elt F)) {r : Ref sig .tc} (h : r ∉ p3_0_W) : after p3_0 V r = V r :=
  after_of_writes_sub p3_0 V (forall_writes_sub_of_map p3_0_writes) h
/-- A buffer these operations do not write keeps its contents. -/
theorem p3_2_keep (V : Valuation τ sig (Elt F)) {r : Ref sig .tc} (h : r ∉ p3_2_W) : after p3_2 V r = V r :=
  after_of_writes_sub p3_2 V (forall_writes_sub_of_map p3_2_writes) h
/-- A buffer these operations do not write keeps its contents. -/
theorem p4_0_keep (V : Valuation τ sig (Elt F)) {r : Ref sig .tc} (h : r ∉ p4_0_W) : after p4_0 V r = V r :=
  after_of_writes_sub p4_0 V (forall_writes_sub_of_map p4_0_writes) h
/-- A buffer these operations do not write keeps its contents. -/
theorem b0_0_keep (V : Valuation τ sig (Elt F)) {r : Ref sig .tc} (h : r ∉ b0_0_W) : after b0_0 V r = V r :=
  after_of_writes_sub b0_0 V (forall_writes_sub_of_map b0_0_writes) h
/-- A buffer these operations do not write keeps its contents. -/
theorem b0_1_keep (V : Valuation τ sig (Elt F)) {r : Ref sig .tc} (h : r ∉ b0_1_W) : after b0_1 V r = V r :=
  after_of_writes_sub b0_1 V (forall_writes_sub_of_map b0_1_writes) h
/-- A buffer these operations do not write keeps its contents. -/
theorem b0_2_keep (V : Valuation τ sig (Elt F)) {r : Ref sig .tc} (h : r ∉ b0_2_W) : after b0_2 V r = V r :=
  after_of_writes_sub b0_2 V (forall_writes_sub_of_map b0_2_writes) h
/-- A buffer these operations do not write keeps its contents. -/
theorem b0_3_keep (V : Valuation τ sig (Elt F)) {r : Ref sig .tc} (h : r ∉ b0_3_W) : after b0_3 V r = V r :=
  after_of_writes_sub b0_3 V (forall_writes_sub_of_map b0_3_writes) h
/-- A buffer these operations do not write keeps its contents. -/
theorem b1_0_keep (V : Valuation τ sig (Elt F)) {r : Ref sig .tc} (h : r ∉ b1_0_W) : after b1_0 V r = V r :=
  after_of_writes_sub b1_0 V (forall_writes_sub_of_map b1_0_writes) h
/-- A buffer these operations do not write keeps its contents. -/
theorem b1_1_keep (V : Valuation τ sig (Elt F)) {r : Ref sig .tc} (h : r ∉ b1_1_W) : after b1_1 V r = V r :=
  after_of_writes_sub b1_1 V (forall_writes_sub_of_map b1_1_writes) h
/-- A buffer these operations do not write keeps its contents. -/
theorem b1_2_keep (V : Valuation τ sig (Elt F)) {r : Ref sig .tc} (h : r ∉ b1_2_W) : after b1_2 V r = V r :=
  after_of_writes_sub b1_2 V (forall_writes_sub_of_map b1_2_writes) h
/-- A buffer these operations do not write keeps its contents. -/
theorem b1_3_keep (V : Valuation τ sig (Elt F)) {r : Ref sig .tc} (h : r ∉ b1_3_W) : after b1_3 V r = V r :=
  after_of_writes_sub b1_3 V (forall_writes_sub_of_map b1_3_writes) h
/-- A buffer these operations do not write keeps its contents. -/
theorem b1_4_keep (V : Valuation τ sig (Elt F)) {r : Ref sig .tc} (h : r ∉ b1_4_W) : after b1_4 V r = V r :=
  after_of_writes_sub b1_4 V (forall_writes_sub_of_map b1_4_writes) h
/-- A buffer these operations do not write keeps its contents. -/
theorem cond0_keep (V : Valuation τ sig (Elt F)) {r : Ref sig .tc} (h : r ∉ cond0_W) : after cond0 V r = V r :=
  after_of_writes_sub cond0 V (forall_writes_sub_of_map cond0_writes) h
/-- A buffer these operations do not write keeps its contents. -/
theorem cond1_keep (V : Valuation τ sig (Elt F)) {r : Ref sig .tc} (h : r ∉ cond1_W) : after cond1 V r = V r :=
  after_of_writes_sub cond1 V (forall_writes_sub_of_map cond1_writes) h
/-- The buffers loop 0 writes. -/
abbrev loop0_W : List (Ref sig .tc) := cond0_W ++ b0_0_W ++ b0_1_W ++ b0_2_W ++ b0_3_W
/-- A buffer these operations do not write keeps its contents. -/
theorem trip0_keep (V : Valuation τ sig (Elt F)) {r : Ref sig .tc} (h : r ∉ loop0_W) : afterL body0 (after cond0 V) r = V r := by
  simp only [loop0_W, List.mem_append, not_or] at h
  simp only [body0, afterL_cons, afterL_nil]
  rw [b0_3_keep _ h.2, b0_2_keep _ h.1.2, b0_1_keep _ h.1.1.2, b0_0_keep _ h.1.1.1.2, cond0_keep _ h.1.1.1.1]
/-- A buffer these operations do not write keeps its contents. -/
theorem loop0_keep (W₀ : Dev nD → Valuation τ sig (Elt F)) {r : Ref sig .tc} (h : r ∉ loop0_W) (c : Dev nD) : ∀ k, atTrip cond0 body0 W₀ k c r = W₀ c r
  | 0 => rfl
  | k + 1 => (trip0_keep _ h).trans (loop0_keep W₀ h c k)

/-- The buffers loop 1 writes. -/
abbrev loop1_W : List (Ref sig .tc) := cond1_W ++ b1_0_W ++ b1_1_W ++ b1_2_W ++ b1_3_W ++ b1_4_W
/-- A buffer these operations do not write keeps its contents. -/
theorem trip1_keep (V : Valuation τ sig (Elt F)) {r : Ref sig .tc} (h : r ∉ loop1_W) : afterL body1 (after cond1 V) r = V r := by
  simp only [loop1_W, List.mem_append, not_or] at h
  simp only [body1, afterL_cons, afterL_nil]
  rw [b1_4_keep _ h.2, b1_3_keep _ h.1.2, b1_2_keep _ h.1.1.2, b1_1_keep _ h.1.1.1.2, b1_0_keep _ h.1.1.1.1.2, cond1_keep _ h.1.1.1.1.1]
/-- A buffer these operations do not write keeps its contents. -/
theorem loop1_keep (W₀ : Dev nD → Valuation τ sig (Elt F)) {r : Ref sig .tc} (h : r ∉ loop1_W) (c : Dev nD) : ∀ k, atTrip cond1 body1 W₀ k c r = W₀ c r
  | 0 => rfl
  | k + 1 => (trip1_keep _ h).trans (loop1_keep W₀ h c k)

/-- The buffers the lines before the first loop write. -/
abbrev seg0_W : List (Ref sig .tc) := p0_0_W ++ p1_0_W ++ p1_1_W ++ p1_2_W ++ p2_0_W
/-- A buffer these operations do not write keeps its contents. -/
theorem seg0_keep (V : Valuation τ sig (Elt F)) {r : Ref sig .tc} (h : r ∉ seg0_W) : afterL seg0 V r = V r := by
  simp only [seg0_W, List.mem_append, not_or] at h
  simp only [seg0, afterL_cons, afterL_nil]
  rw [p2_0_keep _ h.2, p1_2_keep _ h.1.2, p1_1_keep _ h.1.1.2, p1_0_keep _ h.1.1.1.2, p0_0_keep _ h.1.1.1.1]

/-- The buffers the lines between the loops write. -/
abbrev seg1_W : List (Ref sig .tc) := p2_2_W ++ p3_0_W
/-- A buffer these operations do not write keeps its contents. -/
theorem seg1_keep (V : Valuation τ sig (Elt F)) {r : Ref sig .tc} (h : r ∉ seg1_W) : afterL seg1 V r = V r := by
  simp only [seg1_W, List.mem_append, not_or] at h
  simp only [seg1, afterL_cons, afterL_nil]
  rw [p3_0_keep _ h.2, p2_2_keep _ h.1]

/-- The buffers the lines after the second loop write. -/
abbrev seg2_W : List (Ref sig .tc) := p3_2_W ++ p4_0_W
/-- A buffer these operations do not write keeps its contents. -/
theorem seg2_keep (V : Valuation τ sig (Elt F)) {r : Ref sig .tc} (h : r ∉ seg2_W) : afterL seg2 V r = V r := by
  simp only [seg2_W, List.mem_append, not_or] at h
  simp only [seg2, afterL_cons, afterL_nil]
  rw [p4_0_keep _ h.2, p3_2_keep _ h.1]

/-- The second loop keeps what it does not write. -/
theorem E4_keep {r : Ref sig .tc} (h : r ∉ loop1_W) (c : Dev nD) : E4 m c r = E3 m c r := by
  refine (cond1_keep _ fun h' => h ?_).trans (loop1_keep _ h c 128)
  simp only [loop1_W, List.mem_append]
  simp only [h', true_or]
/-- The first loop keeps what it does not write. -/
theorem E2_keep {r : Ref sig .tc} (h : r ∉ loop0_W) (c : Dev nD) : E2 m c r = E1 m c r := by
  refine (cond0_keep _ fun h' => h ?_).trans (loop0_keep _ h c 128)
  simp only [loop0_W, List.mem_append]
  simp only [h', true_or]

/-- A buffer only the lines before the first loop write ends at what they leave. -/
theorem E5_E1 {r : Ref sig .tc} (h0 : r ∉ loop0_W) (h1 : r ∉ seg1_W) (h2 : r ∉ loop1_W) (h3 : r ∉ seg2_W) (c : Dev nD) : E5 m c r = E1 m c r :=
  (seg2_keep _ h3).trans ((E4_keep m h2 c).trans ((seg1_keep _ h1).trans (E2_keep m h0 c)))
/-- A buffer no line writes ends as launched. -/
theorem E5_E0 {r : Ref sig .tc} (h : r ∉ seg0_W) (h0 : r ∉ loop0_W) (h1 : r ∉ seg1_W) (h2 : r ∉ loop1_W) (h3 : r ∉ seg2_W) (c : Dev nD) :
    E5 m c r = m ((c : Thread nD τ).loc r) := (E5_E1 m h0 h1 h2 h3 c).trans (seg0_keep _ h)

/-! ## The loops' counters -/

/-- A trip adds one to the loop's counter. -/
theorem ctr0_step (V : Valuation τ sig (Elt F)) : afterL body0 (after cond0 V) main_v125_2 = addi (V main_v125_2) (constantI S_ 32 1#32) := by
  simp only [body0, afterL_cons, afterL_nil]
  refine Eq.trans (b := addi ((after b0_2 (after b0_1 (after b0_0 (after cond0 V)))) main_v125_2) (constantI S_ 32 1#32)) (by after_results; rfl) ?_
  rw [b0_2_keep _ (by decide), b0_1_keep _ (by decide), b0_0_keep _ (by decide), cond0_keep _ (by decide)]

/-- The loop's counter starts at zero. -/
theorem ctr0_entry (c : Dev nD) : E1 m c main_v125_2 = fun _ => Scf.iv 0#32 1#32 0 := by
  rw [Scf.iv_zero]
  unfold E1
  simp only [seg0, afterL_cons, afterL_nil]
  after_results
  rfl

/-- Loop 0's counter before its trip `k` is `k`. -/
theorem ctr0 (c : Dev nD) : ∀ k, atTrip cond0 body0 (E1 m) k c main_v125_2 = fun _ => Scf.iv 0#32 1#32 k
  | 0 => ctr0_entry m c
  | k + 1 => by
    refine (ctr0_step _).trans ?_
    rw [ctr0 c k, Scf.iv_succ]
    rfl

/-- A trip adds one to the loop's counter. -/
theorem ctr1_step (V : Valuation τ sig (Elt F)) : afterL body1 (after cond1 V) main_v159_2 = addi (V main_v159_2) (constantI S_ 32 1#32) := by
  simp only [body1, afterL_cons, afterL_nil]
  refine Eq.trans (b := addi ((after b1_3 (after b1_2 (after b1_1 (after b1_0 (after cond1 V))))) main_v159_2) (constantI S_ 32 1#32)) (by after_results; rfl) ?_
  rw [b1_3_keep _ (by decide), b1_2_keep _ (by decide), b1_1_keep _ (by decide), b1_0_keep _ (by decide), cond1_keep _ (by decide)]

/-- The loop's counter starts at zero. -/
theorem ctr1_entry (c : Dev nD) : E3 m c main_v159_2 = fun _ => Scf.iv 0#32 1#32 0 := by
  rw [Scf.iv_zero]
  unfold E3
  simp only [seg1, afterL_cons, afterL_nil]
  after_results
  rfl

/-- Loop 1's counter before its trip `k` is `k`. -/
theorem ctr1 (c : Dev nD) : ∀ k, atTrip cond1 body1 (E3 m) k c main_v159_2 = fun _ => Scf.iv 0#32 1#32 k
  | 0 => ctr1_entry m c
  | k + 1 => by
    refine (ctr1_step _).trans ?_
    rw [ctr1 c k, Scf.iv_succ]
    rfl

/-! ## The run -/

local notation "𝕄" => MT nD τ sig Unit (Elt F) ℕ (Option PUnit) ℕ

/-- No pipeline, so nothing to admit. -/
abbrev noAdm : (p : Fin 0) → (pcfgs (F := F) p).Adm := fun p => p.elim0
/-- No pipeline, so no ticket. -/
abbrev noTk : Fin 0 → Ticket (Ix := Unit) (Name := ℕ) (U := Option PUnit) (Lvl := ℕ) (nD := nD) (τ := τ) (pcfgs (F := F)) noAdm := fun j => j.elim0
/-- No semaphore is waited for at a level. -/
abbrev L : GSem nD τ sig → Finset Unit := fun _ => ∅
/-- Every level is zero. -/
abbrev lv : GSem nD τ sig → Unit → ℕ := fun _ _ => 0
/-- No pipeline, so no staging cell. -/
theorem noCells : Function.Injective (Pipeline.cellOf (nD := nD) (τ := τ) (Pipeline.pin (pcfgs (F := F)) noAdm)) := fun k => k.1.elim0
/-- What goes along with the buffers: what the core owes, which stays nothing. -/
abbrev Rw (c : Dev nD) : sProp 𝕄 := iprop(∃ W, owes (c : Thread nD τ) (0 : CellTallies nD τ sig Unit) W)

set_option backward.isDefEq.respectTransparency.types false in
/-- The test of loop 0: before trip `k` it holds exactly when `k < 128`. -/
theorem test0 : LoopCond (Name := ℕ) (U := Option PUnit) (Lvl := ℕ) (pcfgs (F := F)) defs₀ Variants.none loops Rw main_while0_cond cond0 body0 (E1 m) 128 := by
  intro k hk c bd
  have hc := ctr0 m c k
  generalize hV : atTrip cond0 body0 (E1 m) k c = V at hc ⊢
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]
  imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  rw [HostLoop.elt_apply, wp_ret]
  imodintro
  isplitr
  · ipureintro
    show Iff (IntOp.cmpi .slt (HloOp.result (nullary main_while0c_c_28 (constantI S_ 32 128#32)) V main_v125_2 HostLoop.idx0)
      (HloOp.result (nullary main_while0c_c_28 (constantI S_ 32 128#32)) V main_while0c_c_28 HostLoop.idx0) = 1#1) (k < 128)
    rw [nullary_result_ne _ _ _ _ (by decide), nullary_result, hc]
    exact Scf.cmpi_slt_iv_ub_iff (lb := 0#32) (ub := 128#32) (st := 1#32) (by decide) (show k ≤ Scf.trips 0#32 128#32 1#32 from hk)
  isplitl [Hb]
  · iexact Hb
  isplitl [Hh]
  · rw [after_cons, after_cons, after_nil]
    iexact Hh
  iexact HR

set_option backward.isDefEq.respectTransparency.types false in
/-- The test of loop 1: before trip `k` it holds exactly when `k < 128`. -/
theorem test1 : LoopCond (Name := ℕ) (U := Option PUnit) (Lvl := ℕ) (pcfgs (F := F)) defs₀ Variants.none loops Rw main_while1_cond cond1 body1 (E3 m) 128 := by
  intro k hk c bd
  have hc := ctr1 m c k
  generalize hV : atTrip cond1 body1 (E3 m) k c = V at hc ⊢
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]
  imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  rw [HostLoop.elt_apply, wp_ret]
  imodintro
  isplitr
  · ipureintro
    show Iff (IntOp.cmpi .slt (HloOp.result (nullary main_while1c_c_28 (constantI S_ 32 128#32)) V main_v159_2 HostLoop.idx0)
      (HloOp.result (nullary main_while1c_c_28 (constantI S_ 32 128#32)) V main_while1c_c_28 HostLoop.idx0) = 1#1) (k < 128)
    rw [nullary_result_ne _ _ _ _ (by decide), nullary_result, hc]
    exact Scf.cmpi_slt_iv_ub_iff (lb := 0#32) (ub := 128#32) (st := 1#32) (by decide) (show k ≤ Scf.trips 0#32 128#32 1#32 from hk)
  isplitl [Hb]
  · iexact Hb
  isplitl [Hh]
  · rw [after_cons, after_cons, after_nil]
    iexact Hh
  iexact HR

/-- The program's items in order. -/
def segs : List (CSeg (Name := ℕ) (U := Option PUnit) (pcfgs (F := F)) noAdm defs₀ Variants.none L lv loops noTk) :=
  segsOf _ _ _ _ _ _ _ _ Rw seg0 seg0_plain (E0 m)
    ++ loopSeg _ _ _ _ _ _ _ _ 0 main_while0_cond main_while0_body rfl cond0 body0 body0_plain body0_chain 128 (E1 m) Rw (test0 m)
      :: (segsOf _ _ _ _ _ _ _ _ Rw seg1 seg1_plain (E2 m)
        ++ loopSeg _ _ _ _ _ _ _ _ 1 main_while1_cond main_while1_body rfl cond1 body1 body1_plain body1_chain 128 (E3 m) Rw (test1 m)
          :: segsOf _ _ _ _ _ _ _ _ Rw seg2 seg2_plain (E4 m))

/-- Their texts are the main function's. -/
theorem segs_prog (c : Dev nD) : main (F := F) c = Pipeline.chain ((segs m).map CSeg.prog) := by
  unfold segs
  rw [List.map_append, List.map_cons, List.map_append, List.map_cons, segsOf_prog, segsOf_prog, segsOf_prog]
  exact main_chain c

/-- Each starts where the one before ends. -/
theorem segs_chains : CSeg.Chains (fun c => iprop(held (c : Thread nD τ) (ucRefs τ sig) (E0 m c) ∗ Rw c)) (segs m)
    (fun c => iprop(iprop(held (c : Thread nD τ) (ucRefs τ sig) (E5 m c)) ∗ ∃ W, owes (c : Thread nD τ) (0 : CellTallies nD τ sig Unit) W)) := by
  unfold segs
  exact CSeg.Chains.append (segsOf_chains _ _ _ _ _ _ _ _ Rw seg0 seg0_plain _) ⟨fun _ => .rfl,
    CSeg.Chains.append (segsOf_chains _ _ _ _ _ _ _ _ Rw seg1 seg1_plain _) ⟨fun _ => .rfl, segsOf_chains _ _ _ _ _ _ _ _ Rw seg2 seg2_plain _⟩⟩

set_option backward.isDefEq.respectTransparency.types false in
/-- From any memory the reference terminates without fault, every buffer at its final contents and no semaphore counting. -/
theorem run_main : θ_run defs (onTc (τ := τ) (main (F := F))) ⟨m, fun _ => 0, ρ⟩ (fun r =>
    (∀ (c : Dev nD) (b : Ref sig .tc), (Proc.devRef .tc b : DevRef τ sig).isScoped = false → r.2.mem ((c : Thread nD τ).loc b) = E5 m c b)
    ∧ r.2.sem = fun _ => 0) :=
  Pipeline.θ_run_regions_loop_kit_sems (Ix := Unit) (Name := ℕ) (U := Option PUnit) (Lvl := ℕ) (J := Fin 0) (P := Fin 0) (Val := Elt F)
    pcfgs noAdm noCells defs₀ Variants.none L lv loops noTk m ρ main (segs m)
    (fun c Q => by
      rw [segs_prog m c]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (E0 m c) ∗ Rw c))
    (Tₙ := fun c => iprop(held (c : Thread nD τ) (ucRefs τ sig) (E5 m c)))
    (hch := segs_chains m)
    (hinit := by
      refine Pipeline.initEach L lv fun c => ?_
      rw [show unscopedBufs c (fun b => m ((c : Thread nD τ).loc b)) = held (c : Thread nD τ) (ucRefs τ sig) (E0 m c)
        from Pipeline.unscopedBufs_held c (E0 m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = E5 m c b)
    (hfin := fun c s' => by
      unfold held
      iintro ⟨Hh, HSI⟩
      ihave Hr := (pointsTo_read_all (ucRefs τ sig) (fun b => ((c : Dev nD), b)) (fun b => E5 m c b) s') $$ [Hh HSI]
      · isplitl [Hh] <;> iassumption
      icases Hr with ⟨%h, HSI⟩
      imodintro
      isplitr; · ipureintro; exact h
      iexact HSI)
    (hQ := fun s h hz => ⟨fun c b hb => h c _ (devRef_mem_ucRefs b hb), funext fun g => hz g (by
      rcases g with ⟨_, s⟩
      cases s with
      | reg s => exact Fin.elim0 s
      | dma s => exact Fin.elim0 s)⟩)

/-- Argument 0 ends as launched. -/
theorem E5_arg0 (c : Dev nD) : E5 m c main_arg0 = m ((c : Thread nD τ).loc main_arg0) :=
  E5_E0 m (by decide) (by decide) (by decide) (by decide) (by decide) c
/-- Argument 1 ends as launched. -/
theorem E5_arg1 (c : Dev nD) : E5 m c main_arg1 = m ((c : Thread nD τ).loc main_arg1) :=
  E5_E0 m (by decide) (by decide) (by decide) (by decide) (by decide) c
/-- Argument 2 ends as launched. -/
theorem E5_arg2 (c : Dev nD) : E5 m c main_arg2 = m ((c : Thread nD τ).loc main_arg2) :=
  E5_E0 m (by decide) (by decide) (by decide) (by decide) (by decide) c
/-- Argument 3 ends as launched. -/
theorem E5_arg3 (c : Dev nD) : E5 m c main_arg3 = m ((c : Thread nD τ).loc main_arg3) :=
  E5_E0 m (by decide) (by decide) (by decide) (by decide) (by decide) c
/-- Argument 4 ends as launched. -/
theorem E5_arg4 (c : Dev nD) : E5 m c main_arg4 = m ((c : Thread nD τ).loc main_arg4) :=
  E5_E0 m (by decide) (by decide) (by decide) (by decide) (by decide) c

end Cert.ReferenceIdeal.Run

end
-- ==== Proof.FrameRef.lean ====
module

public import proofs.«01_k».proof.Defs
public import proofs.«01_k».proof.Proof.RefRun

@[expose] public section

set_option maxRecDepth 16384

noncomputable section

namespace Cert.Proof

open Idealize.ShloMosaic Idealize.SL.Sem Cert.ReferenceIdeal

/-- The reference runs from any memory, leaves its arguments as they were and every counter at zero. -/
theorem frame_reference : Cert.quiescent_ReferenceIdeal := by
  intro m ρ _
  refine (θ_run Cert.ReferenceIdeal.defs _ _).mono (fun r h => ?_) (Cert.ReferenceIdeal.Run.run_main (F := Ideal) m ρ)
  exact ⟨fun c => ⟨(h.1 c main_arg0 (by decide)).trans (Run.E5_arg0 m c), (h.1 c main_arg1 (by decide)).trans (Run.E5_arg1 m c),
    (h.1 c main_arg2 (by decide)).trans (Run.E5_arg2 m c), (h.1 c main_arg3 (by decide)).trans (Run.E5_arg3 m c),
    (h.1 c main_arg4 (by decide)).trans (Run.E5_arg4 m c)⟩, h.2⟩

end Cert.Proof

end
-- ==== Proof.MmInQk.lean ====
module

public import proofs.«01_k».proof.Defs
public import proofs.«01_k».proof.Proof.Gen.InQk.Frame
public import proofs.«01_k».proof.Proof.Gen.InQkIdeal.Value
public import proofs.«01_k».proof.Proof.Gen.RefInQkIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InQkIdeal.Product

open Cert.InQkIdeal Cert.InQkIdeal.Gen

variable (m : (ℓ : Loc nD τ sig) → Buf (Elt Ideal) ℓ)

/-- The reference's result as a term of the three arguments. -/
abbrev REF (h : FVec Ideal S16384x1024 .bf16) (w : FVec Ideal S1024x10240 .f32) (b : FVec Ideal S1x10240 .f32) : FVec Ideal S16384x2048 .f32 :=
  extractStridedSlice Cert.RefInQkIdeal.S16384x2048 ![0, 0] (addf (Host.dotGeneral Cert.RefInQkIdeal.dot_S16384x1024_S1024x10240_S16384x10240_1_0_0_1_n_n none (extf .f32 h Cert.RefInQkIdeal.Gen.bitsLt_bf16_f32) w) (broadcastInDim Cert.RefInQkIdeal.S16384x10240 ![0, 1] Cert.RefInQkIdeal.Gen.bcast_S1x10240_S16384x10240_0_1 b)) Cert.RefInQkIdeal.Gen.slices_S16384x10240_S16384x2048_0_0

/-- The block every window stages at point `t`. -/
theorem idx : ∀ t : Fin cfg0.N, win0_0.index t = ![t.val / 4, 0] ∧ win0_1.index t = ![t.val % 4 / 5, 0, t.val % 4 % 5]
    ∧ win0_2.index t = ![0, t.val % 4] ∧ win0_3.index t = ![t.val / 4, t.val % 4] :=
  (by decide +kernel : ∀ t : Fin grid0.N, _)

/-- What the body stores at an index of its block is the reference's result at that index's place in the array. -/
theorem point (c : Dev nD) (t : Fin cfg0.N) (y) : k0_pay1 (iblk m c 0 t) (iblk m c 1 t) (iblk m c 2 t) y = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

/-- The result array after the run is the reference's result. -/
theorem final (c : Dev nD) : (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.InQkIdeal.Product

namespace Cert.Proof.InQk

/-- The kernel runs, its arguments unchanged and every counter at zero. -/
theorem frameBits : Cert.quiescent_InQk := fun m ρ _ => Cert.InQk.Gen.frame m ρ

/-- The same over the extended reals. -/
theorem frameIdeal : Cert.quiescent_InQkIdeal := fun m ρ _ => Cert.InQkIdeal.Gen.frame m ρ

/-- The reference runs, its arguments unchanged; it has no counters. -/
theorem frameRef : Cert.quiescent_RefInQkIdeal := fun m ρ _ =>
  (θ_run Cert.RefInQkIdeal.defs _ _).mono (fun r h => ⟨fun c => (h c).2, sem_eq_zero_of_no_sems rfl r.2⟩)
    (Cert.RefInQkIdeal.Value.run (F := Ideal) m ρ)

/-- The kernel and the reference leave the same result, the arguments unchanged. -/
theorem algebraic : Cert.algebraic_InQkIdeal_RefInQkIdeal := by
  intro m g m' g' _ hA
  refine ⟨_, Cert.InQkIdeal.Value.run_blocks m g, ?_⟩
  refine (θ_run Cert.RefInQkIdeal.defs _ _).mono (fun r h c => ?_) (Cert.RefInQkIdeal.Value.run m' g')
  rw [Cert.InQkIdeal.Product.final, ← (hA c).1, ← (hA c).2.1, ← (hA c).2.2]
  exact h c

end Cert.Proof.InQk
-- ==== Proof.MmInRest.lean ====
module

public import proofs.«01_k».proof.Defs
public import proofs.«01_k».proof.Proof.Gen.InRest.Frame
public import proofs.«01_k».proof.Proof.Gen.InRestIdeal.Value
public import proofs.«01_k».proof.Proof.Gen.RefInRestIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InRestIdeal.Product

open Cert.InRestIdeal Cert.InRestIdeal.Gen

variable (m : (ℓ : Loc nD τ sig) → Buf (Elt Ideal) ℓ)

/-- The reference's result as a term of the three arguments. -/
abbrev REF (h : FVec Ideal S16384x1024 .bf16) (w : FVec Ideal S1024x10240 .f32) (b : FVec Ideal S1x10240 .f32) : FVec Ideal S16384x8192 .bf16 :=
  truncf .bf16 (extractStridedSlice Cert.RefInRestIdeal.S16384x8192 ![0, 2048] (addf (Host.dotGeneral Cert.RefInRestIdeal.dot_S16384x1024_S1024x10240_S16384x10240_1_0_0_1_n_n none (extf .f32 h Cert.RefInRestIdeal.Gen.bitsLt_bf16_f32) w) (broadcastInDim Cert.RefInRestIdeal.S16384x10240 ![0, 1] Cert.RefInRestIdeal.Gen.bcast_S1x10240_S16384x10240_0_1 b)) Cert.RefInRestIdeal.Gen.slices_S16384x10240_S16384x8192_0_2048) Cert.RefInRestIdeal.Gen.bitsLt_bf16_f32

/-- The block every window stages at point `t`. -/
theorem idx : ∀ t : Fin cfg0.N, win0_0.index t = ![t.val / 16, 0] ∧ win0_1.index t = ![(4 + t.val % 16) / 5, 0, (4 + t.val % 16) % 5]
    ∧ win0_2.index t = ![0, (4 + t.val % 16)] ∧ win0_3.index t = ![t.val / 16, t.val % 16] :=
  (by decide +kernel : ∀ t : Fin grid0.N, _)

/-- What the body stores at an index of its block is the reference's result at that index's place in the array. -/
theorem point (c : Dev nD) (t : Fin cfg0.N) (y) : k0_pay1 (iblk m c 0 t) (iblk m c 1 t) (iblk m c 2 t) y = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

/-- The result array after the run is the reference's result. -/
theorem final (c : Dev nD) : (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.InRestIdeal.Product

namespace Cert.Proof.InRest

/-- The kernel runs, its arguments unchanged and every counter at zero. -/
theorem frameBits : Cert.quiescent_InRest := fun m ρ _ => Cert.InRest.Gen.frame m ρ

/-- The same over the extended reals. -/
theorem frameIdeal : Cert.quiescent_InRestIdeal := fun m ρ _ => Cert.InRestIdeal.Gen.frame m ρ

/-- The reference runs, its arguments unchanged; it has no counters. -/
theorem frameRef : Cert.quiescent_RefInRestIdeal := fun m ρ _ =>
  (θ_run Cert.RefInRestIdeal.defs _ _).mono (fun r h => ⟨fun c => (h c).2, sem_eq_zero_of_no_sems rfl r.2⟩)
    (Cert.RefInRestIdeal.Value.run (F := Ideal) m ρ)

/-- The kernel and the reference leave the same result, the arguments unchanged. -/
theorem algebraic : Cert.algebraic_InRestIdeal_RefInRestIdeal := by
  intro m g m' g' _ hA
  refine ⟨_, Cert.InRestIdeal.Value.run_blocks m g, ?_⟩
  refine (θ_run Cert.RefInRestIdeal.defs _ _).mono (fun r h c => ?_) (Cert.RefInRestIdeal.Value.run m' g')
  rw [Cert.InRestIdeal.Product.final, ← (hA c).1, ← (hA c).2.1, ← (hA c).2.2]
  exact h c

end Cert.Proof.InRest
-- ==== Proof.MmInDw.lean ====
module

public import proofs.«01_k».proof.Defs
public import proofs.«01_k».proof.Proof.Gen.InDw.Frame
public import proofs.«01_k».proof.Proof.Gen.InDwIdeal.Value
public import proofs.«01_k».proof.Proof.Gen.RefInDwIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InDwIdeal.Product

open Cert.InDwIdeal Cert.InDwIdeal.Gen

variable (m : (ℓ : Loc nD τ sig) → Buf (Elt Ideal) ℓ)

/-- The reference's weight gradient over all columns. -/
abbrev grad (h : FVec Ideal S16384x1024 .bf16) (d : FVec Ideal S16384x10240 .bf16) : FVec Ideal Cert.RefInDwIdeal.S1024x10240 .f32 :=
  transpose Cert.RefInDwIdeal.S1024x10240 [1, 0] (Host.dotGeneral Cert.RefInDwIdeal.dot_S16384x10240_S16384x1024_S10240x1024_0_0_1_1_n_n none (extf .f32 d Cert.RefInDwIdeal.Gen.bitsLt_bf16_f32) (extf .f32 h Cert.RefInDwIdeal.Gen.bitsLt_bf16_f32)) Cert.RefInDwIdeal.Gen.transposes_S10240x1024_S1024x10240_1_0

/-- The reference's first result: the gradient's four column shards, stacked. -/
abbrev REF (h : FVec Ideal S16384x1024 .bf16) (d : FVec Ideal S16384x10240 .bf16) : FVec Ideal S4x1024x2560 .f32 :=
  concatenate S4x1024x2560 0 [⟨Cert.RefInDwIdeal.S1x1024x2560, broadcastInDim Cert.RefInDwIdeal.S1x1024x2560 ![1, 2] Cert.RefInDwIdeal.Gen.bcast_S1024x2560_S1x1024x2560_1_2 (extractStridedSlice Cert.RefInDwIdeal.S1024x2560 ![0, 0] (grad h d) Cert.RefInDwIdeal.Gen.slices_S1024x10240_S1024x2560_0_0)⟩,
    ⟨Cert.RefInDwIdeal.S1x1024x2560, broadcastInDim Cert.RefInDwIdeal.S1x1024x2560 ![1, 2] Cert.RefInDwIdeal.Gen.bcast_S1024x2560_S1x1024x2560_1_2 (extractStridedSlice Cert.RefInDwIdeal.S1024x2560 ![0, 2560] (grad h d) Cert.RefInDwIdeal.Gen.slices_S1024x10240_S1024x2560_0_2560)⟩,
    ⟨Cert.RefInDwIdeal.S1x1024x2560, broadcastInDim Cert.RefInDwIdeal.S1x1024x2560 ![1, 2] Cert.RefInDwIdeal.Gen.bcast_S1024x2560_S1x1024x2560_1_2 (extractStridedSlice Cert.RefInDwIdeal.S1024x2560 ![0, 5120] (grad h d) Cert.RefInDwIdeal.Gen.slices_S1024x10240_S1024x2560_0_5120)⟩,
    ⟨Cert.RefInDwIdeal.S1x1024x2560, broadcastInDim Cert.RefInDwIdeal.S1x1024x2560 ![1, 2] Cert.RefInDwIdeal.Gen.bcast_S1024x2560_S1x1024x2560_1_2 (extractStridedSlice Cert.RefInDwIdeal.S1024x2560 ![0, 7680] (grad h d) Cert.RefInDwIdeal.Gen.slices_S1024x10240_S1024x2560_0_7680)⟩]
    Cert.RefInDwIdeal.Gen.concatenates_S1x1024x2560_S1x1024x2560_S1x1024x2560_S1x1024x2560_S4x1024x2560_d0

/-- The reference's second result: the gradient of the bias. -/
abbrev BIAS (d : FVec Ideal S16384x10240 .bf16) : FVec Ideal S1x10240 .f32 :=
  shapeCast S1x10240 (Host.reduceAdd (F := Ideal) (extf .f32 d Cert.RefInDwIdeal.Gen.bitsLt_bf16_f32) (constant Cert.RefInDwIdeal.S_ .f32 0x00000000#32) Cert.RefInDwIdeal.Gen.reducesTo_S16384x10240_S10240_d0 Cert.RefInDwIdeal.Gen.h_S_) Cert.RefInDwIdeal.Gen.shapeCasts_S10240_S1x10240

/-- The first result at an index: a sum over the rows. -/
theorem REF_apply (h : FVec Ideal S16384x1024 .bf16) (d : FVec Ideal S16384x10240 .bf16) (i : S4x1024x2560.Idx) :
    REF h d i = ∑ l : Fin 16384, (h (ix2 l (i 1)) * d (ix2 l ⟨2560 * (i 0).val + (i 2).val, by
      have h0 : (i 0).val < 4 := (i 0).isLt
      have h2 : (i 2).val < 2560 := (i 2).isLt
      omega⟩) : EReal) := by
  idx_vars i
  pointwise [REF, grad]
  fin_vals i0 with hk
  all_goals simp only [hk, Nat.reduceSub, Nat.reduceLT, ↓reduceDIte]
  all_goals refine Finset.sum_congr rfl fun x _ => ?_
  all_goals simp only [Nat.mul_zero, Nat.zero_add, Nat.reduceMul]
  all_goals exact mul_comm _ _

/-- The second result at an index. -/
theorem BIAS_apply (d : FVec Ideal S16384x10240 .bf16) (i : S1x10240.Idx) :
    BIAS d i = ∑ l : Fin 16384, (d (ix2 l (i 1)) : EReal) := by
  idx_vars i
  pointwise [BIAS]

/-- The block every window stages at point `t`. -/
theorem idx : ∀ t : Fin cfg0.N, win0_0.index t = ![t.val % 8, 0] ∧ win0_1.index t = ![t.val % 8, t.val / 8]
    ∧ win0_2.index t = ![t.val / 8 / 2, 0, t.val / 8 % 2] ∧ win0_3.index t = ![0, t.val / 8] ∧ t.val / 8 < 8 :=
  (by decide +kernel : ∀ t : Fin grid0.N, _)

theorem part (d : Vec Ideal S2048x1280 .bf16) (h : Vec Ideal S2048x1024 .bf16) (y : S1x1024x1280.Idx) :
    k0_pay2 d h y = ∑ k : Fin 2048, ((h (ix2 k (y 1)) : EReal) * d (ix2 k (y 2)) : EReal) := by
  pointwise [k0_pay2, k0_pay1]

theorem step (d : Vec Ideal S2048x1280 .bf16) (h : Vec Ideal S2048x1024 .bf16) (z : Vec Ideal S1x1024x1280 .f32) (y : S1x1024x1280.Idx) :
    k0_pay3 d h z y = (z y : EReal) + ∑ k : Fin 2048, ((h (ix2 k (y 1)) : EReal) * d (ix2 k (y 2)) : EReal) := by
  idx_vars y
  obtain rfl : y0 = 0 := Subsingleton.elim _ _
  pointwise [k0_pay3, k0_pay1]

/-- What the weight gradient's buffer holds where it is written back. -/
theorem point (c : Dev nD) (t : Fin cfg0.N) (hr : t.val % 8 = 8 - 1) (y : S1x1024x1280.Idx) :
    (outsAt0 m c t.val t.isLt).1 y
      = REF (m ((c : Thread nD τ).loc main_arg0)) (m ((c : Thread nD τ).loc main_arg1)) (((cfg0.win 2).blk t).view.emb y) := by
  rw [REF_apply]
  rw [Pipeline.eq_sum_fin_of_reset_step_apply_of_flush (fun n h => (outsAt0 m c n h).1) 8 (fun _ => (0 : EReal)) _
    (fun t h j => by
      rw [outsAt0_A m c t h (by omega) h (by omega)]; frame_out; rw [part, zero_add])
    (fun t h j => by
      rw [outsAt0_B m c t h (by omega) h (by omega)]; frame_out; rw [step]) t hr y, zero_add]
  refine Fin.sum_mul_add_congr fun s k hl => ?_
  have hp : 8 * (t.val / 8) + s.val < cfg0.N := Pipeline.run_point_lt_of_flush t hr s
  blk_point [iblk, V, idx t, idx ⟨8 * (t.val / 8) + s.val, hp⟩]

theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

theorem biasPart (d : Vec Ideal S2048x1280 .bf16) (y : S1x1280.Idx) :
    k0_pay4 d y = ∑ k : Fin 2048, (d (ix2 k (y 1)) : EReal) := by
  pointwise [k0_pay4]

theorem biasStep (d : Vec Ideal S2048x1280 .bf16) (z : Vec Ideal S1x1280 .f32) (y : S1x1280.Idx) :
    k0_pay5 d z y = (z y : EReal) + ∑ k : Fin 2048, (d (ix2 k (y 1)) : EReal) := by
  idx_vars y
  obtain rfl : y0 = 0 := Subsingleton.elim _ _
  pointwise [k0_pay5, k0_pay4]

/-- What the bias gradient's buffer holds where it is written back. -/
theorem biasPoint (c : Dev nD) (t : Fin cfg0.N) (hr : t.val % 8 = 8 - 1) (y : S1x1280.Idx) :
    (outsAt0 m c t.val t.isLt).2 y = BIAS (m ((c : Thread nD τ).loc main_arg1)) (((cfg0.win 3).blk t).view.emb y) := by
  rw [BIAS_apply]
  rw [Pipeline.eq_sum_fin_of_reset_step_apply_of_flush (fun n h => (outsAt0 m c n h).2) 8 (fun _ => (0 : EReal)) _
    (fun t h j => by
      rw [outsAt0_A m c t h (by omega) h (by omega)]; frame_out; rw [biasPart, zero_add])
    (fun t h j => by
      rw [outsAt0_B m c t h (by omega) h (by omega)]; frame_out; rw [biasStep]) t hr y, zero_add]
  refine Fin.sum_mul_add_congr fun s k hl => ?_
  have hp : 8 * (t.val / 8) + s.val < cfg0.N := Pipeline.run_point_lt_of_flush t hr s
  blk_point [iblk, V, idx t, idx ⟨8 * (t.val / 8) + s.val, hp⟩]

theorem biasFinal (c : Dev nD) : (dats m 0 c).arrAt 3 cfg0.N = BIAS (m ((c : Thread nD τ).loc main_arg1)) := by
  refine (dats m 0 c).arrAt_eq_of_covers 3 _ (by decide +kernel) fun t hf y => ?_
  blk_simp
  rw [after0_3]
  exact biasPoint m c t ((flush0_3 t).mp hf) y

end Cert.InDwIdeal.Product

namespace Cert.Proof.InDw

theorem frameBits : Cert.quiescent_InDw := fun m ρ _ => Cert.InDw.Gen.frame m ρ
theorem frameIdeal : Cert.quiescent_InDwIdeal := fun m ρ _ => Cert.InDwIdeal.Gen.frame m ρ
theorem frameRef : Cert.quiescent_RefInDwIdeal := fun m ρ _ =>
  (θ_run Cert.RefInDwIdeal.defs _ _).mono (fun r h => ⟨fun c => (h c).2.2, sem_eq_zero_of_no_sems rfl r.2⟩)
    (Cert.RefInDwIdeal.Value.run (F := Ideal) m ρ)

theorem algebraic : Cert.algebraic_InDwIdeal_RefInDwIdeal := by
  intro m g m' g' _ hA
  refine ⟨_, _, Cert.InDwIdeal.Value.run_blocks m g, ?_⟩
  refine (θ_run Cert.RefInDwIdeal.defs _ _).mono (fun r h c => ?_) (Cert.RefInDwIdeal.Value.run m' g')
  rw [Cert.InDwIdeal.Product.final, Cert.InDwIdeal.Product.biasFinal, ← (hA c).1, ← (hA c).2]
  exact h c

end Cert.Proof.InDw
-- ==== Proof.MmInDx.lean ====
module

public import proofs.«01_k».proof.Defs
public import proofs.«01_k».proof.Proof.Gen.InDx.Frame
public import proofs.«01_k».proof.Proof.Gen.InDxIdeal.Value
public import proofs.«01_k».proof.Proof.Gen.RefInDxIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InDxIdeal.Product

open Cert.InDxIdeal Cert.InDxIdeal.Gen

variable (m : (ℓ : Loc nD τ sig) → Buf (Elt Ideal) ℓ)

/-- The reference's result as a term of the two arguments. -/
abbrev REF (d : FVec Ideal S16384x10240 .bf16) (w : FVec Ideal S1024x10240 .f32) : FVec Ideal S16384x1024 .bf16 :=
  truncf .bf16 (Host.dotGeneral Cert.RefInDxIdeal.dot_S16384x10240_S1024x10240_S16384x1024_1_1_0_0_n_n none (extf .f32 d Cert.RefInDxIdeal.Gen.bitsLt_bf16_f32) w) Cert.RefInDxIdeal.Gen.bitsLt_bf16_f32

/-- The result at an index: a sum over the columns. -/
theorem REF_apply (d : FVec Ideal S16384x10240 .bf16) (w : FVec Ideal S1024x10240 .f32) (i : S16384x1024.Idx) :
    REF d w i = ∑ l : Fin 10240, (d (ix2 (i 0) l) * w (ix2 (i 1) l) : EReal) := by
  pointwise [REF]

/-- The block every window stages at point `t`. -/
theorem idx : ∀ t : Fin cfg0.N, win0_0.index t = ![t.val / 4, t.val % 4] ∧ win0_1.index t = ![t.val % 4, 0, 0]
    ∧ win0_2.index t = ![t.val / 4, 0] ∧ t.val / 4 < 16 :=
  (by decide +kernel : ∀ t : Fin grid0.N, _)

/-- What the first group stores: its part of the sum. -/
theorem part (d : Vec Ideal S1024x2560 .bf16) (w : Vec Ideal S1x1024x2560 .bf16) (y : S1024x1024.Idx) :
    k0_pay2 d w y = ∑ k : Fin 2560, ((d (ix2 (y 0) k) : EReal) * w (ix3 0 (y 1) k) : EReal) := by
  pointwise [k0_pay2, k0_pay1]

/-- What a later group stores: what it found plus its part of the sum. -/
theorem step (d : Vec Ideal S1024x2560 .bf16) (w : Vec Ideal S1x1024x2560 .bf16) (z : Vec Ideal S1024x1024 .f32) (y : S1024x1024.Idx) :
    k0_pay3 d w z y = (z y : EReal) + ∑ k : Fin 2560, ((d (ix2 (y 0) k) : EReal) * w (ix3 0 (y 1) k) : EReal) := by
  idx_vars y
  pointwise [k0_pay3, k0_pay1]

/-- What is written back is what the running sum holds then. -/
theorem written (c : Dev nD) (t : Fin cfg0.N) (hr : t.val % 4 = 3) (y : S1024x1024.Idx) :
    (outsAt0 m c t.val t.isLt).1 y = (outsAt0 m c t.val t.isLt).2 y := by
  rw [outsAt0_C m c t (by omega) (by omega) hr]; frame_out
  pointwise [k0_pay4]

/-- What the result's buffer holds where it is written back. -/
theorem point (c : Dev nD) (t : Fin cfg0.N) (hr : t.val % 4 = 4 - 1) (y : S1024x1024.Idx) :
    (outsAt0 m c t.val t.isLt).1 y = REF (m ((c : Thread nD τ).loc main_arg0)) (m ((c : Thread nD τ).loc main_arg1)) (((cfg0.win 2).blk t).view.emb y) := by
  rw [REF_apply, written m c t hr]
  rw [Pipeline.eq_sum_fin_of_reset_step_apply_of_flush (fun n h => (outsAt0 m c n h).2) 4 (fun _ => (0 : EReal)) _
    (fun t h j => by
      rw [outsAt0_A m c t h (by omega) (by omega)]; frame_out; rw [part, zero_add])
    (fun t h j => by
      by_cases h3 : t.val % 4 = 3
      · rw [outsAt0_C m c t h (by omega) h3]; frame_out; rw [step, read_unread_whole]
      · rw [outsAt0_B m c t h (by omega) h3]; frame_out; rw [step, read_unread_whole]) t hr y, zero_add]
  refine Fin.sum_mul_add_congr fun s k hl => ?_
  have hp : 4 * (t.val / 4) + s.val < cfg0.N := Pipeline.run_point_lt_of_flush t hr s
  blk_point [iblk, V, idx t, idx ⟨4 * (t.val / 4) + s.val, hp⟩]

/-- The result array after the run is the reference's result. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Cert.InDxIdeal.Product

namespace Cert.Proof.InDx

/-- The kernel runs, its arguments unchanged and every counter at zero. -/
theorem frameBits : Cert.quiescent_InDx := fun m ρ _ => Cert.InDx.Gen.frame m ρ

/-- The same over the extended reals. -/
theorem frameIdeal : Cert.quiescent_InDxIdeal := fun m ρ _ => Cert.InDxIdeal.Gen.frame m ρ

/-- The reference runs, its arguments unchanged; it has no counters. -/
theorem frameRef : Cert.quiescent_RefInDxIdeal := fun m ρ _ =>
  (θ_run Cert.RefInDxIdeal.defs _ _).mono (fun r h => ⟨fun c => (h c).2, sem_eq_zero_of_no_sems rfl r.2⟩)
    (Cert.RefInDxIdeal.Value.run (F := Ideal) m ρ)

/-- The kernel and the reference leave the same result, the arguments unchanged. -/
theorem algebraic : Cert.algebraic_InDxIdeal_RefInDxIdeal := by
  intro m g m' g' _ hA
  refine ⟨_, Cert.InDxIdeal.Value.run_blocks m g, ?_⟩
  refine (θ_run Cert.RefInDxIdeal.defs _ _).mono (fun r h c => ?_) (Cert.RefInDxIdeal.Value.run m' g')
  rw [Cert.InDxIdeal.Product.final, ← (hA c).1, ← (hA c).2]
  exact h c

end Cert.Proof.InDx
-- ==== Proof.MmUp.lean ====
module

public import proofs.«01_k».proof.Defs
public import proofs.«01_k».proof.Proof.Gen.Up.Frame
public import proofs.«01_k».proof.Proof.Gen.UpIdeal.Frame
public import proofs.«01_k».proof.Proof.Gen.RefUpIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.UpIdeal.Product

open Cert.UpIdeal Cert.UpIdeal.Gen

variable (m : (ℓ : Loc nD τ sig) → Buf (Elt Ideal) ℓ)

/-- The reference's result as a term of the two arguments. -/
abbrev REF (h : FVec Ideal S16384x1024 .bf16) (w : FVec Ideal S1024x5632 .f32) : FVec Ideal S16384x5632 .bf16 :=
  truncf .bf16 (Host.dotGeneral Cert.RefUpIdeal.dot_S16384x1024_S1024x5632_S16384x5632_1_0_0_1_n_n none (extf .f32 h Cert.RefUpIdeal.Gen.bitsLt_bf16_f32) w) Cert.RefUpIdeal.Gen.bitsLt_bf16_f32

/-- The four column groups of a matrix laid end to end in the order first, third, second, fourth. -/
abbrev PAIRED (x : FVec Ideal S16384x5632 .bf16) : FVec Ideal S16384x5632 .bf16 :=
  concatenate S16384x5632 1 [⟨S16384x1408, extractStridedSlice S16384x1408 ![0, 0] x slices_S16384x5632_S16384x1408_0_0⟩, ⟨S16384x1408, extractStridedSlice S16384x1408 ![0, 2816] x slices_S16384x5632_S16384x1408_0_2816⟩, ⟨S16384x1408, extractStridedSlice S16384x1408 ![0, 1408] x slices_S16384x5632_S16384x1408_0_1408⟩, ⟨S16384x1408, extractStridedSlice S16384x1408 ![0, 4224] x slices_S16384x5632_S16384x1408_0_4224⟩] concatenates_S16384x1408_S16384x1408_S16384x1408_S16384x1408_S16384x5632_d1

/-- That matrix at an entry. -/
theorem PAIRED_apply (x : FVec Ideal S16384x5632 .bf16) (r : Fin 16384) (g j : ℕ) (hg : g < 4) (hj : j < 1408) :
    PAIRED x (ix2 r ⟨1408 * g + j, by omega⟩) = x (ix2 r ⟨1408 * (g % 2 * 2 + g / 2) + j, by omega⟩) := by
  pointwise [PAIRED]
  have e (a b : ℕ) (ha : a < 5632) (hb : b < 5632) (h : a = b) : x (ix2 r ⟨a, ha⟩) = x (ix2 r ⟨b, hb⟩) := by subst h; rfl
  split_ifs <;> exact e _ _ _ _ (by omega)

/-- The block every window stages at point `t`. -/
theorem idx : ∀ t : Fin cfg0.N, win0_0.index t = ![t.val % 32, 0] ∧ win0_1.index t = ![t.val / 32 % 2 * 2 + t.val / 32 / 2, 0, 0]
    ∧ win0_2.index t = ![t.val % 32, t.val / 32] ∧ t.val / 32 < 4 :=
  (by decide +kernel : ∀ t : Fin grid0.N, _)

/-- Where the block of point `t` lies in the result array. -/
theorem place (t : Fin cfg0.N) (r : Fin 512) (j : Fin 1408) : ((cfg0.win 2).blk t).view.emb (ix2 r j)
    = ix2 ⟨512 * (t.val % 32) + r.val, by omega⟩ ⟨1408 * (t.val / 32) + j.val, by have := (idx t).2.2.2; omega⟩ := by
  blk_ext [idx t]

/-- The weight as the operations before the call leave it. -/
theorem entry (c : Dev nD) : V m c main_v2 = (truncf .bf16 (transpose S4x1024x1408 [1, 0, 2] (shapeCast S1024x4x1408
    (m ((c : Thread nD τ).loc main_arg1) : FVec Ideal S1024x5632 .f32) shapeCasts_S1024x5632_S1024x4x1408) transposes_S1024x4x1408_S4x1024x1408_1_0_2) bitsLt_bf16_f32 : FVec Ideal S4x1024x1408 .bf16) := rfl

/-- What the body stores at an index of its block is the reference's result, its column groups reordered, at that index's place. -/
theorem point (c : Dev nD) (t : Fin cfg0.N) (y : S512x1408.Idx) : k0_pay1 (iblk m c 0 t) (iblk m c 1 t) y
    = PAIRED (REF (m ((c : Thread nD τ).loc main_arg0)) (m ((c : Thread nD τ).loc main_arg1))) (((cfg0.win 2).blk t).view.emb y) := by
  idx_vars y
  rw [place, PAIRED_apply _ _ _ _ (idx t).2.2.2 y1.isLt]
  pointwise [k0_pay1, REF]
  blk_point [iblk, V, idx t]
  rw [entry]
  pointwise
  blk_point [idx t]

/-- The array the call leaves. -/
theorem left (c : Dev nD) : (dats m 0 c).arrAt 2 cfg0.N = PAIRED (REF (m ((c : Thread nD τ).loc main_arg0)) (m ((c : Thread nD τ).loc main_arg1))) := by
  refine (dats m 0 c).arrAt_eq_of_covers 2 _ (by decide +kernel) fun t _ y => ?_
  blk_simp
  rw [after0_2]; frame_out
  exact point m c t y

/-- Reordering the groups twice changes nothing. -/
theorem PAIRED_twice (x : FVec Ideal S16384x5632 .bf16) : PAIRED (PAIRED x) = x := by
  funext i
  idx_vars i
  obtain ⟨g, j, hg, hj, rfl⟩ : ∃ g j, ∃ (hg : g < 4) (hj : j < 1408), i1 = ⟨1408 * g + j, by omega⟩ :=
    ⟨i1.val / 1408, i1.val % 1408, by omega, by omega, Fin.ext (Nat.div_add_mod _ _).symm⟩
  rw [PAIRED_apply (PAIRED x) i0 g j hg hj, PAIRED_apply x i0 _ j (by omega) hj]
  exact congrArg (fun k => x (ix2 i0 k)) (Fin.ext (by show 1408 * _ + j = 1408 * g + j; obtain rfl | rfl | rfl | rfl : g = 0 ∨ g = 1 ∨ g = 2 ∨ g = 3 := by omega
                                                      all_goals rfl))

/-- The result after the operations behind the call. -/
theorem final (c : Dev nD) : Pipeline.afterTail₀ cfgs (dats m) 0 (V0 m) [hostOps1] c main_v8 = REF (m ((c : Thread nD τ).loc main_arg0)) (m ((c : Thread nD τ).loc main_arg1)) := by
  rw [← PAIRED_twice (REF (m ((c : Thread nD τ).loc main_arg0)) (m ((c : Thread nD τ).loc main_arg1))), ← left m c]
  have e (σ : Valuation τ sig (Elt Ideal)) : StableHlo.after hostOps1 σ main_v8 = PAIRED (σ main_v3) := rfl
  refine (e _).trans (congrArg PAIRED ?_)
  exact Pipeline.withArrays_arr (cfgs 0).spec winFacts0.arr_inj c (V0 m c) _ 2

end Cert.UpIdeal.Product

namespace Cert.Proof.Up

/-- The kernel runs, its arguments unchanged and every counter at zero. -/
theorem frameBits : Cert.quiescent_Up := fun m ρ _ => Cert.Up.Gen.frame m ρ

/-- The same over the extended reals. -/
theorem frameIdeal : Cert.quiescent_UpIdeal := fun m ρ _ => Cert.UpIdeal.Gen.frame m ρ

/-- The reference runs, its arguments unchanged; it has no counters. -/
theorem frameRef : Cert.quiescent_RefUpIdeal := fun m ρ _ =>
  (θ_run Cert.RefUpIdeal.defs _ _).mono (fun r h => ⟨fun c => (h c).2, sem_eq_zero_of_no_sems rfl r.2⟩)
    (Cert.RefUpIdeal.Value.run (F := Ideal) m ρ)

/-- The kernel and the reference leave the same result, the arguments unchanged. -/
theorem algebraic : Cert.algebraic_UpIdeal_RefUpIdeal := by
  intro m g m' g' _ hA
  refine ⟨fun c => Cert.UpIdeal.Product.REF (m ((c.tc : Thread Cert.UpIdeal.nD Cert.UpIdeal.τ).loc Cert.UpIdeal.main_arg0)) (m ((c.tc : Thread Cert.UpIdeal.nD Cert.UpIdeal.τ).loc Cert.UpIdeal.main_arg1)),
    (θ_run Cert.UpIdeal.defs _ _).mono (fun r h c => ⟨?_, h.2 c⟩) (θ_run_and (Cert.UpIdeal.Gen.run_main (F := Ideal) m g) (Cert.UpIdeal.Gen.unchanged (F := Ideal) m g)), ?_⟩
  · exact ((h.1 c).2 Cert.UpIdeal.main_v8 (Pipeline.mem_restRefs_of Cert.UpIdeal.main_v8 (by decide) (by decide))).trans (Cert.UpIdeal.Product.final m c)
  refine (θ_run Cert.RefUpIdeal.defs _ _).mono (fun r h c => ?_) (Cert.RefUpIdeal.Value.run m' g')
  simp only [← (hA c).1, ← (hA c).2]
  exact h c

end Cert.Proof.Up
-- ==== Proof.MmUpDw.lean ====
module

public import proofs.«01_k».proof.Defs
public import proofs.«01_k».proof.Proof.Gen.UpDw.Frame
public import proofs.«01_k».proof.Proof.Gen.UpDwIdeal.Value
public import proofs.«01_k».proof.Proof.Gen.RefUpDwIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.UpDwIdeal.Product

open Cert.UpDwIdeal Cert.UpDwIdeal.Gen

variable (m : (ℓ : Loc nD τ sig) → Buf (Elt Ideal) ℓ)

/-- The reference's weight gradient over all columns. -/
abbrev grad (h : FVec Ideal S16384x1024 .bf16) (d : FVec Ideal S16384x5632 .bf16) : FVec Ideal Cert.RefUpDwIdeal.S1024x5632 .f32 :=
  transpose Cert.RefUpDwIdeal.S1024x5632 [1, 0] (Host.dotGeneral Cert.RefUpDwIdeal.dot_S16384x5632_S16384x1024_S5632x1024_0_0_1_1_n_n none (extf .f32 d Cert.RefUpDwIdeal.Gen.bitsLt_bf16_f32) (extf .f32 h Cert.RefUpDwIdeal.Gen.bitsLt_bf16_f32)) Cert.RefUpDwIdeal.Gen.transposes_S5632x1024_S1024x5632_1_0

/-- The reference's result: the gradient's four column shards, stacked. -/
abbrev REF (h : FVec Ideal S16384x1024 .bf16) (d : FVec Ideal S16384x5632 .bf16) : FVec Ideal S4x1024x1408 .f32 :=
  concatenate S4x1024x1408 0 [⟨Cert.RefUpDwIdeal.S1x1024x1408, broadcastInDim Cert.RefUpDwIdeal.S1x1024x1408 ![1, 2] Cert.RefUpDwIdeal.Gen.bcast_S1024x1408_S1x1024x1408_1_2 (extractStridedSlice Cert.RefUpDwIdeal.S1024x1408 ![0, 0] (grad h d) Cert.RefUpDwIdeal.Gen.slices_S1024x5632_S1024x1408_0_0)⟩,
    ⟨Cert.RefUpDwIdeal.S1x1024x1408, broadcastInDim Cert.RefUpDwIdeal.S1x1024x1408 ![1, 2] Cert.RefUpDwIdeal.Gen.bcast_S1024x1408_S1x1024x1408_1_2 (extractStridedSlice Cert.RefUpDwIdeal.S1024x1408 ![0, 1408] (grad h d) Cert.RefUpDwIdeal.Gen.slices_S1024x5632_S1024x1408_0_1408)⟩,
    ⟨Cert.RefUpDwIdeal.S1x1024x1408, broadcastInDim Cert.RefUpDwIdeal.S1x1024x1408 ![1, 2] Cert.RefUpDwIdeal.Gen.bcast_S1024x1408_S1x1024x1408_1_2 (extractStridedSlice Cert.RefUpDwIdeal.S1024x1408 ![0, 2816] (grad h d) Cert.RefUpDwIdeal.Gen.slices_S1024x5632_S1024x1408_0_2816)⟩,
    ⟨Cert.RefUpDwIdeal.S1x1024x1408, broadcastInDim Cert.RefUpDwIdeal.S1x1024x1408 ![1, 2] Cert.RefUpDwIdeal.Gen.bcast_S1024x1408_S1x1024x1408_1_2 (extractStridedSlice Cert.RefUpDwIdeal.S1024x1408 ![0, 4224] (grad h d) Cert.RefUpDwIdeal.Gen.slices_S1024x5632_S1024x1408_0_4224)⟩]
    Cert.RefUpDwIdeal.Gen.concatenates_S1x1024x1408_S1x1024x1408_S1x1024x1408_S1x1024x1408_S4x1024x1408_d0

/-- The result at an index: a sum over the rows. -/
theorem REF_apply (h : FVec Ideal S16384x1024 .bf16) (d : FVec Ideal S16384x5632 .bf16) (i : S4x1024x1408.Idx) :
    REF h d i = ∑ l : Fin 16384, (h (ix2 l (i 1)) * d (ix2 l ⟨1408 * (i 0).val + (i 2).val, by
      have h0 : (i 0).val < 4 := (i 0).isLt
      have h2 : (i 2).val < 1408 := (i 2).isLt
      omega⟩) : EReal) := by
  idx_vars i
  pointwise [REF, grad]
  fin_vals i0 with hk
  all_goals simp only [hk, Nat.reduceSub, Nat.reduceLT, ↓reduceDIte]
  all_goals refine Finset.sum_congr rfl fun x _ => ?_
  all_goals simp only [Nat.mul_zero, Nat.zero_add, Nat.reduceMul]
  all_goals exact mul_comm _ _

/-- The block every window stages at point `t`. -/
theorem idx : ∀ t : Fin cfg0.N, win0_0.index t = ![t.val % 8, 0] ∧ win0_1.index t = ![t.val % 8, t.val / 8]
    ∧ win0_2.index t = ![t.val / 8 % 2 * 2 + t.val / 8 / 2, 0, 0] ∧ t.val / 8 < 4 :=
  (by decide +kernel : ∀ t : Fin grid0.N, _)

/-- The four column groups of a matrix laid end to end in the order first, third, second, fourth. -/
abbrev PAIRED (x : FVec Ideal S16384x5632 .bf16) : FVec Ideal S16384x5632 .bf16 :=
  concatenate S16384x5632 1 [⟨S16384x1408, extractStridedSlice S16384x1408 ![0, 0] x slices_S16384x5632_S16384x1408_0_0⟩, ⟨S16384x1408, extractStridedSlice S16384x1408 ![0, 2816] x slices_S16384x5632_S16384x1408_0_2816⟩, ⟨S16384x1408, extractStridedSlice S16384x1408 ![0, 1408] x slices_S16384x5632_S16384x1408_0_1408⟩, ⟨S16384x1408, extractStridedSlice S16384x1408 ![0, 4224] x slices_S16384x5632_S16384x1408_0_4224⟩] concatenates_S16384x1408_S16384x1408_S16384x1408_S16384x1408_S16384x5632_d1

/-- That matrix at an entry. -/
theorem PAIRED_apply (x : FVec Ideal S16384x5632 .bf16) (r : Fin 16384) (g j : ℕ) (hg : g < 4) (hj : j < 1408) :
    PAIRED x (ix2 r ⟨1408 * g + j, by omega⟩) = x (ix2 r ⟨1408 * (g % 2 * 2 + g / 2) + j, by omega⟩) := by
  pointwise [PAIRED]
  have e (a b : ℕ) (ha : a < 5632) (hb : b < 5632) (h : a = b) : x (ix2 r ⟨a, ha⟩) = x (ix2 r ⟨b, hb⟩) := by subst h; rfl
  split_ifs <;> exact e _ _ _ _ (by omega)

/-- The kernel's operand is that matrix. -/
theorem paired (c : Dev nD) : V m c main_v4 = PAIRED (m ((c : Thread nD τ).loc main_arg1)) := by
  rfl

/-- The entries of the block of that operand staged at point `t`. -/
theorem staged (c : Dev nD) (t : Fin cfg0.N) (hr : t.val % 8 < 16384 / 2048) (hc : t.val / 8 < 4) (r : Fin 2048) (j : Fin 1408) :
    iblk m c 1 t (ix2 r j) = (m ((c : Thread nD τ).loc main_arg1)) (ix2 ⟨2048 * (t.val % 8) + r.val, by omega⟩ ⟨1408 * ((t.val / 8) % 2 * 2 + (t.val / 8) / 2) + j.val, by omega⟩) := by
  rw [← PAIRED_apply (m ((c : Thread nD τ).loc main_arg1)) _ _ _ hc j.isLt, ← paired]
  blk_point [iblk, idx t]

/-- What the first row tile stores: its part of the sum. -/
theorem part (d : Vec Ideal S2048x1408 .bf16) (h : Vec Ideal S2048x1024 .bf16) (y : S1x1024x1408.Idx) :
    k0_pay2 d h y = ∑ k : Fin 2048, ((h (ix2 k (y 1)) : EReal) * d (ix2 k (y 2)) : EReal) := by
  pointwise [k0_pay2, k0_pay1]

/-- What a later row tile stores: what it found plus its part of the sum. -/
theorem step (d : Vec Ideal S2048x1408 .bf16) (h : Vec Ideal S2048x1024 .bf16) (z : Vec Ideal S1x1024x1408 .f32) (y : S1x1024x1408.Idx) :
    k0_pay3 d h z y = (z y : EReal) + ∑ k : Fin 2048, ((h (ix2 k (y 1)) : EReal) * d (ix2 k (y 2)) : EReal) := by
  idx_vars y
  obtain rfl : y0 = 0 := Subsingleton.elim _ _
  pointwise [k0_pay3, k0_pay1]

/-- What the gradient's buffer holds where it is written back. -/
theorem point (c : Dev nD) (t : Fin cfg0.N) (hr : t.val % 8 = 8 - 1) (y : S1x1024x1408.Idx) :
    outsAt0 m c t.val t.isLt y = REF (m ((c : Thread nD τ).loc main_arg0)) (m ((c : Thread nD τ).loc main_arg1)) (((cfg0.win 2).blk t).view.emb y) := by
  rw [REF_apply]
  rw [Pipeline.eq_sum_fin_of_reset_step_apply_of_flush (fun n h => outsAt0 m c n h) 8 (fun _ => (0 : EReal)) _
    (fun t h j => by
      rw [outsAt0_A m c t h (by have := (idx t).2.2.2; omega)]; frame_out; rw [part, zero_add])
    (fun t h j => by
      rw [outsAt0_B m c t h (by omega)]; frame_out; rw [step]) t hr y, zero_add]
  refine Fin.sum_mul_add_congr fun s k hl => ?_
  have hp : 8 * (t.val / 8) + s.val < cfg0.N := Pipeline.run_point_lt_of_flush t hr s
  refine congrArg₂ (fun a b : EReal => a * b) ?_ ((staged m c ⟨8 * (t.val / 8) + s.val, hp⟩ (by show _ < 8; omega) (idx ⟨8 * (t.val / 8) + s.val, hp⟩).2.2.2 k (y 2)).trans ?_)
  all_goals blk_point [iblk, V, idx t, idx ⟨8 * (t.val / 8) + s.val, hp⟩]

/-- The result array after the run is the reference's result. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Cert.UpDwIdeal.Product

namespace Cert.Proof.UpDw

/-- The kernel runs, its arguments unchanged and every counter at zero. -/
theorem frameBits : Cert.quiescent_UpDw := fun m ρ _ => Cert.UpDw.Gen.frame m ρ

/-- The same over the extended reals. -/
theorem frameIdeal : Cert.quiescent_UpDwIdeal := fun m ρ _ => Cert.UpDwIdeal.Gen.frame m ρ

/-- The reference runs, its arguments unchanged; it has no counters. -/
theorem frameRef : Cert.quiescent_RefUpDwIdeal := fun m ρ _ =>
  (θ_run Cert.RefUpDwIdeal.defs _ _).mono (fun r h => ⟨fun c => (h c).2, sem_eq_zero_of_no_sems rfl r.2⟩)
    (Cert.RefUpDwIdeal.Value.run (F := Ideal) m ρ)

/-- The kernel and the reference leave the same result, the arguments unchanged. -/
theorem algebraic : Cert.algebraic_UpDwIdeal_RefUpDwIdeal := by
  intro m g m' g' _ hA
  refine ⟨_, Cert.UpDwIdeal.Value.run_blocks m g, ?_⟩
  refine (θ_run Cert.RefUpDwIdeal.defs _ _).mono (fun r h c => ?_) (Cert.RefUpDwIdeal.Value.run m' g')
  rw [Cert.UpDwIdeal.Product.final, ← (hA c).1, ← (hA c).2]
  exact h c

end Cert.Proof.UpDw
-- ==== Proof.MmUpDx.lean ====
module

public import proofs.«01_k».proof.Defs
public import proofs.«01_k».proof.Proof.Gen.UpDx.Frame
public import proofs.«01_k».proof.Proof.Gen.UpDxIdeal.Value
public import proofs.«01_k».proof.Proof.Gen.RefUpDxIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.UpDxIdeal.Product

open Cert.UpDxIdeal Cert.UpDxIdeal.Gen

variable (m : (ℓ : Loc nD τ sig) → Buf (Elt Ideal) ℓ)

/-- The reference's result as a term of the two arguments. -/
abbrev REF (d : FVec Ideal S16384x5632 .bf16) (w : FVec Ideal S1024x5632 .f32) : FVec Ideal S16384x1024 .bf16 :=
  truncf .bf16 (Host.dotGeneral Cert.RefUpDxIdeal.dot_S16384x5632_S1024x5632_S16384x1024_1_1_0_0_n_n none (extf .f32 d Cert.RefUpDxIdeal.Gen.bitsLt_bf16_f32) w) Cert.RefUpDxIdeal.Gen.bitsLt_bf16_f32

/-- The result at an index: a sum over the columns. -/
theorem REF_apply (d : FVec Ideal S16384x5632 .bf16) (w : FVec Ideal S1024x5632 .f32) (i : S16384x1024.Idx) :
    REF d w i = ∑ l : Fin 5632, (d (ix2 (i 0) l) * w (ix2 (i 1) l) : EReal) := by
  pointwise [REF]

/-- The block every window stages at point `t`. -/
theorem idx : ∀ t : Fin cfg0.N, win0_0.index t = ![t.val / 4, t.val % 4] ∧ win0_1.index t = ![t.val % 4 % 2 * 2 + t.val % 4 / 2, 0, 0]
    ∧ win0_2.index t = ![t.val / 4, 0] ∧ t.val / 4 < 16 :=
  (by decide +kernel : ∀ t : Fin grid0.N, _)

/-- The four column groups of a matrix laid end to end in the order first, third, second, fourth. -/
abbrev PAIRED (x : FVec Ideal S16384x5632 .bf16) : FVec Ideal S16384x5632 .bf16 :=
  concatenate S16384x5632 1 [⟨S16384x1408, extractStridedSlice S16384x1408 ![0, 0] x slices_S16384x5632_S16384x1408_0_0⟩, ⟨S16384x1408, extractStridedSlice S16384x1408 ![0, 2816] x slices_S16384x5632_S16384x1408_0_2816⟩, ⟨S16384x1408, extractStridedSlice S16384x1408 ![0, 1408] x slices_S16384x5632_S16384x1408_0_1408⟩, ⟨S16384x1408, extractStridedSlice S16384x1408 ![0, 4224] x slices_S16384x5632_S16384x1408_0_4224⟩] concatenates_S16384x1408_S16384x1408_S16384x1408_S16384x1408_S16384x5632_d1

/-- That matrix at an entry. -/
theorem PAIRED_apply (x : FVec Ideal S16384x5632 .bf16) (r : Fin 16384) (g j : ℕ) (hg : g < 4) (hj : j < 1408) :
    PAIRED x (ix2 r ⟨1408 * g + j, by omega⟩) = x (ix2 r ⟨1408 * (g % 2 * 2 + g / 2) + j, by omega⟩) := by
  pointwise [PAIRED]
  have e (a b : ℕ) (ha : a < 5632) (hb : b < 5632) (h : a = b) : x (ix2 r ⟨a, ha⟩) = x (ix2 r ⟨b, hb⟩) := by subst h; rfl
  split_ifs <;> exact e _ _ _ _ (by omega)

/-- The kernel's operand is that matrix. -/
theorem paired (c : Dev nD) : V m c main_v4 = PAIRED (m ((c : Thread nD τ).loc main_arg0)) := by
  rfl

/-- The entries of the block of that operand staged at point `t`. -/
theorem staged (c : Dev nD) (t : Fin cfg0.N) (hr : t.val / 4 < 16384 / 1024) (hc : t.val % 4 < 4) (r : Fin 1024) (j : Fin 1408) :
    iblk m c 0 t (ix2 r j) = (m ((c : Thread nD τ).loc main_arg0)) (ix2 ⟨1024 * (t.val / 4) + r.val, by omega⟩ ⟨1408 * ((t.val % 4) % 2 * 2 + (t.val % 4) / 2) + j.val, by omega⟩) := by
  rw [← PAIRED_apply (m ((c : Thread nD τ).loc main_arg0)) _ _ _ hc j.isLt, ← paired]
  blk_point [iblk, idx t]

/-- A sum over the columns, the four groups taken in the order first, third, second, fourth. -/
theorem sum_paired (F : Fin 5632 → EReal) : ∑ l : Fin 5632, F l = ∑ s : Fin 4, ∑ k : Fin 1408, F ⟨1408 * (s.val % 2 * 2 + s.val / 2) + k.val, by omega⟩ := by
  have h : ∑ s : Fin 4, ∑ k : Fin 1408, F ⟨1408 * s.val + k.val, by omega⟩ = ∑ l : Fin 5632, F l :=
    Fin.sum_mul_add_congr fun s k hl => congrArg F (Fin.ext (congrArg (· + k.val) (Nat.mul_comm _ _)))
  rw [← h, Fin.sum_univ_four, Fin.sum_univ_four]
  exact congrArg (· + _) (add_right_comm _ _ _)

/-- What the first group stores: its part of the sum. -/
theorem part (d : Vec Ideal S1024x1408 .bf16) (w : Vec Ideal S1x1024x1408 .bf16) (y : S1024x1024.Idx) :
    k0_pay2 d w y = ∑ k : Fin 1408, ((d (ix2 (y 0) k) : EReal) * w (ix3 0 (y 1) k) : EReal) := by
  pointwise [k0_pay2, k0_pay1]

/-- What a later group stores: what it found plus its part of the sum. -/
theorem step (d : Vec Ideal S1024x1408 .bf16) (w : Vec Ideal S1x1024x1408 .bf16) (z : Vec Ideal S1024x1024 .f32) (y : S1024x1024.Idx) :
    k0_pay3 d w z y = (z y : EReal) + ∑ k : Fin 1408, ((d (ix2 (y 0) k) : EReal) * w (ix3 0 (y 1) k) : EReal) := by
  idx_vars y
  pointwise [k0_pay3, k0_pay1]

/-- What is written back is what the running sum holds then. -/
theorem written (c : Dev nD) (t : Fin cfg0.N) (hr : t.val % 4 = 3) (y : S1024x1024.Idx) :
    (outsAt0 m c t.val t.isLt).1 y = (outsAt0 m c t.val t.isLt).2 y := by
  rw [outsAt0_C m c t (by omega) (by omega) hr]; frame_out
  pointwise [k0_pay4]

/-- What the result's buffer holds where it is written back. -/
theorem point (c : Dev nD) (t : Fin cfg0.N) (hr : t.val % 4 = 4 - 1) (y : S1024x1024.Idx) :
    (outsAt0 m c t.val t.isLt).1 y = REF (m ((c : Thread nD τ).loc main_arg0)) (m ((c : Thread nD τ).loc main_arg1)) (((cfg0.win 2).blk t).view.emb y) := by
  rw [REF_apply, sum_paired, written m c t hr]
  rw [Pipeline.eq_sum_fin_of_reset_step_apply_of_flush (fun n h => (outsAt0 m c n h).2) 4 (fun _ => (0 : EReal)) _
    (fun t h j => by
      rw [outsAt0_A m c t h (by omega) (by omega)]; frame_out; rw [part, zero_add])
    (fun t h j => by
      by_cases h3 : t.val % 4 = 3
      · rw [outsAt0_C m c t h (by omega) h3]; frame_out; rw [step, read_unread_whole]
      · rw [outsAt0_B m c t h (by omega) h3]; frame_out; rw [step, read_unread_whole]) t hr y, zero_add]
  refine Finset.sum_congr rfl fun s _ => Finset.sum_congr rfl fun k _ => ?_
  have hp : 4 * (t.val / 4) + s.val < cfg0.N := Pipeline.run_point_lt_of_flush t hr s
  refine congrArg₂ (fun a b : EReal => a * b) ((staged m c ⟨4 * (t.val / 4) + s.val, hp⟩ (idx ⟨4 * (t.val / 4) + s.val, hp⟩).2.2.2 (by show _ < 4; omega) (y 0) k).trans ?_) ?_
  all_goals blk_point [iblk, V, idx t, idx ⟨4 * (t.val / 4) + s.val, hp⟩]

/-- The result array after the run is the reference's result. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Cert.UpDxIdeal.Product

namespace Cert.Proof.UpDx

/-- The kernel runs, its arguments unchanged and every counter at zero. -/
theorem frameBits : Cert.quiescent_UpDx := fun m ρ _ => Cert.UpDx.Gen.frame m ρ

/-- The same over the extended reals. -/
theorem frameIdeal : Cert.quiescent_UpDxIdeal := fun m ρ _ => Cert.UpDxIdeal.Gen.frame m ρ

/-- The reference runs, its arguments unchanged; it has no counters. -/
theorem frameRef : Cert.quiescent_RefUpDxIdeal := fun m ρ _ =>
  (θ_run Cert.RefUpDxIdeal.defs _ _).mono (fun r h => ⟨fun c => (h c).2, sem_eq_zero_of_no_sems rfl r.2⟩)
    (Cert.RefUpDxIdeal.Value.run (F := Ideal) m ρ)

/-- The kernel and the reference leave the same result, the arguments unchanged. -/
theorem algebraic : Cert.algebraic_UpDxIdeal_RefUpDxIdeal := by
  intro m g m' g' _ hA
  refine ⟨_, Cert.UpDxIdeal.Value.run_blocks m g, ?_⟩
  refine (θ_run Cert.RefUpDxIdeal.defs _ _).mono (fun r h c => ?_) (Cert.RefUpDxIdeal.Value.run m' g')
  rw [Cert.UpDxIdeal.Product.final, ← (hA c).1, ← (hA c).2]
  exact h c

end Cert.Proof.UpDx
-- ==== Proof.MmDown.lean ====
module

public import proofs.«01_k».proof.Defs
public import proofs.«01_k».proof.Proof.Gen.Down.Frame
public import proofs.«01_k».proof.Proof.Gen.DownIdeal.Value
public import proofs.«01_k».proof.Proof.Gen.RefDownIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DownIdeal.Product

open Cert.DownIdeal Cert.DownIdeal.Gen

variable (m : (ℓ : Loc nD τ sig) → Buf (Elt Ideal) ℓ)

/-- The reference's result as a term of the two arguments. -/
abbrev REF (x : FVec Ideal S16384x2816 .bf16) (w : FVec Ideal S2816x1024 .f32) : FVec Ideal S16384x1024 .f32 :=
  Host.dotGeneral Cert.RefDownIdeal.dot_S16384x2816_S2816x1024_S16384x1024_1_0_0_1_n_n none (extf .f32 x Cert.RefDownIdeal.Gen.bitsLt_bf16_f32) w

/-- The block every window stages at point `t`. -/
theorem idx : ∀ t : Fin cfg0.N, win0_0.index t = ![t.val, 0] ∧ win0_1.index t = ![0, 0, 0] ∧ win0_2.index t = ![t.val, 0] :=
  (by decide +kernel : ∀ t : Fin grid0.N, _)

/-- What the body stores at an index of its block is the reference's result at that index's place in the array. -/
theorem point (c : Dev nD) (t : Fin cfg0.N) (y) : k0_pay1 (iblk m c 0 t) (iblk m c 1 t) y = REF (m ((c : Thread nD τ).loc main_arg0)) (m ((c : Thread nD τ).loc main_arg1)) (((cfg0.win 2).blk t).view.emb y) := by
  pointwise [k0_pay1, REF]
  blk_point [iblk, V, idx t]

/-- The result array after the run is the reference's result. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DownIdeal.Product

namespace Cert.Proof.Down

/-- The kernel runs, its arguments unchanged and every counter at zero. -/
theorem frameBits : Cert.quiescent_Down := fun m ρ _ => Cert.Down.Gen.frame m ρ

/-- The same over the extended reals. -/
theorem frameIdeal : Cert.quiescent_DownIdeal := fun m ρ _ => Cert.DownIdeal.Gen.frame m ρ

/-- The reference runs, its arguments unchanged; it has no counters. -/
theorem frameRef : Cert.quiescent_RefDownIdeal := fun m ρ _ =>
  (θ_run Cert.RefDownIdeal.defs _ _).mono (fun r h => ⟨fun c => (h c).2, sem_eq_zero_of_no_sems rfl r.2⟩)
    (Cert.RefDownIdeal.Value.run (F := Ideal) m ρ)

/-- The kernel and the reference leave the same result, the arguments unchanged. -/
theorem algebraic : Cert.algebraic_DownIdeal_RefDownIdeal := by
  intro m g m' g' _ hA
  refine ⟨_, Cert.DownIdeal.Value.run_blocks m g, ?_⟩
  refine (θ_run Cert.RefDownIdeal.defs _ _).mono (fun r h c => ?_) (Cert.RefDownIdeal.Value.run m' g')
  rw [Cert.DownIdeal.Product.final, ← (hA c).1, ← (hA c).2]
  exact h c

end Cert.Proof.Down
-- ==== Proof.MmDownDw.lean ====
module

public import proofs.«01_k».proof.Defs
public import proofs.«01_k».proof.Proof.Gen.DownDw.Frame
public import proofs.«01_k».proof.Proof.Gen.DownDwIdeal.Value
public import proofs.«01_k».proof.Proof.Gen.RefDownDwIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DownDwIdeal.Product

open Cert.DownDwIdeal Cert.DownDwIdeal.Gen

variable (m : (ℓ : Loc nD τ sig) → Buf (Elt Ideal) ℓ)

/-- The reference's weight gradient as a term of the two arguments. -/
abbrev REF (x : FVec Ideal S16384x2816 .bf16) (d : FVec Ideal S16384x1024 .bf16) : FVec Ideal S1x2816x1024 .f32 :=
  broadcastInDim Cert.RefDownDwIdeal.S1x2816x1024 ![1, 2] Cert.RefDownDwIdeal.Gen.bcast_S2816x1024_S1x2816x1024_1_2 (transpose Cert.RefDownDwIdeal.S2816x1024 [1, 0] (Host.dotGeneral Cert.RefDownDwIdeal.dot_S16384x1024_S16384x2816_S1024x2816_0_0_1_1_n_n none (extf .f32 d Cert.RefDownDwIdeal.Gen.bitsLt_bf16_f32) (extf .f32 x Cert.RefDownDwIdeal.Gen.bitsLt_bf16_f32)) Cert.RefDownDwIdeal.Gen.transposes_S1024x2816_S2816x1024_1_0)

/-- The gradient at an index: a sum over the rows. -/
theorem REF_apply (x : FVec Ideal S16384x2816 .bf16) (d : FVec Ideal S16384x1024 .bf16) (i : S1x2816x1024.Idx) :
    REF x d i = ∑ l : Fin 16384, (x (ix2 l (i 1)) * d (ix2 l (i 2)) : EReal) := by
  idx_vars i
  pointwise [REF]
  exact Finset.sum_congr rfl fun x _ => mul_comm _ _

/-- The block every window stages at point `t`. -/
theorem idx : ∀ t : Fin cfg0.N, win0_0.index t = ![t.val % 16, 0] ∧ win0_1.index t = ![t.val % 16, t.val / 16]
    ∧ win0_2.index t = ![0, 0, t.val / 16] ∧ t.val / 16 < 2 :=
  (by decide +kernel : ∀ t : Fin grid0.N, _)

/-- What the first row tile stores: its part of the sum. -/
theorem part (d : Vec Ideal S1024x512 .bf16) (h : Vec Ideal S1024x2816 .bf16) (y : S1x2816x512.Idx) :
    k0_pay2 d h y = ∑ k : Fin 1024, ((h (ix2 k (y 1)) : EReal) * d (ix2 k (y 2)) : EReal) := by
  pointwise [k0_pay2, k0_pay1]

/-- What a later row tile stores: what it found plus its part of the sum. -/
theorem step (d : Vec Ideal S1024x512 .bf16) (h : Vec Ideal S1024x2816 .bf16) (z : Vec Ideal S1x2816x512 .f32) (y : S1x2816x512.Idx) :
    k0_pay3 d h z y = (z y : EReal) + ∑ k : Fin 1024, ((h (ix2 k (y 1)) : EReal) * d (ix2 k (y 2)) : EReal) := by
  idx_vars y
  obtain rfl : y0 = 0 := Subsingleton.elim _ _
  pointwise [k0_pay3, k0_pay1]

/-- What the gradient's buffer holds where it is written back. -/
theorem point (c : Dev nD) (t : Fin cfg0.N) (hr : t.val % 16 = 16 - 1) (y : S1x2816x512.Idx) :
    outsAt0 m c t.val t.isLt y = REF (m ((c : Thread nD τ).loc main_arg0)) (m ((c : Thread nD τ).loc main_arg1)) (((cfg0.win 2).blk t).view.emb y) := by
  rw [REF_apply]
  rw [Pipeline.eq_sum_fin_of_reset_step_apply_of_flush (fun n h => outsAt0 m c n h) 16 (fun _ => (0 : EReal)) _
    (fun t h j => by
      rw [outsAt0_A m c t h (by have := (idx t).2.2.2; omega)]; frame_out; rw [part, zero_add])
    (fun t h j => by
      rw [outsAt0_B m c t h (by omega)]; frame_out; rw [step]) t hr y, zero_add]
  refine Fin.sum_mul_add_congr fun s k hl => ?_
  have hp : 16 * (t.val / 16) + s.val < cfg0.N := Pipeline.run_point_lt_of_flush t hr s
  blk_point [iblk, V, idx t, idx ⟨16 * (t.val / 16) + s.val, hp⟩]

/-- The result array after the run is the reference's result. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Cert.DownDwIdeal.Product

namespace Cert.Proof.DownDw

/-- The kernel runs, its arguments unchanged and every counter at zero. -/
theorem frameBits : Cert.quiescent_DownDw := fun m ρ _ => Cert.DownDw.Gen.frame m ρ

/-- The same over the extended reals. -/
theorem frameIdeal : Cert.quiescent_DownDwIdeal := fun m ρ _ => Cert.DownDwIdeal.Gen.frame m ρ

/-- The reference runs, its arguments unchanged; it has no counters. -/
theorem frameRef : Cert.quiescent_RefDownDwIdeal := fun m ρ _ =>
  (θ_run Cert.RefDownDwIdeal.defs _ _).mono (fun r h => ⟨fun c => (h c).2, sem_eq_zero_of_no_sems rfl r.2⟩)
    (Cert.RefDownDwIdeal.Value.run (F := Ideal) m ρ)

/-- The kernel and the reference leave the same result, the arguments unchanged. -/
theorem algebraic : Cert.algebraic_DownDwIdeal_RefDownDwIdeal := by
  intro m g m' g' _ hA
  refine ⟨_, Cert.DownDwIdeal.Value.run_blocks m g, ?_⟩
  refine (θ_run Cert.RefDownDwIdeal.defs _ _).mono (fun r h c => ?_) (Cert.RefDownDwIdeal.Value.run m' g')
  rw [Cert.DownDwIdeal.Product.final, ← (hA c).1, ← (hA c).2]
  exact h c

end Cert.Proof.DownDw
-- ==== Proof.MmDownDx.lean ====
module

public import proofs.«01_k».proof.Defs
public import proofs.«01_k».proof.Proof.Gen.DownDx.Frame
public import proofs.«01_k».proof.Proof.Gen.DownDxIdeal.Value
public import proofs.«01_k».proof.Proof.Gen.RefDownDxIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DownDxIdeal.Product

open Cert.DownDxIdeal Cert.DownDxIdeal.Gen

variable (m : (ℓ : Loc nD τ sig) → Buf (Elt Ideal) ℓ)

/-- The reference's result as a term of the two arguments. -/
abbrev REF (d : FVec Ideal S16384x1024 .bf16) (w : FVec Ideal S2816x1024 .f32) : FVec Ideal S16384x2816 .bf16 :=
  truncf .bf16 (Host.dotGeneral Cert.RefDownDxIdeal.dot_S16384x1024_S2816x1024_S16384x2816_1_1_0_0_n_n none (extf .f32 d Cert.RefDownDxIdeal.Gen.bitsLt_bf16_f32) w) Cert.RefDownDxIdeal.Gen.bitsLt_bf16_f32

/-- The block every window stages at point `t`. -/
theorem idx : ∀ t : Fin cfg0.N, win0_0.index t = ![t.val, 0] ∧ win0_1.index t = ![0, 0, 0] ∧ win0_2.index t = ![t.val, 0] :=
  (by decide +kernel : ∀ t : Fin grid0.N, _)

/-- What the body stores at an index of its block is the reference's result at that index's place in the array. -/
theorem point (c : Dev nD) (t : Fin cfg0.N) (y) : k0_pay4 (k0_pay2 (iblk m c 0 t) (iblk m c 1 t)) y = REF (m ((c : Thread nD τ).loc main_arg0)) (m ((c : Thread nD τ).loc main_arg1)) (((cfg0.win 2).blk t).view.emb y) := by
  pointwise [k0_pay4, k0_pay2, k0_pay1, REF]
  blk_point [iblk, V, idx t]

/-- The result array after the run is the reference's result. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.DownDxIdeal.Product

namespace Cert.Proof.DownDx

/-- The kernel runs, its arguments unchanged and every counter at zero. -/
theorem frameBits : Cert.quiescent_DownDx := fun m ρ _ => Cert.DownDx.Gen.frame m ρ

/-- The same over the extended reals. -/
theorem frameIdeal : Cert.quiescent_DownDxIdeal := fun m ρ _ => Cert.DownDxIdeal.Gen.frame m ρ

/-- The reference runs, its arguments unchanged; it has no counters. -/
theorem frameRef : Cert.quiescent_RefDownDxIdeal := fun m ρ _ =>
  (θ_run Cert.RefDownDxIdeal.defs _ _).mono (fun r h => ⟨fun c => (h c).2, sem_eq_zero_of_no_sems rfl r.2⟩)
    (Cert.RefDownDxIdeal.Value.run (F := Ideal) m ρ)

/-- The kernel and the reference leave the same result, the arguments unchanged. -/
theorem algebraic : Cert.algebraic_DownDxIdeal_RefDownDxIdeal := by
  intro m g m' g' _ hA
  refine ⟨_, Cert.DownDxIdeal.Value.run_blocks m g, ?_⟩
  refine (θ_run Cert.RefDownDxIdeal.defs _ _).mono (fun r h c => ?_) (Cert.RefDownDxIdeal.Value.run m' g')
  rw [Cert.DownDxIdeal.Product.final, ← (hA c).1, ← (hA c).2]
  exact h c

end Cert.Proof.DownDx
-- ==== Proof.MmRetOut.lean ====
module

public import proofs.«01_k».proof.Defs
public import proofs.«01_k».proof.Proof.Gen.RetOut.Frame
public import proofs.«01_k».proof.Proof.Gen.RetOutIdeal.Value
public import proofs.«01_k».proof.Proof.Gen.RefRetOutIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.RetOutIdeal.Product

open Cert.RetOutIdeal Cert.RetOutIdeal.Gen

variable (m : (ℓ : Loc nD τ sig) → Buf (Elt Ideal) ℓ)

/-- The reference's result as a term of the two arguments. -/
abbrev REF (x : FVec Ideal S16384x2048 .bf16) (w : FVec Ideal S2048x1024 .f32) : FVec Ideal S16384x1024 .f32 :=
  Host.dotGeneral Cert.RefRetOutIdeal.dot_S16384x2048_S2048x1024_S16384x1024_1_0_0_1_n_n none (extf .f32 x Cert.RefRetOutIdeal.Gen.bitsLt_bf16_f32) w

/-- The block every window stages at point `t`. -/
theorem idx : ∀ t : Fin cfg0.N, win0_0.index t = ![t.val, 0] ∧ win0_1.index t = ![0, 0, 0] ∧ win0_2.index t = ![t.val, 0] :=
  (by decide +kernel : ∀ t : Fin grid0.N, _)

/-- What the body stores at an index of its block is the reference's result at that index's place in the array. -/
theorem point (c : Dev nD) (t : Fin cfg0.N) (y) : k0_pay1 (iblk m c 0 t) (iblk m c 1 t) y = REF (m ((c : Thread nD τ).loc main_arg0)) (m ((c : Thread nD τ).loc main_arg1)) (((cfg0.win 2).blk t).view.emb y) := by
  pointwise [k0_pay1, REF]
  blk_point [iblk, V, idx t]

/-- The result array after the run is the reference's result. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.RetOutIdeal.Product

namespace Cert.Proof.RetOut

/-- The kernel runs, its arguments unchanged and every counter at zero. -/
theorem frameBits : Cert.quiescent_RetOut := fun m ρ _ => Cert.RetOut.Gen.frame m ρ

/-- The same over the extended reals. -/
theorem frameIdeal : Cert.quiescent_RetOutIdeal := fun m ρ _ => Cert.RetOutIdeal.Gen.frame m ρ

/-- The reference runs, its arguments unchanged; it has no counters. -/
theorem frameRef : Cert.quiescent_RefRetOutIdeal := fun m ρ _ =>
  (θ_run Cert.RefRetOutIdeal.defs _ _).mono (fun r h => ⟨fun c => (h c).2, sem_eq_zero_of_no_sems rfl r.2⟩)
    (Cert.RefRetOutIdeal.Value.run (F := Ideal) m ρ)

/-- The kernel and the reference leave the same result, the arguments unchanged. -/
theorem algebraic : Cert.algebraic_RetOutIdeal_RefRetOutIdeal := by
  intro m g m' g' _ hA
  refine ⟨_, Cert.RetOutIdeal.Value.run_blocks m g, ?_⟩
  refine (θ_run Cert.RefRetOutIdeal.defs _ _).mono (fun r h c => ?_) (Cert.RefRetOutIdeal.Value.run m' g')
  rw [Cert.RetOutIdeal.Product.final, ← (hA c).1, ← (hA c).2]
  exact h c

end Cert.Proof.RetOut
-- ==== Proof.MmRetOutDw.lean ====
module

public import proofs.«01_k».proof.Defs
public import proofs.«01_k».proof.Proof.Gen.RetOutDw.Frame
public import proofs.«01_k».proof.Proof.Gen.RetOutDwIdeal.Value
public import proofs.«01_k».proof.Proof.Gen.RefRetOutDwIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.RetOutDwIdeal.Product

open Cert.RetOutDwIdeal Cert.RetOutDwIdeal.Gen

variable (m : (ℓ : Loc nD τ sig) → Buf (Elt Ideal) ℓ)

/-- The reference's weight gradient as a term of the two arguments. -/
abbrev REF (x : FVec Ideal S16384x2048 .bf16) (d : FVec Ideal S16384x1024 .bf16) : FVec Ideal S1x2048x1024 .f32 :=
  broadcastInDim Cert.RefRetOutDwIdeal.S1x2048x1024 ![1, 2] Cert.RefRetOutDwIdeal.Gen.bcast_S2048x1024_S1x2048x1024_1_2 (transpose Cert.RefRetOutDwIdeal.S2048x1024 [1, 0] (Host.dotGeneral Cert.RefRetOutDwIdeal.dot_S16384x1024_S16384x2048_S1024x2048_0_0_1_1_n_n none (extf .f32 d Cert.RefRetOutDwIdeal.Gen.bitsLt_bf16_f32) (extf .f32 x Cert.RefRetOutDwIdeal.Gen.bitsLt_bf16_f32)) Cert.RefRetOutDwIdeal.Gen.transposes_S1024x2048_S2048x1024_1_0)

/-- The gradient at an index: a sum over the rows. -/
theorem REF_apply (x : FVec Ideal S16384x2048 .bf16) (d : FVec Ideal S16384x1024 .bf16) (i : S1x2048x1024.Idx) :
    REF x d i = ∑ l : Fin 16384, (x (ix2 l (i 1)) * d (ix2 l (i 2)) : EReal) := by
  idx_vars i
  pointwise [REF]
  exact Finset.sum_congr rfl fun x _ => mul_comm _ _

/-- The block every window stages at point `t`. -/
theorem idx : ∀ t : Fin cfg0.N, win0_0.index t = ![t.val % 16, 0] ∧ win0_1.index t = ![t.val % 16, t.val / 16]
    ∧ win0_2.index t = ![0, 0, t.val / 16] ∧ t.val / 16 < 2 :=
  (by decide +kernel : ∀ t : Fin grid0.N, _)

/-- What the first row tile stores: its part of the sum. -/
theorem part (d : Vec Ideal S1024x512 .bf16) (h : Vec Ideal S1024x2048 .bf16) (y : S1x2048x512.Idx) :
    k0_pay2 d h y = ∑ k : Fin 1024, ((h (ix2 k (y 1)) : EReal) * d (ix2 k (y 2)) : EReal) := by
  pointwise [k0_pay2, k0_pay1]

/-- What a later row tile stores: what it found plus its part of the sum. -/
theorem step (d : Vec Ideal S1024x512 .bf16) (h : Vec Ideal S1024x2048 .bf16) (z : Vec Ideal S1x2048x512 .f32) (y : S1x2048x512.Idx) :
    k0_pay3 d h z y = (z y : EReal) + ∑ k : Fin 1024, ((h (ix2 k (y 1)) : EReal) * d (ix2 k (y 2)) : EReal) := by
  idx_vars y
  obtain rfl : y0 = 0 := Subsingleton.elim _ _
  pointwise [k0_pay3, k0_pay1]

/-- What the gradient's buffer holds where it is written back. -/
theorem point (c : Dev nD) (t : Fin cfg0.N) (hr : t.val % 16 = 16 - 1) (y : S1x2048x512.Idx) :
    outsAt0 m c t.val t.isLt y = REF (m ((c : Thread nD τ).loc main_arg0)) (m ((c : Thread nD τ).loc main_arg1)) (((cfg0.win 2).blk t).view.emb y) := by
  rw [REF_apply]
  rw [Pipeline.eq_sum_fin_of_reset_step_apply_of_flush (fun n h => outsAt0 m c n h) 16 (fun _ => (0 : EReal)) _
    (fun t h j => by
      rw [outsAt0_A m c t h (by have := (idx t).2.2.2; omega)]; frame_out; rw [part, zero_add])
    (fun t h j => by
      rw [outsAt0_B m c t h (by omega)]; frame_out; rw [step]) t hr y, zero_add]
  refine Fin.sum_mul_add_congr fun s k hl => ?_
  have hp : 16 * (t.val / 16) + s.val < cfg0.N := Pipeline.run_point_lt_of_flush t hr s
  blk_point [iblk, V, idx t, idx ⟨16 * (t.val / 16) + s.val, hp⟩]

/-- The result array after the run is the reference's result. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Cert.RetOutDwIdeal.Product

namespace Cert.Proof.RetOutDw

/-- The kernel runs, its arguments unchanged and every counter at zero. -/
theorem frameBits : Cert.quiescent_RetOutDw := fun m ρ _ => Cert.RetOutDw.Gen.frame m ρ

/-- The same over the extended reals. -/
theorem frameIdeal : Cert.quiescent_RetOutDwIdeal := fun m ρ _ => Cert.RetOutDwIdeal.Gen.frame m ρ

/-- The reference runs, its arguments unchanged; it has no counters. -/
theorem frameRef : Cert.quiescent_RefRetOutDwIdeal := fun m ρ _ =>
  (θ_run Cert.RefRetOutDwIdeal.defs _ _).mono (fun r h => ⟨fun c => (h c).2, sem_eq_zero_of_no_sems rfl r.2⟩)
    (Cert.RefRetOutDwIdeal.Value.run (F := Ideal) m ρ)

/-- The kernel and the reference leave the same result, the arguments unchanged. -/
theorem algebraic : Cert.algebraic_RetOutDwIdeal_RefRetOutDwIdeal := by
  intro m g m' g' _ hA
  refine ⟨_, Cert.RetOutDwIdeal.Value.run_blocks m g, ?_⟩
  refine (θ_run Cert.RefRetOutDwIdeal.defs _ _).mono (fun r h c => ?_) (Cert.RefRetOutDwIdeal.Value.run m' g')
  rw [Cert.RetOutDwIdeal.Product.final, ← (hA c).1, ← (hA c).2]
  exact h c

end Cert.Proof.RetOutDw
-- ==== Proof.MmRetOutDx.lean ====
module

public import proofs.«01_k».proof.Defs
public import proofs.«01_k».proof.Proof.Gen.RetOutDx.Frame
public import proofs.«01_k».proof.Proof.Gen.RetOutDxIdeal.Value
public import proofs.«01_k».proof.Proof.Gen.RefRetOutDxIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.RetOutDxIdeal.Product

open Cert.RetOutDxIdeal Cert.RetOutDxIdeal.Gen

variable (m : (ℓ : Loc nD τ sig) → Buf (Elt Ideal) ℓ)

/-- The reference's result as a term of the two arguments. -/
abbrev REF (d : FVec Ideal S16384x1024 .bf16) (w : FVec Ideal S2048x1024 .f32) : FVec Ideal S16384x2048 .bf16 :=
  truncf .bf16 (Host.dotGeneral Cert.RefRetOutDxIdeal.dot_S16384x1024_S2048x1024_S16384x2048_1_1_0_0_n_n none (extf .f32 d Cert.RefRetOutDxIdeal.Gen.bitsLt_bf16_f32) w) Cert.RefRetOutDxIdeal.Gen.bitsLt_bf16_f32

/-- The block every window stages at point `t`. -/
theorem idx : ∀ t : Fin cfg0.N, win0_0.index t = ![t.val, 0] ∧ win0_1.index t = ![0, 0, 0] ∧ win0_2.index t = ![t.val, 0] :=
  (by decide +kernel : ∀ t : Fin grid0.N, _)

/-- What the body stores at an index of its block is the reference's result at that index's place in the array. -/
theorem point (c : Dev nD) (t : Fin cfg0.N) (y) : k0_pay4 (k0_pay2 (iblk m c 0 t) (iblk m c 1 t)) y = REF (m ((c : Thread nD τ).loc main_arg0)) (m ((c : Thread nD τ).loc main_arg1)) (((cfg0.win 2).blk t).view.emb y) := by
  pointwise [k0_pay4, k0_pay2, k0_pay1, REF]
  blk_point [iblk, V, idx t]

/-- The result array after the run is the reference's result. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.RetOutDxIdeal.Product

namespace Cert.Proof.RetOutDx

/-- The kernel runs, its arguments unchanged and every counter at zero. -/
theorem frameBits : Cert.quiescent_RetOutDx := fun m ρ _ => Cert.RetOutDx.Gen.frame m ρ

/-- The same over the extended reals. -/
theorem frameIdeal : Cert.quiescent_RetOutDxIdeal := fun m ρ _ => Cert.RetOutDxIdeal.Gen.frame m ρ

/-- The reference runs, its arguments unchanged; it has no counters. -/
theorem frameRef : Cert.quiescent_RefRetOutDxIdeal := fun m ρ _ =>
  (θ_run Cert.RefRetOutDxIdeal.defs _ _).mono (fun r h => ⟨fun c => (h c).2, sem_eq_zero_of_no_sems rfl r.2⟩)
    (Cert.RefRetOutDxIdeal.Value.run (F := Ideal) m ρ)

/-- The kernel and the reference leave the same result, the arguments unchanged. -/
theorem algebraic : Cert.algebraic_RetOutDxIdeal_RefRetOutDxIdeal := by
  intro m g m' g' _ hA
  refine ⟨_, Cert.RetOutDxIdeal.Value.run_blocks m g, ?_⟩
  refine (θ_run Cert.RefRetOutDxIdeal.defs _ _).mono (fun r h c => ?_) (Cert.RefRetOutDxIdeal.Value.run m' g')
  rw [Cert.RetOutDxIdeal.Product.final, ← (hA c).1, ← (hA c).2]
  exact h c

end Cert.Proof.RetOutDx
-- ==== Proof.MmOut.lean ====
module

public import proofs.«01_k».proof.Defs
public import proofs.«01_k».proof.Proof.Gen.Out.Frame
public import proofs.«01_k».proof.Proof.Gen.OutIdeal.Value
public import proofs.«01_k».proof.Proof.Gen.RefOutIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutIdeal.Product

open Cert.OutIdeal Cert.OutIdeal.Gen

variable (m : (ℓ : Loc nD τ sig) → Buf (Elt Ideal) ℓ)

/-- The reference's result as a term of the two arguments. -/
abbrev REF (x : FVec Ideal S16384x1024 .bf16) (w : FVec Ideal S1024x1024 .f32) : FVec Ideal S16384x1024 .f32 :=
  Host.dotGeneral Cert.RefOutIdeal.dot_S16384x1024_S1024x1024_S16384x1024_1_0_0_1_n_n none (extf .f32 x Cert.RefOutIdeal.Gen.bitsLt_bf16_f32) w

/-- The block every window stages at point `t`. -/
theorem idx : ∀ t : Fin cfg0.N, win0_0.index t = ![t.val, 0] ∧ win0_1.index t = ![0, 0, 0] ∧ win0_2.index t = ![t.val, 0] :=
  (by decide +kernel : ∀ t : Fin grid0.N, _)

/-- What the body stores at an index of its block is the reference's result at that index's place in the array. -/
theorem point (c : Dev nD) (t : Fin cfg0.N) (y) : k0_pay1 (iblk m c 0 t) (iblk m c 1 t) y = REF (m ((c : Thread nD τ).loc main_arg0)) (m ((c : Thread nD τ).loc main_arg1)) (((cfg0.win 2).blk t).view.emb y) := by
  pointwise [k0_pay1, REF]
  blk_point [iblk, V, idx t]

/-- The result array after the run is the reference's result. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OutIdeal.Product

namespace Cert.Proof.Out

/-- The kernel runs, its arguments unchanged and every counter at zero. -/
theorem frameBits : Cert.quiescent_Out := fun m ρ _ => Cert.Out.Gen.frame m ρ

/-- The same over the extended reals. -/
theorem frameIdeal : Cert.quiescent_OutIdeal := fun m ρ _ => Cert.OutIdeal.Gen.frame m ρ

/-- The reference runs, its arguments unchanged; it has no counters. -/
theorem frameRef : Cert.quiescent_RefOutIdeal := fun m ρ _ =>
  (θ_run Cert.RefOutIdeal.defs _ _).mono (fun r h => ⟨fun c => (h c).2, sem_eq_zero_of_no_sems rfl r.2⟩)
    (Cert.RefOutIdeal.Value.run (F := Ideal) m ρ)

/-- The kernel and the reference leave the same result, the arguments unchanged. -/
theorem algebraic : Cert.algebraic_OutIdeal_RefOutIdeal := by
  intro m g m' g' _ hA
  refine ⟨_, Cert.OutIdeal.Value.run_blocks m g, ?_⟩
  refine (θ_run Cert.RefOutIdeal.defs _ _).mono (fun r h c => ?_) (Cert.RefOutIdeal.Value.run m' g')
  rw [Cert.OutIdeal.Product.final, ← (hA c).1, ← (hA c).2]
  exact h c

end Cert.Proof.Out
-- ==== Proof.MmOutDw.lean ====
module

public import proofs.«01_k».proof.Defs
public import proofs.«01_k».proof.Proof.Gen.OutDw.Frame
public import proofs.«01_k».proof.Proof.Gen.OutDwIdeal.Value
public import proofs.«01_k».proof.Proof.Gen.RefOutDwIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutDwIdeal.Product

open Cert.OutDwIdeal Cert.OutDwIdeal.Gen

variable (m : (ℓ : Loc nD τ sig) → Buf (Elt Ideal) ℓ)

/-- The reference's weight gradient as a term of the two arguments. -/
abbrev REF (x : FVec Ideal S16384x1024 .bf16) (d : FVec Ideal S16384x1024 .bf16) : FVec Ideal S1x1024x1024 .f32 :=
  broadcastInDim Cert.RefOutDwIdeal.S1x1024x1024 ![1, 2] Cert.RefOutDwIdeal.Gen.bcast_S1024x1024_S1x1024x1024_1_2 (transpose Cert.RefOutDwIdeal.S1024x1024 [1, 0] (Host.dotGeneral Cert.RefOutDwIdeal.dot_S16384x1024_S16384x1024_S1024x1024_0_0_1_1_n_n none (extf .f32 d Cert.RefOutDwIdeal.Gen.bitsLt_bf16_f32) (extf .f32 x Cert.RefOutDwIdeal.Gen.bitsLt_bf16_f32)) Cert.RefOutDwIdeal.Gen.transposes_S1024x1024_S1024x1024_1_0)

/-- The gradient at an index: a sum over the rows. -/
theorem REF_apply (x : FVec Ideal S16384x1024 .bf16) (d : FVec Ideal S16384x1024 .bf16) (i : S1x1024x1024.Idx) :
    REF x d i = ∑ l : Fin 16384, (x (ix2 l (i 1)) * d (ix2 l (i 2)) : EReal) := by
  idx_vars i
  pointwise [REF]
  exact Finset.sum_congr rfl fun x _ => mul_comm _ _

/-- The block every window stages at point `t`. -/
theorem idx : ∀ t : Fin cfg0.N, win0_0.index t = ![t.val % 8, 0] ∧ win0_1.index t = ![t.val % 8, 0] ∧ win0_2.index t = ![0, 0, 0] ∧ t.val / 8 < 1 :=
  (by decide +kernel : ∀ t : Fin grid0.N, _)

/-- What the first row tile stores: its part of the sum. -/
theorem part (d : Vec Ideal S2048x1024 .bf16) (h : Vec Ideal S2048x1024 .bf16) (y : S1x1024x1024.Idx) :
    k0_pay2 d h y = ∑ k : Fin 2048, ((h (ix2 k (y 1)) : EReal) * d (ix2 k (y 2)) : EReal) := by
  pointwise [k0_pay2, k0_pay1]

/-- What a later row tile stores: what it found plus its part of the sum. -/
theorem step (d : Vec Ideal S2048x1024 .bf16) (h : Vec Ideal S2048x1024 .bf16) (z : Vec Ideal S1x1024x1024 .f32) (y : S1x1024x1024.Idx) :
    k0_pay3 d h z y = (z y : EReal) + ∑ k : Fin 2048, ((h (ix2 k (y 1)) : EReal) * d (ix2 k (y 2)) : EReal) := by
  idx_vars y
  obtain rfl : y0 = 0 := Subsingleton.elim _ _
  pointwise [k0_pay3, k0_pay1]

/-- What the gradient's buffer holds where it is written back. -/
theorem point (c : Dev nD) (t : Fin cfg0.N) (hr : t.val % 8 = 8 - 1) (y : S1x1024x1024.Idx) :
    outsAt0 m c t.val t.isLt y = REF (m ((c : Thread nD τ).loc main_arg0)) (m ((c : Thread nD τ).loc main_arg1)) (((cfg0.win 2).blk t).view.emb y) := by
  rw [REF_apply]
  rw [Pipeline.eq_sum_fin_of_reset_step_apply_of_flush (fun n h => outsAt0 m c n h) 8 (fun _ => (0 : EReal)) _
    (fun t h j => by
      rw [outsAt0_A m c t h (by have := (idx t).2.2.2; omega)]; frame_out; rw [part, zero_add])
    (fun t h j => by
      rw [outsAt0_B m c t h (by omega)]; frame_out; rw [step]) t hr y, zero_add]
  refine Fin.sum_mul_add_congr fun s k hl => ?_
  have hp : 8 * (t.val / 8) + s.val < cfg0.N := Pipeline.run_point_lt_of_flush t hr s
  blk_point [iblk, V, idx t, idx ⟨8 * (t.val / 8) + s.val, hp⟩]

/-- The result array after the run is the reference's result. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Cert.OutDwIdeal.Product

namespace Cert.Proof.OutDw

/-- The kernel runs, its arguments unchanged and every counter at zero. -/
theorem frameBits : Cert.quiescent_OutDw := fun m ρ _ => Cert.OutDw.Gen.frame m ρ

/-- The same over the extended reals. -/
theorem frameIdeal : Cert.quiescent_OutDwIdeal := fun m ρ _ => Cert.OutDwIdeal.Gen.frame m ρ

/-- The reference runs, its arguments unchanged; it has no counters. -/
theorem frameRef : Cert.quiescent_RefOutDwIdeal := fun m ρ _ =>
  (θ_run Cert.RefOutDwIdeal.defs _ _).mono (fun r h => ⟨fun c => (h c).2, sem_eq_zero_of_no_sems rfl r.2⟩)
    (Cert.RefOutDwIdeal.Value.run (F := Ideal) m ρ)

/-- The kernel and the reference leave the same result, the arguments unchanged. -/
theorem algebraic : Cert.algebraic_OutDwIdeal_RefOutDwIdeal := by
  intro m g m' g' _ hA
  refine ⟨_, Cert.OutDwIdeal.Value.run_blocks m g, ?_⟩
  refine (θ_run Cert.RefOutDwIdeal.defs _ _).mono (fun r h c => ?_) (Cert.RefOutDwIdeal.Value.run m' g')
  rw [Cert.OutDwIdeal.Product.final, ← (hA c).1, ← (hA c).2]
  exact h c

end Cert.Proof.OutDw
-- ==== Proof.MmOutDx.lean ====
module

public import proofs.«01_k».proof.Defs
public import proofs.«01_k».proof.Proof.Gen.OutDx.Frame
public import proofs.«01_k».proof.Proof.Gen.OutDxIdeal.Value
public import proofs.«01_k».proof.Proof.Gen.RefOutDxIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutDxIdeal.Product

open Cert.OutDxIdeal Cert.OutDxIdeal.Gen

variable (m : (ℓ : Loc nD τ sig) → Buf (Elt Ideal) ℓ)

/-- The reference's result as a term of the two arguments. -/
abbrev REF (d : FVec Ideal S16384x1024 .bf16) (w : FVec Ideal S1024x1024 .f32) : FVec Ideal S16384x1024 .bf16 :=
  truncf .bf16 (Host.dotGeneral Cert.RefOutDxIdeal.dot_S16384x1024_S1024x1024_S16384x1024_1_1_0_0_n_n none (extf .f32 d Cert.RefOutDxIdeal.Gen.bitsLt_bf16_f32) w) Cert.RefOutDxIdeal.Gen.bitsLt_bf16_f32

/-- The block every window stages at point `t`. -/
theorem idx : ∀ t : Fin cfg0.N, win0_0.index t = ![t.val, 0] ∧ win0_1.index t = ![0, 0, 0] ∧ win0_2.index t = ![t.val, 0] :=
  (by decide +kernel : ∀ t : Fin grid0.N, _)

/-- What the body stores at an index of its block is the reference's result at that index's place in the array. -/
theorem point (c : Dev nD) (t : Fin cfg0.N) (y) : k0_pay4 (k0_pay2 (iblk m c 0 t) (iblk m c 1 t)) y = REF (m ((c : Thread nD τ).loc main_arg0)) (m ((c : Thread nD τ).loc main_arg1)) (((cfg0.win 2).blk t).view.emb y) := by
  pointwise [k0_pay4, k0_pay2, k0_pay1, REF]
  blk_point [iblk, V, idx t]

/-- The result array after the run is the reference's result. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.OutDxIdeal.Product

namespace Cert.Proof.OutDx

/-- The kernel runs, its arguments unchanged and every counter at zero. -/
theorem frameBits : Cert.quiescent_OutDx := fun m ρ _ => Cert.OutDx.Gen.frame m ρ

/-- The same over the extended reals. -/
theorem frameIdeal : Cert.quiescent_OutDxIdeal := fun m ρ _ => Cert.OutDxIdeal.Gen.frame m ρ

/-- The reference runs, its arguments unchanged; it has no counters. -/
theorem frameRef : Cert.quiescent_RefOutDxIdeal := fun m ρ _ =>
  (θ_run Cert.RefOutDxIdeal.defs _ _).mono (fun r h => ⟨fun c => (h c).2, sem_eq_zero_of_no_sems rfl r.2⟩)
    (Cert.RefOutDxIdeal.Value.run (F := Ideal) m ρ)

/-- The kernel and the reference leave the same result, the arguments unchanged. -/
theorem algebraic : Cert.algebraic_OutDxIdeal_RefOutDxIdeal := by
  intro m g m' g' _ hA
  refine ⟨_, Cert.OutDxIdeal.Value.run_blocks m g, ?_⟩
  refine (θ_run Cert.RefOutDxIdeal.defs _ _).mono (fun r h c => ?_) (Cert.RefOutDxIdeal.Value.run m' g')
  rw [Cert.OutDxIdeal.Product.final, ← (hA c).1, ← (hA c).2]
  exact h c

end Cert.Proof.OutDx
-- ==== Proof.MmConvOut.lean ====
module

public import proofs.«01_k».proof.Defs
public import proofs.«01_k».proof.Proof.Gen.ConvOut.Frame
public import proofs.«01_k».proof.Proof.Gen.ConvOutIdeal.Value
public import proofs.«01_k».proof.Proof.Gen.RefConvOutIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ConvOutIdeal.Product

open Cert.ConvOutIdeal Cert.ConvOutIdeal.Gen

variable (m : (ℓ : Loc nD τ sig) → Buf (Elt Ideal) ℓ)

/-- The reference's result as a term of the two arguments. -/
abbrev REF (x : FVec Ideal S16384x1024 .bf16) (w : FVec Ideal S1024x1024 .f32) : FVec Ideal S16384x1024 .f32 :=
  Host.dotGeneral Cert.RefConvOutIdeal.dot_S16384x1024_S1024x1024_S16384x1024_1_0_0_1_n_n none (extf .f32 x Cert.RefConvOutIdeal.Gen.bitsLt_bf16_f32) w

/-- The block every window stages at point `t`. -/
theorem idx : ∀ t : Fin cfg0.N, win0_0.index t = ![t.val, 0] ∧ win0_1.index t = ![0, 0, 0] ∧ win0_2.index t = ![t.val, 0] :=
  (by decide +kernel : ∀ t : Fin grid0.N, _)

/-- What the body stores at an index of its block is the reference's result at that index's place in the array. -/
theorem point (c : Dev nD) (t : Fin cfg0.N) (y) : k0_pay1 (iblk m c 0 t) (iblk m c 1 t) y = REF (m ((c : Thread nD τ).loc main_arg0)) (m ((c : Thread nD τ).loc main_arg1)) (((cfg0.win 2).blk t).view.emb y) := by
  pointwise [k0_pay1, REF]
  blk_point [iblk, V, idx t]

/-- The result array after the run is the reference's result. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ConvOutIdeal.Product

namespace Cert.Proof.ConvOut

/-- The kernel runs, its arguments unchanged and every counter at zero. -/
theorem frameBits : Cert.quiescent_ConvOut := fun m ρ _ => Cert.ConvOut.Gen.frame m ρ

/-- The same over the extended reals. -/
theorem frameIdeal : Cert.quiescent_ConvOutIdeal := fun m ρ _ => Cert.ConvOutIdeal.Gen.frame m ρ

/-- The reference runs, its arguments unchanged; it has no counters. -/
theorem frameRef : Cert.quiescent_RefConvOutIdeal := fun m ρ _ =>
  (θ_run Cert.RefConvOutIdeal.defs _ _).mono (fun r h => ⟨fun c => (h c).2, sem_eq_zero_of_no_sems rfl r.2⟩)
    (Cert.RefConvOutIdeal.Value.run (F := Ideal) m ρ)

/-- The kernel and the reference leave the same result, the arguments unchanged. -/
theorem algebraic : Cert.algebraic_ConvOutIdeal_RefConvOutIdeal := by
  intro m g m' g' _ hA
  refine ⟨_, Cert.ConvOutIdeal.Value.run_blocks m g, ?_⟩
  refine (θ_run Cert.RefConvOutIdeal.defs _ _).mono (fun r h c => ?_) (Cert.RefConvOutIdeal.Value.run m' g')
  rw [Cert.ConvOutIdeal.Product.final, ← (hA c).1, ← (hA c).2]
  exact h c

end Cert.Proof.ConvOut
-- ==== Proof.MmConvOutDw.lean ====
module

public import proofs.«01_k».proof.Defs
public import proofs.«01_k».proof.Proof.Gen.ConvOutDw.Frame
public import proofs.«01_k».proof.Proof.Gen.ConvOutDwIdeal.Value
public import proofs.«01_k».proof.Proof.Gen.RefConvOutDwIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ConvOutDwIdeal.Product

open Cert.ConvOutDwIdeal Cert.ConvOutDwIdeal.Gen

variable (m : (ℓ : Loc nD τ sig) → Buf (Elt Ideal) ℓ)

/-- The reference's weight gradient as a term of the two arguments. -/
abbrev REF (x : FVec Ideal S16384x1024 .bf16) (d : FVec Ideal S16384x1024 .bf16) : FVec Ideal S1x1024x1024 .f32 :=
  broadcastInDim Cert.RefConvOutDwIdeal.S1x1024x1024 ![1, 2] Cert.RefConvOutDwIdeal.Gen.bcast_S1024x1024_S1x1024x1024_1_2 (transpose Cert.RefConvOutDwIdeal.S1024x1024 [1, 0] (Host.dotGeneral Cert.RefConvOutDwIdeal.dot_S16384x1024_S16384x1024_S1024x1024_0_0_1_1_n_n none (extf .f32 d Cert.RefConvOutDwIdeal.Gen.bitsLt_bf16_f32) (extf .f32 x Cert.RefConvOutDwIdeal.Gen.bitsLt_bf16_f32)) Cert.RefConvOutDwIdeal.Gen.transposes_S1024x1024_S1024x1024_1_0)

/-- The gradient at an index: a sum over the rows. -/
theorem REF_apply (x : FVec Ideal S16384x1024 .bf16) (d : FVec Ideal S16384x1024 .bf16) (i : S1x1024x1024.Idx) :
    REF x d i = ∑ l : Fin 16384, (x (ix2 l (i 1)) * d (ix2 l (i 2)) : EReal) := by
  idx_vars i
  pointwise [REF]
  exact Finset.sum_congr rfl fun x _ => mul_comm _ _

/-- The block every window stages at point `t`. -/
theorem idx : ∀ t : Fin cfg0.N, win0_0.index t = ![t.val % 8, 0] ∧ win0_1.index t = ![t.val % 8, 0] ∧ win0_2.index t = ![0, 0, 0] ∧ t.val / 8 < 1 :=
  (by decide +kernel : ∀ t : Fin grid0.N, _)

/-- What the first row tile stores: its part of the sum. -/
theorem part (d : Vec Ideal S2048x1024 .bf16) (h : Vec Ideal S2048x1024 .bf16) (y : S1x1024x1024.Idx) :
    k0_pay2 d h y = ∑ k : Fin 2048, ((h (ix2 k (y 1)) : EReal) * d (ix2 k (y 2)) : EReal) := by
  pointwise [k0_pay2, k0_pay1]

/-- What a later row tile stores: what it found plus its part of the sum. -/
theorem step (d : Vec Ideal S2048x1024 .bf16) (h : Vec Ideal S2048x1024 .bf16) (z : Vec Ideal S1x1024x1024 .f32) (y : S1x1024x1024.Idx) :
    k0_pay3 d h z y = (z y : EReal) + ∑ k : Fin 2048, ((h (ix2 k (y 1)) : EReal) * d (ix2 k (y 2)) : EReal) := by
  idx_vars y
  obtain rfl : y0 = 0 := Subsingleton.elim _ _
  pointwise [k0_pay3, k0_pay1]

/-- What the gradient's buffer holds where it is written back. -/
theorem point (c : Dev nD) (t : Fin cfg0.N) (hr : t.val % 8 = 8 - 1) (y : S1x1024x1024.Idx) :
    outsAt0 m c t.val t.isLt y = REF (m ((c : Thread nD τ).loc main_arg0)) (m ((c : Thread nD τ).loc main_arg1)) (((cfg0.win 2).blk t).view.emb y) := by
  rw [REF_apply]
  rw [Pipeline.eq_sum_fin_of_reset_step_apply_of_flush (fun n h => outsAt0 m c n h) 8 (fun _ => (0 : EReal)) _
    (fun t h j => by
      rw [outsAt0_A m c t h (by have := (idx t).2.2.2; omega)]; frame_out; rw [part, zero_add])
    (fun t h j => by
      rw [outsAt0_B m c t h (by omega)]; frame_out; rw [step]) t hr y, zero_add]
  refine Fin.sum_mul_add_congr fun s k hl => ?_
  have hp : 8 * (t.val / 8) + s.val < cfg0.N := Pipeline.run_point_lt_of_flush t hr s
  blk_point [iblk, V, idx t, idx ⟨8 * (t.val / 8) + s.val, hp⟩]

/-- The result array after the run is the reference's result. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

end Cert.ConvOutDwIdeal.Product

namespace Cert.Proof.ConvOutDw

/-- The kernel runs, its arguments unchanged and every counter at zero. -/
theorem frameBits : Cert.quiescent_ConvOutDw := fun m ρ _ => Cert.ConvOutDw.Gen.frame m ρ

/-- The same over the extended reals. -/
theorem frameIdeal : Cert.quiescent_ConvOutDwIdeal := fun m ρ _ => Cert.ConvOutDwIdeal.Gen.frame m ρ

/-- The reference runs, its arguments unchanged; it has no counters. -/
theorem frameRef : Cert.quiescent_RefConvOutDwIdeal := fun m ρ _ =>
  (θ_run Cert.RefConvOutDwIdeal.defs _ _).mono (fun r h => ⟨fun c => (h c).2, sem_eq_zero_of_no_sems rfl r.2⟩)
    (Cert.RefConvOutDwIdeal.Value.run (F := Ideal) m ρ)

/-- The kernel and the reference leave the same result, the arguments unchanged. -/
theorem algebraic : Cert.algebraic_ConvOutDwIdeal_RefConvOutDwIdeal := by
  intro m g m' g' _ hA
  refine ⟨_, Cert.ConvOutDwIdeal.Value.run_blocks m g, ?_⟩
  refine (θ_run Cert.RefConvOutDwIdeal.defs _ _).mono (fun r h c => ?_) (Cert.RefConvOutDwIdeal.Value.run m' g')
  rw [Cert.ConvOutDwIdeal.Product.final, ← (hA c).1, ← (hA c).2]
  exact h c

end Cert.Proof.ConvOutDw
-- ==== Proof.MmConvOutDx.lean ====
module

public import proofs.«01_k».proof.Defs
public import proofs.«01_k».proof.Proof.Gen.ConvOutDx.Frame
public import proofs.«01_k».proof.Proof.Gen.ConvOutDxIdeal.Value
public import proofs.«01_k».proof.Proof.Gen.RefConvOutDxIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ConvOutDxIdeal.Product

open Cert.ConvOutDxIdeal Cert.ConvOutDxIdeal.Gen

variable (m : (ℓ : Loc nD τ sig) → Buf (Elt Ideal) ℓ)

/-- The reference's result as a term of the two arguments. -/
abbrev REF (d : FVec Ideal S16384x1024 .bf16) (w : FVec Ideal S1024x1024 .f32) : FVec Ideal S16384x1024 .bf16 :=
  truncf .bf16 (Host.dotGeneral Cert.RefConvOutDxIdeal.dot_S16384x1024_S1024x1024_S16384x1024_1_1_0_0_n_n none (extf .f32 d Cert.RefConvOutDxIdeal.Gen.bitsLt_bf16_f32) w) Cert.RefConvOutDxIdeal.Gen.bitsLt_bf16_f32

/-- The block every window stages at point `t`. -/
theorem idx : ∀ t : Fin cfg0.N, win0_0.index t = ![t.val, 0] ∧ win0_1.index t = ![0, 0, 0] ∧ win0_2.index t = ![t.val, 0] :=
  (by decide +kernel : ∀ t : Fin grid0.N, _)

/-- What the body stores at an index of its block is the reference's result at that index's place in the array. -/
theorem point (c : Dev nD) (t : Fin cfg0.N) (y) : k0_pay4 (k0_pay2 (iblk m c 0 t) (iblk m c 1 t)) y = REF (m ((c : Thread nD τ).loc main_arg0)) (m ((c : Thread nD τ).loc main_arg1)) (((cfg0.win 2).blk t).view.emb y) := by
  pointwise [k0_pay4, k0_pay2, k0_pay1, REF]
  blk_point [iblk, V, idx t]

/-- The result array after the run is the reference's result. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.ConvOutDxIdeal.Product

namespace Cert.Proof.ConvOutDx

/-- The kernel runs, its arguments unchanged and every counter at zero. -/
theorem frameBits : Cert.quiescent_ConvOutDx := fun m ρ _ => Cert.ConvOutDx.Gen.frame m ρ

/-- The same over the extended reals. -/
theorem frameIdeal : Cert.quiescent_ConvOutDxIdeal := fun m ρ _ => Cert.ConvOutDxIdeal.Gen.frame m ρ

/-- The reference runs, its arguments unchanged; it has no counters. -/
theorem frameRef : Cert.quiescent_RefConvOutDxIdeal := fun m ρ _ =>
  (θ_run Cert.RefConvOutDxIdeal.defs _ _).mono (fun r h => ⟨fun c => (h c).2, sem_eq_zero_of_no_sems rfl r.2⟩)
    (Cert.RefConvOutDxIdeal.Value.run (F := Ideal) m ρ)

/-- The kernel and the reference leave the same result, the arguments unchanged. -/
theorem algebraic : Cert.algebraic_ConvOutDxIdeal_RefConvOutDxIdeal := by
  intro m g m' g' _ hA
  refine ⟨_, Cert.ConvOutDxIdeal.Value.run_blocks m g, ?_⟩
  refine (θ_run Cert.RefConvOutDxIdeal.defs _ _).mono (fun r h c => ?_) (Cert.RefConvOutDxIdeal.Value.run m' g')
  rw [Cert.ConvOutDxIdeal.Product.final, ← (hA c).1, ← (hA c).2]
  exact h c

end Cert.Proof.ConvOutDx
-- ==== Proof.RetSpec.lean ====
module

public import proofs.«01_k».proof.Proof.Gen.KernelIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The chunkwise retention on one chunk's blocks: what a point of either call leaves, entry by entry. -/

namespace Cert.KernelIdeal.Ret

open Cert.KernelIdeal Cert.KernelIdeal.Gen

/-- The factor of the keys. -/
abbrev scale : EReal := FloatOps.ofBits (F := Ideal) .f32 0x3DB504F3#32

/-- A block of eight heads, rotated, at a head, a row and a column of the head. -/
def rotB (x : FVec Ideal S128x1024 .f32) (cs sn : FVec Ideal S128x128 .f32) (h : Fin 8) (j d : Fin 128) : EReal :=
  x (ix2 j ⟨128 * h.val + d.val, by omega⟩) * cs (ix2 j d) + x (ix2 j ⟨128 * h.val + (d.val + 64) % 128, by omega⟩) * sn (ix2 j d)

/-- The state after a chunk: the state before it, decayed, and the chunk's keys against its values. -/
def updB (k : FVec Ideal S128x1024 .f32) (v : FVec Ideal S128x2048 .bf16) (cs sn : FVec Ideal S128x128 .f32) (zt : FVec Ideal S8x128x128 .f32)
    (cd : FVec Ideal S8x8x256 .f32) (S : FVec Ideal S8x128x256 .f32) (h : Fin 8) (d : Fin 128) (e : Fin 256) : EReal :=
  S (ix3 h d e) * cd (ix3 h 0 e)
    + ∑ j : Fin 128, rotB k cs sn h j d * scale * zt (ix3 h j d) * v (ix2 j ⟨256 * h.val + e.val, by omega⟩)

/-- The chunk's result: its own scores, decayed, against its values, and its queries against the state before it. -/
def retB (q k : FVec Ideal S128x1024 .f32) (v : FVec Ideal S128x2048 .bf16) (cs sn : FVec Ideal S128x128 .f32) (dc xi : FVec Ideal S8x128x128 .f32)
    (S : FVec Ideal S8x128x256 .f32) (i : Fin 128) (h : Fin 8) (e : Fin 256) : EReal :=
  (∑ j : Fin 128, (∑ d : Fin 128, rotB q cs sn h i d * (rotB k cs sn h j d * scale)) * dc (ix3 h i j) * v (ix2 j ⟨256 * h.val + e.val, by omega⟩))
    + ∑ d : Fin 128, rotB q cs sn h i d * xi (ix3 h i d) * S (ix3 h d e)

/-- The state's gradient before a chunk: the one after it, decayed, and the chunk's queries against the result's gradient. -/
def gradB (q : FVec Ideal S128x1024 .f32) (dr : FVec Ideal S128x2048 .bf16) (cs sn : FVec Ideal S128x128 .f32) (xi : FVec Ideal S8x128x128 .f32)
    (cd : FVec Ideal S8x8x256 .f32) (G : FVec Ideal S8x128x256 .f32) (h : Fin 8) (d : Fin 128) (e : Fin 256) : EReal :=
  G (ix3 h d e) * cd (ix3 h 0 e)
    + ∑ i : Fin 128, rotB q cs sn h i d * xi (ix3 h i d) * dr (ix2 i ⟨256 * h.val + e.val, by omega⟩)

/-- The scores' gradient, decayed. -/
def dsB (v dr : FVec Ideal S128x2048 .bf16) (dc : FVec Ideal S8x128x128 .f32) (h : Fin 8) (i j : Fin 128) : EReal :=
  (∑ e : Fin 256, dr (ix2 i ⟨256 * h.val + e.val, by omega⟩) * v (ix2 j ⟨256 * h.val + e.val, by omega⟩)) * dc (ix3 h i j)

/-- The rotated queries' gradient. -/
def dqB (k : FVec Ideal S128x1024 .f32) (v : FVec Ideal S128x2048 .bf16) (cs sn : FVec Ideal S128x128 .f32) (S : FVec Ideal S1x8x128x256 .f32)
    (dr : FVec Ideal S128x2048 .bf16) (dc xi : FVec Ideal S8x128x128 .f32) (h : Fin 8) (i d : Fin 128) : EReal :=
  (∑ j : Fin 128, dsB v dr dc h i j * (rotB k cs sn h j d * scale))
    + (∑ e : Fin 256, dr (ix2 i ⟨256 * h.val + e.val, by omega⟩) * S (ix4 0 h d e)) * xi (ix3 h i d)

/-- The rotated keys' gradient. -/
def dkB (q : FVec Ideal S128x1024 .f32) (v : FVec Ideal S128x2048 .bf16) (cs sn : FVec Ideal S128x128 .f32)
    (dr : FVec Ideal S128x2048 .bf16) (dc zt : FVec Ideal S8x128x128 .f32) (G : FVec Ideal S8x128x256 .f32) (h : Fin 8) (j d : Fin 128) : EReal :=
  ((∑ i : Fin 128, dsB v dr dc h i j * rotB q cs sn h i d)
    + (∑ e : Fin 256, v (ix2 j ⟨256 * h.val + e.val, by omega⟩) * G (ix3 h d e)) * zt (ix3 h j d)) * scale

/-- The values' gradient. -/
def dvB (q k : FVec Ideal S128x1024 .f32) (cs sn : FVec Ideal S128x128 .f32)
    (dr : FVec Ideal S128x2048 .bf16) (dc zt : FVec Ideal S8x128x128 .f32) (G : FVec Ideal S8x128x256 .f32) (h : Fin 8) (j : Fin 128) (e : Fin 256) : EReal :=
  (∑ i : Fin 128, (∑ d : Fin 128, rotB q cs sn h i d * (rotB k cs sn h j d * scale)) * dc (ix3 h i j) * dr (ix2 i ⟨256 * h.val + e.val, by omega⟩))
    + ∑ d : Fin 128, rotB k cs sn h j d * scale * zt (ix3 h j d) * G (ix3 h d e)

/-- A gradient turned back through the rotation. -/
def backB (f : Fin 128 → Fin 128 → EReal) (cs sn : FVec Ideal S128x128 .f32) (i d : Fin 128) : EReal :=
  f i d * cs (ix2 i d) + f i ⟨(d.val + 64) % 128, by omega⟩ * sn (ix2 i ⟨(d.val + 64) % 128, by omega⟩)

/-- The block of gradients: queries, keys, values. -/
def outB (q k : FVec Ideal S128x1024 .f32) (v : FVec Ideal S128x2048 .bf16) (cs sn : FVec Ideal S128x128 .f32) (S : FVec Ideal S1x8x128x256 .f32)
    (dr : FVec Ideal S128x2048 .bf16) (dc xi zt : FVec Ideal S8x128x128 .f32) (G : FVec Ideal S8x128x256 .f32) (i : Fin 128) (u : Fin 4096) : EReal :=
  if h : u.val < 1024 then backB (dqB k v cs sn S dr dc xi ⟨u.val / 128, by omega⟩) cs sn i ⟨u.val % 128, by omega⟩
  else if h' : u.val < 2048 then backB (dkB q v cs sn dr dc zt G ⟨u.val / 128 - 8, by omega⟩) cs sn i ⟨u.val % 128, by omega⟩
  else dvB q k cs sn dr dc zt G ⟨u.val / 256 - 8, by omega⟩ i ⟨u.val % 256, by omega⟩

/-- The block of gradients in the queries' columns. -/
theorem outB_q (q k : FVec Ideal S128x1024 .f32) (v : FVec Ideal S128x2048 .bf16) (cs sn : FVec Ideal S128x128 .f32) (S : FVec Ideal S1x8x128x256 .f32)
    (dr : FVec Ideal S128x2048 .bf16) (dc xi zt : FVec Ideal S8x128x128 .f32) (G : FVec Ideal S8x128x256 .f32) (i : Fin 128) (u : Fin 4096)
    (h : Fin 8) (d : Fin 128) (hu : u.val = 128 * h.val + d.val) :
    outB q k v cs sn S dr dc xi zt G i u = backB (dqB k v cs sn S dr dc xi h) cs sn i d := by
  have e1 : (⟨u.val / 128, by omega⟩ : Fin 8) = h := Fin.ext (by show u.val / 128 = h.val; omega)
  have e2 : (⟨u.val % 128, by omega⟩ : Fin 128) = d := Fin.ext (by show u.val % 128 = d.val; omega)
  rw [outB, dif_pos (by omega), e1, e2]

/-- The block of gradients in the keys' columns. -/
theorem outB_k (q k : FVec Ideal S128x1024 .f32) (v : FVec Ideal S128x2048 .bf16) (cs sn : FVec Ideal S128x128 .f32) (S : FVec Ideal S1x8x128x256 .f32)
    (dr : FVec Ideal S128x2048 .bf16) (dc xi zt : FVec Ideal S8x128x128 .f32) (G : FVec Ideal S8x128x256 .f32) (i : Fin 128) (u : Fin 4096)
    (h : Fin 8) (d : Fin 128) (hu : u.val = 1024 + 128 * h.val + d.val) :
    outB q k v cs sn S dr dc xi zt G i u = backB (dkB q v cs sn dr dc zt G h) cs sn i d := by
  have e1 : (⟨u.val / 128 - 8, by omega⟩ : Fin 8) = h := Fin.ext (by show u.val / 128 - 8 = h.val; omega)
  have e2 : (⟨u.val % 128, by omega⟩ : Fin 128) = d := Fin.ext (by show u.val % 128 = d.val; omega)
  rw [outB, dif_neg (by omega), dif_pos (by omega), e1, e2]

/-- The block of gradients in the values' columns. -/
theorem outB_v (q k : FVec Ideal S128x1024 .f32) (v : FVec Ideal S128x2048 .bf16) (cs sn : FVec Ideal S128x128 .f32) (S : FVec Ideal S1x8x128x256 .f32)
    (dr : FVec Ideal S128x2048 .bf16) (dc xi zt : FVec Ideal S8x128x128 .f32) (G : FVec Ideal S8x128x256 .f32) (i : Fin 128) (u : Fin 4096)
    (h : Fin 8) (e : Fin 256) (hu : u.val = 2048 + 256 * h.val + e.val) :
    outB q k v cs sn S dr dc xi zt G i u = dvB q k cs sn dr dc zt G h i e := by
  have e1 : (⟨u.val / 256 - 8, by omega⟩ : Fin 8) = h := Fin.ext (by show u.val / 256 - 8 = h.val; omega)
  have e2 : (⟨u.val % 256, by omega⟩ : Fin 256) = e := Fin.ext (by show u.val % 256 = e.val; omega)
  rw [outB, dif_neg (by omega), dif_neg (by omega), e1, e2]

/-- Where later stores cover an index, the earlier ones do not matter. -/
theorem canon_over {Val : EltTy → Type} [∀ e, Nonempty (Val e)] {S : Shape} {e : EltTy} (L' : List (View.Piece Val S e)) : ∀ (L : List (View.Piece Val S e)) (y : S.Idx)
    (_ : ∃ p ∈ L, y ∈ p.1.set), View.canon (L ++ L') y = View.canon L y
  | [], _, hy => by obtain ⟨p, hp, _⟩ := hy; exact absurd hp List.not_mem_nil
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem p _ hm, View.canon_cons_of_not_mem p _ hm]
      obtain ⟨q, hq, hyq⟩ := hy
      rcases List.mem_cons.mp hq with rfl | hq
      · exact absurd hyq hm
      · exact canon_over L' L y ⟨q, hq, hyq⟩

end Cert.KernelIdeal.Ret
-- ==== Proof.FwdValA.lean ====
module

public import proofs.«01_k».proof.Proof.FwdBody
public import proofs.«01_k».proof.Proof.RetSpec
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! The first point of the retention's forward call: what its body leaves in the result block, in the block of saved states and in the carried
state, entry by entry. -/

namespace Cert.KernelIdeal.Fwd

open Cert.KernelIdeal Cert.KernelIdeal.Gen Cert.KernelIdeal.Ret

variable (m : (ℓ : Loc nD τ sig) → Buf (Elt Ideal) ℓ)

/-- The state the body leaves at the first point. -/
theorem state_A (c : Dev nD) (t : Fin cfg0.N) (h0 : t.val % 128 = 0) (y : S8x128x256.Idx) :
    (outsAt0 m c t.val t.isLt).2.2 y = updB (iblk m c 1 t) (iblk m c 2 t) (iblk m c 3 t) (iblk m c 4 t) (iblk m c 7 t) (iblk m c 8 t) (fun _ => 0) (y 0) (y 1) (y 2) := by
  rw [outsAt0_A m c t h0]
  frame_open
  simp (disch := decide) only [↓View.readCov_skip, ↓View.readCov_fill]
  frame_out
  refine (canon_over [_] [_, _, _, _, _, _, _, _] y ?_).trans ?_
  · exact View.cover_of_tiledL (s := S8x128x256) _ S1x128x256.size (by sl_kernel_rfl) y
  canon_tiles x h
  all_goals
    open_payloads
    pointwise [rotB, updB, k0_pay1, k0_pay2, k0_pay3]
    blk_point []

/-- The result block at the first point. -/
theorem result_A (c : Dev nD) (t : Fin cfg0.N) (h0 : t.val % 128 = 0) (y : S128x2048.Idx) :
    (outsAt0 m c t.val t.isLt).1 y = retB (iblk m c 0 t) (iblk m c 1 t) (iblk m c 2 t) (iblk m c 3 t) (iblk m c 4 t) (iblk m c 5 t) (iblk m c 6 t) (fun _ => 0) (y 0) ⟨(y 1).val / 256, by have h : (y 1).val < 2048 := (y 1).isLt; omega⟩ ⟨(y 1).val % 256, by omega⟩ := by
  rw [outsAt0_A m c t h0]
  frame_open
  simp (disch := decide) only [↓View.readCov_skip, ↓View.readCov_fill]
  frame_out
  canon_tiles x h
  all_goals
    open_payloads
    pointwise [rotB, updB, retB, k0_pay1, k0_pay2, k0_pay3]
    try blk_point []

/-- The saved state at the first point: the state before the chunk. -/
theorem saved_A (c : Dev nD) (t : Fin cfg0.N) (h0 : t.val % 128 = 0) (y : S1x8x128x256.Idx) :
    (outsAt0 m c t.val t.isLt).2.1 y = (fun _ => 0 : FVec Ideal S8x128x256 .f32) (ix3 (y 1) (y 2) (y 3)) := by
  rw [outsAt0_A m c t h0]
  frame_open
  simp (disch := decide) only [↓View.readCov_skip, ↓View.readCov_fill]
  frame_out
  canon_tiles x h
  all_goals
    open_payloads
    pointwise [rotB, updB, retB, k0_pay1, k0_pay2, k0_pay3]
    try blk_point []

end Cert.KernelIdeal.Fwd
-- ==== Proof.FwdValB.lean ====
module

public import proofs.«01_k».proof.Proof.FwdBody
public import proofs.«01_k».proof.Proof.RetSpec
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! A later point of the retention's forward call: what its body leaves in the result block, in the block of saved states and in the carried
state, entry by entry. -/

namespace Cert.KernelIdeal.Fwd

open Cert.KernelIdeal Cert.KernelIdeal.Gen Cert.KernelIdeal.Ret

variable (m : (ℓ : Loc nD τ sig) → Buf (Elt Ideal) ℓ)

/-- The state the body leaves at a later point. -/
theorem state_B (c : Dev nD) (t : Fin cfg0.N) (h0 : ¬t.val % 128 = 0) (y : S8x128x256.Idx) :
    (outsAt0 m c t.val t.isLt).2.2 y = updB (iblk m c 1 t) (iblk m c 2 t) (iblk m c 3 t) (iblk m c 4 t) (iblk m c 7 t) (iblk m c 8 t) (outsAt0 m c (t.val - 1) (by omega)).2.2 (y 0) (y 1) (y 2) := by
  rw [outsAt0_B m c t h0]
  frame_out
  rw [read_unread_whole]
  canon_tiles x h
  all_goals
    open_payloads
    pointwise [rotB, updB, retB, k0_pay1, k0_pay2, k0_pay3]
    try blk_point []

/-- The result block at a later point. -/
theorem result_B (c : Dev nD) (t : Fin cfg0.N) (h0 : ¬t.val % 128 = 0) (y : S128x2048.Idx) :
    (outsAt0 m c t.val t.isLt).1 y = retB (iblk m c 0 t) (iblk m c 1 t) (iblk m c 2 t) (iblk m c 3 t) (iblk m c 4 t) (iblk m c 5 t) (iblk m c 6 t) (outsAt0 m c (t.val - 1) (by omega)).2.2 (y 0) ⟨(y 1).val / 256, by have h : (y 1).val < 2048 := (y 1).isLt; omega⟩ ⟨(y 1).val % 256, by omega⟩ := by
  rw [outsAt0_B m c t h0]
  frame_out
  rw [read_unread_whole]
  canon_tiles x h
  all_goals
    open_payloads
    pointwise [rotB, updB, retB, k0_pay1, k0_pay2, k0_pay3]
    try blk_point []

/-- The saved state at a later point: the state before the chunk. -/
theorem saved_B (c : Dev nD) (t : Fin cfg0.N) (h0 : ¬t.val % 128 = 0) (y : S1x8x128x256.Idx) :
    (outsAt0 m c t.val t.isLt).2.1 y = (outsAt0 m c (t.val - 1) (by omega)).2.2 (ix3 (y 1) (y 2) (y 3)) := by
  rw [outsAt0_B m c t h0]
  frame_out
  rw [read_unread_whole]
  canon_tiles x h
  all_goals
    open_payloads
    pointwise [rotB, updB, retB, k0_pay1, k0_pay2, k0_pay3]
    try blk_point []

end Cert.KernelIdeal.Fwd
-- ==== Proof.RetMath.lean ====
module

public import proofs.«01_k».proof.Proof.RetSpec

@[expose] public section

set_option maxRecDepth 16384

noncomputable section

open Idealize.ShloMosaic Idealize.ShloMosaic.TcCoe Idealize.SL.Sem

/-! The chunkwise retention and its gradient on whole arrays: what both programs compute, entry by entry. -/

namespace Cert.KernelIdeal.Ret

open Cert.KernelIdeal Cert.KernelIdeal.Gen

/-- The arrays the retention is computed from: queries and keys, the further projections (the values first), the rotation's two tables, the
decay inside a chunk, of the queries, of the keys and across a chunk, and the gradient of the result. -/
structure Arrays where
  /-- Queries and keys. -/
  qk : FVec Ideal S16384x2048 .f32
  /-- The further projections, the values first. -/
  pr : FVec Ideal S16384x8192 .bf16
  /-- The rotation's cosines. -/
  C : FVec Ideal S16384x128 .f32
  /-- The rotation's signed sines. -/
  N : FVec Ideal S16384x128 .f32
  /-- The decay inside a chunk. -/
  dc : FVec Ideal S8x128x128 .f32
  /-- The decay of the queries. -/
  xi : FVec Ideal S8x128x128 .f32
  /-- The decay of the keys. -/
  zt : FVec Ideal S8x128x128 .f32
  /-- The decay across a chunk. -/
  cd : FVec Ideal S8x8x256 .f32
  /-- The gradient of the result. -/
  dr : FVec Ideal S16384x2048 .bf16

variable (A : Arrays)

/-- Row `j` of chunk `n`. -/
def row (n : ℕ) (j : Fin 128) : Fin 16384 := ⟨(128 * n + j.val) % 16384, Nat.mod_lt _ (by decide)⟩

/-- Rotated queries (`g = 0`) or keys (`g = 1`). -/
def rot (g : Fin 2) (r : Fin 16384) (h : Fin 8) (d : Fin 128) : EReal :=
  A.qk (ix2 r ⟨1024 * g.val + 128 * h.val + d.val, by omega⟩) * A.C (ix2 r d)
    + A.qk (ix2 r ⟨1024 * g.val + 128 * h.val + (d.val + 64) % 128, by omega⟩) * A.N (ix2 r d)
/-- Values. -/
def val (r : Fin 16384) (h : Fin 8) (e : Fin 256) : EReal := A.pr (ix2 r ⟨256 * h.val + e.val, by omega⟩)
/-- The gradient of the result. -/
def dout (r : Fin 16384) (h : Fin 8) (e : Fin 256) : EReal := A.dr (ix2 r ⟨256 * h.val + e.val, by omega⟩)

/-- The state before chunk `n`. -/
def state : ℕ → Fin 8 → Fin 128 → Fin 256 → EReal
  | 0, _, _, _ => 0
  | n + 1, h, d, e => state n h d e * A.cd (ix3 h 0 e) + ∑ j : Fin 128, rot A 1 (row n j) h d * scale * A.zt (ix3 h j d) * val A (row n j) h e

/-- The result. -/
def ret (n : ℕ) (i : Fin 128) (h : Fin 8) (e : Fin 256) : EReal :=
  (∑ j : Fin 128, (∑ d : Fin 128, rot A 0 (row n i) h d * (rot A 1 (row n j) h d * scale)) * A.dc (ix3 h i j) * val A (row n j) h e)
    + ∑ d : Fin 128, rot A 0 (row n i) h d * A.xi (ix3 h i d) * state A n h d e

/-- The gradient of the state after the chunk `k` chunks before the last. -/
def grad : ℕ → Fin 8 → Fin 128 → Fin 256 → EReal
  | 0, _, _, _ => 0
  | k + 1, h, d, e => grad k h d e * A.cd (ix3 h 0 e)
      + ∑ i : Fin 128, rot A 0 (row (127 - k) i) h d * A.xi (ix3 h i d) * dout A (row (127 - k) i) h e

/-- The gradient of the scores. -/
def ds (n : ℕ) (h : Fin 8) (i j : Fin 128) : EReal :=
  (∑ e : Fin 256, dout A (row n i) h e * val A (row n j) h e) * A.dc (ix3 h i j)
/-- The gradient of the rotated queries. -/
def dq (n : ℕ) (h : Fin 8) (i d : Fin 128) : EReal :=
  (∑ j : Fin 128, ds A n h i j * (rot A 1 (row n j) h d * scale)) + (∑ e : Fin 256, dout A (row n i) h e * state A n h d e) * A.xi (ix3 h i d)
/-- The gradient of the rotated keys. -/
def dk (n : ℕ) (h : Fin 8) (j d : Fin 128) : EReal :=
  ((∑ i : Fin 128, ds A n h i j * rot A 0 (row n i) h d)
    + (∑ e : Fin 256, val A (row n j) h e * grad A (127 - n) h d e) * A.zt (ix3 h j d)) * scale
/-- The gradient of the values. -/
def dv (n : ℕ) (h : Fin 8) (j : Fin 128) (e : Fin 256) : EReal :=
  (∑ i : Fin 128, (∑ d : Fin 128, rot A 0 (row n i) h d * (rot A 1 (row n j) h d * scale)) * A.dc (ix3 h i j) * dout A (row n i) h e)
    + ∑ d : Fin 128, rot A 1 (row n j) h d * scale * A.zt (ix3 h j d) * grad A (127 - n) h d e
/-- A gradient of chunk `n` turned back through the rotation. -/
def back (f : Fin 128 → Fin 128 → EReal) (n : ℕ) (i d : Fin 128) : EReal :=
  f i d * A.C (ix2 (row n i) d) + f i ⟨(d.val + 64) % 128, by omega⟩ * A.N (ix2 (row n i) ⟨(d.val + 64) % 128, by omega⟩)

/-- The gradients of chunk `n`: queries, keys, values. -/
def out (n : ℕ) (i : Fin 128) (u : Fin 4096) : EReal :=
  if h : u.val < 1024 then back A (dq A n ⟨u.val / 128, by omega⟩) n i ⟨u.val % 128, by omega⟩
  else if h' : u.val < 2048 then back A (dk A n ⟨u.val / 128 - 8, by omega⟩) n i ⟨u.val % 128, by omega⟩
  else dv A n ⟨u.val / 256 - 8, by omega⟩ i ⟨u.val % 256, by omega⟩

end Cert.KernelIdeal.Ret
-- ==== Proof.FwdFinal.lean ====
module

public import proofs.«01_k».proof.Proof.FwdValA
public import proofs.«01_k».proof.Proof.FwdValB
public import proofs.«01_k».proof.Proof.RetMath

@[expose] public section

set_option maxRecDepth 16384

noncomputable section

open Idealize.ShloMosaic Idealize.ShloMosaic.TcCoe Idealize.SL.Sem
open Idealize.ShloMosaic.Pipeline (Dat)

/-! The retention's forward call over its whole grid: the result and the saved states. -/

namespace Cert.KernelIdeal.Fwd

open Cert.KernelIdeal Cert.KernelIdeal.Gen Cert.KernelIdeal.Ret

variable (m : (ℓ : Loc nD τ sig) → Buf (Elt Ideal) ℓ)

/-- The arrays the retention is computed from, as the memory holds them. -/
def arrays (c : Dev nD) : Arrays where
  qk := V m c main_arg0
  pr := V m c main_arg1
  C := V m c main_v15
  N := V m c main_v17
  dc := V m c main_v43
  xi := V m c main_v64
  zt := V m c main_v66
  cd := V m c main_v68
  dr := V m c main_arg3

/-- The block every window stages at point `t`. -/
theorem idx : ∀ t : Fin cfg0.N, win0_0.index t = ![t.val, 0] ∧ win0_1.index t = ![t.val, 1] ∧ win0_2.index t = ![t.val, 0]
    ∧ win0_3.index t = ![t.val, 0] ∧ win0_4.index t = ![t.val, 0] ∧ win0_5.index t = ![0, 0, 0] ∧ win0_6.index t = ![0, 0, 0]
    ∧ win0_7.index t = ![0, 0, 0] ∧ win0_8.index t = ![0, 0, 0] ∧ win0_9.index t = ![t.val, 0] ∧ win0_10.index t = ![t.val, 0, 0, 0] ∧ t.val < 128 :=
  (by decide +kernel : ∀ t : Fin grid0.N, _)

/-- A block's rotated queries are the array's. -/
theorem rot_q (c : Dev nD) (t : Fin cfg0.N) (h : Fin 8) (j d : Fin 128) :
    rotB (iblk m c 0 t) (iblk m c 3 t) (iblk m c 4 t) h j d = rot (arrays m c) 0 (row t.val j) h d := by
  have ht := (idx t).2.2.2.2.2.2.2.2.2.2.2
  unfold rotB rot arrays row
  blk_point [iblk, V, idx t]

/-- A block's rotated keys are the array's. -/
theorem rot_k (c : Dev nD) (t : Fin cfg0.N) (h : Fin 8) (j d : Fin 128) :
    rotB (iblk m c 1 t) (iblk m c 3 t) (iblk m c 4 t) h j d = rot (arrays m c) 1 (row t.val j) h d := by
  have ht := (idx t).2.2.2.2.2.2.2.2.2.2.2
  unfold rotB rot arrays row
  blk_point [iblk, V, idx t]

/-- A block's values are the array's. -/
theorem val_at (c : Dev nD) (t : Fin cfg0.N) (h : Fin 8) (j : Fin 128) (e : Fin 256) :
    iblk m c 2 t (ix2 j ⟨256 * h.val + e.val, by omega⟩) = val (arrays m c) (row t.val j) h e := by
  have ht := (idx t).2.2.2.2.2.2.2.2.2.2.2
  unfold val arrays row
  blk_ext [iblk, V, idx t]

/-- The tables of the decays are staged whole. -/
theorem dc_at (c : Dev nD) (t : Fin cfg0.N) (h : Fin 8) (i j : Fin 128) : iblk m c 5 t (ix3 h i j) = (arrays m c).dc (ix3 h i j) := by
  unfold arrays; blk_ext [iblk, V, idx t]
/-- The tables of the decays are staged whole. -/
theorem xi_at (c : Dev nD) (t : Fin cfg0.N) (h : Fin 8) (i j : Fin 128) : iblk m c 6 t (ix3 h i j) = (arrays m c).xi (ix3 h i j) := by
  unfold arrays; blk_ext [iblk, V, idx t]
/-- The tables of the decays are staged whole. -/
theorem zt_at (c : Dev nD) (t : Fin cfg0.N) (h : Fin 8) (i j : Fin 128) : iblk m c 7 t (ix3 h i j) = (arrays m c).zt (ix3 h i j) := by
  unfold arrays; blk_ext [iblk, V, idx t]
/-- The tables of the decays are staged whole. -/
theorem cd_at (c : Dev nD) (t : Fin cfg0.N) (h : Fin 8) (e : Fin 256) : iblk m c 8 t (ix3 h 0 e) = (arrays m c).cd (ix3 h 0 e) := by
  unfold arrays; blk_ext [iblk, V, idx t]

/-- The state after point `t` from the state before it. -/
theorem upd_at (c : Dev nD) (t : Fin cfg0.N) (S : FVec Ideal S8x128x256 .f32) (h : Fin 8) (d : Fin 128) (e : Fin 256)
    (hS : S (ix3 h d e) = state (arrays m c) t.val h d e) :
    updB (iblk m c 1 t) (iblk m c 2 t) (iblk m c 3 t) (iblk m c 4 t) (iblk m c 7 t) (iblk m c 8 t) S h d e = state (arrays m c) (t.val + 1) h d e := by
  simp only [updB, state, rot_k, val_at, zt_at, cd_at, hS]

/-- What the state holds after point `n`. -/
theorem state_eq (c : Dev nD) : ∀ (n : ℕ) (hn : n < cfg0.N) (h : Fin 8) (d : Fin 128) (e : Fin 256),
    (outsAt0 m c n hn).2.2 (ix3 h d e) = state (arrays m c) (n + 1) h d e
  | 0, hn, h, d, e => (state_A m c ⟨0, hn⟩ rfl (ix3 h d e)).trans (upd_at m c ⟨0, hn⟩ (fun _ => 0) h d e rfl)
  | n + 1, hn, h, d, e => by
    have hN := lt_of_lt_of_eq hn (show cfg0.N = 128 from N_0)
    exact (state_B m c ⟨n + 1, hn⟩ (by show ¬(n + 1) % 128 = 0; omega) (ix3 h d e)).trans
      (upd_at m c ⟨n + 1, hn⟩ _ h d e (state_eq c n (Nat.lt_of_succ_lt hn) h d e))

/-- What the state holds before point `t`, where it is read. -/
theorem before_eq (c : Dev nD) (t : Fin cfg0.N) (h0 : ¬t.val % 128 = 0) (h : Fin 8) (d : Fin 128) (e : Fin 256) :
    (outsAt0 m c (t.val - 1) (by omega)).2.2 (ix3 h d e) = state (arrays m c) t.val h d e := by
  have e1 : t.val - 1 + 1 = t.val := by omega
  rw [state_eq, e1]

/-- A chunk's result from the state before it. -/
theorem ret_at (c : Dev nD) (t : Fin cfg0.N) (S : FVec Ideal S8x128x256 .f32) (i : Fin 128) (h : Fin 8) (e : Fin 256)
    (hS : ∀ d, S (ix3 h d e) = state (arrays m c) t.val h d e) :
    retB (iblk m c 0 t) (iblk m c 1 t) (iblk m c 2 t) (iblk m c 3 t) (iblk m c 4 t) (iblk m c 5 t) (iblk m c 6 t) S i h e = ret (arrays m c) t.val i h e := by
  simp only [retB, ret, rot_q, rot_k, val_at, dc_at, xi_at, hS]

/-- The result of the forward call. -/
def RET (c : Dev nD) : FVec Ideal S16384x2048 .f32 := fun i =>
  ret (arrays m c) ((i 0).val / 128) ⟨(i 0).val % 128, by omega⟩ ⟨(i 1).val / 256, by have h : (i 1).val < 2048 := (i 1).isLt; omega⟩ ⟨(i 1).val % 256, by omega⟩

/-- The saved states. -/
def STATES (c : Dev nD) : FVec Ideal S128x8x128x256 .f32 := fun i => state (arrays m c) (i 0).val (i 1) (i 2) (i 3)

/-- A place of the result block of point `t` in the array. -/
theorem place9 (c : Dev nD) (t : Fin cfg0.N) (y : S128x2048.Idx) : RET m c ((win0_9.blk t).view.emb y)
    = ret (arrays m c) t.val (y 0) ⟨(y 1).val / 256, by have h : (y 1).val < 2048 := (y 1).isLt; omega⟩ ⟨(y 1).val % 256, by omega⟩ := by
  have ht := (idx t).2.2.2.2.2.2.2.2.2.2.2
  have e0 : ((win0_9.blk t).view.emb y 0).val = 128 * t.val + (y 0).val := by
    blk_simp [Pipeline.Window.cell_apply, idx t]
    first | done | omega
  have e1 : ((win0_9.blk t).view.emb y 1).val = (y 1).val := by
    blk_simp [Pipeline.Window.cell_apply, idx t]
    first | done | omega
  have hy : (y 0).val < 128 := (y 0).isLt
  unfold RET
  have a0 : ((win0_9.blk t).view.emb y 0).val / 128 = t.val := by rw [e0]; omega
  have a1 : ((win0_9.blk t).view.emb y 0).val % 128 = (y 0).val := by rw [e0]; omega
  simp only [a0, a1, e1]
  rfl

/-- The forward call's result array. -/
theorem final9 (c : Dev nD) : (dat m c).arrAt 9 cfg0.N = RET m c := by
  refine (dat m c).arrAt_eq_of_covers 9 _ (by decide +kernel) fun t hf y => ?_
  blk_simp
  rw [after0_9]
  refine Eq.trans ?_ (place9 m c t y).symm
  by_cases h0 : t.val % 128 = 0
  · rw [result_A m c t h0]
    refine ret_at m c t _ _ _ _ fun d => ?_
    have e : t.val = 0 := by have ht := (idx t).2.2.2.2.2.2.2.2.2.2.2; omega
    rw [e]; rfl
  · rw [result_B m c t h0]
    exact ret_at m c t _ _ _ _ fun d => before_eq m c t h0 _ d _

/-- A place of the saved state of point `t` in the array. -/
theorem place10 (c : Dev nD) (t : Fin cfg0.N) (y : S1x8x128x256.Idx) : STATES m c ((win0_10.blk t).view.emb y)
    = state (arrays m c) t.val (y 1) (y 2) (y 3) := by
  have ht := (idx t).2.2.2.2.2.2.2.2.2.2.2
  have hy : (y 0).val < 1 := (y 0).isLt
  have e0 : ((win0_10.blk t).view.emb y 0).val = t.val := by
    blk_simp [Pipeline.Window.cell_apply, idx t]
    first | done | omega
  have e1 : (win0_10.blk t).view.emb y 1 = y 1 := Fin.ext (by
    blk_simp [Pipeline.Window.cell_apply, idx t]
    first | done | omega)
  have e2 : (win0_10.blk t).view.emb y 2 = y 2 := Fin.ext (by
    blk_simp [Pipeline.Window.cell_apply, idx t]
    first | done | omega)
  have e3 : (win0_10.blk t).view.emb y 3 = y 3 := Fin.ext (by
    blk_simp [Pipeline.Window.cell_apply, idx t]
    first | done | omega)
  unfold STATES
  rw [e0, e1, e2, e3]

/-- The saved states. -/
theorem final10 (c : Dev nD) : (dat m c).arrAt 10 cfg0.N = STATES m c := by
  refine (dat m c).arrAt_eq_of_covers 10 _ (by decide +kernel) fun t hf y => ?_
  blk_simp
  rw [after0_10]
  refine Eq.trans ?_ (place10 m c t y).symm
  by_cases h0 : t.val % 128 = 0
  · rw [saved_A m c t h0]
    have e : t.val = 0 := by have ht := (idx t).2.2.2.2.2.2.2.2.2.2.2; omega
    rw [e]; rfl
  · rw [saved_B m c t h0]
    exact before_eq m c t h0 _ _ _

end Cert.KernelIdeal.Fwd
-- ==== Proof.RetTab.lean ====
module

public import proofs.«01_k».proof.Proof.RetMath

@[expose] public section

set_option maxRecDepth 16384

noncomputable section

open Idealize.ShloMosaic Idealize.ShloMosaic.TcCoe Idealize.SL.Sem

/-! The retention's tables in closed form: the rotation's angles from the positions, the decays from the heads. -/

namespace Cert.KernelIdeal.Ret

open Cert.KernelIdeal Cert.KernelIdeal.Gen

/-- A whole number as a float. -/
def num (n : ℕ) : EReal := FloatOps.sitofp (F := Ideal) .f32 (BitVec.ofNat 32 n)

/-- The rotation's angle at row `r` and pair `d`. -/
def ang (p : IVec S1x16384 32) (r : Fin 16384) (d : Fin 64) : EReal :=
  FloatOps.sitofp (F := Ideal) .f32 (p (ix2 0 r))
    * Ideal.pow (Ideal.ofBits .f32 1176256512#32) (Ideal.div (-num d.val) (Ideal.ofBits .f32 1115684864#32))

/-- The logarithm of the decay of head `h`. -/
def lg (h : Fin 8) : EReal :=
  Ideal.log (1 - Ideal.pow (Ideal.ofBits .f32 1073741824#32) (Ideal.ofBits .f32 3231711232#32 - num h.val))

/-- The arrays the retention is computed from, given the four inputs. -/
def arraysOf (x : FVec Ideal S16384x2048 .f32) (pr : FVec Ideal S16384x8192 .bf16) (p : IVec S1x16384 32) (dr : FVec Ideal S16384x2048 .bf16) : Arrays where
  qk := x
  pr := pr
  C := fun y => Ideal.cos (ang p (y 0) ⟨(y 1).val % 64, Nat.mod_lt _ (by decide)⟩)
  N := fun y => if (y 1).val < 64 then -Ideal.sin (ang p (y 0) ⟨(y 1).val % 64, Nat.mod_lt _ (by decide)⟩)
    else Ideal.sin (ang p (y 0) ⟨(y 1).val % 64, Nat.mod_lt _ (by decide)⟩)
  dc := fun y => if 0 ≤ num (y 1).val - num (y 2).val then Ideal.exp (lg (y 0) * max (num (y 1).val - num (y 2).val) 0) else 0
  xi := fun y => Ideal.exp (lg (y 0) * (num (y 1).val + 1))
  zt := fun y => Ideal.exp (lg (y 0) * (Ideal.ofBits .f32 1123942400#32 - num (y 1).val))
  cd := fun y => Ideal.exp (lg (y 0) * Ideal.ofBits .f32 1124073472#32)
  dr := dr

end Cert.KernelIdeal.Ret
-- ==== Proof.KerTab.lean ====
module

public import proofs.«01_k».proof.Proof.Run
public import proofs.«01_k».proof.Proof.FwdFinal
public import proofs.«01_k».proof.Proof.RetTab

@[expose] public section

set_option maxRecDepth 16384

noncomputable section
open Idealize.ShloMosaic Idealize.ShloMosaic.TcCoe Idealize.SL.Sem Idealize.ShloMosaic.StableHlo
open Cert.KernelIdeal Cert.KernelIdeal.Gen Cert.KernelIdeal.Ret

/-! The kernel's tables in closed form. -/

namespace Cert.KernelIdeal.Run

variable (m : (ℓ : Loc nD τ sig) → Buf (Elt Ideal) ℓ)

/-- The kernel's four inputs give the retention's arrays. -/
abbrev input (c : Dev nD) : Arrays := arraysOf (m ((c : Thread nD τ).loc main_arg0)) (m ((c : Thread nD τ).loc main_arg1)) (m ((c : Thread nD τ).loc main_arg2)) (m ((c : Thread nD τ).loc main_arg3))

/-- The cosines. -/
theorem V3_C (c : Dev nD) (r : Fin 16384) (d : Fin 128) : V3 m c main_v15 (ix2 r d) = (input m c).C (ix2 r d) := by
  unfold V3
  after_results
  unfold input arraysOf ang num
  by_cases hd : d.val < 64
  · have e : d.val % 64 = d.val := by omega
    pointwise [hd]
    simp only [e]
  · have e : d.val % 64 = d.val - 64 := by omega
    pointwise [hd]
    simp only [e]

/-- The signed sines. -/
theorem V3_N (c : Dev nD) (r : Fin 16384) (d : Fin 128) : V3 m c main_v17 (ix2 r d) = (input m c).N (ix2 r d) := by
  unfold V3
  after_results
  unfold input arraysOf ang num
  by_cases hd : d.val < 64
  · have e : d.val % 64 = d.val := by omega
    pointwise [hd]
    simp only [e]
  · have e : d.val % 64 = d.val - 64 := by omega
    pointwise [hd]
    simp only [e]

/-- The decay inside a chunk. -/
theorem V3_dc (c : Dev nD) (h : Fin 8) (i j : Fin 128) : V3 m c main_v43 (ix3 h i j) = (input m c).dc (ix3 h i j) := by
  unfold V3
  after_results
  simp only [TRef.toBuf, TRef.ofBuf, cast_eq]
  unfold input arraysOf lg num
  pointwise
  simp only [id_eq]
  pointwise

/-- The decay of the queries. -/
theorem V3_xi (c : Dev nD) (h : Fin 8) (i j : Fin 128) : V3 m c main_v64 (ix3 h i j) = (input m c).xi (ix3 h i j) := by
  unfold V3
  after_results
  unfold input arraysOf lg num
  pointwise

/-- The decay of the keys. -/
theorem V3_zt (c : Dev nD) (h : Fin 8) (i j : Fin 128) : V3 m c main_v66 (ix3 h i j) = (input m c).zt (ix3 h i j) := by
  unfold V3
  after_results
  unfold input arraysOf lg num
  pointwise

/-- The decay across a chunk. -/
theorem V3_cd (c : Dev nD) (h i : Fin 8) (e : Fin 256) : V3 m c main_v68 (ix3 h i e) = (input m c).cd (ix3 h i e) := by
  unfold V3
  after_results
  unfold input arraysOf lg num
  pointwise

/-- The table of cosines. -/
theorem vC (c : Dev nD) : V3 m c main_v15 = (input m c).C := funext fun y => by
  have e : y = ix2 (y 0) (y 1) := by funext a; fin_cases a <;> rfl
  rw [e]
  exact V3_C m c _ _
/-- The table of signed sines. -/
theorem vN (c : Dev nD) : V3 m c main_v17 = (input m c).N := funext fun y => by
  have e : y = ix2 (y 0) (y 1) := by funext a; fin_cases a <;> rfl
  rw [e]
  exact V3_N m c _ _
/-- The table of decays inside a chunk. -/
theorem vdc (c : Dev nD) : V3 m c main_v43 = (input m c).dc := funext fun y => by
  have e : y = ix3 (y 0) (y 1) (y 2) := by funext a; fin_cases a <;> rfl
  rw [e]
  exact V3_dc m c _ _ _
/-- The table of query decays. -/
theorem vxi (c : Dev nD) : V3 m c main_v64 = (input m c).xi := funext fun y => by
  have e : y = ix3 (y 0) (y 1) (y 2) := by funext a; fin_cases a <;> rfl
  rw [e]
  exact V3_xi m c _ _ _
/-- The table of key decays. -/
theorem vzt (c : Dev nD) : V3 m c main_v66 = (input m c).zt := funext fun y => by
  have e : y = ix3 (y 0) (y 1) (y 2) := by funext a; fin_cases a <;> rfl
  rw [e]
  exact V3_zt m c _ _ _
/-- The table of decays across a chunk. -/
theorem vcd (c : Dev nD) : V3 m c main_v68 = (input m c).cd := funext fun y => by
  have e : y = ix3 (y 0) (y 1) (y 2) := by funext a; fin_cases a <;> rfl
  rw [e]
  exact V3_cd m c _ _ _

/-- Arrays with equal parts are equal. -/
theorem arrays_ext (A B : Arrays) (h1 : A.qk = B.qk) (h2 : A.pr = B.pr) (h3 : A.C = B.C) (h4 : A.N = B.N) (h5 : A.dc = B.dc) (h6 : A.xi = B.xi)
    (h7 : A.zt = B.zt) (h8 : A.cd = B.cd) (h9 : A.dr = B.dr) : A = B := by
  cases A; cases B
  subst h1; subst h2; subst h3; subst h4; subst h5; subst h6; subst h7; subst h8; subst h9; rfl

set_option maxHeartbeats 4000000 in
/-- The arrays of the forward call, as the host lines leave them. -/
theorem fwd_parts (c : Dev nD) : Fwd.arrays (mem3 m) c = ⟨V3 m c main_arg0, V3 m c main_arg1, V3 m c main_v15, V3 m c main_v17, V3 m c main_v43,
    V3 m c main_v64, V3 m c main_v66, V3 m c main_v68, V3 m c main_arg3⟩ := rfl

set_option maxHeartbeats 4000000 in
/-- The arrays of the forward call. -/
theorem fwd_arrays (c : Dev nD) : Fwd.arrays (mem3 m) c = input m c := by
  rw [fwd_parts]
  have h1 : V3 m c main_arg0 = (input m c).qk := V3_arg0 m c
  have h2 : V3 m c main_arg1 = (input m c).pr := V3_arg1 m c
  have h9 : V3 m c main_arg3 = (input m c).dr := V3_arg3 m c
  have h3 := vC m c
  have h4 := vN m c
  have h5 := vdc m c
  have h6 := vxi m c
  have h7 := vzt m c
  have h8 := vcd m c
  generalize input m c = B at *
  exact arrays_ext _ B h1 h2 h3 h4 h5 h6 h7 h8 h9

end Cert.KernelIdeal.Run
-- ==== Proof.BwdValA.lean ====
module

public import proofs.«01_k».proof.Proof.BwdBody
public import proofs.«01_k».proof.Proof.RetSpec
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! The first point of the retention's backward call: what its body leaves in the block of gradients and in the carried gradient of the state,
entry by entry. -/

namespace Cert.KernelIdeal.Bwd

open Cert.KernelIdeal Cert.KernelIdeal.Gen Cert.KernelIdeal.Ret

variable (m : (ℓ : Loc nD τ sig) → Buf (Elt Ideal) ℓ)

/-- The state gradient the body leaves at the first point. -/
theorem state_A (c : Dev nD) (t : Fin cfg1.N) (h0 : t.val % 128 = 0) (y : S8x128x256.Idx) :
    (outsAt1 m c t.val t.isLt).2 y = gradB (iblk m c 0 t) (iblk m c 6 t) (iblk m c 3 t) (iblk m c 4 t) (iblk m c 8 t) (iblk m c 10 t) (fun _ => 0) (y 0) (y 1) (y 2) := by
  rw [outsAt1_A m c t h0]
  frame_open
  simp (disch := decide) only [↓View.readCov_skip, ↓View.readCov_fill]
  frame_out
  refine (canon_over [_] [_, _, _, _, _, _, _, _] y ?_).trans ?_
  · exact View.cover_of_tiledL (s := S8x128x256) _ S1x128x256.size (by sl_kernel_rfl) y
  canon_tiles x h
  all_goals
    open_payloads
    pointwise [rotB, gradB, dsB, dqB, dkB, dvB, backB, k1_pay1, k1_pay2, k1_pay3]
    blk_point []

set_option maxHeartbeats 4000000 in
/-- The block of gradients at the first point. -/
theorem grads_A (c : Dev nD) (t : Fin cfg1.N) (h0 : t.val % 128 = 0) (y : S128x4096.Idx) :
    (outsAt1 m c t.val t.isLt).1 y = outB (iblk m c 0 t) (iblk m c 1 t) (iblk m c 2 t) (iblk m c 3 t) (iblk m c 4 t) (iblk m c 5 t) (iblk m c 6 t) (iblk m c 7 t) (iblk m c 8 t) (iblk m c 9 t) (fun _ => 0) (y 0) (y 1) := by
  rw [outsAt1_A m c t h0]
  frame_open
  simp (disch := decide) only [↓View.readCov_skip, ↓View.readCov_fill]
  frame_out
  canon_tiles x h using View.cover_of_tiledBy _ ![128, 128] (by sl_kernel_rfl) _
  case piece0 =>
    refine Eq.trans ?_ (outB_v _ _ _ _ _ _ _ _ _ _ _ (y 0) (y 1) 7 (x 1) (by show (y 1).val = 2048 + 256 * 7 + (x 1).val; omega)).symm
    open_payloads
    pointwise [rotB, gradB, dsB, dqB, dkB, dvB, backB, k1_pay1, k1_pay2, k1_pay3]
    blk_point []
  case piece1 =>
    refine Eq.trans ?_ (outB_k _ _ _ _ _ _ _ _ _ _ _ (y 0) (y 1) 7 (x 1) (by show (y 1).val = 1024 + 128 * 7 + (x 1).val; omega)).symm
    open_payloads
    pointwise [rotB, gradB, dsB, dqB, dkB, dvB, backB, k1_pay1, k1_pay2, k1_pay3]
    blk_point []
  case piece2 =>
    refine Eq.trans ?_ (outB_q _ _ _ _ _ _ _ _ _ _ _ (y 0) (y 1) 7 (x 1) (by show (y 1).val = 0 + 128 * 7 + (x 1).val; omega)).symm
    open_payloads
    pointwise [rotB, gradB, dsB, dqB, dkB, dvB, backB, k1_pay1, k1_pay2, k1_pay3]
    blk_point []
  case piece3 =>
    refine Eq.trans ?_ (outB_v _ _ _ _ _ _ _ _ _ _ _ (y 0) (y 1) 6 (x 1) (by show (y 1).val = 2048 + 256 * 6 + (x 1).val; omega)).symm
    open_payloads
    pointwise [rotB, gradB, dsB, dqB, dkB, dvB, backB, k1_pay1, k1_pay2, k1_pay3]
    blk_point []
  case piece4 =>
    refine Eq.trans ?_ (outB_k _ _ _ _ _ _ _ _ _ _ _ (y 0) (y 1) 6 (x 1) (by show (y 1).val = 1024 + 128 * 6 + (x 1).val; omega)).symm
    open_payloads
    pointwise [rotB, gradB, dsB, dqB, dkB, dvB, backB, k1_pay1, k1_pay2, k1_pay3]
    blk_point []
  case piece5 =>
    refine Eq.trans ?_ (outB_q _ _ _ _ _ _ _ _ _ _ _ (y 0) (y 1) 6 (x 1) (by show (y 1).val = 0 + 128 * 6 + (x 1).val; omega)).symm
    open_payloads
    pointwise [rotB, gradB, dsB, dqB, dkB, dvB, backB, k1_pay1, k1_pay2, k1_pay3]
    blk_point []
  case piece6 =>
    refine Eq.trans ?_ (outB_v _ _ _ _ _ _ _ _ _ _ _ (y 0) (y 1) 5 (x 1) (by show (y 1).val = 2048 + 256 * 5 + (x 1).val; omega)).symm
    open_payloads
    pointwise [rotB, gradB, dsB, dqB, dkB, dvB, backB, k1_pay1, k1_pay2, k1_pay3]
    blk_point []
  case piece7 =>
    refine Eq.trans ?_ (outB_k _ _ _ _ _ _ _ _ _ _ _ (y 0) (y 1) 5 (x 1) (by show (y 1).val = 1024 + 128 * 5 + (x 1).val; omega)).symm
    open_payloads
    pointwise [rotB, gradB, dsB, dqB, dkB, dvB, backB, k1_pay1, k1_pay2, k1_pay3]
    blk_point []
  case piece8 =>
    refine Eq.trans ?_ (outB_q _ _ _ _ _ _ _ _ _ _ _ (y 0) (y 1) 5 (x 1) (by show (y 1).val = 0 + 128 * 5 + (x 1).val; omega)).symm
    open_payloads
    pointwise [rotB, gradB, dsB, dqB, dkB, dvB, backB, k1_pay1, k1_pay2, k1_pay3]
    blk_point []
  case piece9 =>
    refine Eq.trans ?_ (outB_v _ _ _ _ _ _ _ _ _ _ _ (y 0) (y 1) 4 (x 1) (by show (y 1).val = 2048 + 256 * 4 + (x 1).val; omega)).symm
    open_payloads
    pointwise [rotB, gradB, dsB, dqB, dkB, dvB, backB, k1_pay1, k1_pay2, k1_pay3]
    blk_point []
  case piece10 =>
    refine Eq.trans ?_ (outB_k _ _ _ _ _ _ _ _ _ _ _ (y 0) (y 1) 4 (x 1) (by show (y 1).val = 1024 + 128 * 4 + (x 1).val; omega)).symm
    open_payloads
    pointwise [rotB, gradB, dsB, dqB, dkB, dvB, backB, k1_pay1, k1_pay2, k1_pay3]
    blk_point []
  case piece11 =>
    refine Eq.trans ?_ (outB_q _ _ _ _ _ _ _ _ _ _ _ (y 0) (y 1) 4 (x 1) (by show (y 1).val = 0 + 128 * 4 + (x 1).val; omega)).symm
    open_payloads
    pointwise [rotB, gradB, dsB, dqB, dkB, dvB, backB, k1_pay1, k1_pay2, k1_pay3]
    blk_point []
  case piece12 =>
    refine Eq.trans ?_ (outB_v _ _ _ _ _ _ _ _ _ _ _ (y 0) (y 1) 3 (x 1) (by show (y 1).val = 2048 + 256 * 3 + (x 1).val; omega)).symm
    open_payloads
    pointwise [rotB, gradB, dsB, dqB, dkB, dvB, backB, k1_pay1, k1_pay2, k1_pay3]
    blk_point []
  case piece13 =>
    refine Eq.trans ?_ (outB_k _ _ _ _ _ _ _ _ _ _ _ (y 0) (y 1) 3 (x 1) (by show (y 1).val = 1024 + 128 * 3 + (x 1).val; omega)).symm
    open_payloads
    pointwise [rotB, gradB, dsB, dqB, dkB, dvB, backB, k1_pay1, k1_pay2, k1_pay3]
    blk_point []
  case piece14 =>
    refine Eq.trans ?_ (outB_q _ _ _ _ _ _ _ _ _ _ _ (y 0) (y 1) 3 (x 1) (by show (y 1).val = 0 + 128 * 3 + (x 1).val; omega)).symm
    open_payloads
    pointwise [rotB, gradB, dsB, dqB, dkB, dvB, backB, k1_pay1, k1_pay2, k1_pay3]
    blk_point []
  case piece15 =>
    refine Eq.trans ?_ (outB_v _ _ _ _ _ _ _ _ _ _ _ (y 0) (y 1) 2 (x 1) (by show (y 1).val = 2048 + 256 * 2 + (x 1).val; omega)).symm
    open_payloads
    pointwise [rotB, gradB, dsB, dqB, dkB, dvB, backB, k1_pay1, k1_pay2, k1_pay3]
    blk_point []
  case piece16 =>
    refine Eq.trans ?_ (outB_k _ _ _ _ _ _ _ _ _ _ _ (y 0) (y 1) 2 (x 1) (by show (y 1).val = 1024 + 128 * 2 + (x 1).val; omega)).symm
    open_payloads
    pointwise [rotB, gradB, dsB, dqB, dkB, dvB, backB, k1_pay1, k1_pay2, k1_pay3]
    blk_point []
  case piece17 =>
    refine Eq.trans ?_ (outB_q _ _ _ _ _ _ _ _ _ _ _ (y 0) (y 1) 2 (x 1) (by show (y 1).val = 0 + 128 * 2 + (x 1).val; omega)).symm
    open_payloads
    pointwise [rotB, gradB, dsB, dqB, dkB, dvB, backB, k1_pay1, k1_pay2, k1_pay3]
    blk_point []
  case piece18 =>
    refine Eq.trans ?_ (outB_v _ _ _ _ _ _ _ _ _ _ _ (y 0) (y 1) 1 (x 1) (by show (y 1).val = 2048 + 256 * 1 + (x 1).val; omega)).symm
    open_payloads
    pointwise [rotB, gradB, dsB, dqB, dkB, dvB, backB, k1_pay1, k1_pay2, k1_pay3]
    blk_point []
  case piece19 =>
    refine Eq.trans ?_ (outB_k _ _ _ _ _ _ _ _ _ _ _ (y 0) (y 1) 1 (x 1) (by show (y 1).val = 1024 + 128 * 1 + (x 1).val; omega)).symm
    open_payloads
    pointwise [rotB, gradB, dsB, dqB, dkB, dvB, backB, k1_pay1, k1_pay2, k1_pay3]
    blk_point []
  case piece20 =>
    refine Eq.trans ?_ (outB_q _ _ _ _ _ _ _ _ _ _ _ (y 0) (y 1) 1 (x 1) (by show (y 1).val = 0 + 128 * 1 + (x 1).val; omega)).symm
    open_payloads
    pointwise [rotB, gradB, dsB, dqB, dkB, dvB, backB, k1_pay1, k1_pay2, k1_pay3]
    blk_point []
  case piece21 =>
    refine Eq.trans ?_ (outB_v _ _ _ _ _ _ _ _ _ _ _ (y 0) (y 1) 0 (x 1) (by show (y 1).val = 2048 + 256 * 0 + (x 1).val; omega)).symm
    open_payloads
    pointwise [rotB, gradB, dsB, dqB, dkB, dvB, backB, k1_pay1, k1_pay2, k1_pay3]
    blk_point []
  case piece22 =>
    refine Eq.trans ?_ (outB_k _ _ _ _ _ _ _ _ _ _ _ (y 0) (y 1) 0 (x 1) (by show (y 1).val = 1024 + 128 * 0 + (x 1).val; omega)).symm
    open_payloads
    pointwise [rotB, gradB, dsB, dqB, dkB, dvB, backB, k1_pay1, k1_pay2, k1_pay3]
    blk_point []
  case piece23 =>
    refine Eq.trans ?_ (outB_q _ _ _ _ _ _ _ _ _ _ _ (y 0) (y 1) 0 (x 1) (by show (y 1).val = 0 + 128 * 0 + (x 1).val; omega)).symm
    open_payloads
    pointwise [rotB, gradB, dsB, dqB, dkB, dvB, backB, k1_pay1, k1_pay2, k1_pay3]
    blk_point []

end Cert.KernelIdeal.Bwd
-- ==== Proof.BwdValB.lean ====
module

public import proofs.«01_k».proof.Proof.BwdBody
public import proofs.«01_k».proof.Proof.RetSpec
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! A later point of the retention's backward call: what its body leaves in the block of gradients and in the carried gradient of the state,
entry by entry. -/

namespace Cert.KernelIdeal.Bwd

open Cert.KernelIdeal Cert.KernelIdeal.Gen Cert.KernelIdeal.Ret

variable (m : (ℓ : Loc nD τ sig) → Buf (Elt Ideal) ℓ)

/-- The state gradient the body leaves at a later point. -/
theorem state_B (c : Dev nD) (t : Fin cfg1.N) (h0 : ¬t.val % 128 = 0) (y : S8x128x256.Idx) :
    (outsAt1 m c t.val t.isLt).2 y = gradB (iblk m c 0 t) (iblk m c 6 t) (iblk m c 3 t) (iblk m c 4 t) (iblk m c 8 t) (iblk m c 10 t) (outsAt1 m c (t.val - 1) (by omega)).2 (y 0) (y 1) (y 2) := by
  rw [outsAt1_B m c t h0]
  frame_out
  rw [read_unread_whole]
  canon_tiles x h
  all_goals
    open_payloads
    pointwise [rotB, gradB, dsB, dqB, dkB, dvB, backB, k1_pay1, k1_pay2, k1_pay3]
    blk_point []

set_option maxHeartbeats 4000000 in
/-- The block of gradients at a later point. -/
theorem grads_B (c : Dev nD) (t : Fin cfg1.N) (h0 : ¬t.val % 128 = 0) (y : S128x4096.Idx) :
    (outsAt1 m c t.val t.isLt).1 y = outB (iblk m c 0 t) (iblk m c 1 t) (iblk m c 2 t) (iblk m c 3 t) (iblk m c 4 t) (iblk m c 5 t) (iblk m c 6 t) (iblk m c 7 t) (iblk m c 8 t) (iblk m c 9 t) (outsAt1 m c (t.val - 1) (by omega)).2 (y 0) (y 1) := by
  rw [outsAt1_B m c t h0]
  frame_out
  rw [read_unread_whole]
  canon_tiles x h using View.cover_of_tiledBy _ ![128, 128] (by sl_kernel_rfl) _
  case piece0 =>
    refine Eq.trans ?_ (outB_v _ _ _ _ _ _ _ _ _ _ _ (y 0) (y 1) 7 (x 1) (by show (y 1).val = 2048 + 256 * 7 + (x 1).val; omega)).symm
    open_payloads
    pointwise [rotB, gradB, dsB, dqB, dkB, dvB, backB, k1_pay1, k1_pay2, k1_pay3]
    blk_point []
  case piece1 =>
    refine Eq.trans ?_ (outB_k _ _ _ _ _ _ _ _ _ _ _ (y 0) (y 1) 7 (x 1) (by show (y 1).val = 1024 + 128 * 7 + (x 1).val; omega)).symm
    open_payloads
    pointwise [rotB, gradB, dsB, dqB, dkB, dvB, backB, k1_pay1, k1_pay2, k1_pay3]
    blk_point []
  case piece2 =>
    refine Eq.trans ?_ (outB_q _ _ _ _ _ _ _ _ _ _ _ (y 0) (y 1) 7 (x 1) (by show (y 1).val = 0 + 128 * 7 + (x 1).val; omega)).symm
    open_payloads
    pointwise [rotB, gradB, dsB, dqB, dkB, dvB, backB, k1_pay1, k1_pay2, k1_pay3]
    blk_point []
  case piece3 =>
    refine Eq.trans ?_ (outB_v _ _ _ _ _ _ _ _ _ _ _ (y 0) (y 1) 6 (x 1) (by show (y 1).val = 2048 + 256 * 6 + (x 1).val; omega)).symm
    open_payloads
    pointwise [rotB, gradB, dsB, dqB, dkB, dvB, backB, k1_pay1, k1_pay2, k1_pay3]
    blk_point []
  case piece4 =>
    refine Eq.trans ?_ (outB_k _ _ _ _ _ _ _ _ _ _ _ (y 0) (y 1) 6 (x 1) (by show (y 1).val = 1024 + 128 * 6 + (x 1).val; omega)).symm
    open_payloads
    pointwise [rotB, gradB, dsB, dqB, dkB, dvB, backB, k1_pay1, k1_pay2, k1_pay3]
    blk_point []
  case piece5 =>
    refine Eq.trans ?_ (outB_q _ _ _ _ _ _ _ _ _ _ _ (y 0) (y 1) 6 (x 1) (by show (y 1).val = 0 + 128 * 6 + (x 1).val; omega)).symm
    open_payloads
    pointwise [rotB, gradB, dsB, dqB, dkB, dvB, backB, k1_pay1, k1_pay2, k1_pay3]
    blk_point []
  case piece6 =>
    refine Eq.trans ?_ (outB_v _ _ _ _ _ _ _ _ _ _ _ (y 0) (y 1) 5 (x 1) (by show (y 1).val = 2048 + 256 * 5 + (x 1).val; omega)).symm
    open_payloads
    pointwise [rotB, gradB, dsB, dqB, dkB, dvB, backB, k1_pay1, k1_pay2, k1_pay3]
    blk_point []
  case piece7 =>
    refine Eq.trans ?_ (outB_k _ _ _ _ _ _ _ _ _ _ _ (y 0) (y 1) 5 (x 1) (by show (y 1).val = 1024 + 128 * 5 + (x 1).val; omega)).symm
    open_payloads
    pointwise [rotB, gradB, dsB, dqB, dkB, dvB, backB, k1_pay1, k1_pay2, k1_pay3]
    blk_point []
  case piece8 =>
    refine Eq.trans ?_ (outB_q _ _ _ _ _ _ _ _ _ _ _ (y 0) (y 1) 5 (x 1) (by show (y 1).val = 0 + 128 * 5 + (x 1).val; omega)).symm
    open_payloads
    pointwise [rotB, gradB, dsB, dqB, dkB, dvB, backB, k1_pay1, k1_pay2, k1_pay3]
    blk_point []
  case piece9 =>
    refine Eq.trans ?_ (outB_v _ _ _ _ _ _ _ _ _ _ _ (y 0) (y 1) 4 (x 1) (by show (y 1).val = 2048 + 256 * 4 + (x 1).val; omega)).symm
    open_payloads
    pointwise [rotB, gradB, dsB, dqB, dkB, dvB, backB, k1_pay1, k1_pay2, k1_pay3]
    blk_point []
  case piece10 =>
    refine Eq.trans ?_ (outB_k _ _ _ _ _ _ _ _ _ _ _ (y 0) (y 1) 4 (x 1) (by show (y 1).val = 1024 + 128 * 4 + (x 1).val; omega)).symm
    open_payloads
    pointwise [rotB, gradB, dsB, dqB, dkB, dvB, backB, k1_pay1, k1_pay2, k1_pay3]
    blk_point []
  case piece11 =>
    refine Eq.trans ?_ (outB_q _ _ _ _ _ _ _ _ _ _ _ (y 0) (y 1) 4 (x 1) (by show (y 1).val = 0 + 128 * 4 + (x 1).val; omega)).symm
    open_payloads
    pointwise [rotB, gradB, dsB, dqB, dkB, dvB, backB, k1_pay1, k1_pay2, k1_pay3]
    blk_point []
  case piece12 =>
    refine Eq.trans ?_ (outB_v _ _ _ _ _ _ _ _ _ _ _ (y 0) (y 1) 3 (x 1) (by show (y 1).val = 2048 + 256 * 3 + (x 1).val; omega)).symm
    open_payloads
    pointwise [rotB, gradB, dsB, dqB, dkB, dvB, backB, k1_pay1, k1_pay2, k1_pay3]
    blk_point []
  case piece13 =>
    refine Eq.trans ?_ (outB_k _ _ _ _ _ _ _ _ _ _ _ (y 0) (y 1) 3 (x 1) (by show (y 1).val = 1024 + 128 * 3 + (x 1).val; omega)).symm
    open_payloads
    pointwise [rotB, gradB, dsB, dqB, dkB, dvB, backB, k1_pay1, k1_pay2, k1_pay3]
    blk_point []
  case piece14 =>
    refine Eq.trans ?_ (outB_q _ _ _ _ _ _ _ _ _ _ _ (y 0) (y 1) 3 (x 1) (by show (y 1).val = 0 + 128 * 3 + (x 1).val; omega)).symm
    open_payloads
    pointwise [rotB, gradB, dsB, dqB, dkB, dvB, backB, k1_pay1, k1_pay2, k1_pay3]
    blk_point []
  case piece15 =>
    refine Eq.trans ?_ (outB_v _ _ _ _ _ _ _ _ _ _ _ (y 0) (y 1) 2 (x 1) (by show (y 1).val = 2048 + 256 * 2 + (x 1).val; omega)).symm
    open_payloads
    pointwise [rotB, gradB, dsB, dqB, dkB, dvB, backB, k1_pay1, k1_pay2, k1_pay3]
    blk_point []
  case piece16 =>
    refine Eq.trans ?_ (outB_k _ _ _ _ _ _ _ _ _ _ _ (y 0) (y 1) 2 (x 1) (by show (y 1).val = 1024 + 128 * 2 + (x 1).val; omega)).symm
    open_payloads
    pointwise [rotB, gradB, dsB, dqB, dkB, dvB, backB, k1_pay1, k1_pay2, k1_pay3]
    blk_point []
  case piece17 =>
    refine Eq.trans ?_ (outB_q _ _ _ _ _ _ _ _ _ _ _ (y 0) (y 1) 2 (x 1) (by show (y 1).val = 0 + 128 * 2 + (x 1).val; omega)).symm
    open_payloads
    pointwise [rotB, gradB, dsB, dqB, dkB, dvB, backB, k1_pay1, k1_pay2, k1_pay3]
    blk_point []
  case piece18 =>
    refine Eq.trans ?_ (outB_v _ _ _ _ _ _ _ _ _ _ _ (y 0) (y 1) 1 (x 1) (by show (y 1).val = 2048 + 256 * 1 + (x 1).val; omega)).symm
    open_payloads
    pointwise [rotB, gradB, dsB, dqB, dkB, dvB, backB, k1_pay1, k1_pay2, k1_pay3]
    blk_point []
  case piece19 =>
    refine Eq.trans ?_ (outB_k _ _ _ _ _ _ _ _ _ _ _ (y 0) (y 1) 1 (x 1) (by show (y 1).val = 1024 + 128 * 1 + (x 1).val; omega)).symm
    open_payloads
    pointwise [rotB, gradB, dsB, dqB, dkB, dvB, backB, k1_pay1, k1_pay2, k1_pay3]
    blk_point []
  case piece20 =>
    refine Eq.trans ?_ (outB_q _ _ _ _ _ _ _ _ _ _ _ (y 0) (y 1) 1 (x 1) (by show (y 1).val = 0 + 128 * 1 + (x 1).val; omega)).symm
    open_payloads
    pointwise [rotB, gradB, dsB, dqB, dkB, dvB, backB, k1_pay1, k1_pay2, k1_pay3]
    blk_point []
  case piece21 =>
    refine Eq.trans ?_ (outB_v _ _ _ _ _ _ _ _ _ _ _ (y 0) (y 1) 0 (x 1) (by show (y 1).val = 2048 + 256 * 0 + (x 1).val; omega)).symm
    open_payloads
    pointwise [rotB, gradB, dsB, dqB, dkB, dvB, backB, k1_pay1, k1_pay2, k1_pay3]
    blk_point []
  case piece22 =>
    refine Eq.trans ?_ (outB_k _ _ _ _ _ _ _ _ _ _ _ (y 0) (y 1) 0 (x 1) (by show (y 1).val = 1024 + 128 * 0 + (x 1).val; omega)).symm
    open_payloads
    pointwise [rotB, gradB, dsB, dqB, dkB, dvB, backB, k1_pay1, k1_pay2, k1_pay3]
    blk_point []
  case piece23 =>
    refine Eq.trans ?_ (outB_q _ _ _ _ _ _ _ _ _ _ _ (y 0) (y 1) 0 (x 1) (by show (y 1).val = 0 + 128 * 0 + (x 1).val; omega)).symm
    open_payloads
    pointwise [rotB, gradB, dsB, dqB, dkB, dvB, backB, k1_pay1, k1_pay2, k1_pay3]
    blk_point []

end Cert.KernelIdeal.Bwd
-- ==== Proof.BwdFinal.lean ====
module

public import proofs.«01_k».proof.Proof.BwdValA
public import proofs.«01_k».proof.Proof.BwdValB
public import proofs.«01_k».proof.Proof.RetMath

@[expose] public section

set_option maxRecDepth 16384

noncomputable section

open Idealize.ShloMosaic Idealize.ShloMosaic.TcCoe Idealize.SL.Sem
open Idealize.ShloMosaic.Pipeline (Dat)

/-! The retention's backward call over its whole grid: the gradients. -/

namespace Cert.KernelIdeal.Bwd

open Cert.KernelIdeal Cert.KernelIdeal.Gen Cert.KernelIdeal.Ret

variable (m : (ℓ : Loc nD τ sig) → Buf (Elt Ideal) ℓ)

/-- The arrays the retention is computed from, as the memory holds them. -/
def arrays (c : Dev nD) : Arrays where
  qk := V m c main_arg0
  pr := V m c main_arg1
  C := V m c main_v15
  N := V m c main_v17
  dc := V m c main_v43
  xi := V m c main_v64
  zt := V m c main_v66
  cd := V m c main_v68
  dr := V m c main_arg3

/-- The block every window stages at point `t`: the grid runs from the last chunk to the first. -/
theorem idx : ∀ t : Fin cfg1.N, win1_0.index t = ![127 - t.val, 0] ∧ win1_1.index t = ![127 - t.val, 1] ∧ win1_2.index t = ![127 - t.val, 0]
    ∧ win1_3.index t = ![127 - t.val, 0] ∧ win1_4.index t = ![127 - t.val, 0] ∧ win1_5.index t = ![127 - t.val, 0, 0, 0] ∧ win1_6.index t = ![127 - t.val, 0]
    ∧ win1_7.index t = ![0, 0, 0] ∧ win1_8.index t = ![0, 0, 0] ∧ win1_9.index t = ![0, 0, 0] ∧ win1_10.index t = ![0, 0, 0]
    ∧ win1_11.index t = ![127 - t.val, 0] ∧ t.val < 128 :=
  (by decide +kernel : ∀ t : Fin grid1.N, _)

/-- The grid has 128 points. -/
theorem lt_128 (t : Fin cfg1.N) : t.val < 128 := (idx t).2.2.2.2.2.2.2.2.2.2.2.2

/-- A block's rotated queries are the array's. -/
theorem rot_q (c : Dev nD) (t : Fin cfg1.N) (h : Fin 8) (j d : Fin 128) :
    rotB (iblk m c 0 t) (iblk m c 3 t) (iblk m c 4 t) h j d = rot (arrays m c) 0 (row (127 - t.val) j) h d := by
  have ht := lt_128 t
  unfold rotB rot arrays row
  blk_point [iblk, V, idx t]

/-- A block's rotated keys are the array's. -/
theorem rot_k (c : Dev nD) (t : Fin cfg1.N) (h : Fin 8) (j d : Fin 128) :
    rotB (iblk m c 1 t) (iblk m c 3 t) (iblk m c 4 t) h j d = rot (arrays m c) 1 (row (127 - t.val) j) h d := by
  have ht := lt_128 t
  unfold rotB rot arrays row
  blk_point [iblk, V, idx t]

/-- A block's values are the array's. -/
theorem val_at (c : Dev nD) (t : Fin cfg1.N) (h : Fin 8) (j : Fin 128) (e : Fin 256) :
    iblk m c 2 t (ix2 j ⟨256 * h.val + e.val, by omega⟩) = val (arrays m c) (row (127 - t.val) j) h e := by
  have ht := lt_128 t
  unfold val arrays row
  blk_ext [iblk, V, idx t]

/-- A block's gradient of the result is the array's. -/
theorem dout_at (c : Dev nD) (t : Fin cfg1.N) (h : Fin 8) (j : Fin 128) (e : Fin 256) :
    iblk m c 6 t (ix2 j ⟨256 * h.val + e.val, by omega⟩) = dout (arrays m c) (row (127 - t.val) j) h e := by
  have ht := lt_128 t
  unfold dout arrays row
  blk_ext [iblk, V, idx t]

/-- A block's part of the rotation's tables. -/
theorem C_at (c : Dev nD) (t : Fin cfg1.N) (j d : Fin 128) :
    iblk m c 3 t (ix2 j d) = (arrays m c).C (ix2 (row (127 - t.val) j) d) := by
  have ht := lt_128 t
  unfold arrays row
  blk_ext [iblk, V, idx t]

/-- A block's part of the rotation's tables. -/
theorem N_at (c : Dev nD) (t : Fin cfg1.N) (j d : Fin 128) :
    iblk m c 4 t (ix2 j d) = (arrays m c).N (ix2 (row (127 - t.val) j) d) := by
  have ht := lt_128 t
  unfold arrays row
  blk_ext [iblk, V, idx t]

/-- The tables of the decays are staged whole. -/
theorem dc_at (c : Dev nD) (t : Fin cfg1.N) (h : Fin 8) (i j : Fin 128) : iblk m c 7 t (ix3 h i j) = (arrays m c).dc (ix3 h i j) := by
  unfold arrays; blk_ext [iblk, V, idx t]
/-- The tables of the decays are staged whole. -/
theorem xi_at (c : Dev nD) (t : Fin cfg1.N) (h : Fin 8) (i j : Fin 128) : iblk m c 8 t (ix3 h i j) = (arrays m c).xi (ix3 h i j) := by
  unfold arrays; blk_ext [iblk, V, idx t]
/-- The tables of the decays are staged whole. -/
theorem zt_at (c : Dev nD) (t : Fin cfg1.N) (h : Fin 8) (i j : Fin 128) : iblk m c 9 t (ix3 h i j) = (arrays m c).zt (ix3 h i j) := by
  unfold arrays; blk_ext [iblk, V, idx t]
/-- The tables of the decays are staged whole. -/
theorem cd_at (c : Dev nD) (t : Fin cfg1.N) (h : Fin 8) (e : Fin 256) : iblk m c 10 t (ix3 h 0 e) = (arrays m c).cd (ix3 h 0 e) := by
  unfold arrays; blk_ext [iblk, V, idx t]
/-- The state saved before the chunk. -/
theorem st_at (c : Dev nD) (t : Fin cfg1.N) (h : Fin 8) (d : Fin 128) (e : Fin 256) :
    iblk m c 5 t (ix4 0 h d e) = V m c main_v69_1 (ix4 ⟨127 - t.val, by omega⟩ h d e) := by
  have ht := lt_128 t
  blk_ext [iblk, V, idx t]

/-- The state's gradient after point `t` from the one before it. -/
theorem upd_at (c : Dev nD) (t : Fin cfg1.N) (G : FVec Ideal S8x128x256 .f32) (h : Fin 8) (d : Fin 128) (e : Fin 256)
    (hG : G (ix3 h d e) = grad (arrays m c) t.val h d e) :
    gradB (iblk m c 0 t) (iblk m c 6 t) (iblk m c 3 t) (iblk m c 4 t) (iblk m c 8 t) (iblk m c 10 t) G h d e = grad (arrays m c) (t.val + 1) h d e := by
  simp only [gradB, grad, rot_q, dout_at, xi_at, cd_at, hG]

/-- The state's gradient after point `n`. -/
theorem grad_eq (c : Dev nD) : ∀ (n : ℕ) (hn : n < cfg1.N) (h : Fin 8) (d : Fin 128) (e : Fin 256),
    (outsAt1 m c n hn).2 (ix3 h d e) = grad (arrays m c) (n + 1) h d e
  | 0, hn, h, d, e => (state_A m c ⟨0, hn⟩ rfl (ix3 h d e)).trans (upd_at m c ⟨0, hn⟩ (fun _ => 0) h d e rfl)
  | n + 1, hn, h, d, e => by
    have hN := lt_of_lt_of_eq hn (show cfg1.N = 128 from N_1)
    exact (state_B m c ⟨n + 1, hn⟩ (by show ¬(n + 1) % 128 = 0; omega) (ix3 h d e)).trans
      (upd_at m c ⟨n + 1, hn⟩ _ h d e (grad_eq c n (Nat.lt_of_succ_lt hn) h d e))

/-- The state's gradient before point `t`, where it is read. -/
theorem before_eq (c : Dev nD) (t : Fin cfg1.N) (h0 : ¬t.val % 128 = 0) (h : Fin 8) (d : Fin 128) (e : Fin 256) :
    (outsAt1 m c (t.val - 1) (by omega)).2 (ix3 h d e) = grad (arrays m c) t.val h d e := by
  have e1 : t.val - 1 + 1 = t.val := by omega
  rw [grad_eq, e1]

/-- A block's gradient of the scores. -/
theorem ds_at (c : Dev nD) (t : Fin cfg1.N) (h : Fin 8) (i j : Fin 128) :
    dsB (iblk m c 2 t) (iblk m c 6 t) (iblk m c 7 t) h i j = ds (arrays m c) (127 - t.val) h i j := by
  simp only [dsB, ds, rot_q, rot_k, val_at, dout_at, C_at, N_at, dc_at, xi_at, zt_at, st_at]

/-- A block's gradient of the queries. -/
theorem dq_at (c : Dev nD) (t : Fin cfg1.N) (hst : ∀ (n : Fin 128) h d e, V m c main_v69_1 (ix4 n h d e) = state (arrays m c) n.val h d e) (h : Fin 8) (i d : Fin 128) :
    dqB (iblk m c 1 t) (iblk m c 2 t) (iblk m c 3 t) (iblk m c 4 t) (iblk m c 5 t) (iblk m c 6 t) (iblk m c 7 t) (iblk m c 8 t) h i d = dq (arrays m c) (127 - t.val) h i d := by
  simp only [dqB, dq, ds_at, rot_q, rot_k, val_at, dout_at, C_at, N_at, dc_at, xi_at, zt_at, st_at, hst]

/-- A block's gradient of the keys. -/
theorem dk_at (c : Dev nD) (t : Fin cfg1.N) (G : FVec Ideal S8x128x256 .f32)
    (hG : ∀ h d e, G (ix3 h d e) = grad (arrays m c) t.val h d e) (h : Fin 8) (j d : Fin 128) :
    dkB (iblk m c 0 t) (iblk m c 2 t) (iblk m c 3 t) (iblk m c 4 t) (iblk m c 6 t) (iblk m c 7 t) (iblk m c 9 t) G h j d = dk (arrays m c) (127 - t.val) h j d := by
  have ht := lt_128 t
  have et : 127 - (127 - t.val) = t.val := by omega
  simp only [dkB, dk, ds_at, rot_q, rot_k, val_at, dout_at, C_at, N_at, dc_at, xi_at, zt_at, st_at, hG, et]

/-- A block's gradient of the values. -/
theorem dv_at (c : Dev nD) (t : Fin cfg1.N) (G : FVec Ideal S8x128x256 .f32)
    (hG : ∀ h d e, G (ix3 h d e) = grad (arrays m c) t.val h d e) (h : Fin 8) (j : Fin 128) (e : Fin 256) :
    dvB (iblk m c 0 t) (iblk m c 1 t) (iblk m c 3 t) (iblk m c 4 t) (iblk m c 6 t) (iblk m c 7 t) (iblk m c 9 t) G h j e = dv (arrays m c) (127 - t.val) h j e := by
  have ht := lt_128 t
  have et : 127 - (127 - t.val) = t.val := by omega
  simp only [dvB, dv, rot_q, rot_k, val_at, dout_at, C_at, N_at, dc_at, xi_at, zt_at, st_at, hG, et]

/-- A chunk's gradients from the state's gradient before it. -/
theorem out_at (c : Dev nD) (t : Fin cfg1.N) (G : FVec Ideal S8x128x256 .f32) (i : Fin 128) (u : Fin 4096)
    (hst : ∀ (n : Fin 128) h d e, V m c main_v69_1 (ix4 n h d e) = state (arrays m c) n.val h d e)
    (hG : ∀ h d e, G (ix3 h d e) = grad (arrays m c) t.val h d e) :
    outB (iblk m c 0 t) (iblk m c 1 t) (iblk m c 2 t) (iblk m c 3 t) (iblk m c 4 t) (iblk m c 5 t) (iblk m c 6 t) (iblk m c 7 t) (iblk m c 8 t) (iblk m c 9 t) G i u
      = out (arrays m c) (127 - t.val) i u := by
  simp only [outB, out, backB, back, dq_at m c t hst, dk_at m c t G hG, dv_at m c t G hG, C_at, N_at]

/-- The gradients the backward call writes. -/
def GRADS (c : Dev nD) : FVec Ideal S16384x10240 .bf16 := fun i =>
  if h : (i 1).val < 4096 then out (arrays m c) ((i 0).val / 128) ⟨(i 0).val % 128, by omega⟩ ⟨(i 1).val, h⟩ else 0

/-- The place of an entry of the block of point `t` in the array. -/
theorem place11 (c : Dev nD) (t : Fin cfg1.N) (y : (win1_11.xblock (grid1.coords t)).Idx) : GRADS m c ((win1_11.blk t).view.emb y)
    = out (arrays m c) (127 - t.val) (win1_11.xinj (grid1.coords t) y 0) (win1_11.xinj (grid1.coords t) y 1) := by
  have ht := lt_128 t
  have hy0 : (win1_11.xinj (grid1.coords t) y 0).val < 128 := (win1_11.xinj (grid1.coords t) y 0).isLt
  have hy1 : (win1_11.xinj (grid1.coords t) y 1).val < 4096 := (win1_11.xinj (grid1.coords t) y 1).isLt
  have i0 : win1_11.index t 0 = 127 - t.val := congrFun (idx t).2.2.2.2.2.2.2.2.2.2.2.1 0
  have i1 : win1_11.index t 1 = 0 := congrFun (idx t).2.2.2.2.2.2.2.2.2.2.2.1 1
  have f0 : ((win1_11.blk t).view.emb y 0).val = win1_11.index t 0 * 128 + (y 0).val := Pipeline.Window.rect_emb_val win1_11 t y 0 rfl
  have f1 : ((win1_11.blk t).view.emb y 1).val = win1_11.index t 1 * 4096 + (y 1).val := Pipeline.Window.rect_emb_val win1_11 t y 1 rfl
  have e0 : ((win1_11.blk t).view.emb y 0).val = 128 * (127 - t.val) + (win1_11.xinj (grid1.coords t) y 0).val := by
    rw [f0, i0, Pipeline.Window.xinj_val]; omega
  have e1 : ((win1_11.blk t).view.emb y 1).val = (win1_11.xinj (grid1.coords t) y 1).val := by
    rw [f1, i1, Pipeline.Window.xinj_val]; omega
  unfold GRADS
  have a0 : ((win1_11.blk t).view.emb y 0).val / 128 = 127 - t.val := by rw [e0]; omega
  have a1 : ((win1_11.blk t).view.emb y 0).val % 128 = (win1_11.xinj (grid1.coords t) y 0).val := by rw [e0]; omega
  simp only [a0, a1, e1]
  rw [dif_pos hy1]
  exact congrArg₂ (out (arrays m c) (127 - t.val)) (Fin.ext (Pipeline.Window.xinj_val win1_11 _ y 0).symm) (Fin.ext (Pipeline.Window.xinj_val win1_11 _ y 1).symm)

/-- The backward call's array: the gradients in its first columns, what it held before in the others. -/
theorem final11 (c : Dev nD) (hst : ∀ (n : Fin 128) h d e, V m c main_v69_1 (ix4 n h d e) = state (arrays m c) n.val h d e) :
    (dat m c).arrAt 11 cfg1.N = fun i => if (i 1).val < 4096 then GRADS m c i else (dat m c).A 11 i := by
  refine Dat.arrAt_eq_of_coversWhere (dat m c) 11 (GRADS m c) (fun β => β (1 : Fin _) = 0) (by decide +kernel) (fun t hf y => ?_) (fun j => ?_)
  · refine Eq.trans ?_ (place11 m c t y).symm
    show (dat m c).after 11 t (win1_11.xinj (grid1.coords t) y) = _
    rw [after1_11]
    generalize win1_11.xinj (grid1.coords t) y = z
    by_cases h0 : t.val % 128 = 0
    · rw [grads_A m c t h0]
      refine out_at m c t _ _ _ hst fun h d e => ?_
      have e : t.val = 0 := by have ht := lt_128 t; omega
      rw [e]; rfl
    · rw [grads_B m c t h0]
      exact out_at m c t _ _ _ hst fun h d e => before_eq m c t h0 h d e
  · blk_simp [Pipeline.Window.cell_apply]; omega

end Cert.KernelIdeal.Bwd
-- ==== Proof.KerOut.lean ====
module

public import proofs.«01_k».proof.Proof.KerTab
public import proofs.«01_k».proof.Proof.BwdFinal

@[expose] public section

set_option maxRecDepth 16384

noncomputable section
open Idealize.ShloMosaic Idealize.ShloMosaic.TcCoe Idealize.SL.Sem Idealize.ShloMosaic.StableHlo
open Cert.KernelIdeal Cert.KernelIdeal.Gen Cert.KernelIdeal.Ret

/-! The kernel's two results, in closed form of its arguments. -/

namespace Cert.KernelIdeal.Run

variable (m : (ℓ : Loc nD τ sig) → Buf (Elt Ideal) ℓ)

/-- The rotation's cosines before the backward call. -/
theorem W5_v15 (c : Dev nD) : W5 m c main_v15 = V3 m c main_v15 :=
  (W5_of m c main_v15 (by decide)).trans ((W4_arr m c 3).trans (((Fwd.dat (mem3 m) c).arrAt_in 3 rfl _).trans (Fwd.A_eq (mem3 m) c 3)))
/-- The rotation's signed sines before the backward call. -/
theorem W5_v17 (c : Dev nD) : W5 m c main_v17 = V3 m c main_v17 :=
  (W5_of m c main_v17 (by decide)).trans ((W4_arr m c 4).trans (((Fwd.dat (mem3 m) c).arrAt_in 4 rfl _).trans (Fwd.A_eq (mem3 m) c 4)))
/-- The decay inside a chunk before the backward call. -/
theorem W5_v43 (c : Dev nD) : W5 m c main_v43 = V3 m c main_v43 :=
  (W5_of m c main_v43 (by decide)).trans ((W4_arr m c 5).trans (((Fwd.dat (mem3 m) c).arrAt_in 5 rfl _).trans (Fwd.A_eq (mem3 m) c 5)))
/-- The decay of the queries before the backward call. -/
theorem W5_v64 (c : Dev nD) : W5 m c main_v64 = V3 m c main_v64 :=
  (W5_of m c main_v64 (by decide)).trans ((W4_arr m c 6).trans (((Fwd.dat (mem3 m) c).arrAt_in 6 rfl _).trans (Fwd.A_eq (mem3 m) c 6)))
/-- The decay of the keys before the backward call. -/
theorem W5_v66 (c : Dev nD) : W5 m c main_v66 = V3 m c main_v66 :=
  (W5_of m c main_v66 (by decide)).trans ((W4_arr m c 7).trans (((Fwd.dat (mem3 m) c).arrAt_in 7 rfl _).trans (Fwd.A_eq (mem3 m) c 7)))
/-- The decay across a chunk before the backward call. -/
theorem W5_v68 (c : Dev nD) : W5 m c main_v68 = V3 m c main_v68 :=
  (W5_of m c main_v68 (by decide)).trans ((W4_arr m c 8).trans (((Fwd.dat (mem3 m) c).arrAt_in 8 rfl _).trans (Fwd.A_eq (mem3 m) c 8)))
/-- The states before the backward call. -/
theorem W5_states (c : Dev nD) : W5 m c main_v69_1 = (Fwd.dat (mem3 m) c).arrAt 10 cfg0.N :=
  (W5_of m c main_v69_1 (by decide)).trans (W4_arr m c 10)

set_option maxHeartbeats 4000000 in
/-- The arrays of the backward call, as the memory before it holds them. -/
theorem bwd_parts (c : Dev nD) : Bwd.arrays (mem5 m) c = ⟨W5 m c main_arg0, W5 m c main_arg1, W5 m c main_v15, W5 m c main_v17, W5 m c main_v43,
    W5 m c main_v64, W5 m c main_v66, W5 m c main_v68, W5 m c main_arg3⟩ := rfl

set_option maxHeartbeats 4000000 in
/-- The arrays of the backward call. -/
theorem bwd_arrays (c : Dev nD) : Bwd.arrays (mem5 m) c = input m c := by
  rw [bwd_parts]
  have h1 : W5 m c main_arg0 = (input m c).qk := W5_arg0 m c
  have h2 : W5 m c main_arg1 = (input m c).pr := W5_arg1 m c
  have h9 : W5 m c main_arg3 = (input m c).dr := W5_arg3 m c
  have h3 := (W5_v15 m c).trans (vC m c)
  have h4 := (W5_v17 m c).trans (vN m c)
  have h5 := (W5_v43 m c).trans (vdc m c)
  have h6 := (W5_v64 m c).trans (vxi m c)
  have h7 := (W5_v66 m c).trans (vzt m c)
  have h8 := (W5_v68 m c).trans (vcd m c)
  generalize input m c = B at *
  exact arrays_ext _ B h1 h2 h3 h4 h5 h6 h7 h8 h9

/-- The states the backward call reads. -/
theorem bwd_states (c : Dev nD) (n : Fin 128) (h : Fin 8) (d : Fin 128) (e : Fin 256) :
    W5 m c main_v69_1 (ix4 n h d e) = state (Bwd.arrays (mem5 m) c) n.val h d e := by
  rw [W5_states, Fwd.final10, bwd_arrays, ← fwd_arrays]
  rfl

/-- The result of the forward call, in closed form. -/
theorem W6_ret (c : Dev nD) (r : Fin 16384) (u : Fin 2048) : W6 m c main_v69_0 (ix2 r u)
    = ret (input m c) (r.val / 128) ⟨r.val % 128, by omega⟩ ⟨u.val / 256, by omega⟩ ⟨u.val % 256, by omega⟩ := by
  rw [W6_r, Fwd.final9, ← fwd_arrays]
  rfl

/-- What the backward call's array held before it. -/
theorem A11 (c : Dev nD) : (Bwd.dat (mem5 m) c).A 11 = m ((c : Thread nD τ).loc main_arg4) := by
  have a : (Bwd.dat (mem5 m) c).A 11 = W5 m c main_v70 := Bwd.A_eq (mem5 m) c 11
  rw [a, ← W4_arg4 m c]
  unfold W5
  generalize W4 m c = W
  after_results
  rfl

/-- The gradients, in the first columns of the backward call's array. -/
theorem W6_out (c : Dev nD) (r : Fin 16384) (u : Fin 10240) (hu : u.val < 4096) : W6 m c main_v70 (ix2 r u)
    = out (input m c) (r.val / 128) ⟨r.val % 128, by omega⟩ ⟨u.val, hu⟩ := by
  rw [W6_dproj, Bwd.final11 (mem5 m) c (bwd_states m c), ← bwd_arrays]
  refine (if_pos hu).trans ?_
  exact dif_pos hu

/-- The other columns hold the last argument. -/
theorem W6_rest (c : Dev nD) (r : Fin 16384) (u : Fin 10240) (hu : ¬ u.val < 4096) : W6 m c main_v70 (ix2 r u)
    = m ((c : Thread nD τ).loc main_arg4) (ix2 r u) := by
  rw [W6_dproj, Bwd.final11 (mem5 m) c (bwd_states m c), ← A11 m c]
  exact if_neg hu

end Cert.KernelIdeal.Run
-- ==== Proof.RefLoop.lean ====
module

public import proofs.«01_k».proof.Proof.RefRun
public import Idealize.ShloMosaic.Lib.Pipeline.ValueKit
public import Idealize.ShloMosaic.Lib.Pipeline.ReadBack
public import Idealize.ShloMosaic.Lib.WordCmp

@[expose] public section

set_option maxRecDepth 16384

noncomputable section
open Idealize.ShloMosaic Idealize.ShloMosaic.TcCoe Idealize.SL.Sem Idealize.ShloMosaic.StableHlo
open Cert.ReferenceIdeal Cert.ReferenceIdeal.Ops

/-! The reference's two loops: the state chunk after chunk, its gradient from the last chunk back, and the stacks that keep both. -/

namespace Cert.ReferenceIdeal.Run

variable (m : (ℓ : Loc nD τ sig) → Buf (Elt Ideal) ℓ)

/-- An entry as an extended real. -/
abbrev real (x : EReal) : EReal := x

/-- One chunk's block fits the stack. -/
theorem fits (k : Fin 128) : S128x1x8x128x256.Slices ![k.val, 0, 0, 0, 0] S1x1x8x128x256 :=
  ⟨rfl, fun a => by fin_cases a <;> simp [S128x1x8x128x256, S1x1x8x128x256] <;> omega⟩

/-- The counter's word before trip `k`. -/
theorem toInt_ctr (k : Fin 128) : (Scf.iv 0#32 1#32 k.val).toInt = (k.val : Int) := by
  refine (Scf.toInt_iv (lb := 0#32) (ub := 128#32) (st := 1#32) (by decide) (show k.val ≤ Scf.trips 0#32 128#32 1#32 from by have := k.isLt; exact Nat.le_of_lt this)).trans ?_
  simp

/-- The second loop's place at trip `k`, counted from the last. -/
theorem toInt_rev : ∀ k : Fin 128, (128#32 - Scf.iv 0#32 1#32 k.val - 1#32).toInt = ((127 - k.val : ℕ) : Int) := by decide +kernel

/-- The block loop 0 reads at place `k`. -/
theorem slice0 (V : Valuation τ sig (Elt Ideal)) (k : Fin 128) (hV : ∀ i, BitVec.toInt (n := 32) (V main_v125_2 i) = k.val) (h : Fin 8) (d : Fin 128) (e : Fin 256) :
    after b0_0 V main_while0b_v229 (ix4 0 h d e) = V main_v125_0 (ix5 k 0 h d e) := by
  after_results
  simp only [TRef.toBuf, TRef.ofBuf, cast_eq]
  rw [WordCmp.dynamicSlice_eq_extract _ _ _ _ ![k.val, 0, 0, 0, 0] (fits k)]
  · pointwise
  · intro a
    fin_cases a
    · exact hV _
    all_goals rfl

/-- The stack of loop 0 after a write at place `k`. -/
theorem upd0 (V : Valuation τ sig (Elt Ideal)) (k : Fin 128) (hV : ∀ i, BitVec.toInt (n := 32) (V main_v125_2 i) = k.val) (n : Fin 128) (h : Fin 8) (d : Fin 128) (e : Fin 256) :
    after b0_2 V main_while0b_v233 (ix5 n 0 h d e) = if n = k then V main_v125_3 (ix4 0 h d e) else V main_v125_4 (ix5 n 0 h d e) := by
  after_results
  simp only [TRef.toBuf, TRef.ofBuf, cast_eq]
  rw [WordCmp.dynamicUpdateSlice_eq_update _ _ _ _ ![k.val, 0, 0, 0, 0] (fits k)]
  · pointwise
    have e : (k.val ≤ n.val ∧ n.val < k.val + 1) ↔ n = k := by rw [Fin.ext_iff]; omega
    simp only [e, dite_eq_ite]
  · intro a
    fin_cases a
    · exact hV _
    all_goals rfl

/-- The state after a trip of the first loop. -/
theorem state_step0 (V : Valuation τ sig (Elt Ideal)) (k : Fin 128) (hV : V main_v125_2 = fun _ => Scf.iv 0#32 1#32 k.val) (h : Fin 8) (d : Fin 128) (e : Fin 256) :
    afterL body0 (after cond0 V) main_v125_3 (ix4 0 h d e)
      = (real (V main_v125_3 (ix4 0 h d e)) * real (V main_v125_1 (ix4 0 h 0 0)) + real (V main_v125_0 (ix5 k 0 h d e))) := by
  simp only [body0, afterL_cons, afterL_nil]
  have hc := cond0_keep V (r := main_v125_2) (by decide)
  have h0 := slice0 (after cond0 V) k (fun i => by rw [hc, hV]; exact toInt_ctr k) h d e
  have e0 := b0_0_keep (after cond0 V) (r := main_v125_3) (by decide)
  have e1 := b0_0_keep (after cond0 V) (r := main_v125_1) (by decide)
  rw [cond0_keep V (by decide)] at e0 e1 h0
  generalize after b0_0 (after cond0 V) = W at h0 e0 e1 ⊢
  have s : after b0_3 (after b0_2 (after b0_1 W)) main_v125_3 (ix4 0 h d e)
      = (real (W main_v125_3 (ix4 0 h d e)) * real (W main_v125_1 (ix4 0 h 0 0)) + real (W main_while0b_v229 (ix4 0 h d e))) := by
    after_results
    simp only [id_eq, real]
    pointwise
  rw [s, h0, e0, e1]

/-- The stack of states after a trip of the first loop. -/
theorem stack_step0 (V : Valuation τ sig (Elt Ideal)) (k : Fin 128) (hV : V main_v125_2 = fun _ => Scf.iv 0#32 1#32 k.val) (n : Fin 128) (h : Fin 8) (d : Fin 128) (e : Fin 256) :
    afterL body0 (after cond0 V) main_v125_4 (ix5 n 0 h d e) = if n = k then V main_v125_3 (ix4 0 h d e) else V main_v125_4 (ix5 n 0 h d e) := by
  simp only [body0, afterL_cons, afterL_nil]
  have hk : ∀ r : Ref sig .tc, r ∉ cond0_W → r ∉ b0_0_W → r ∉ b0_1_W → after b0_1 (after b0_0 (after cond0 V)) r = V r := fun r h1 h2 h3 => by
    rw [b0_1_keep _ h3, b0_0_keep _ h2, cond0_keep _ h1]
  have e2 := hk main_v125_2 (by decide) (by decide) (by decide)
  have e3 := hk main_v125_3 (by decide) (by decide) (by decide)
  have e4 := hk main_v125_4 (by decide) (by decide) (by decide)
  clear hk
  generalize after b0_1 (after b0_0 (after cond0 V)) = W at e2 e3 e4 ⊢
  have s : after b0_3 (after b0_2 W) main_v125_4 = after b0_2 W main_while0b_v233 := by
    generalize after b0_2 W = X
    after_results
    rfl
  rw [s, upd0 W k (fun i => by rw [e2, hV]; exact toInt_ctr k), e3, e4]

/-- The block loop 1 reads at place `k`. -/
theorem slice1 (V : Valuation τ sig (Elt Ideal)) (k : Fin 128) (hV : ∀ i, BitVec.toInt (n := 32) (V main_while1b_v230 i) = k.val) (h : Fin 8) (d : Fin 128) (e : Fin 256) :
    after b1_1 V main_while1b_v231 (ix4 0 h d e) = V main_v159_0 (ix5 k 0 h d e) := by
  after_results
  simp only [TRef.toBuf, TRef.ofBuf, cast_eq]
  rw [WordCmp.dynamicSlice_eq_extract _ _ _ _ ![k.val, 0, 0, 0, 0] (fits k)]
  · pointwise
  · intro a
    fin_cases a
    · exact hV _
    all_goals rfl

/-- The stack of loop 1 after a write at place `k`. -/
theorem upd1 (V : Valuation τ sig (Elt Ideal)) (k : Fin 128) (hV : ∀ i, BitVec.toInt (n := 32) (V main_while1b_v230 i) = k.val) (n : Fin 128) (h : Fin 8) (d : Fin 128) (e : Fin 256) :
    after b1_3 V main_while1b_v235 (ix5 n 0 h d e) = if n = k then V main_v159_3 (ix4 0 h d e) else V main_v159_4 (ix5 n 0 h d e) := by
  after_results
  simp only [TRef.toBuf, TRef.ofBuf, cast_eq]
  rw [WordCmp.dynamicUpdateSlice_eq_update _ _ _ _ ![k.val, 0, 0, 0, 0] (fits k)]
  · pointwise
    have e : (k.val ≤ n.val ∧ n.val < k.val + 1) ↔ n = k := by rw [Fin.ext_iff]; omega
    simp only [e, dite_eq_ite]
  · intro a
    fin_cases a
    · exact hV _
    all_goals rfl

/-- The place the second loop reads and writes at its trip `k`. -/
theorem place1 (V : Valuation τ sig (Elt Ideal)) (k : Fin 128) (hV : V main_v159_2 = fun _ => Scf.iv 0#32 1#32 k.val) (i : S_.Idx) :
    BitVec.toInt (n := 32) (after b1_0 (after cond1 V) main_while1b_v230 i) = (⟨127 - k.val, by omega⟩ : Fin 128).val := by
  have e : after b1_0 (after cond1 V) main_while1b_v230 = subi (subi (constantI S_ 32 128#32) (after cond1 V main_v159_2)) (constantI S_ 32 1#32) := by
    generalize after cond1 V = W
    after_results
  rw [e, cond1_keep V (by decide), hV]
  exact toInt_rev k

/-- The state's gradient after a trip of the second loop. -/
theorem state_step1 (V : Valuation τ sig (Elt Ideal)) (k : Fin 128) (hV : V main_v159_2 = fun _ => Scf.iv 0#32 1#32 k.val) (h : Fin 8) (d : Fin 128) (e : Fin 256) :
    afterL body1 (after cond1 V) main_v159_3 (ix4 0 h d e)
      = (real (V main_v159_0 (ix5 ⟨127 - k.val, by omega⟩ 0 h d e)) + real (V main_v159_3 (ix4 0 h d e)) * real (V main_v159_1 (ix4 0 h 0 0))) := by
  simp only [body1, afterL_cons, afterL_nil]
  have h0 := slice1 (after b1_0 (after cond1 V)) ⟨127 - k.val, by omega⟩ (place1 V k hV) h d e
  have hk : ∀ r : Ref sig .tc, r ∉ cond1_W → r ∉ b1_0_W → after b1_0 (after cond1 V) r = V r := fun r h1 h2 => by
    rw [b1_0_keep _ h2, cond1_keep _ h1]
  rw [hk _ (by decide) (by decide)] at h0
  have e0 := b1_1_keep (after b1_0 (after cond1 V)) (r := main_v159_3) (by decide)
  have e1 := b1_1_keep (after b1_0 (after cond1 V)) (r := main_v159_1) (by decide)
  rw [hk _ (by decide) (by decide)] at e0 e1
  clear hk
  generalize after b1_1 (after b1_0 (after cond1 V)) = W at h0 e0 e1 ⊢
  have s : after b1_4 (after b1_3 (after b1_2 W)) main_v159_3 (ix4 0 h d e)
      = (real (W main_while1b_v231 (ix4 0 h d e)) + real (W main_v159_3 (ix4 0 h d e)) * real (W main_v159_1 (ix4 0 h 0 0))) := by
    after_results
    simp only [id_eq, real]
    pointwise
  rw [s, h0, e0, e1]

/-- The stack of the state's gradients after a trip of the second loop. -/
theorem stack_step1 (V : Valuation τ sig (Elt Ideal)) (k : Fin 128) (hV : V main_v159_2 = fun _ => Scf.iv 0#32 1#32 k.val) (n : Fin 128) (h : Fin 8) (d : Fin 128) (e : Fin 256) :
    afterL body1 (after cond1 V) main_v159_4 (ix5 n 0 h d e)
      = if n = ⟨127 - k.val, by omega⟩ then V main_v159_3 (ix4 0 h d e) else V main_v159_4 (ix5 n 0 h d e) := by
  simp only [body1, afterL_cons, afterL_nil]
  have h2 := place1 V k hV
  rw [show after b1_0 (after cond1 V) main_while1b_v230 = after b1_2 (after b1_1 (after b1_0 (after cond1 V))) main_while1b_v230 from
    ((b1_2_keep _ (by decide)).trans (b1_1_keep _ (by decide))).symm] at h2
  have hk : ∀ r : Ref sig .tc, r ∉ cond1_W → r ∉ b1_0_W → r ∉ b1_1_W → r ∉ b1_2_W → after b1_2 (after b1_1 (after b1_0 (after cond1 V))) r = V r := fun r h1 h2 h3 h4 => by
    rw [b1_2_keep _ h4, b1_1_keep _ h3, b1_0_keep _ h2, cond1_keep _ h1]
  have e3 := hk main_v159_3 (by decide) (by decide) (by decide) (by decide)
  have e4 := hk main_v159_4 (by decide) (by decide) (by decide) (by decide)
  clear hk
  generalize after b1_2 (after b1_1 (after b1_0 (after cond1 V))) = W at h2 e3 e4 ⊢
  have s : after b1_4 (after b1_3 W) main_v159_4 = after b1_3 W main_while1b_v235 := by
    generalize after b1_3 W = X
    after_results
    rfl
  rw [s, upd1 W ⟨127 - k.val, by omega⟩ h2, e3, e4]

/-- Any sequence that starts at the state's start and follows its steps is what the first loop carries; its stack holds the sequence. -/
theorem fold0 (c : Dev nD) (h : Fin 8) (d : Fin 128) (e : Fin 256) (S : ℕ → EReal) (h0 : E1 m c main_v125_3 (ix4 0 h d e) = S 0)
    (hS : ∀ k : Fin 128, S (k.val + 1) = S k.val * real (E1 m c main_v125_1 (ix4 0 h 0 0)) + real (E1 m c main_v125_0 (ix5 k 0 h d e))) :
    ∀ k : ℕ, k ≤ 128 → T0 m k c main_v125_3 (ix4 0 h d e) = S k ∧ ∀ n : Fin 128, n.val < k → T0 m k c main_v125_4 (ix5 n 0 h d e) = S n.val
  | 0, _ => ⟨h0, fun n hn => absurd hn (Nat.not_lt_zero _)⟩
  | k + 1, hk => by
    obtain ⟨i1, i2⟩ := fold0 c h d e S h0 hS k (by omega)
    have hV := ctr0 m c k
    have a1 : T0 m k c main_v125_1 = E1 m c main_v125_1 := loop0_keep (E1 m) (by decide) c k
    have a0 : T0 m k c main_v125_0 = E1 m c main_v125_0 := loop0_keep (E1 m) (by decide) c k
    refine ⟨(state_step0 (T0 m k c) ⟨k, by omega⟩ hV h d e).trans ?_, fun n hn => (stack_step0 (T0 m k c) ⟨k, by omega⟩ hV n h d e).trans ?_⟩
    · rw [i1, hS ⟨k, by omega⟩, a1, a0]
    · by_cases hc : n = ⟨k, by omega⟩
      · rw [if_pos hc, i1, hc]
      · rw [if_neg hc]
        exact i2 n (by have : n.val ≠ k := fun h' => hc (Fin.ext h'); omega)

/-- Any sequence that starts at the gradient's start and follows its steps is what the second loop carries; its stack holds the sequence. -/
theorem fold1 (c : Dev nD) (h : Fin 8) (d : Fin 128) (e : Fin 256) (S : ℕ → EReal) (h0 : E3 m c main_v159_3 (ix4 0 h d e) = S 0)
    (hS : ∀ k : Fin 128, S (k.val + 1) = real (E3 m c main_v159_0 (ix5 ⟨127 - k.val, by omega⟩ 0 h d e)) + S k.val * real (E3 m c main_v159_1 (ix4 0 h 0 0))) :
    ∀ k : ℕ, k ≤ 128 → T1 m k c main_v159_3 (ix4 0 h d e) = S k ∧ ∀ n : Fin 128, 127 - n.val < k → T1 m k c main_v159_4 (ix5 n 0 h d e) = S (127 - n.val)
  | 0, _ => ⟨h0, fun n hn => absurd hn (Nat.not_lt_zero _)⟩
  | k + 1, hk => by
    obtain ⟨i1, i2⟩ := fold1 c h d e S h0 hS k (by omega)
    have hV := ctr1 m c k
    have a1 : T1 m k c main_v159_1 = E3 m c main_v159_1 := loop1_keep (E3 m) (by decide) c k
    have a0 : T1 m k c main_v159_0 = E3 m c main_v159_0 := loop1_keep (E3 m) (by decide) c k
    refine ⟨(state_step1 (T1 m k c) ⟨k, by omega⟩ hV h d e).trans ?_, fun n hn => (stack_step1 (T1 m k c) ⟨k, by omega⟩ hV n h d e).trans ?_⟩
    · rw [i1, hS ⟨k, by omega⟩, a1, a0]
    · by_cases hc : n = ⟨127 - k, by omega⟩
      · have hn' : 127 - n.val = k := by rw [hc]; show 127 - (127 - k) = k; omega
        rw [if_pos hc, i1, hn']
      · rw [if_neg hc]
        exact i2 n (by have : n.val ≠ 127 - k := fun h' => hc (Fin.ext h'); omega)

end Cert.ReferenceIdeal.Run
-- ==== Proof.RefVal.lean ====
module

public import proofs.«01_k».proof.Proof.RefLoop
public import proofs.«01_k».proof.Proof.RetTab

@[expose] public section

set_option maxRecDepth 16384

noncomputable section
open Idealize.ShloMosaic Idealize.ShloMosaic.TcCoe Idealize.SL.Sem Idealize.ShloMosaic.StableHlo
open Cert.ReferenceIdeal Cert.ReferenceIdeal.Ops
open Cert.KernelIdeal.Ret (Arrays arraysOf ang lg num row rot scale)

/-! The reference's intermediate values, entry by entry. -/

namespace Cert.ReferenceIdeal.Run

variable (m : (ℓ : Loc nD τ sig) → Buf (Elt Ideal) ℓ)

/-- The retention's arrays, from the reference's inputs. -/
def arrays (c : Dev nD) : Arrays := arraysOf (E0 m c main_arg0) (E0 m c main_arg1) (E0 m c main_arg2) (E0 m c main_arg3)

/-- The rotated queries. -/
theorem E1_v78 (c : Dev nD) (n i : Fin 128) (h : Fin 8) (d : Fin 128) : E1 m c main_v78 (ix5 0 n i h d) = rot (arrays m c) 0 (row n.val i) h d := by
  unfold E1; simp only [seg0, afterL_cons, afterL_nil]
  after_results
  unfold rot arrays arraysOf row ang num
  by_cases hd : d.val < 64
  · have e : d.val % 64 = d.val := by omega
    pointwise [hd]
    simp only [mul_neg, ← sub_eq_add_neg, e]
    blk_point [hd]
  · have e : d.val % 64 = d.val - 64 := by omega
    pointwise [hd]
    simp only [e]
    blk_point [hd]

/-- The rotated keys, scaled. -/
theorem E1_v79 (c : Dev nD) (n i : Fin 128) (h : Fin 8) (d : Fin 128) : E1 m c main_v79 (ix5 0 n i h d) = rot (arrays m c) 1 (row n.val i) h d * scale := by
  unfold E1; simp only [seg0, afterL_cons, afterL_nil]
  after_results
  unfold rot arrays arraysOf row ang num scale
  by_cases hd : d.val < 64
  · have e : d.val % 64 = d.val := by omega
    pointwise [hd]
    simp only [mul_neg, ← sub_eq_add_neg, e]
    blk_point [hd]
  · have e : d.val % 64 = d.val - 64 := by omega
    pointwise [hd]
    simp only [e]
    blk_point [hd]

/-- The values. -/
theorem E1_v80 (c : Dev nD) (n i : Fin 128) (h : Fin 8) (e : Fin 256) : E1 m c main_v80 (ix5 0 n i h e) = KernelIdeal.Ret.val (arrays m c) (row n.val i) h e := by
  unfold E1; simp only [seg0, afterL_cons, afterL_nil]
  after_results
  unfold KernelIdeal.Ret.val arrays arraysOf row
  pointwise
  blk_ext []

/-- The decay inside a chunk. -/
theorem E1_v98 (c : Dev nD) (h : Fin 8) (i j : Fin 128) : E1 m c main_v98 (ix3 h i j) = (arrays m c).dc (ix3 h i j) := by
  unfold E1; simp only [seg0, afterL_cons, afterL_nil]
  after_results
  unfold arrays arraysOf lg num
  pointwise
  simp only [id_eq]
  pointwise

/-- The decay of the keys. -/
theorem E1_v112 (c : Dev nD) (h : Fin 8) (i j : Fin 128) : E1 m c main_v112 (ix2 h i) = (arrays m c).zt (ix3 h i j) := by
  unfold E1; simp only [seg0, afterL_cons, afterL_nil]
  after_results
  unfold arrays arraysOf lg num
  pointwise

/-- The decay of the keys, as the gradient of the keys reads it. -/
theorem E1_v114 (c : Dev nD) (h : Fin 8) (i j : Fin 128) : E1 m c main_v114 (ix5 0 0 i h 0) = (arrays m c).zt (ix3 h i j) := by
  unfold E1; simp only [seg0, afterL_cons, afterL_nil]
  after_results
  unfold arrays arraysOf lg num
  pointwise

/-- The decay across a chunk. -/
theorem E1_v121 (c : Dev nD) (h : Fin 8) (e : Fin 256) : E1 m c main_v121 (ix4 0 h 0 0) = (arrays m c).cd (ix3 h 0 e) := by
  unfold E1; simp only [seg0, afterL_cons, afterL_nil]
  after_results
  unfold arrays arraysOf lg num
  pointwise

/-- The logarithm of the decay. -/
theorem E1_v77 (c : Dev nD) (h : Fin 8) : E1 m c main_v77 (ix1 h) = lg h := by
  unfold E1; simp only [seg0, afterL_cons, afterL_nil]
  after_results
  unfold lg num
  pointwise

/-- The places in a chunk as floats. -/
theorem E1_v81 (c : Dev nD) (i : Fin 128) : E1 m c main_v81 (ix1 i) = num i.val := by
  unfold E1; simp only [seg0, afterL_cons, afterL_nil]
  after_results
  unfold num
  pointwise

/-- The rotation's cosines of the queries. -/
theorem E1_v21 (c : Dev nD) (r : Fin 16384) (d : Fin 64) : E1 m c main_v21 (ix4 0 r 0 d) = Ideal.cos (ang (E0 m c main_arg2) r d) := by
  unfold E1; simp only [seg0, afterL_cons, afterL_nil]
  after_results
  unfold ang num
  pointwise
/-- The rotation's sines of the queries. -/
theorem E1_v23 (c : Dev nD) (r : Fin 16384) (d : Fin 64) : E1 m c main_v23 (ix4 0 r 0 d) = Ideal.sin (ang (E0 m c main_arg2) r d) := by
  unfold E1; simp only [seg0, afterL_cons, afterL_nil]
  after_results
  unfold ang num
  pointwise
/-- The rotation's cosines of the keys. -/
theorem E1_v51 (c : Dev nD) (r : Fin 16384) (d : Fin 64) : E1 m c main_v51 (ix4 0 r 0 d) = Ideal.cos (ang (E0 m c main_arg2) r d) := by
  unfold E1; simp only [seg0, afterL_cons, afterL_nil]
  after_results
  unfold ang num
  pointwise
/-- The rotation's sines of the keys. -/
theorem E1_v53 (c : Dev nD) (r : Fin 16384) (d : Fin 64) : E1 m c main_v53 (ix4 0 r 0 d) = Ideal.sin (ang (E0 m c main_arg2) r d) := by
  unfold E1; simp only [seg0, afterL_cons, afterL_nil]
  after_results
  unfold ang num
  pointwise

/-- What the last pieces before the first loop start from. -/
abbrev X0 (c : Dev nD) : Valuation τ sig (Elt Ideal) := after p1_1 (after p1_0 (after p0_0 (E0 m c)))
/-- The contents before the first loop, from there. -/
theorem E1_eq (c : Dev nD) : E1 m c = after p2_0 (after p1_2 (X0 m c)) := rfl
/-- What the last piece before the first loop does not write. -/
theorem E1_X1 (c : Dev nD) {r : Ref sig .tc} (h : r ∉ p2_0_W) : E1 m c r = after p1_2 (X0 m c) r := p2_0_keep _ h
/-- What the last two pieces before the first loop do not write. -/
theorem E1_X0 (c : Dev nD) {r : Ref sig .tc} (h1 : r ∉ p1_2_W) (h2 : r ∉ p2_0_W) : E1 m c r = X0 m c r :=
  (p2_0_keep _ h2).trans (p1_2_keep _ h1)

/-- The scores. -/
theorem E1_v102 (c : Dev nD) (n i j : Fin 128) (h : Fin 8) : E1 m c main_v102 (ix5 0 n h i j)
    = (∑ d : Fin 128, rot (arrays m c) 0 (row n.val i) h d * (rot (arrays m c) 1 (row n.val j) h d * scale)) * (arrays m c).dc (ix3 h i j) := by
  simp only [← E1_v98, ← E1_v79, ← E1_v78]
  simp only [E1_X0 m c (r := main_v78) (by decide) (by decide), E1_X0 m c (r := main_v79) (by decide) (by decide), E1_X0 m c (r := main_v98) (by decide) (by decide)]
  rw [E1_X1 m c (r := main_v102) (by decide)]
  generalize X0 m c = W
  after_results
  pointwise

/-- The part of the result from inside the chunk. -/
theorem E1_v104 (c : Dev nD) (n i : Fin 128) (h : Fin 8) (e : Fin 256) : E1 m c main_v104 (ix5 0 n i h e)
    = ∑ j : Fin 128, real (E1 m c main_v102 (ix5 0 n h i j)) * KernelIdeal.Ret.val (arrays m c) (row n.val j) h e := by
  simp only [← E1_v80]
  simp only [E1_X0 m c (r := main_v80) (by decide) (by decide)]
  rw [E1_X1 m c (r := main_v104) (by decide), E1_X1 m c (r := main_v102) (by decide)]
  generalize X0 m c = W
  after_results
  pointwise
  exact Finset.sum_congr (M := EReal) rfl fun j _ => mul_comm (G := EReal) _ _

/-- The keys with their decay. -/
theorem E1_v116 (c : Dev nD) (n j : Fin 128) (h : Fin 8) (d : Fin 128) : E1 m c main_v116 (ix5 0 n j h d)
    = rot (arrays m c) 1 (row n.val j) h d * scale * (arrays m c).zt (ix3 h j d) := by
  rw [← E1_v79, ← E1_v114]
  simp only [E1_X1 m c (r := main_v79) (by decide)]
  rw [E1_eq]
  generalize after p1_2 (X0 m c) = W
  after_results
  pointwise

/-- What a chunk adds to the state. -/
theorem E1_kv (c : Dev nD) (n : Fin 128) (h : Fin 8) (d : Fin 128) (e : Fin 256) : E1 m c main_v125_0 (ix5 n 0 h d e)
    = ∑ j : Fin 128, rot (arrays m c) 1 (row n.val j) h d * scale * (arrays m c).zt (ix3 h j d) * KernelIdeal.Ret.val (arrays m c) (row n.val j) h e := by
  simp only [← E1_v116, ← E1_v80]
  simp only [E1_X1 m c (r := main_v80) (by decide)]
  rw [E1_eq]
  generalize after p1_2 (X0 m c) = W
  after_results
  simp only [id_eq]
  pointwise

/-- The loop's decay. -/
theorem E1_cd (c : Dev nD) (h : Fin 8) (e : Fin 256) : E1 m c main_v125_1 (ix4 0 h 0 0) = (arrays m c).cd (ix3 h 0 e) := by
  rw [← E1_v121]
  rw [E1_eq]
  generalize after p1_2 (X0 m c) = W
  after_results
  rfl

/-- The loop starts at the zero state. -/
theorem E1_start (c : Dev nD) (h : Fin 8) (d : Fin 128) (e : Fin 256) : E1 m c main_v125_3 (ix4 0 h d e) = (0 : EReal) := by
  rw [E1_eq]
  generalize after p1_2 (X0 m c) = W
  after_results
  simp only [id_eq]
  pointwise

/-- The stack the first loop leaves holds the state before every chunk. -/
theorem E2_stack (c : Dev nD) (n : Fin 128) (h : Fin 8) (d : Fin 128) (e : Fin 256) :
    E2 m c main_v125_4 (ix5 n 0 h d e) = KernelIdeal.Ret.state (arrays m c) n.val h d e := by
  refine (congrFun (cond0_keep _ (by decide)) _).trans ?_
  refine (fold0 m c h d e (fun k => KernelIdeal.Ret.state (arrays m c) k h d e) (E1_start m c h d e) (fun k => ?_) 128 le_rfl).2 n n.isLt
  rw [E1_kv, E1_cd m c h e]
  rfl

end Cert.ReferenceIdeal.Run
-- ==== Proof.RefOut.lean ====
module

public import proofs.«01_k».proof.Proof.RefVal

@[expose] public section

set_option maxRecDepth 16384

noncomputable section
open Idealize.ShloMosaic Idealize.ShloMosaic.TcCoe Idealize.SL.Sem Idealize.ShloMosaic.StableHlo
open Cert.ReferenceIdeal Cert.ReferenceIdeal.Ops
open Cert.KernelIdeal.Ret (Arrays arraysOf ang lg num row rot scale)

/-! The reference's values between its two loops, and the stack the second loop leaves, entry by entry. -/

namespace Cert.ReferenceIdeal.Run

variable (m : (ℓ : Loc nD τ sig) → Buf (Elt Ideal) ℓ)

/-- The contents between the loops, from those after the first. -/
theorem E3_eq (c : Dev nD) : E3 m c = after p3_0 (after p2_2 (E2 m c)) := rfl
/-- What the last part before the second loop does not write. -/
theorem E3_X (c : Dev nD) {r : Ref sig .tc} (h : r ∉ p3_0_W) : E3 m c r = after p2_2 (E2 m c) r := p3_0_keep _ h
/-- What nothing between the start of the first loop and that of the second writes. -/
theorem E3_E1 (c : Dev nD) {r : Ref sig .tc} (h0 : r ∉ loop0_W) (h1 : r ∉ seg1_W) : E3 m c r = E1 m c r :=
  (seg1_keep _ h1).trans (E2_keep m h0 c)

/-- The decay of the queries. -/
theorem E3_v136 (c : Dev nD) (h : Fin 8) (i d : Fin 128) : E3 m c main_v136 (ix5 0 0 i h 0) = (arrays m c).xi (ix3 h i d) := by
  have a : (arrays m c).xi (ix3 h i d) = Ideal.exp (lg h * (num i.val + 1)) := rfl
  rw [a, ← E1_v77 m c, ← E1_v81 m c, ← E2_keep m (r := main_v77) (by decide) c, ← E2_keep m (r := main_v81) (by decide) c]
  rw [E3_X m c (r := main_v136) (by decide)]
  generalize E2 m c = W
  after_results
  pointwise

/-- The queries with their decay. -/
theorem E3_v138 (c : Dev nD) (n i : Fin 128) (h : Fin 8) (d : Fin 128) : E3 m c main_v138 (ix5 0 n i h d)
    = rot (arrays m c) 0 (row n.val i) h d * (arrays m c).xi (ix3 h i d) := by
  rw [← E1_v78, ← E3_v136 m c h i d, ← E2_keep m (r := main_v78) (by decide) c]
  simp only [E3_X m c (r := main_v138) (by decide), E3_X m c (r := main_v136) (by decide)]
  generalize E2 m c = W
  after_results
  pointwise

/-- The gradient of the result, chunk by chunk. -/
theorem E3_v148 (c : Dev nD) (n i : Fin 128) (h : Fin 8) (e : Fin 256) : E3 m c main_v148 (ix5 0 n i h e)
    = KernelIdeal.Ret.dout (arrays m c) (row n.val i) h e := by
  unfold KernelIdeal.Ret.dout arrays arraysOf row
  have a : E2 m c main_arg3 = E0 m c main_arg3 := (E2_keep m (by decide) c).trans (seg0_keep _ (by decide))
  rw [← a, E3_X m c (r := main_v148) (by decide)]
  generalize E2 m c = W
  after_results
  pointwise
  blk_ext []

/-- The result. -/
theorem E3_v143 (c : Dev nD) (n i : Fin 128) (h : Fin 8) (e : Fin 256) : E3 m c main_v141 (ix5 0 n i h e)
    = KernelIdeal.Ret.ret (arrays m c) n.val i h e := by
  unfold KernelIdeal.Ret.ret
  simp only [← E1_v102, ← E3_v138, ← E2_stack]
  have a := E1_v104 m c n i h e
  simp only [real] at a
  rw [← a, ← E2_keep m (r := main_v104) (by decide) c]
  simp only [E3_X m c (r := main_v138) (by decide), E3_X m c (r := main_v141) (by decide)]
  generalize E2 m c = W
  after_results
  pointwise
  exact congrArg₂ (fun x y : EReal => x + y) rfl (Finset.sum_congr (M := EReal) rfl fun j _ => mul_comm (G := EReal) _ _)

/-- The part of the gradient of the queries from the state. -/
theorem E3_v155 (c : Dev nD) (n i : Fin 128) (h : Fin 8) (d : Fin 128) : E3 m c main_v155 (ix5 0 n i h d)
    = (∑ e : Fin 256, KernelIdeal.Ret.dout (arrays m c) (row n.val i) h e * KernelIdeal.Ret.state (arrays m c) n.val h d e) * (arrays m c).xi (ix3 h i d) := by
  simp only [← E3_v136 m c h i d, ← E3_v148, ← E2_stack]
  simp only [E3_X m c (r := main_v136) (by decide), E3_X m c (r := main_v148) (by decide), E3_X m c (r := main_v155) (by decide)]
  generalize E2 m c = W
  after_results
  pointwise

/-- What a chunk adds to the gradient of the state. -/
theorem E3_qdo (c : Dev nD) (n : Fin 128) (h : Fin 8) (d : Fin 128) (e : Fin 256) : E3 m c main_v159_0 (ix5 n 0 h d e)
    = ∑ i : Fin 128, rot (arrays m c) 0 (row n.val i) h d * (arrays m c).xi (ix3 h i d) * KernelIdeal.Ret.dout (arrays m c) (row n.val i) h e := by
  simp only [← E3_v138, ← E3_v148]
  simp only [E3_X m c (r := main_v138) (by decide), E3_X m c (r := main_v148) (by decide)]
  rw [E3_eq]
  have a : after p3_0 (after p2_2 (E2 m c)) main_v159_0 = after p2_2 (E2 m c) main_v156 := by
    generalize after p2_2 (E2 m c) = W
    after_results
    rfl
  rw [a]
  generalize E2 m c = W
  after_results
  pointwise
  exact Finset.sum_congr (M := EReal) rfl fun j _ => mul_comm (G := EReal) _ _

/-- The second loop's decay. -/
theorem E3_cd (c : Dev nD) (h : Fin 8) (e : Fin 256) : E3 m c main_v159_1 (ix4 0 h 0 0) = (arrays m c).cd (ix3 h 0 e) := by
  rw [← E1_v121, ← E3_E1 m c (r := main_v121) (by decide) (by decide), E3_X m c (r := main_v121) (by decide), E3_eq]
  generalize after p2_2 (E2 m c) = W
  after_results
  rfl

/-- The second loop starts at zero. -/
theorem E3_start (c : Dev nD) (h : Fin 8) (d : Fin 128) (e : Fin 256) : E3 m c main_v159_3 (ix4 0 h d e) = (0 : EReal) := by
  rw [E3_eq]
  generalize after p2_2 (E2 m c) = W
  after_results
  simp only [id_eq]
  pointwise

/-- The stack the second loop leaves holds the gradient of the state after every chunk. -/
theorem E4_stack (c : Dev nD) (n : Fin 128) (h : Fin 8) (d : Fin 128) (e : Fin 256) :
    E4 m c main_v159_4 (ix5 n 0 h d e) = KernelIdeal.Ret.grad (arrays m c) (127 - n.val) h d e := by
  refine (congrFun (cond1_keep _ (by decide)) _).trans ?_
  refine (fold1 m c h d e (fun k => KernelIdeal.Ret.grad (arrays m c) k h d e) (E3_start m c h d e) (fun k => ?_) 128 le_rfl).2 n (by omega)
  rw [E3_qdo, E3_cd m c h e]
  exact add_comm (G := EReal) _ _

end Cert.ReferenceIdeal.Run
-- ==== Proof.RefTail.lean ====
module

public import proofs.«01_k».proof.Proof.RefOut

@[expose] public section

set_option maxRecDepth 16384

noncomputable section
open Idealize.ShloMosaic Idealize.ShloMosaic.TcCoe Idealize.SL.Sem Idealize.ShloMosaic.StableHlo
open Cert.ReferenceIdeal Cert.ReferenceIdeal.Ops Cert.ReferenceIdeal.Facts₀ Cert.ReferenceIdeal.Facts
open Cert.KernelIdeal.Ret (Arrays arraysOf ang lg num row rot scale)

/-! The reference's operations after its second loop, in three parts: the gradients, the turn back through the rotation, and the
results. -/

namespace Cert.ReferenceIdeal.Run

section
variable {F : FTy → Type} [FloatOps F]

/-- The gradients of the rotated queries, the rotated keys and the values. -/
abbrev q0 : List (HloOp τ sig (Elt F)) :=
  [ StableHlo.unary main_v159_4 main_v160 ((transpose S1x128x8x128x256 [1, 0, 2, 3, 4] · transposes_S128x1x8x128x256_S1x128x8x128x256_1_0_2_3_4) : (⟨S128x1x8x128x256, .f32⟩ : BufTy).Contents (Elt F) → (⟨S1x128x8x128x256, .f32⟩ : BufTy).Contents (Elt F)),
    StableHlo.binary main_v160 main_v116 main_v161 ((fun l r => Host.dotGeneral dot_S1x128x8x128x256_S1x128x128x8x128_S1x128x8x256x128_3_4_4_2_012_013 none l r) : (⟨S1x128x8x128x256, .f32⟩ : BufTy).Contents (Elt F) → (⟨S1x128x128x8x128, .f32⟩ : BufTy).Contents (Elt F) → (⟨S1x128x8x256x128, .f32⟩ : BufTy).Contents (Elt F)),
    StableHlo.unary main_v161 main_v162 ((transpose S1x128x128x8x256 [0, 1, 4, 2, 3] · transposes_S1x128x8x256x128_S1x128x128x8x256_0_1_4_2_3) : (⟨S1x128x8x256x128, .f32⟩ : BufTy).Contents (Elt F) → (⟨S1x128x128x8x256, .f32⟩ : BufTy).Contents (Elt F)),
    StableHlo.binary main_v160 main_v80 main_v163 ((fun l r => Host.dotGeneral dot_S1x128x8x128x256_S1x128x128x8x256_S1x128x8x128x128_4_4_3_2_012_013 none l r) : (⟨S1x128x8x128x256, .f32⟩ : BufTy).Contents (Elt F) → (⟨S1x128x128x8x256, .f32⟩ : BufTy).Contents (Elt F) → (⟨S1x128x8x128x128, .f32⟩ : BufTy).Contents (Elt F)),
    StableHlo.unary main_v163 main_v164 ((transpose S1x128x128x8x128 [0, 1, 4, 2, 3] · transposes_S1x128x8x128x128_S1x128x128x8x128_0_1_4_2_3) : (⟨S1x128x8x128x128, .f32⟩ : BufTy).Contents (Elt F) → (⟨S1x128x128x8x128, .f32⟩ : BufTy).Contents (Elt F)),
    StableHlo.unary main_v114 main_v165 (broadcastInDim S1x128x128x8x128 ![0, 1, 2, 3, 4] bcast_S1x1x128x8x1_S1x128x128x8x128_0_1_2_3_4 : (⟨S1x1x128x8x1, .f32⟩ : BufTy).Contents (Elt F) → (⟨S1x128x128x8x128, .f32⟩ : BufTy).Contents (Elt F)),
    StableHlo.binary main_v164 main_v165 main_v166 (mulf : (⟨S1x128x128x8x128, .f32⟩ : BufTy).Contents (Elt F) → (⟨S1x128x128x8x128, .f32⟩ : BufTy).Contents (Elt F) → (⟨S1x128x128x8x128, .f32⟩ : BufTy).Contents (Elt F)),
    StableHlo.unary main_v148 main_v167 ((transpose S1x128x8x256x128 [0, 1, 3, 4, 2] · transposes_S1x128x128x8x256_S1x128x8x256x128_0_1_3_4_2) : (⟨S1x128x128x8x256, .f32⟩ : BufTy).Contents (Elt F) → (⟨S1x128x8x256x128, .f32⟩ : BufTy).Contents (Elt F)),
    StableHlo.binary main_v167 main_v80 main_v168 ((fun l r => Host.dotGeneral dot_S1x128x8x256x128_S1x128x128x8x256_S1x128x8x128x128_3_4_4_2_012_013 none l r) : (⟨S1x128x8x256x128, .f32⟩ : BufTy).Contents (Elt F) → (⟨S1x128x128x8x256, .f32⟩ : BufTy).Contents (Elt F) → (⟨S1x128x8x128x128, .f32⟩ : BufTy).Contents (Elt F)),
    StableHlo.binary main_v167 main_v102 main_v169 ((fun l r => Host.dotGeneral dot_S1x128x8x256x128_S1x128x8x128x128_S1x128x8x256x128_4_3_3_4_012_012 none l r) : (⟨S1x128x8x256x128, .f32⟩ : BufTy).Contents (Elt F) → (⟨S1x128x8x128x128, .f32⟩ : BufTy).Contents (Elt F) → (⟨S1x128x8x256x128, .f32⟩ : BufTy).Contents (Elt F)),
    StableHlo.unary main_v169 main_v170 ((transpose S1x128x128x8x256 [0, 1, 4, 2, 3] · transposes_S1x128x8x256x128_S1x128x128x8x256_0_1_4_2_3) : (⟨S1x128x8x256x128, .f32⟩ : BufTy).Contents (Elt F) → (⟨S1x128x128x8x256, .f32⟩ : BufTy).Contents (Elt F)),
    StableHlo.binary main_v162 main_v170 main_v171 (addf : (⟨S1x128x128x8x256, .f32⟩ : BufTy).Contents (Elt F) → (⟨S1x128x128x8x256, .f32⟩ : BufTy).Contents (Elt F) → (⟨S1x128x128x8x256, .f32⟩ : BufTy).Contents (Elt F)),
    StableHlo.unary main_v100 main_v172 (broadcastInDim S1x128x8x128x128 ![0, 1, 2, 3, 4] bcast_S1x1x8x128x128_S1x128x8x128x128_0_1_2_3_4 : (⟨S1x1x8x128x128, .f32⟩ : BufTy).Contents (Elt F) → (⟨S1x128x8x128x128, .f32⟩ : BufTy).Contents (Elt F)),
    StableHlo.binary main_v168 main_v172 main_v173 (mulf : (⟨S1x128x8x128x128, .f32⟩ : BufTy).Contents (Elt F) → (⟨S1x128x8x128x128, .f32⟩ : BufTy).Contents (Elt F) → (⟨S1x128x8x128x128, .f32⟩ : BufTy).Contents (Elt F)),
    StableHlo.binary main_v173 main_v78 main_v174 ((fun l r => Host.dotGeneral dot_S1x128x8x128x128_S1x128x128x8x128_S1x128x8x128x128_3_2_4_4_012_013 none l r) : (⟨S1x128x8x128x128, .f32⟩ : BufTy).Contents (Elt F) → (⟨S1x128x128x8x128, .f32⟩ : BufTy).Contents (Elt F) → (⟨S1x128x8x128x128, .f32⟩ : BufTy).Contents (Elt F)),
    StableHlo.unary main_v174 main_v175 ((transpose S1x128x128x8x128 [0, 1, 3, 2, 4] · transposes_S1x128x8x128x128_S1x128x128x8x128_0_1_3_2_4) : (⟨S1x128x8x128x128, .f32⟩ : BufTy).Contents (Elt F) → (⟨S1x128x128x8x128, .f32⟩ : BufTy).Contents (Elt F)),
    StableHlo.binary main_v166 main_v175 main_v176 (addf : (⟨S1x128x128x8x128, .f32⟩ : BufTy).Contents (Elt F) → (⟨S1x128x128x8x128, .f32⟩ : BufTy).Contents (Elt F) → (⟨S1x128x128x8x128, .f32⟩ : BufTy).Contents (Elt F)),
    StableHlo.binary main_v173 main_v79 main_v177 ((fun l r => Host.dotGeneral dot_S1x128x8x128x128_S1x128x128x8x128_S1x128x8x128x128_4_2_3_4_012_013 none l r) : (⟨S1x128x8x128x128, .f32⟩ : BufTy).Contents (Elt F) → (⟨S1x128x128x8x128, .f32⟩ : BufTy).Contents (Elt F) → (⟨S1x128x8x128x128, .f32⟩ : BufTy).Contents (Elt F)),
    StableHlo.unary main_v177 main_v178 ((transpose S1x128x128x8x128 [0, 1, 3, 2, 4] · transposes_S1x128x8x128x128_S1x128x128x8x128_0_1_3_2_4) : (⟨S1x128x8x128x128, .f32⟩ : BufTy).Contents (Elt F) → (⟨S1x128x128x8x128, .f32⟩ : BufTy).Contents (Elt F)),
    StableHlo.binary main_v155 main_v178 main_v179 (addf : (⟨S1x128x128x8x128, .f32⟩ : BufTy).Contents (Elt F) → (⟨S1x128x128x8x128, .f32⟩ : BufTy).Contents (Elt F) → (⟨S1x128x128x8x128, .f32⟩ : BufTy).Contents (Elt F)) ]

/-- The turn back through the rotation. -/
abbrev q1 : List (HloOp τ sig (Elt F)) :=
  [ StableHlo.reshape main_v171 main_v180 (rfl : (.f32 : EltTy) = .f32) shapeCasts_S1x128x128x8x256_S1x16384x8x256,
    StableHlo.reshape main_v176 main_v181 (rfl : (.f32 : EltTy) = .f32) shapeCasts_S1x128x128x8x128_S1x16384x8x128,
    StableHlo.reshape main_v179 main_v182 (rfl : (.f32 : EltTy) = .f32) shapeCasts_S1x128x128x8x128_S1x16384x8x128,
    StableHlo.reshape main_v180 main_v183 (rfl : (.f32 : EltTy) = .f32) shapeCasts_S1x16384x8x256_S1x16384x2048,
    StableHlo.nullary main_cst_19 (constant S_ .f32 0x3DB504F3#32),
    StableHlo.unary main_cst_19 main_v184 (broadcastInDim S1x16384x8x128 ![] bcast_S_S1x16384x8x128 : (⟨S_, .f32⟩ : BufTy).Contents (Elt F) → (⟨S1x16384x8x128, .f32⟩ : BufTy).Contents (Elt F)),
    StableHlo.binary main_v181 main_v184 main_v185 (mulf : (⟨S1x16384x8x128, .f32⟩ : BufTy).Contents (Elt F) → (⟨S1x16384x8x128, .f32⟩ : BufTy).Contents (Elt F) → (⟨S1x16384x8x128, .f32⟩ : BufTy).Contents (Elt F)),
    StableHlo.unary main_v185 main_v186 ((extractStridedSlice S1x16384x8x64 ![0, 0, 0, 0] · slices_S1x16384x8x128_S1x16384x8x64_0_0_0_0) : (⟨S1x16384x8x128, .f32⟩ : BufTy).Contents (Elt F) → (⟨S1x16384x8x64, .f32⟩ : BufTy).Contents (Elt F)),
    StableHlo.unary main_v185 main_v187 ((extractStridedSlice S1x16384x8x64 ![0, 0, 0, 64] · slices_S1x16384x8x128_S1x16384x8x64_0_0_0_64) : (⟨S1x16384x8x128, .f32⟩ : BufTy).Contents (Elt F) → (⟨S1x16384x8x64, .f32⟩ : BufTy).Contents (Elt F)),
    StableHlo.unary main_v53 main_v188 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)),
    StableHlo.binary main_v187 main_v188 main_v189 (mulf : (⟨S1x16384x8x64, .f32⟩ : BufTy).Contents (Elt F) → (⟨S1x16384x8x64, .f32⟩ : BufTy).Contents (Elt F) → (⟨S1x16384x8x64, .f32⟩ : BufTy).Contents (Elt F)),
    StableHlo.unary main_v51 main_v190 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)),
    StableHlo.binary main_v187 main_v190 main_v191 (mulf : (⟨S1x16384x8x64, .f32⟩ : BufTy).Contents (Elt F) → (⟨S1x16384x8x64, .f32⟩ : BufTy).Contents (Elt F) → (⟨S1x16384x8x64, .f32⟩ : BufTy).Contents (Elt F)),
    StableHlo.unary main_v186 main_v192 (Host.negf : (⟨S1x16384x8x64, .f32⟩ : BufTy).Contents (Elt F) → (⟨S1x16384x8x64, .f32⟩ : BufTy).Contents (Elt F)),
    StableHlo.unary main_v53 main_v193 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)),
    StableHlo.binary main_v192 main_v193 main_v194 (mulf : (⟨S1x16384x8x64, .f32⟩ : BufTy).Contents (Elt F) → (⟨S1x16384x8x64, .f32⟩ : BufTy).Contents (Elt F) → (⟨S1x16384x8x64, .f32⟩ : BufTy).Contents (Elt F)),
    StableHlo.binary main_v191 main_v194 main_v195 (addf : (⟨S1x16384x8x64, .f32⟩ : BufTy).Contents (Elt F) → (⟨S1x16384x8x64, .f32⟩ : BufTy).Contents (Elt F) → (⟨S1x16384x8x64, .f32⟩ : BufTy).Contents (Elt F)),
    StableHlo.unary main_v51 main_v196 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)),
    StableHlo.binary main_v186 main_v196 main_v197 (mulf : (⟨S1x16384x8x64, .f32⟩ : BufTy).Contents (Elt F) → (⟨S1x16384x8x64, .f32⟩ : BufTy).Contents (Elt F) → (⟨S1x16384x8x64, .f32⟩ : BufTy).Contents (Elt F)),
    StableHlo.binary main_v189 main_v197 main_v198 (addf : (⟨S1x16384x8x64, .f32⟩ : BufTy).Contents (Elt F) → (⟨S1x16384x8x64, .f32⟩ : BufTy).Contents (Elt F) → (⟨S1x16384x8x64, .f32⟩ : BufTy).Contents (Elt F)),
    StableHlo.nullary main_cst_20 (constant S_ .f32 0x00000000#32),
    StableHlo.binary main_v195 main_cst_20 main_v199 ((fun x v => pad S1x16384x8x128 ![0, 0, 0, 64] ![0, 0, 0, 0] ![0, 0, 0, 0] x v pads_S1x16384x8x64_S1x16384x8x128_000_000_000_6400 h_S_) : (⟨S1x16384x8x64, .f32⟩ : BufTy).Contents (Elt F) → (⟨S_, .f32⟩ : BufTy).Contents (Elt F) → (⟨S1x16384x8x128, .f32⟩ : BufTy).Contents (Elt F)),
    StableHlo.nullary main_cst_21 (constant S_ .f32 0x00000000#32),
    StableHlo.binary main_v198 main_cst_21 main_v200 ((fun x v => pad S1x16384x8x128 ![0, 0, 0, 0] ![0, 0, 0, 64] ![0, 0, 0, 0] x v pads_S1x16384x8x64_S1x16384x8x128_000_000_000_0640 h_S_) : (⟨S1x16384x8x64, .f32⟩ : BufTy).Contents (Elt F) → (⟨S_, .f32⟩ : BufTy).Contents (Elt F) → (⟨S1x16384x8x128, .f32⟩ : BufTy).Contents (Elt F)),
    StableHlo.binary main_v199 main_v200 main_v201 (addf : (⟨S1x16384x8x128, .f32⟩ : BufTy).Contents (Elt F) → (⟨S1x16384x8x128, .f32⟩ : BufTy).Contents (Elt F) → (⟨S1x16384x8x128, .f32⟩ : BufTy).Contents (Elt F)),
    StableHlo.reshape main_v201 main_v202 (rfl : (.f32 : EltTy) = .f32) shapeCasts_S1x16384x8x128_S1x16384x1024,
    StableHlo.unary main_v182 main_v203 ((extractStridedSlice S1x16384x8x64 ![0, 0, 0, 0] · slices_S1x16384x8x128_S1x16384x8x64_0_0_0_0) : (⟨S1x16384x8x128, .f32⟩ : BufTy).Contents (Elt F) → (⟨S1x16384x8x64, .f32⟩ : BufTy).Contents (Elt F)),
    StableHlo.unary main_v182 main_v204 ((extractStridedSlice S1x16384x8x64 ![0, 0, 0, 64] · slices_S1x16384x8x128_S1x16384x8x64_0_0_0_64) : (⟨S1x16384x8x128, .f32⟩ : BufTy).Contents (Elt F) → (⟨S1x16384x8x64, .f32⟩ : BufTy).Contents (Elt F)),
    StableHlo.unary main_v23 main_v205 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)),
    StableHlo.binary main_v204 main_v205 main_v206 (mulf : (⟨S1x16384x8x64, .f32⟩ : BufTy).Contents (Elt F) → (⟨S1x16384x8x64, .f32⟩ : BufTy).Contents (Elt F) → (⟨S1x16384x8x64, .f32⟩ : BufTy).Contents (Elt F)),
    StableHlo.unary main_v21 main_v207 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)),
    StableHlo.binary main_v204 main_v207 main_v208 (mulf : (⟨S1x16384x8x64, .f32⟩ : BufTy).Contents (Elt F) → (⟨S1x16384x8x64, .f32⟩ : BufTy).Contents (Elt F) → (⟨S1x16384x8x64, .f32⟩ : BufTy).Contents (Elt F)),
    StableHlo.unary main_v203 main_v209 (Host.negf : (⟨S1x16384x8x64, .f32⟩ : BufTy).Contents (Elt F) → (⟨S1x16384x8x64, .f32⟩ : BufTy).Contents (Elt F)),
    StableHlo.unary main_v23 main_v210 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)),
    StableHlo.binary main_v209 main_v210 main_v211 (mulf : (⟨S1x16384x8x64, .f32⟩ : BufTy).Contents (Elt F) → (⟨S1x16384x8x64, .f32⟩ : BufTy).Contents (Elt F) → (⟨S1x16384x8x64, .f32⟩ : BufTy).Contents (Elt F)),
    StableHlo.binary main_v208 main_v211 main_v212 (addf : (⟨S1x16384x8x64, .f32⟩ : BufTy).Contents (Elt F) → (⟨S1x16384x8x64, .f32⟩ : BufTy).Contents (Elt F) → (⟨S1x16384x8x64, .f32⟩ : BufTy).Contents (Elt F)),
    StableHlo.unary main_v21 main_v213 (broadcastInDim S1x16384x8x64 ![0, 1, 2, 3] bcast_S1x16384x1x64_S1x16384x8x64_0_1_2_3 : (⟨S1x16384x1x64, .f32⟩ : BufTy).Contents (Elt F) → (⟨S1x16384x8x64, .f32⟩ : BufTy).Contents (Elt F)),
    StableHlo.binary main_v203 main_v213 main_v214 (mulf : (⟨S1x16384x8x64, .f32⟩ : BufTy).Contents (Elt F) → (⟨S1x16384x8x64, .f32⟩ : BufTy).Contents (Elt F) → (⟨S1x16384x8x64, .f32⟩ : BufTy).Contents (Elt F)),
    StableHlo.binary main_v206 main_v214 main_v215 (addf : (⟨S1x16384x8x64, .f32⟩ : BufTy).Contents (Elt F) → (⟨S1x16384x8x64, .f32⟩ : BufTy).Contents (Elt F) → (⟨S1x16384x8x64, .f32⟩ : BufTy).Contents (Elt F)),
    StableHlo.nullary main_cst_22 (constant S_ .f32 0x00000000#32),
    StableHlo.binary main_v212 main_cst_22 main_v216 ((fun x v => pad S1x16384x8x128 ![0, 0, 0, 64] ![0, 0, 0, 0] ![0, 0, 0, 0] x v pads_S1x16384x8x64_S1x16384x8x128_000_000_000_6400 h_S_) : (⟨S1x16384x8x64, .f32⟩ : BufTy).Contents (Elt F) → (⟨S_, .f32⟩ : BufTy).Contents (Elt F) → (⟨S1x16384x8x128, .f32⟩ : BufTy).Contents (Elt F)),
    StableHlo.nullary main_cst_23 (constant S_ .f32 0x00000000#32),
    StableHlo.binary main_v215 main_cst_23 main_v217 ((fun x v => pad S1x16384x8x128 ![0, 0, 0, 0] ![0, 0, 0, 64] ![0, 0, 0, 0] x v pads_S1x16384x8x64_S1x16384x8x128_000_000_000_0640 h_S_) : (⟨S1x16384x8x64, .f32⟩ : BufTy).Contents (Elt F) → (⟨S_, .f32⟩ : BufTy).Contents (Elt F) → (⟨S1x16384x8x128, .f32⟩ : BufTy).Contents (Elt F)),
    StableHlo.binary main_v216 main_v217 main_v218 (addf : (⟨S1x16384x8x128, .f32⟩ : BufTy).Contents (Elt F) → (⟨S1x16384x8x128, .f32⟩ : BufTy).Contents (Elt F) → (⟨S1x16384x8x128, .f32⟩ : BufTy).Contents (Elt F)),
    StableHlo.reshape main_v218 main_v219 (rfl : (.f32 : EltTy) = .f32) shapeCasts_S1x16384x8x128_S1x16384x1024 ]

/-- The results. -/
abbrev q2 : List (HloOp τ sig (Elt F)) :=
  [ StableHlo.reshape main_v143 main_v220 (rfl : (.f32 : EltTy) = .f32) shapeCasts_S1x16384x2048_S16384x2048,
    StableHlo.reshape main_v219 main_v221 (rfl : (.f32 : EltTy) = .f32) shapeCasts_S1x16384x1024_S16384x1024,
    StableHlo.unary main_v221 main_v222 ((truncf .bf16 · bitsLt_bf16_f32) : (⟨S16384x1024, .f32⟩ : BufTy).Contents (Elt F) → (⟨S16384x1024, .bf16⟩ : BufTy).Contents (Elt F)),
    StableHlo.reshape main_v202 main_v223 (rfl : (.f32 : EltTy) = .f32) shapeCasts_S1x16384x1024_S16384x1024,
    StableHlo.unary main_v223 main_v224 ((truncf .bf16 · bitsLt_bf16_f32) : (⟨S16384x1024, .f32⟩ : BufTy).Contents (Elt F) → (⟨S16384x1024, .bf16⟩ : BufTy).Contents (Elt F)),
    StableHlo.reshape main_v183 main_v225 (rfl : (.f32 : EltTy) = .f32) shapeCasts_S1x16384x2048_S16384x2048,
    StableHlo.unary main_v225 main_v226 ((truncf .bf16 · bitsLt_bf16_f32) : (⟨S16384x2048, .f32⟩ : BufTy).Contents (Elt F) → (⟨S16384x2048, .bf16⟩ : BufTy).Contents (Elt F)),
    StableHlo.unary main_arg4 main_v227 ((extractStridedSlice S16384x6144 ![0, 4096] · slices_S16384x10240_S16384x6144_0_4096) : (⟨S16384x10240, .bf16⟩ : BufTy).Contents (Elt F) → (⟨S16384x6144, .bf16⟩ : BufTy).Contents (Elt F)),
    StableHlo.nary ![main_v222, main_v224, main_v226, main_v227] main_v228 (fun u => (concatenate S16384x10240 1 [⟨S16384x1024, (u 0 : (⟨S16384x1024, .bf16⟩ : BufTy).Contents (Elt F))⟩, ⟨S16384x1024, (u 1 : (⟨S16384x1024, .bf16⟩ : BufTy).Contents (Elt F))⟩, ⟨S16384x2048, (u 2 : (⟨S16384x2048, .bf16⟩ : BufTy).Contents (Elt F))⟩, ⟨S16384x6144, (u 3 : (⟨S16384x6144, .bf16⟩ : BufTy).Contents (Elt F))⟩] concatenates_S16384x1024_S16384x1024_S16384x2048_S16384x6144_S16384x10240_d1 : (⟨S16384x10240, .bf16⟩ : BufTy).Contents (Elt F))) ]

/-- The buffers the first part writes. -/
abbrev q0_W : List (Ref sig .tc) := [main_v160, main_v161, main_v162, main_v163, main_v164, main_v165, main_v166, main_v167, main_v168, main_v169, main_v170, main_v171, main_v172, main_v173, main_v174, main_v175, main_v176, main_v177, main_v178, main_v179]
/-- What each of these operations writes. -/
theorem q0_writes : (q0 : List (HloOp τ sig (Elt F))).map HloOp.writes = q0_W.map fun r => {Proc.devRef .tc r} := rfl
/-- The buffers the second part writes. -/
abbrev q1_W : List (Ref sig .tc) := [main_v180, main_v181, main_v182, main_v183, main_cst_19, main_v184, main_v185, main_v186, main_v187, main_v188, main_v189, main_v190, main_v191, main_v192, main_v193, main_v194, main_v195, main_v196, main_v197, main_v198, main_cst_20, main_v199, main_cst_21, main_v200, main_v201, main_v202, main_v203, main_v204, main_v205, main_v206, main_v207, main_v208, main_v209, main_v210, main_v211, main_v212, main_v213, main_v214, main_v215, main_cst_22, main_v216, main_cst_23, main_v217, main_v218, main_v219]
/-- What each of these operations writes. -/
theorem q1_writes : (q1 : List (HloOp τ sig (Elt F))).map HloOp.writes = q1_W.map fun r => {Proc.devRef .tc r} := rfl
/-- A part leaves what it does not write. -/
theorem q0_keep (V : Valuation τ sig (Elt F)) {r : Ref sig .tc} (h : r ∉ q0_W) : after q0 V r = V r :=
  StableHlo.after_of_writes_sub q0 V (forall_writes_sub_of_map q0_writes) h
/-- A buffer these operations do not write keeps its contents. -/
theorem q1_keep (V : Valuation τ sig (Elt F)) {r : Ref sig .tc} (h : r ∉ q1_W) : after q1 V r = V r :=
  StableHlo.after_of_writes_sub q1 V (forall_writes_sub_of_map q1_writes) h

/-- The three parts are all the operations after the second loop. -/
theorem seg2_split (V : Valuation τ sig (Elt F)) : afterL seg2 V = after q2 (after q1 (after q0 V)) := rfl
end

/-! ## The turn back and the results, from the gradients -/

variable (W : Valuation τ sig (Elt Ideal))

/-- A query gradient turned back, in the first half of a head. -/
theorem turn_q_lo (n i : Fin 128) (h : Fin 8) (d : Fin 128) (hd : d.val < 64) :
    after q1 W main_v218 (ix4 0 (row n.val i) h d)
      = real (W main_v179 (ix5 0 n i h d)) * real (W main_v21 (ix4 0 (row n.val i) 0 ⟨d.val % 64, by omega⟩))
        + real (W main_v179 (ix5 0 n i h ⟨(d.val + 64) % 128, by omega⟩)) * real (W main_v23 (ix4 0 (row n.val i) 0 ⟨d.val % 64, by omega⟩)) := by
  have e : d.val % 64 = d.val := by omega
  have hk : ¬ 64 ≤ d.val := by omega
  have e3 : 64 + d.val = (d.val + 64) % 128 := by omega
  have hr : (128 * n.val + i.val) % 16384 < 16384 := by omega
  have e1 : (128 * n.val + i.val) % 16384 / 128 = n.val := by omega
  have e2 : (128 * n.val + i.val) % 16384 % 128 = i.val := by omega
  unfold row
  after_results
  simp only [real]
  pointwise [hd]
  simp only [e]
  simp only [hr, hk, e1, e2, e3, true_and, and_true, and_self, false_and, and_false, dite_true, dite_false, if_true, if_false, Fin.eta, zero_add, add_zero, neg_mul, mul_neg]
  exact add_comm (G := EReal) _ _

/-- A query gradient turned back, in the second half of a head. -/
theorem turn_q_hi (n i : Fin 128) (h : Fin 8) (d : Fin 128) (hd : ¬ d.val < 64) :
    after q1 W main_v218 (ix4 0 (row n.val i) h d)
      = real (W main_v179 (ix5 0 n i h d)) * real (W main_v21 (ix4 0 (row n.val i) 0 ⟨d.val % 64, by omega⟩))
        + real (W main_v179 (ix5 0 n i h ⟨(d.val + 64) % 128, by omega⟩)) * -real (W main_v23 (ix4 0 (row n.val i) 0 ⟨d.val % 64, by omega⟩)) := by
  have e : d.val % 64 = d.val - 64 := by omega
  have hk : 64 ≤ d.val := by omega
  have hk' : d.val - 64 < 64 := by omega
  have e3 : 64 + (d.val - 64) = d.val := by omega
  have e4 : d.val - 64 = (d.val + 64) % 128 := by omega
  have hr : (128 * n.val + i.val) % 16384 < 16384 := by omega
  have e1 : (128 * n.val + i.val) % 16384 / 128 = n.val := by omega
  have e2 : (128 * n.val + i.val) % 16384 % 128 = i.val := by omega
  unfold row
  after_results
  simp only [real]
  pointwise [hd]
  simp only [e]
  simp only [hr, hk, e1, e2, e3, hk', true_and, and_true, and_self, false_and, and_false, dite_true, dite_false, if_true, if_false, Fin.eta, zero_add, add_zero, neg_mul, mul_neg]
  simp only [e4]

/-- A key gradient turned back, in the first half of a head. -/
theorem turn_k_lo (n i : Fin 128) (h : Fin 8) (d : Fin 128) (hd : d.val < 64) :
    after q1 W main_v201 (ix4 0 (row n.val i) h d)
      = real (W main_v176 (ix5 0 n i h d)) * scale * real (W main_v51 (ix4 0 (row n.val i) 0 ⟨d.val % 64, by omega⟩))
        + real (W main_v176 (ix5 0 n i h ⟨(d.val + 64) % 128, by omega⟩)) * scale * real (W main_v53 (ix4 0 (row n.val i) 0 ⟨d.val % 64, by omega⟩)) := by
  have e : d.val % 64 = d.val := by omega
  have hk : ¬ 64 ≤ d.val := by omega
  have e3 : 64 + d.val = (d.val + 64) % 128 := by omega
  have hr : (128 * n.val + i.val) % 16384 < 16384 := by omega
  have e1 : (128 * n.val + i.val) % 16384 / 128 = n.val := by omega
  have e2 : (128 * n.val + i.val) % 16384 % 128 = i.val := by omega
  unfold row scale
  after_results
  simp only [real]
  pointwise [hd]
  simp only [e]
  simp only [hr, hk, e1, e2, e3, true_and, and_true, and_self, false_and, and_false, dite_true, dite_false, if_true, if_false, Fin.eta, zero_add, add_zero, neg_mul, mul_neg]
  exact add_comm (G := EReal) _ _

/-- A key gradient turned back, in the second half of a head. -/
theorem turn_k_hi (n i : Fin 128) (h : Fin 8) (d : Fin 128) (hd : ¬ d.val < 64) :
    after q1 W main_v201 (ix4 0 (row n.val i) h d)
      = real (W main_v176 (ix5 0 n i h d)) * scale * real (W main_v51 (ix4 0 (row n.val i) 0 ⟨d.val % 64, by omega⟩))
        + real (W main_v176 (ix5 0 n i h ⟨(d.val + 64) % 128, by omega⟩)) * scale * -real (W main_v53 (ix4 0 (row n.val i) 0 ⟨d.val % 64, by omega⟩)) := by
  have e : d.val % 64 = d.val - 64 := by omega
  have hk : 64 ≤ d.val := by omega
  have hk' : d.val - 64 < 64 := by omega
  have e3 : 64 + (d.val - 64) = d.val := by omega
  have e4 : d.val - 64 = (d.val + 64) % 128 := by omega
  have hr : (128 * n.val + i.val) % 16384 < 16384 := by omega
  have e1 : (128 * n.val + i.val) % 16384 / 128 = n.val := by omega
  have e2 : (128 * n.val + i.val) % 16384 % 128 = i.val := by omega
  unfold row scale
  after_results
  simp only [real]
  pointwise [hd]
  simp only [e]
  simp only [hr, hk, e1, e2, e3, hk', true_and, and_true, and_self, false_and, and_false, dite_true, dite_false, if_true, if_false, Fin.eta, zero_add, add_zero, neg_mul, mul_neg]
  simp only [e4]

/-- The result, row by row. -/
theorem out_ret (r : Fin 16384) (u : Fin 2048) : after q2 (after q1 W) main_v220 (ix2 r u)
    = W main_v143 (ix3 0 r u) := by
  after_results
  pointwise
  blk_ext []

/-- The result, row by row, in the chunks. -/
theorem out_ret' (r : Fin 16384) (u : Fin 2048) : after p2_2 W main_v143 (ix3 0 r u)
    = after p2_2 W main_v141 (ix5 0 ⟨r.val / 128, by omega⟩ ⟨r.val % 128, by omega⟩ ⟨u.val / 256, by omega⟩ ⟨u.val % 256, by omega⟩) := by
  have a : after p2_2 W main_v143 = shapeCast S1x16384x2048 (shapeCast S1x16384x8x256 (after p2_2 W main_v141) shapeCasts_S1x128x128x8x256_S1x16384x8x256) shapeCasts_S1x16384x8x256_S1x16384x2048 := by
    after_results
    rfl
  rw [a]
  generalize after p2_2 W main_v141 = X
  pointwise
  blk_ext []

/-- The gradients and the last argument's columns, side by side. -/
theorem out_cat : after q2 W main_v228 = concatenate S16384x10240 1 [⟨S16384x1024, (after q2 W main_v222 : FVec Ideal S16384x1024 .bf16)⟩,
    ⟨S16384x1024, (after q2 W main_v224 : FVec Ideal S16384x1024 .bf16)⟩, ⟨S16384x2048, (after q2 W main_v226 : FVec Ideal S16384x2048 .bf16)⟩,
    ⟨S16384x6144, (after q2 W main_v227 : FVec Ideal S16384x6144 .bf16)⟩] concatenates_S16384x1024_S16384x1024_S16384x2048_S16384x6144_S16384x10240_d1 := by
  rfl

/-- The first columns of the gradients: the queries. -/
theorem out_q (r : Fin 16384) (u : Fin 10240) (hu : u.val < 1024) : after q2 W main_v228 (ix2 r u) = W main_v219 (ix3 0 r ⟨u.val, hu⟩) := by
  have a : after q2 W main_v222 (ix2 r ⟨u.val, hu⟩) = W main_v219 (ix3 0 r ⟨u.val, hu⟩) := by
    after_results
    pointwise
  rw [← a, out_cat]
  generalize after q2 W main_v222 = X1
  generalize after q2 W main_v224 = X2
  generalize after q2 W main_v226 = X3
  generalize after q2 W main_v227 = X4
  pointwise [hu]

/-- The next columns: the keys. -/
theorem out_k (r : Fin 16384) (u : Fin 10240) (hu : ¬ u.val < 1024) (hu' : u.val - 1024 < 1024) :
    after q2 W main_v228 (ix2 r u) = W main_v202 (ix3 0 r ⟨u.val - 1024, hu'⟩) := by
  have a : after q2 W main_v224 (ix2 r ⟨u.val - 1024, hu'⟩) = W main_v202 (ix3 0 r ⟨u.val - 1024, hu'⟩) := by
    after_results
    pointwise
  rw [← a, out_cat]
  generalize after q2 W main_v222 = X1
  generalize after q2 W main_v224 = X2
  generalize after q2 W main_v226 = X3
  generalize after q2 W main_v227 = X4
  pointwise [hu, hu']

/-- The next columns: the values. -/
theorem out_v (r : Fin 16384) (u : Fin 10240) (hu : ¬ u.val < 2048) (hu' : u.val - 1024 - 1024 < 2048) :
    after q2 W main_v228 (ix2 r u) = W main_v183 (ix3 0 r ⟨u.val - 1024 - 1024, hu'⟩) := by
  have a : after q2 W main_v226 (ix2 r ⟨u.val - 1024 - 1024, hu'⟩) = W main_v183 (ix3 0 r ⟨u.val - 1024 - 1024, hu'⟩) := by
    after_results
    pointwise
  have h1 : ¬ u.val < 1024 := by omega
  have h2 : ¬ u.val - 1024 < 1024 := by omega
  rw [← a, out_cat]
  generalize after q2 W main_v222 = X1
  generalize after q2 W main_v224 = X2
  generalize after q2 W main_v226 = X3
  generalize after q2 W main_v227 = X4
  pointwise [h1, h2, hu']

/-- The other columns hold the last argument. -/
theorem out_rest (r : Fin 16384) (u : Fin 10240) (hu : ¬ u.val < 4096) : after q2 W main_v228 (ix2 r u) = W main_arg4 (ix2 r u) := by
  have a : after q2 W main_v227 (ix2 r ⟨u.val - 1024 - 1024 - 2048, by omega⟩) = W main_arg4 (ix2 r u) := by
    have e : 4096 + (u.val - 1024 - 1024 - 2048) = u.val := by omega
    after_results
    pointwise [e]
  have h1 : ¬ u.val < 1024 := by omega
  have h2 : ¬ u.val - 1024 < 1024 := by omega
  have h3 : ¬ u.val - 1024 - 1024 < 2048 := by omega
  rw [← a, out_cat]
  generalize after q2 W main_v222 = X1
  generalize after q2 W main_v224 = X2
  generalize after q2 W main_v226 = X3
  generalize after q2 W main_v227 = X4
  pointwise [h1, h2, h3]

/-- The turned query gradients, in one row. -/
theorem flat_q (n i : Fin 128) (u : Fin 1024) : after q1 W main_v219 (ix3 0 (row n.val i) u)
    = after q1 W main_v218 (ix4 0 (row n.val i) ⟨u.val / 128, by omega⟩ ⟨u.val % 128, by omega⟩) := by
  have a : after q1 W main_v219 = shapeCast S1x16384x1024 (after q1 W main_v218) shapeCasts_S1x16384x8x128_S1x16384x1024 := by
    after_results
    rfl
  rw [a]
  generalize after q1 W main_v218 = X
  pointwise
  blk_ext []

/-- The turned key gradients, in one row. -/
theorem flat_k (n i : Fin 128) (u : Fin 1024) : after q1 W main_v202 (ix3 0 (row n.val i) u)
    = after q1 W main_v201 (ix4 0 (row n.val i) ⟨u.val / 128, by omega⟩ ⟨u.val % 128, by omega⟩) := by
  have a : after q1 W main_v202 = shapeCast S1x16384x1024 (after q1 W main_v201) shapeCasts_S1x16384x8x128_S1x16384x1024 := by
    after_results
    rfl
  rw [a]
  generalize after q1 W main_v201 = X
  pointwise
  blk_ext []

/-- The value gradients, in one row. -/
theorem flat_v (n i : Fin 128) (u : Fin 2048) : after q1 W main_v183 (ix3 0 (row n.val i) u)
    = W main_v171 (ix5 0 n i ⟨u.val / 256, by omega⟩ ⟨u.val % 256, by omega⟩) := by
  unfold row
  after_results
  pointwise
  blk_ext []

end Cert.ReferenceIdeal.Run
-- ==== Proof.RefGrad.lean ====
module

public import proofs.«01_k».proof.Proof.RefTail

@[expose] public section

set_option maxRecDepth 16384

noncomputable section
open Idealize.ShloMosaic Idealize.ShloMosaic.TcCoe Idealize.SL.Sem Idealize.ShloMosaic.StableHlo
open Cert.ReferenceIdeal Cert.ReferenceIdeal.Ops
open Cert.KernelIdeal.Ret (Arrays arraysOf ang lg num row rot scale)

/-! The reference's gradients of the rotated queries, the rotated keys and the values, entry by entry. -/

namespace Cert.ReferenceIdeal.Run

variable (m : (ℓ : Loc nD τ sig) → Buf (Elt Ideal) ℓ)

/-- What nothing between the first loop and the end of the second writes. -/
theorem E4_E1 (c : Dev nD) {r : Ref sig .tc} (h0 : r ∉ loop0_W) (h1 : r ∉ seg1_W) (h2 : r ∉ loop1_W) : E4 m c r = E1 m c r :=
  (E4_keep m h2 c).trans (E3_E1 m c h0 h1)

/-- The decay inside a chunk, spread over the chunks. -/
theorem E1_v100 (c : Dev nD) (h : Fin 8) (i j : Fin 128) : E1 m c main_v100 (ix5 0 0 h i j) = (arrays m c).dc (ix3 h i j) := by
  rw [← E1_v98, E1_X0 m c (r := main_v98) (by decide) (by decide), E1_X1 m c (r := main_v100) (by decide)]
  generalize X0 m c = W
  after_results
  pointwise

/-- The gradient of the scores. -/
theorem Y_v173 (c : Dev nD) (n i j : Fin 128) (h : Fin 8) : after q0 (E4 m c) main_v173 (ix5 0 n h i j) = KernelIdeal.Ret.ds (arrays m c) n.val h i j := by
  unfold KernelIdeal.Ret.ds
  simp only [← E1_v100, ← E1_v80, ← E3_v148]
  rw [← E4_keep m (r := main_v148) (by decide) c, ← E4_E1 m c (r := main_v80) (by decide) (by decide) (by decide),
    ← E4_E1 m c (r := main_v100) (by decide) (by decide) (by decide)]
  generalize E4 m c = W
  after_results
  pointwise

/-- The gradient of the values. -/
theorem Y_v171 (c : Dev nD) (n j : Fin 128) (h : Fin 8) (e : Fin 256) : after q0 (E4 m c) main_v171 (ix5 0 n j h e) = KernelIdeal.Ret.dv (arrays m c) n.val h j e := by
  unfold KernelIdeal.Ret.dv
  simp only [← E1_v102, ← E1_v116, ← E4_stack, ← E3_v148]
  rw [← E4_keep m (r := main_v148) (by decide) c, ← E4_E1 m c (r := main_v102) (by decide) (by decide) (by decide),
    ← E4_E1 m c (r := main_v116) (by decide) (by decide) (by decide)]
  generalize E4 m c = W
  after_results
  pointwise
  refine (add_comm (G := EReal) _ _).trans (congrArg₂ (fun x y : EReal => x + y) ?_ ?_)
  · exact Finset.sum_congr (M := EReal) rfl fun j _ => mul_comm (G := EReal) _ _
  · exact Finset.sum_congr (M := EReal) rfl fun j _ => mul_comm (G := EReal) _ _

/-- The gradient of the rotated keys. -/
theorem Y_v176 (c : Dev nD) (n j : Fin 128) (h : Fin 8) (d : Fin 128) :
    real (after q0 (E4 m c) main_v176 (ix5 0 n j h d)) * scale = KernelIdeal.Ret.dk (arrays m c) n.val h j d := by
  unfold KernelIdeal.Ret.dk
  refine congrArg (fun x : EReal => x * scale) ?_
  simp only [← Y_v173, ← E1_v78, ← E1_v80, ← E4_stack, ← E1_v114 m c h j d]
  rw [← E4_E1 m c (r := main_v78) (by decide) (by decide) (by decide), ← E4_E1 m c (r := main_v80) (by decide) (by decide) (by decide),
    ← E4_E1 m c (r := main_v114) (by decide) (by decide) (by decide)]
  generalize E4 m c = W
  after_results
  simp only [real]
  pointwise
  refine (add_comm (G := EReal) _ _).trans (congrArg₂ (fun x y : EReal => x + y) rfl (congrArg (fun x : EReal => x * _) ?_))
  exact Finset.sum_congr (M := EReal) rfl fun j _ => mul_comm (G := EReal) _ _

/-- The gradient of the rotated queries. -/
theorem Y_v179 (c : Dev nD) (n i : Fin 128) (h : Fin 8) (d : Fin 128) :
    after q0 (E4 m c) main_v179 (ix5 0 n i h d) = KernelIdeal.Ret.dq (arrays m c) n.val h i d := by
  unfold KernelIdeal.Ret.dq
  have a := E3_v155 m c n i h d
  rw [← a]
  simp only [← Y_v173, ← E1_v79]
  rw [← E4_keep m (r := main_v155) (by decide) c, ← E4_E1 m c (r := main_v79) (by decide) (by decide) (by decide)]
  generalize E4 m c = W
  after_results
  pointwise
  exact add_comm (G := EReal) _ _

end Cert.ReferenceIdeal.Run
-- ==== Proof.RefEnd.lean ====
module

public import proofs.«01_k».proof.Proof.RefGrad

@[expose] public section

set_option maxRecDepth 16384

noncomputable section
open Idealize.ShloMosaic Idealize.ShloMosaic.TcCoe Idealize.SL.Sem Idealize.ShloMosaic.StableHlo
open Cert.ReferenceIdeal Cert.ReferenceIdeal.Ops
open Cert.KernelIdeal.Ret (Arrays arraysOf ang lg num row rot scale)

/-! The reference's two results, in closed form of its arguments. -/

namespace Cert.ReferenceIdeal.Run

variable (m : (ℓ : Loc nD τ sig) → Buf (Elt Ideal) ℓ)

/-- The contents at the end, from those after the second loop. -/
theorem E5_eq (c : Dev nD) : E5 m c = after q2 (after q1 (after q0 (E4 m c))) := by
  unfold E5
  exact seg2_split (E4 m c)

/-- The reference's first result. -/
theorem E5_ret (c : Dev nD) (r : Fin 16384) (u : Fin 2048) : E5 m c main_v220 (ix2 r u)
    = KernelIdeal.Ret.ret (arrays m c) (r.val / 128) ⟨r.val % 128, by omega⟩ ⟨u.val / 256, by omega⟩ ⟨u.val % 256, by omega⟩ := by
  rw [E5_eq, out_ret, q0_keep _ (r := main_v143) (by decide), E4_keep m (r := main_v143) (by decide) c, E3_X m c (r := main_v143) (by decide), out_ret',
    ← E3_X m c (r := main_v141) (by decide)]
  exact E3_v143 m c ⟨r.val / 128, by omega⟩ ⟨r.val % 128, by omega⟩ ⟨u.val / 256, by omega⟩ ⟨u.val % 256, by omega⟩

/-- The cosines by which the queries are turned back. -/
theorem Y_v21 (c : Dev nD) (r : Fin 16384) (d : Fin 128) :
    after q0 (E4 m c) main_v21 (ix4 0 r 0 ⟨d.val % 64, by omega⟩) = (arrays m c).C (ix2 r d) := by
  rw [q0_keep _ (r := main_v21) (by decide), E4_E1 m c (r := main_v21) (by decide) (by decide) (by decide), E1_v21]
  rfl
/-- The cosines by which the keys are turned back. -/
theorem Y_v51 (c : Dev nD) (r : Fin 16384) (d : Fin 128) :
    after q0 (E4 m c) main_v51 (ix4 0 r 0 ⟨d.val % 64, by omega⟩) = (arrays m c).C (ix2 r d) := by
  rw [q0_keep _ (r := main_v51) (by decide), E4_E1 m c (r := main_v51) (by decide) (by decide) (by decide), E1_v51]
  rfl
/-- The sines of the queries, first half of a head. -/
theorem Y_v23_lo (c : Dev nD) (r : Fin 16384) (d : Fin 128) (hd : d.val < 64) :
    after q0 (E4 m c) main_v23 (ix4 0 r 0 ⟨d.val % 64, by omega⟩) = (arrays m c).N (ix2 r ⟨(d.val + 64) % 128, by omega⟩) := by
  rw [q0_keep _ (r := main_v23) (by decide), E4_E1 m c (r := main_v23) (by decide) (by decide) (by decide), E1_v23]
  have h : ¬ (d.val + 64) % 128 < 64 := by omega
  have e : (d.val + 64) % 128 % 64 = d.val % 64 := by omega
  refine Eq.trans ?_ (if_neg h).symm
  exact congrArg (fun x : Fin 64 => Ideal.sin (ang (E0 m c main_arg2) r x)) (Fin.ext e.symm)
/-- The sines of the keys, first half of a head. -/
theorem Y_v53_lo (c : Dev nD) (r : Fin 16384) (d : Fin 128) (hd : d.val < 64) :
    after q0 (E4 m c) main_v53 (ix4 0 r 0 ⟨d.val % 64, by omega⟩) = (arrays m c).N (ix2 r ⟨(d.val + 64) % 128, by omega⟩) := by
  rw [q0_keep _ (r := main_v53) (by decide), E4_E1 m c (r := main_v53) (by decide) (by decide) (by decide), E1_v53]
  have h : ¬ (d.val + 64) % 128 < 64 := by omega
  have e : (d.val + 64) % 128 % 64 = d.val % 64 := by omega
  refine Eq.trans ?_ (if_neg h).symm
  exact congrArg (fun x : Fin 64 => Ideal.sin (ang (E0 m c main_arg2) r x)) (Fin.ext e.symm)
/-- The sines of the queries, second half of a head. -/
theorem Y_v23_hi (c : Dev nD) (r : Fin 16384) (d : Fin 128) (hd : ¬ d.val < 64) :
    -real (after q0 (E4 m c) main_v23 (ix4 0 r 0 ⟨d.val % 64, by omega⟩)) = (arrays m c).N (ix2 r ⟨(d.val + 64) % 128, by omega⟩) := by
  rw [q0_keep _ (r := main_v23) (by decide), E4_E1 m c (r := main_v23) (by decide) (by decide) (by decide), E1_v23]
  have h : (d.val + 64) % 128 < 64 := by omega
  have e : (d.val + 64) % 128 % 64 = d.val % 64 := by omega
  refine Eq.trans ?_ (if_pos h).symm
  exact congrArg (fun x : Fin 64 => -Ideal.sin (ang (E0 m c main_arg2) r x)) (Fin.ext e.symm)
/-- The sines of the keys, second half of a head. -/
theorem Y_v53_hi (c : Dev nD) (r : Fin 16384) (d : Fin 128) (hd : ¬ d.val < 64) :
    -real (after q0 (E4 m c) main_v53 (ix4 0 r 0 ⟨d.val % 64, by omega⟩)) = (arrays m c).N (ix2 r ⟨(d.val + 64) % 128, by omega⟩) := by
  rw [q0_keep _ (r := main_v53) (by decide), E4_E1 m c (r := main_v53) (by decide) (by decide) (by decide), E1_v53]
  have h : (d.val + 64) % 128 < 64 := by omega
  have e : (d.val + 64) % 128 % 64 = d.val % 64 := by omega
  refine Eq.trans ?_ (if_pos h).symm
  exact congrArg (fun x : Fin 64 => -Ideal.sin (ang (E0 m c main_arg2) r x)) (Fin.ext e.symm)

/-- The query gradients turned back. -/
theorem back_q (c : Dev nD) (n i : Fin 128) (h : Fin 8) (d : Fin 128) : after q1 (after q0 (E4 m c)) main_v218 (ix4 0 (row n.val i) h d)
    = KernelIdeal.Ret.back (arrays m c) (KernelIdeal.Ret.dq (arrays m c) n.val h) n.val i d := by
  unfold KernelIdeal.Ret.back
  by_cases hd : d.val < 64
  · rw [turn_q_lo _ n i h d hd, Y_v179, Y_v179, Y_v21, Y_v23_lo m c _ d hd]
  · rw [turn_q_hi _ n i h d hd, Y_v179, Y_v179, Y_v21, Y_v23_hi m c _ d hd]

/-- The key gradients turned back. -/
theorem back_k (c : Dev nD) (n i : Fin 128) (h : Fin 8) (d : Fin 128) : after q1 (after q0 (E4 m c)) main_v201 (ix4 0 (row n.val i) h d)
    = KernelIdeal.Ret.back (arrays m c) (KernelIdeal.Ret.dk (arrays m c) n.val h) n.val i d := by
  unfold KernelIdeal.Ret.back
  by_cases hd : d.val < 64
  · rw [turn_k_lo _ n i h d hd, Y_v176, Y_v176, Y_v51, Y_v53_lo m c _ d hd]
  · rw [turn_k_hi _ n i h d hd, Y_v176, Y_v176, Y_v51, Y_v53_hi m c _ d hd]

/-- The query gradients at the end. -/
theorem E5_q (c : Dev nD) (n i : Fin 128) (u : ℕ) (h1 : u < 1024) (b0 : u < 10240) (b1 : u / 128 < 8) (b2 : u % 128 < 128) :
    E5 m c main_v228 (ix2 (row n.val i) ⟨u, b0⟩) = KernelIdeal.Ret.back (arrays m c) (KernelIdeal.Ret.dq (arrays m c) n.val ⟨u / 128, b1⟩) n.val i ⟨u % 128, b2⟩ := by
  have a := flat_q (after q0 (E4 m c)) n i ⟨u, h1⟩
  have b := back_q m c n i ⟨u / 128, b1⟩ ⟨u % 128, b2⟩
  have d := out_q (after q1 (after q0 (E4 m c))) (row n.val i) ⟨u, b0⟩ h1
  rw [E5_eq]
  exact d.trans (a.trans b)

/-- The key gradients at the end. -/
theorem E5_k (c : Dev nD) (n i : Fin 128) (u : ℕ) (h1 : ¬ u < 1024) (h3 : u - 1024 < 1024) (b0 : u < 10240) (b1 : u / 128 - 8 < 8) (b2 : u % 128 < 128)
    (e1 : (u - 1024) / 128 = u / 128 - 8) (e2 : (u - 1024) % 128 = u % 128) :
    E5 m c main_v228 (ix2 (row n.val i) ⟨u, b0⟩) = KernelIdeal.Ret.back (arrays m c) (KernelIdeal.Ret.dk (arrays m c) n.val ⟨u / 128 - 8, b1⟩) n.val i ⟨u % 128, b2⟩ := by
  have a := flat_k (after q0 (E4 m c)) n i ⟨u - 1024, h3⟩
  have b := back_k m c n i ⟨u / 128 - 8, b1⟩ ⟨u % 128, b2⟩
  have d := out_k (after q1 (after q0 (E4 m c))) (row n.val i) ⟨u, b0⟩ h1 h3
  simp only [e1, e2] at a
  rw [E5_eq]
  exact d.trans (a.trans b)

/-- The value gradients at the end. -/
theorem E5_v (c : Dev nD) (n i : Fin 128) (u : ℕ) (h2 : ¬ u < 2048) (h3 : u - 1024 - 1024 < 2048) (b0 : u < 10240) (b1 : u / 256 - 8 < 8)
    (b2 : u % 256 < 256) (e1 : (u - 1024 - 1024) / 256 = u / 256 - 8) (e2 : (u - 1024 - 1024) % 256 = u % 256) :
    E5 m c main_v228 (ix2 (row n.val i) ⟨u, b0⟩) = KernelIdeal.Ret.dv (arrays m c) n.val ⟨u / 256 - 8, b1⟩ i ⟨u % 256, b2⟩ := by
  have a := flat_v (after q0 (E4 m c)) n i ⟨u - 1024 - 1024, h3⟩
  have b := Y_v171 m c n i ⟨u / 256 - 8, b1⟩ ⟨u % 256, b2⟩
  have d := out_v (after q1 (after q0 (E4 m c))) (row n.val i) ⟨u, b0⟩ h2 h3
  simp only [e1, e2] at a
  rw [E5_eq]
  exact d.trans (a.trans b)

/-- The reference's gradients, chunk by chunk. -/
theorem E5_out (c : Dev nD) (n i : Fin 128) (u : ℕ) (hu : u < 4096) (b0 : u < 10240) : E5 m c main_v228 (ix2 (row n.val i) ⟨u, b0⟩)
    = KernelIdeal.Ret.out (arrays m c) n.val i ⟨u, hu⟩ := by
  by_cases h1 : u < 1024
  · have b1 : u / 128 < 8 := by omega
    have b2 : u % 128 < 128 := by omega
    refine (E5_q m c n i u h1 b0 b1 b2).trans ?_
    unfold KernelIdeal.Ret.out
    rw [dif_pos h1]
  · by_cases h2 : u < 2048
    · have h3 : u - 1024 < 1024 := by omega
      have e1 : (u - 1024) / 128 = u / 128 - 8 := by omega
      have e2 : (u - 1024) % 128 = u % 128 := by omega
      have b1 : u / 128 - 8 < 8 := by omega
      have b2 : u % 128 < 128 := by omega
      refine (E5_k m c n i u h1 h3 b0 b1 b2 e1 e2).trans ?_
      unfold KernelIdeal.Ret.out
      rw [dif_neg h1, dif_pos h2]
    · have h3 : u - 1024 - 1024 < 2048 := by omega
      have e1 : (u - 1024 - 1024) / 256 = u / 256 - 8 := by omega
      have e2 : (u - 1024 - 1024) % 256 = u % 256 := by omega
      have b1 : u / 256 - 8 < 8 := by omega
      have b2 : u % 256 < 256 := by omega
      refine (E5_v m c n i u h2 h3 b0 b1 b2 e1 e2).trans ?_
      unfold KernelIdeal.Ret.out
      rw [dif_neg h1, dif_neg h2]

/-- The reference's gradients, row by row. -/
theorem E5_grads (c : Dev nD) (r : Fin 16384) (u : Fin 10240) (hu : u.val < 4096) : E5 m c main_v228 (ix2 r u)
    = KernelIdeal.Ret.out (arrays m c) (r.val / 128) ⟨r.val % 128, by omega⟩ ⟨u.val, hu⟩ := by
  have e : row (r.val / 128) ⟨r.val % 128, by omega⟩ = r := Fin.ext (by show (128 * (r.val / 128) + r.val % 128) % 16384 = r.val; omega)
  have a := E5_out m c ⟨r.val / 128, by omega⟩ ⟨r.val % 128, by omega⟩ u.val hu u.isLt
  rw [e] at a
  exact a

/-- The other columns hold the last argument. -/
theorem E5_rest (c : Dev nD) (r : Fin 16384) (u : Fin 10240) (hu : ¬ u.val < 4096) : E5 m c main_v228 (ix2 r u) = E0 m c main_arg4 (ix2 r u) := by
  rw [E5_eq, out_rest _ r u hu, q1_keep _ (r := main_arg4) (by decide), q0_keep _ (r := main_arg4) (by decide),
    E4_E1 m c (r := main_arg4) (by decide) (by decide) (by decide)]
  exact congrFun (seg0_keep (E0 m c) (r := main_arg4) (by decide)) _

end Cert.ReferenceIdeal.Run
-- ==== Proof.Algebraic.lean ====
module

public import proofs.«01_k».proof.Defs
public import proofs.«01_k».proof.Proof.KerOut
public import proofs.«01_k».proof.Proof.RefEnd

@[expose] public section

set_option maxRecDepth 16384

noncomputable section

/-! The retention's kernel and its reference leave the same two results. -/

namespace Cert.Proof

open Idealize.ShloMosaic Idealize.ShloMosaic.TcCoe Idealize.SL.Sem

/-- The kernel's first result and the reference's, from memories agreeing on the arguments. -/
theorem same_ret (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hA : ReferenceIdeal.Run.arrays m' c = KernelIdeal.Run.input m c) :
    ReferenceIdeal.Run.E5 m' c ReferenceIdeal.main_v220 = (KernelIdeal.Fwd.dat (KernelIdeal.Run.mem3 m) c).arrAt 9 KernelIdeal.cfg0.N := by
  refine Eq.trans ?_ (KernelIdeal.Run.W6_r m c)
  funext y
  have e : y = ix2 (y 0) (y 1) := by funext a; fin_cases a <;> rfl
  rw [e]
  have a := ReferenceIdeal.Run.E5_ret m' c (y 0) (y 1)
  rw [hA] at a
  exact a.trans (KernelIdeal.Run.W6_ret m c (y 0) (y 1)).symm

/-- The kernel's second result and the reference's, from memories agreeing on the arguments. -/
theorem same_grads (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hA : ReferenceIdeal.Run.arrays m' c = KernelIdeal.Run.input m c)
    (h4 : m' ((c : Thread ReferenceIdeal.nD ReferenceIdeal.τ).loc ReferenceIdeal.main_arg4) = m ((c : Thread KernelIdeal.nD KernelIdeal.τ).loc KernelIdeal.main_arg4)) :
    ReferenceIdeal.Run.E5 m' c ReferenceIdeal.main_v228 = (KernelIdeal.Bwd.dat (KernelIdeal.Run.mem5 m) c).arrAt 11 KernelIdeal.cfg1.N := by
  refine Eq.trans ?_ (KernelIdeal.Run.W6_dproj m c)
  funext y
  have e : y = ix2 (y 0) (y 1) := by funext a; fin_cases a <;> rfl
  rw [e]
  by_cases hu : (y 1).val < 4096
  · have a := ReferenceIdeal.Run.E5_grads m' c (y 0) (y 1) hu
    rw [hA] at a
    exact a.trans (KernelIdeal.Run.W6_out m c (y 0) (y 1) hu).symm
  · exact (ReferenceIdeal.Run.E5_rest m' c (y 0) (y 1) hu).trans ((congrFun h4 _).trans (KernelIdeal.Run.W6_rest m c (y 0) (y 1) hu).symm)

/-- The kernel and the reference of the retention, over the extended reals and from memories agreeing on the arguments, both run and
    leave the same two results, the arguments unchanged. -/
theorem algebraic : Cert.algebraic_KernelIdeal_ReferenceIdeal := by
  intro m g m' g' _ hA
  have hin : ∀ c : Dev KernelIdeal.nD, ReferenceIdeal.Run.arrays m' c = KernelIdeal.Run.input m c := fun c => by
    obtain ⟨h0, h1, h2, h3, -⟩ := hA c
    unfold ReferenceIdeal.Run.arrays KernelIdeal.Run.input
    exact congr (congr (congr (congrArg KernelIdeal.Ret.arraysOf h0) h1) h2) h3
  refine ⟨fun c => (KernelIdeal.Fwd.dat (KernelIdeal.Run.mem3 m) c).arrAt 9 KernelIdeal.cfg0.N,
    fun c => (KernelIdeal.Bwd.dat (KernelIdeal.Run.mem5 m) c).arrAt 11 KernelIdeal.cfg1.N,
    (θ_run Cert.KernelIdeal.defs _ _).mono (fun r h c => ?_) (Cert.KernelIdeal.Run.run_main (F := Ideal) m g),
    (θ_run Cert.ReferenceIdeal.defs _ _).mono (fun r h c => ?_) (Cert.ReferenceIdeal.Run.run_main (F := Ideal) m' g')⟩
  · obtain ⟨a0, a1, a2, a3, a4, r0, r1⟩ := h.1 c
    exact ⟨r0, r1, a0, a1, a2, a3, a4⟩
  · exact ⟨(h.1 c ReferenceIdeal.main_v220 (by decide)).trans (same_ret m m' c (hin c)),
      (h.1 c ReferenceIdeal.main_v228 (by decide)).trans (same_grads m m' c (hin c) (hA c).2.2.2.2),
      (h.1 c ReferenceIdeal.main_arg0 (by decide)).trans (ReferenceIdeal.Run.E5_arg0 m' c),
      (h.1 c ReferenceIdeal.main_arg1 (by decide)).trans (ReferenceIdeal.Run.E5_arg1 m' c),
      (h.1 c ReferenceIdeal.main_arg2 (by decide)).trans (ReferenceIdeal.Run.E5_arg2 m' c),
      (h.1 c ReferenceIdeal.main_arg3 (by decide)).trans (ReferenceIdeal.Run.E5_arg3 m' c),
      (h.1 c ReferenceIdeal.main_arg4 (by decide)).trans (ReferenceIdeal.Run.E5_arg4 m' c)⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.InQk.Frame
public import proofs.«01_k».proof.Proof.Gen.InQkIdeal.Value
public import proofs.«01_k».proof.Proof.Gen.RefInQkIdeal.Run
public import proofs.«01_k».proof.Proof.Gen.InRest.Frame
public import proofs.«01_k».proof.Proof.Gen.InRestIdeal.Value
public import proofs.«01_k».proof.Proof.Gen.RefInRestIdeal.Run
public import proofs.«01_k».proof.Proof.Gen.InDw.Frame
public import proofs.«01_k».proof.Proof.Gen.InDwIdeal.Value
public import proofs.«01_k».proof.Proof.Gen.RefInDwIdeal.Run
public import proofs.«01_k».proof.Proof.Gen.InDx.Frame
public import proofs.«01_k».proof.Proof.Gen.InDxIdeal.Value
public import proofs.«01_k».proof.Proof.Gen.RefInDxIdeal.Run
public import proofs.«01_k».proof.Proof.Gen.UpDw.Frame
public import proofs.«01_k».proof.Proof.Gen.UpDwIdeal.Value
public import proofs.«01_k».proof.Proof.Gen.RefUpDwIdeal.Run
public import proofs.«01_k».proof.Proof.Gen.UpDx.Frame
public import proofs.«01_k».proof.Proof.Gen.UpDxIdeal.Value
public import proofs.«01_k».proof.Proof.Gen.RefUpDxIdeal.Run
public import proofs.«01_k».proof.Proof.Gen.Down.Frame
public import proofs.«01_k».proof.Proof.Gen.DownIdeal.Value
public import proofs.«01_k».proof.Proof.Gen.RefDownIdeal.Run
public import proofs.«01_k».proof.Proof.Gen.DownDw.Frame
public import proofs.«01_k».proof.Proof.Gen.DownDwIdeal.Value
public import proofs.«01_k».proof.Proof.Gen.RefDownDwIdeal.Run
public import proofs.«01_k».proof.Proof.Gen.DownDx.Frame
public import proofs.«01_k».proof.Proof.Gen.DownDxIdeal.Value
public import proofs.«01_k».proof.Proof.Gen.RefDownDxIdeal.Run
public import proofs.«01_k».proof.Proof.Gen.RetOut.Frame
public import proofs.«01_k».proof.Proof.Gen.RetOutIdeal.Value
public import proofs.«01_k».proof.Proof.Gen.RefRetOutIdeal.Run
public import proofs.«01_k».proof.Proof.Gen.RetOutDw.Frame
public import proofs.«01_k».proof.Proof.Gen.RetOutDwIdeal.Value
public import proofs.«01_k».proof.Proof.Gen.RefRetOutDwIdeal.Run
public import proofs.«01_k».proof.Proof.Gen.RetOutDx.Frame
public import proofs.«01_k».proof.Proof.Gen.RetOutDxIdeal.Value
public import proofs.«01_k».proof.Proof.Gen.RefRetOutDxIdeal.Run
public import Idealize.ShloMosaic.Adequacy
public import Idealize.ShloMosaic.Init
public import proofs.«01_k».proof.Proof.Gen.Up.Frame
public import proofs.«01_k».proof.Proof.Gen.UpIdeal.Frame
public import proofs.«01_k».proof.Proof.Gen.RefUpIdeal.Run
public import proofs.«01_k».proof.Proof.Gen.Out.Frame
public import proofs.«01_k».proof.Proof.Gen.OutIdeal.Value
public import proofs.«01_k».proof.Proof.Gen.RefOutIdeal.Run
public import proofs.«01_k».proof.Proof.Gen.OutDw.Frame
public import proofs.«01_k».proof.Proof.Gen.OutDwIdeal.Value
public import proofs.«01_k».proof.Proof.Gen.RefOutDwIdeal.Run
public import proofs.«01_k».proof.Proof.Gen.OutDx.Frame
public import proofs.«01_k».proof.Proof.Gen.OutDxIdeal.Value
public import proofs.«01_k».proof.Proof.Gen.RefOutDxIdeal.Run
public import proofs.«01_k».proof.Proof.Gen.ConvOut.Frame
public import proofs.«01_k».proof.Proof.Gen.ConvOutIdeal.Value
public import proofs.«01_k».proof.Proof.Gen.RefConvOutIdeal.Run
public import proofs.«01_k».proof.Proof.Gen.ConvOutDw.Frame
public import proofs.«01_k».proof.Proof.Gen.ConvOutDwIdeal.Value
public import proofs.«01_k».proof.Proof.Gen.RefConvOutDwIdeal.Run
public import proofs.«01_k».proof.Proof.Gen.ConvOutDx.Frame
public import proofs.«01_k».proof.Proof.Gen.ConvOutDxIdeal.Value
public import proofs.«01_k».proof.Proof.Gen.RefConvOutDxIdeal.Run
public import proofs.«01_k».proof.Proof.Frames
public import proofs.«01_k».proof.Proof.FrameRef
public import proofs.«01_k».proof.Proof.MmInQk
public import proofs.«01_k».proof.Proof.MmInRest
public import proofs.«01_k».proof.Proof.MmInDw
public import proofs.«01_k».proof.Proof.MmInDx
public import proofs.«01_k».proof.Proof.MmUp
public import proofs.«01_k».proof.Proof.MmUpDw
public import proofs.«01_k».proof.Proof.MmUpDx
public import proofs.«01_k».proof.Proof.MmDown
public import proofs.«01_k».proof.Proof.MmDownDw
public import proofs.«01_k».proof.Proof.MmDownDx
public import proofs.«01_k».proof.Proof.MmRetOut
public import proofs.«01_k».proof.Proof.MmRetOutDw
public import proofs.«01_k».proof.Proof.MmRetOutDx
public import proofs.«01_k».proof.Proof.MmOut
public import proofs.«01_k».proof.Proof.MmOutDw
public import proofs.«01_k».proof.Proof.MmOutDx
public import proofs.«01_k».proof.Proof.MmConvOut
public import proofs.«01_k».proof.Proof.MmConvOutDw
public import proofs.«01_k».proof.Proof.MmConvOutDx
public import proofs.«01_k».proof.Proof.Algebraic

@[expose] public section

noncomputable section

namespace Cert.Proof

open Idealize.ShloMosaic Idealize.SL.Sem Cert.Kernel

/-- Everything the certificate claims: for the retention with its gradient and for each projection product the frames
    of kernel and reference, the idealisation, and the agreement of kernel and reference. -/
theorem claim : Cert.Claim := ⟨
  Cert.Kernel.Gen.facts, Cert.KernelIdeal.Gen.facts, Cert.ReferenceIdeal.Gen.facts, Cert.InQk.Gen.facts,
  Cert.InQkIdeal.Gen.facts, Cert.RefInQkIdeal.Gen.facts, Cert.InRest.Gen.facts, Cert.InRestIdeal.Gen.facts,
  Cert.RefInRestIdeal.Gen.facts, Cert.InDw.Gen.facts, Cert.InDwIdeal.Gen.facts, Cert.RefInDwIdeal.Gen.facts,
  Cert.InDx.Gen.facts, Cert.InDxIdeal.Gen.facts, Cert.RefInDxIdeal.Gen.facts, Cert.Up.Gen.facts,
  Cert.UpIdeal.Gen.facts, Cert.RefUpIdeal.Gen.facts, Cert.UpDw.Gen.facts, Cert.UpDwIdeal.Gen.facts,
  Cert.RefUpDwIdeal.Gen.facts, Cert.UpDx.Gen.facts, Cert.UpDxIdeal.Gen.facts, Cert.RefUpDxIdeal.Gen.facts,
  Cert.Down.Gen.facts, Cert.DownIdeal.Gen.facts, Cert.RefDownIdeal.Gen.facts, Cert.DownDw.Gen.facts,
  Cert.DownDwIdeal.Gen.facts, Cert.RefDownDwIdeal.Gen.facts, Cert.DownDx.Gen.facts, Cert.DownDxIdeal.Gen.facts,
  Cert.RefDownDxIdeal.Gen.facts, Cert.RetOut.Gen.facts, Cert.RetOutIdeal.Gen.facts, Cert.RefRetOutIdeal.Gen.facts,
  Cert.RetOutDw.Gen.facts, Cert.RetOutDwIdeal.Gen.facts, Cert.RefRetOutDwIdeal.Gen.facts, Cert.RetOutDx.Gen.facts,
  Cert.RetOutDxIdeal.Gen.facts, Cert.RefRetOutDxIdeal.Gen.facts, Cert.Out.Gen.facts, Cert.OutIdeal.Gen.facts,
  Cert.RefOutIdeal.Gen.facts, Cert.OutDw.Gen.facts, Cert.OutDwIdeal.Gen.facts, Cert.RefOutDwIdeal.Gen.facts,
  Cert.OutDx.Gen.facts, Cert.OutDxIdeal.Gen.facts, Cert.RefOutDxIdeal.Gen.facts, Cert.ConvOut.Gen.facts,
  Cert.ConvOutIdeal.Gen.facts, Cert.RefConvOutIdeal.Gen.facts, Cert.ConvOutDw.Gen.facts, Cert.ConvOutDwIdeal.Gen.facts,
  Cert.RefConvOutDwIdeal.Gen.facts, Cert.ConvOutDx.Gen.facts, Cert.ConvOutDxIdeal.Gen.facts,
  Cert.RefConvOutDxIdeal.Gen.facts,
  frame_kernel, frame_kernelIdeal, frame_reference, InQk.frameBits, InQk.frameIdeal, InQk.frameRef, InRest.frameBits,
  InRest.frameIdeal, InRest.frameRef, InDw.frameBits, InDw.frameIdeal, InDw.frameRef, InDx.frameBits, InDx.frameIdeal,
  InDx.frameRef, Up.frameBits, Up.frameIdeal, Up.frameRef, UpDw.frameBits, UpDw.frameIdeal, UpDw.frameRef,
  UpDx.frameBits, UpDx.frameIdeal, UpDx.frameRef, Down.frameBits, Down.frameIdeal, Down.frameRef, DownDw.frameBits,
  DownDw.frameIdeal, DownDw.frameRef, DownDx.frameBits, DownDx.frameIdeal, DownDx.frameRef, RetOut.frameBits,
  RetOut.frameIdeal, RetOut.frameRef, RetOutDw.frameBits, RetOutDw.frameIdeal, RetOutDw.frameRef, RetOutDx.frameBits,
  RetOutDx.frameIdeal, RetOutDx.frameRef, Out.frameBits, Out.frameIdeal, Out.frameRef, OutDw.frameBits,
  OutDw.frameIdeal, OutDw.frameRef, OutDx.frameBits, OutDx.frameIdeal, OutDx.frameRef, ConvOut.frameBits,
  ConvOut.frameIdeal, ConvOut.frameRef, ConvOutDw.frameBits, ConvOutDw.frameIdeal, ConvOutDw.frameRef,
  ConvOutDx.frameBits, ConvOutDx.frameIdeal, ConvOutDx.frameRef, trivial, algebraic, trivial, InQk.algebraic, trivial,
  InRest.algebraic, trivial, InDw.algebraic, trivial, InDx.algebraic, trivial, Up.algebraic, trivial, UpDw.algebraic,
  trivial, UpDx.algebraic, trivial, Down.algebraic, trivial, DownDw.algebraic, trivial, DownDx.algebraic, trivial,
  RetOut.algebraic, trivial, RetOutDw.algebraic, trivial, RetOutDx.algebraic, trivial, Out.algebraic, trivial,
  OutDw.algebraic, trivial, OutDx.algebraic, trivial, ConvOut.algebraic, trivial, ConvOutDw.algebraic, trivial,
  ConvOutDx.algebraic⟩

end Cert.Proof

end
